-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.BufferStatement Cert.KernelIdeal.S4032x2x128 Cert.KernelIdeal.S4032x1x128
  ∧ IdealRules.bf16_pair.Statement Cert.KernelIdeal.S144x2x128 Cert.KernelIdeal.S144x1x128
  ∧ IdealRules.bf16_pair.SelectZeroStatement Cert.KernelIdeal.S144x128
  ∧ IdealRules.bf16_pair.Statement Cert.KernelIdeal.S128x128 Cert.KernelIdeal.S64x128
  ∧ IdealRules.bf16_pair.Statement Cert.KernelIdeal.S32x2x128 Cert.KernelIdeal.S32x1x128
  ∧ IdealRules.bf16_pair.Statement Cert.KernelIdeal.S112x2x128 Cert.KernelIdeal.S112x1x128
  ∧ IdealRules.bf16_pair.Statement Cert.KernelIdeal.S224x128 Cert.KernelIdeal.S112x128
  ∧ IdealRules.named_const.Statement Cert.KernelIdeal.κ "inv_d" .f32 0x3A638E39#32 ((1 / 1152 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75_0) = v0 c
          ∧ r.2.mem ((c.tc : Thread Cert.ReferenceIdeal.nD Cert.ReferenceIdeal.τ).loc Cert.ReferenceIdeal.main_v75_1) = v1 c
          ∧ r.2.mem ((c.tc : Thread Cert.ReferenceIdeal.nD Cert.ReferenceIdeal.τ).loc Cert.ReferenceIdeal.main_v75_2) = v2 c
          ∧ r.2.mem ((c.tc : Thread Cert.ReferenceIdeal.nD Cert.ReferenceIdeal.τ).loc Cert.ReferenceIdeal.main_v75_3) = v3 c
          ∧ r.2.mem ((c.tc : Thread Cert.ReferenceIdeal.nD Cert.ReferenceIdeal.τ).loc Cert.ReferenceIdeal.main_v75_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x640x6912 : Shape := ⟨3, ![3, 640, 6912]⟩
abbrev S3x640x1152 : Shape := ⟨3, ![3, 640, 1152]⟩
abbrev S1152 : Shape := ⟨1, ![1152]⟩
abbrev S108x108 : Shape := ⟨2, ![108, 108]⟩
abbrev S6912x1152 : Shape := ⟨2, ![6912, 1152]⟩
abbrev S_ : Shape := ⟨0, ![]⟩

class Facts : Prop where
  bitsLt_bf16_f32 : FTy.bits .bf16 < FTy.bits .f32
  bcast_S_S3x640x6912 : S_.BroadcastsInDim S3x640x6912 (![] : Fin 0 → Fin S3x640x6912.rank)
  reducesTo_S3x640x6912_S_d0_1_2 : S3x640x6912.ReducesTo [0, 1, 2] S_
  h_S_ : 0 < S_.numel
  bcast_S_S1152 : S_.BroadcastsInDim S1152 (![] : Fin 0 → Fin S1152.rank)
  reducesTo_S1152_S_d0 : S1152.ReducesTo [0] S_
  bcast_S_S108x108 : S_.BroadcastsInDim S108x108 (![] : Fin 0 → Fin S108x108.rank)
  reducesTo_S108x108_S_d0_1 : S108x108.ReducesTo [0, 1] S_

variable [Facts]

def fn {F : FTy → Type} [FloatOps F] (main_arg0 : FVec F S3x640x6912 .bf16) (main_arg1 : FVec F S3x640x1152 .bf16) (main_arg2 : FVec F S1152 .f32) (main_arg3 : FVec F S108x108 .f32) (main_arg4 : FVec F S6912x1152 .fp8e4m3) (main_arg5 : FVec F S1152 .f32) : IVec S_ 1 :=
  let main_v0 : FVec F S3x640x6912 .f32 := (extf .f32 · bitsLt_bf16_f32) main_arg0
  let main_v1 : FVec F S3x640x6912 .f32 := Host.absf main_v0
  let main_cst : FVec F S_ .f32 := constant S_ .f32 0x7F7F0000#32
  let main_v2 : FVec F S3x640x6912 .f32 := broadcastInDim S3x640x6912 ![] bcast_S_S3x640x6912 main_cst
  let main_v3 : IVec S3x640x6912 1 := cmpf .ole main_v1 main_v2
  let main_c : IVec S_ 1 := constantI S_ 1 1#1
  let main_v4 : IVec S_ 1 := (fun x v => Host.reduce IntOp.andi x v reducesTo_S3x640x6912_S_d0_1_2 h_S_) main_v3 main_c
  let main_v5 : FVec F S1152 .f32 := Host.absf main_arg2
  let main_cst_0 : FVec F S_ .f32 := constant S_ .f32 0x7F7FFFFF#32
  let main_v6 : FVec F S1152 .f32 := broadcastInDim S1152 ![] bcast_S_S1152 main_cst_0
  let main_v7 : IVec S1152 1 := cmpf .ole main_v5 main_v6
  let main_c_1 : IVec S_ 1 := constantI S_ 1 1#1
  let main_v8 : IVec S_ 1 := (fun x v => Host.reduce IntOp.andi x v reducesTo_S1152_S_d0 h_S_) main_v7 main_c_1
  let main_v9 : IVec S_ 1 := andi main_v4 main_v8
  let main_v10 : FVec F S108x108 .f32 := Host.absf main_arg3
  let main_cst_2 : FVec F S_ .f32 := constant S_ .f32 0x3F800000#32
  let main_v11 : FVec F S108x108 .f32 := broadcastInDim S108x108 ![] bcast_S_S108x108 main_cst_2
  let main_v12 : IVec S108x108 1 := cmpf .ole main_v10 main_v11
  let main_c_3 : IVec S_ 1 := constantI S_ 1 1#1
  let main_v13 : IVec S_ 1 := (fun x v => Host.reduce IntOp.andi x v reducesTo_S108x108_S_d0_1 h_S_) main_v12 main_c_3
  let main_v14 : IVec S_ 1 := andi main_v9 main_v13
  main_v14
-- ==== Kernel.lean ====
abbrev S3x640x6912 : Shape := ⟨3, ![3, 640, 6912]⟩
abbrev S3x640x1152 : Shape := ⟨3, ![3, 640, 1152]⟩
abbrev S1152 : Shape := ⟨1, ![1152]⟩
abbrev S108x108 : Shape := ⟨2, ![108, 108]⟩
abbrev S6912x1152 : Shape := ⟨2, ![6912, 1152]⟩
abbrev S1x1152 : Shape := ⟨2, ![1, 1152]⟩
abbrev S3x640 : Shape := ⟨2, ![3, 640]⟩
abbrev S1x128x6912 : Shape := ⟨3, ![1, 128, 6912]⟩
abbrev S1x128x1152 : Shape := ⟨3, ![1, 128, 1152]⟩
abbrev S224x224 : Shape := ⟨2, ![224, 224]⟩
abbrev S4032x128 : Shape := ⟨2, ![4032, 128]⟩
abbrev S32x224x128 : Shape := ⟨3, ![32, 224, 128]⟩
abbrev S7616x128 : Shape := ⟨2, ![7616, 128]⟩
abbrev S108x224 : Shape := ⟨2, ![108, 224]⟩
abbrev S144x128 : Shape := ⟨2, ![144, 128]⟩
abbrev S1x128x128 : Shape := ⟨3, ![1, 128, 128]⟩
abbrev S128x128 : Shape := ⟨2, ![128, 128]⟩
abbrev S64x128 : Shape := ⟨2, ![64, 128]⟩
abbrev S32x128 : Shape := ⟨2, ![32, 128]⟩
abbrev S112x128 : Shape := ⟨2, ![112, 128]⟩
abbrev S224x128 : Shape := ⟨2, ![224, 128]⟩
abbrev S224x256 : Shape := ⟨2, ![224, 256]⟩
abbrev S1x224x128 : Shape := ⟨3, ![1, 224, 128]⟩
abbrev S8x128 : Shape := ⟨2, ![8, 128]⟩
abbrev S1x8x128 : Shape := ⟨3, ![1, 8, 128]⟩
abbrev S128 : Shape := ⟨1, ![128]⟩
abbrev S1x128 : Shape := ⟨2, ![1, 128]⟩
abbrev S3x128 : Shape := ⟨2, ![3, 128]⟩
abbrev S128x6912 : Shape := ⟨2, ![128, 6912]⟩
abbrev S6912x1024 : Shape := ⟨2, ![6912, 1024]⟩
abbrev S128x1024 : Shape := ⟨2, ![128, 1024]⟩
abbrev S6912x256 : Shape := ⟨2, ![6912, 256]⟩
abbrev S128x256 : Shape := ⟨2, ![128, 256]⟩
abbrev S128x1152 : Shape := ⟨2, ![128, 1152]⟩
abbrev S128x1 : Shape := ⟨2, ![128, 1]⟩

abbrev nBuf : Space → Nat
  | .hbm => 13
  | .vmem => 20
  | .smem => 0
  | _ => 0

abbrev bufTy : (tb : Table) → Fin (tcTables nBuf tb) → BufTy
  | .hbm, ⟨0, _⟩ => ⟨S3x640x6912, .bf16⟩
  | .hbm, ⟨1, _⟩ => ⟨S3x640x1152, .bf16⟩
  | .hbm, ⟨2, _⟩ => ⟨S1152, .f32⟩
  | .hbm, ⟨3, _⟩ => ⟨S108x108, .f32⟩
  | .hbm, ⟨4, _⟩ => ⟨S6912x1152, .fp8e4m3⟩
  | .hbm, ⟨5, _⟩ => ⟨S1152, .f32⟩
  | .hbm, ⟨6, _⟩ => ⟨S1x1152, .f32⟩
  | .hbm, ⟨7, _⟩ => ⟨S1x1152, .f32⟩
  | .hbm, ⟨8, _⟩ => ⟨S3x640x1152, .bf16⟩
  | .hbm, ⟨9, _⟩ => ⟨S3x640x6912, .fp8e4m3⟩
  | .hbm, ⟨10, _⟩ => ⟨S3x640, .f32⟩
  | .hbm, ⟨11, _⟩ => ⟨S3x640x1152, .fp8e4m3⟩
  | .hbm, ⟨12, _⟩ => ⟨S3x640, .f32⟩
  | .local _ .vmem, ⟨0, _⟩ => ⟨S1x128x6912, .bf16⟩
  | .local _ .vmem, ⟨1, _⟩ => ⟨S1x128x6912, .bf16⟩
  | .local _ .vmem, ⟨2, _⟩ => ⟨S1x128x1152, .bf16⟩
  | .local _ .vmem, ⟨3, _⟩ => ⟨S1x128x1152, .bf16⟩
  | .local _ .vmem, ⟨4, _⟩ => ⟨S1x1152, .f32⟩
  | .local _ .vmem, ⟨5, _⟩ => ⟨S108x108, .f32⟩
  | .local _ .vmem, ⟨6, _⟩ => ⟨S6912x1152, .fp8e4m3⟩
  | .local _ .vmem, ⟨7, _⟩ => ⟨S1x1152, .f32⟩
  | .local _ .vmem, ⟨8, _⟩ => ⟨S1x128x1152, .bf16⟩
  | .local _ .vmem, ⟨9, _⟩ => ⟨S1x128x1152, .bf16⟩
  | .local _ .vmem, ⟨10, _⟩ => ⟨S1x128x6912, .fp8e4m3⟩
  | .local _ .vmem, ⟨11, _⟩ => ⟨S1x128x6912, .fp8e4m3⟩
  | .local _ .vmem, ⟨12, _⟩ => ⟨S3x640, .f32⟩
  | .local _ .vmem, ⟨13, _⟩ => ⟨S1x128x1152, .fp8e4m3⟩
  | .local _ .vmem, ⟨14, _⟩ => ⟨S1x128x1152, .fp8e4m3⟩
  | .local _ .vmem, ⟨15, _⟩ => ⟨S3x640, .f32⟩
  | .local _ .vmem, ⟨16, _⟩ => ⟨S224x224, .bf16⟩
  | .local _ .vmem, ⟨17, _⟩ => ⟨S4032x128, .i32⟩
  | .local _ .vmem, ⟨18, _⟩ => ⟨S32x224x128, .f32⟩
  | .local _ .vmem, ⟨19, _⟩ => ⟨S7616x128, .f32⟩
  | _, _ => ⟨S3x640x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [BitOps F]

abbrev grid0 : Pipeline.Grid := ⟨2, ![3, 5], ![false, false]⟩

@[reducible] def k0_t1_loop : Scf.Loop 32 :=
  let c0_i32_2 : BitVec 32 := 0#32
  let c54_i32 : BitVec 32 := 54#32
  let v5 : BitVec 32 := Scalar.addi c0_i32_2 c54_i32
  let c1_i32 : BitVec 32 := 1#32
  ⟨c0_i32_2, v5, c1_i32⟩
def k0_mult1 (k0_t1 : Fin k0_t1_loop.trips) : BitVec 32 :=
  let c0_i32_2 : BitVec 32 := 0#32
  let c1_i32 : BitVec 32 := 1#32
  let arg17 : BitVec 32 := Scf.iv c0_i32_2 c1_i32 k0_t1
  let c128_i32_109 : BitVec 32 := 128#32
  let v296 : BitVec 32 := Scalar.muli arg17 c128_i32_109
  v296
def k0_off1 (k0_t1 : Fin k0_t1_loop.trips) : Fin 3 → Nat :=
  let c0_110 : Index := 0#32
  let c0_111 : Index := 0#32
  let c0_i32_2 : BitVec 32 := 0#32
  let c1_i32 : BitVec 32 := 1#32
  let arg17 : BitVec 32 := Scf.iv c0_i32_2 c1_i32 k0_t1
  let c128_i32_109 : BitVec 32 := 128#32
  let v296 : BitVec 32 := Scalar.muli arg17 c128_i32_109
  let v297 : BitVec 32 := v296
  let v298 : Index := Scalar.indexCast v297
  ![0, 0, v298.toNat]
def k0_off2 (k0_t1 : Fin k0_t1_loop.trips) : Fin 2 → Nat :=
  let c2_i32_112 : BitVec 32 := 2#32
  let c0_i32_2 : BitVec 32 := 0#32
  let c1_i32 : BitVec 32 := 1#32
  let arg17 : BitVec 32 := Scf.iv c0_i32_2 c1_i32 k0_t1
  let v304 : BitVec 32 := Scalar.muli c2_i32_112 arg17
  let c36_i32 : BitVec 32 := 36#32
  let v305 : BitVec 32 := Scalar.muli v304 c36_i32
  let v306 : Index := Scalar.indexCast v305
  let c0_113 : Index := 0#32
  ![v306.toNat, 0]
def k0_off3 (k0_t1 : Fin k0_t1_loop.trips) : Fin 2 → Nat :=
  let c2_i32_114 : BitVec 32 := 2#32
  let c0_i32_2 : BitVec 32 := 0#32
  let c1_i32 : BitVec 32 := 1#32
  let arg17 : BitVec 32 := Scf.iv c0_i32_2 c1_i32 k0_t1
  let v311 : BitVec 32 := Scalar.muli c2_i32_114 arg17
  let c1_i32_115 : BitVec 32 := 1#32
  let v312 : BitVec 32 := Scalar.addi v311 c1_i32_115
  let c36_i32_116 : BitVec 32 := 36#32
  let v313 : BitVec 32 := Scalar.muli v312 c36_i32_116
  let v314 : Index := Scalar.indexCast v313
  let c0_117 : Index := 0#32
  ![v314.toNat, 0]
@[reducible] def k0_t2_loop : Scf.Loop 32 :=
  let c0_i32_4 : BitVec 32 := 0#32
  let c16_i32 : BitVec 32 := 16#32
  let v6 : BitVec 32 := Scalar.addi c0_i32_4 c16_i32
  let c1_i32_5 : BitVec 32 := 1#32
  ⟨c0_i32_4, v6, c1_i32_5⟩
def k0_off4 (k0_t2 : Fin k0_t2_loop.trips) (c0_i32_110 : BitVec 32) : Fin 2 → Nat :=
  let c2_i32_109 : BitVec 32 := 2#32
  let c0_i32_4 : BitVec 32 := 0#32
  let c1_i32_5 : BitVec 32 := 1#32
  let arg17 : BitVec 32 := Scf.iv c0_i32_4 c1_i32_5 k0_t2
  let v296 : BitVec 32 := Scalar.muli c2_i32_109 arg17
  let v297 : BitVec 32 := Scalar.addi v296 c0_i32_110
  let v298 : Index := Scalar.indexCast v297
  let c0_111 : Index := 0#32
  ![v298.toNat, 0]
def k0_off5 (k0_t2 : Fin k0_t2_loop.trips) : Fin 3 → Nat :=
  let c2_i32_118 : BitVec 32 := 2#32
  let c0_i32_4 : BitVec 32 := 0#32
  let c1_i32_5 : BitVec 32 := 1#32
  let arg17 : BitVec 32 := Scf.iv c0_i32_4 c1_i32_5 k0_t2
  let v310 : BitVec 32 := Scalar.muli c2_i32_118 arg17
  let v311 : Index := Scalar.indexCast v310
  let c0_119 : Index := 0#32
  let c0_120 : Index := 0#32
  ![v311.toNat, 0, 0]
def k0_off6 (k0_t2 : Fin k0_t2_loop.trips) : Fin 3 → Nat :=
  let c2_i32_121 : BitVec 32 := 2#32
  let c0_i32_4 : BitVec 32 := 0#32
  let c1_i32_5 : BitVec 32 := 1#32
  let arg17 : BitVec 32 := Scf.iv c0_i32_4 c1_i32_5 k0_t2
  let v316 : BitVec 32 := Scalar.muli c2_i32_121 arg17
  let c1_i32_122 : BitVec 32 := 1#32
  let v317 : BitVec 32 := Scalar.addi v316 c1_i32_122
  let v318 : Index := Scalar.indexCast v317
  let c0_123 : Index := 0#32
  let c0_124 : Index := 0#32
  ![v318.toNat, 0, 0]
@[reducible] def k0_t3_loop : Scf.Loop 32 :=
  let c0_i32_7 : BitVec 32 := 0#32
  let c28_i32 : BitVec 32 := 28#32
  let v8 : BitVec 32 := Scalar.addi c0_i32_7 c28_i32
  let c1_i32_8 : BitVec 32 := 1#32
  ⟨c0_i32_7, v8, c1_i32_8⟩
def k0_off7 (k0_t3 : Fin k0_t3_loop.trips) : Fin 3 → Nat :=
  let c0_113 : Index := 0#32
  let c8_i32_112 : BitVec 32 := 8#32
  let c0_i32_7 : BitVec 32 := 0#32
  let c1_i32_8 : BitVec 32 := 1#32
  let arg17 : BitVec 32 := Scf.iv c0_i32_7 c1_i32_8 k0_t3
  let v300 : BitVec 32 := Scalar.muli c8_i32_112 arg17
  let v301 : Index := Scalar.indexCast v300
  let c0_114 : Index := 0#32
  ![0, v301.toNat, 0]
def k0_off8 (k0_t3 : Fin k0_t3_loop.trips) : Fin 3 → Nat :=
  let c1 : Index := 1#32
  let c8_i32_115 : BitVec 32 := 8#32
  let c0_i32_7 : BitVec 32 := 0#32
  let c1_i32_8 : BitVec 32 := 1#32
  let arg17 : BitVec 32 := Scf.iv c0_i32_7 c1_i32_8 k0_t3
  let v304 : BitVec 32 := Scalar.muli c8_i32_115 arg17
  let v305 : Index := Scalar.indexCast v304
  let c0_116 : Index := 0#32
  ![1, v305.toNat, 0]
def k0_off9 (k0_t3 : Fin k0_t3_loop.trips) : Fin 3 → Nat :=
  let c2 : Index := 2#32
  let c8_i32_117 : BitVec 32 := 8#32
  let c0_i32_7 : BitVec 32 := 0#32
  let c1_i32_8 : BitVec 32 := 1#32
  let arg17 : BitVec 32 := Scf.iv c0_i32_7 c1_i32_8 k0_t3
  let v308 : BitVec 32 := Scalar.muli c8_i32_117 arg17
  let v309 : Index := Scalar.indexCast v308
  let c0_118 : Index := 0#32
  ![2, v309.toNat, 0]
def k0_off10 (k0_t3 : Fin k0_t3_loop.trips) : Fin 3 → Nat :=
  let c3 : Index := 3#32
  let c8_i32_119 : BitVec 32 := 8#32
  let c0_i32_7 : BitVec 32 := 0#32
  let c1_i32_8 : BitVec 32 := 1#32
  let arg17 : BitVec 32 := Scf.iv c0_i32_7 c1_i32_8 k0_t3
  let v312 : BitVec 32 := Scalar.muli c8_i32_119 arg17
  let v313 : Index := Scalar.indexCast v312
  let c0_120 : Index := 0#32
  ![3, v313.toNat, 0]
def k0_off11 (k0_t3 : Fin k0_t3_loop.trips) : Fin 3 → Nat :=
  let c4 : Index := 4#32
  let c8_i32_121 : BitVec 32 := 8#32
  let c0_i32_7 : BitVec 32 := 0#32
  let c1_i32_8 : BitVec 32 := 1#32
  let arg17 : BitVec 32 := Scf.iv c0_i32_7 c1_i32_8 k0_t3
  let v316 : BitVec 32 := Scalar.muli c8_i32_121 arg17
  let v317 : Index := Scalar.indexCast v316
  let c0_122 : Index := 0#32
  ![4, v317.toNat, 0]
def k0_off12 (k0_t3 : Fin k0_t3_loop.trips) : Fin 3 → Nat :=
  let c5 : Index := 5#32
  let c8_i32_123 : BitVec 32 := 8#32
  let c0_i32_7 : BitVec 32 := 0#32
  let c1_i32_8 : BitVec 32 := 1#32
  let arg17 : BitVec 32 := Scf.iv c0_i32_7 c1_i32_8 k0_t3
  let v320 : BitVec 32 := Scalar.muli c8_i32_123 arg17
  let v321 : Index := Scalar.indexCast v320
  let c0_124 : Index := 0#32
  ![5, v321.toNat, 0]
def k0_off13 (k0_t3 : Fin k0_t3_loop.trips) : Fin 3 → Nat :=
  let c6 : Index := 6#32
  let c8_i32_125 : BitVec 32 := 8#32
  let c0_i32_7 : BitVec 32 := 0#32
  let c1_i32_8 : BitVec 32 := 1#32
  let arg17 : BitVec 32 := Scf.iv c0_i32_7 c1_i32_8 k0_t3
  let v324 : BitVec 32 := Scalar.muli c8_i32_125 arg17
  let v325 : Index := Scalar.indexCast v324
  let c0_126 : Index := 0#32
  ![6, v325.toNat, 0]
def k0_off14 (k0_t3 : Fin k0_t3_loop.trips) : Fin 3 → Nat :=
  let c7 : Index := 7#32
  let c8_i32_127 : BitVec 32 := 8#32
  let c0_i32_7 : BitVec 32 := 0#32
  let c1_i32_8 : BitVec 32 := 1#32
  let arg17 : BitVec 32 := Scf.iv c0_i32_7 c1_i32_8 k0_t3
  let v328 : BitVec 32 := Scalar.muli c8_i32_127 arg17
  let v329 : Index := Scalar.indexCast v328
  let c0_128 : Index := 0#32
  ![7, v329.toNat, 0]
def k0_off15 (k0_t3 : Fin k0_t3_loop.trips) : Fin 3 → Nat :=
  let c8 : Index := 8#32
  let c8_i32_129 : BitVec 32 := 8#32
  let c0_i32_7 : BitVec 32 := 0#32
  let c1_i32_8 : BitVec 32 := 1#32
  let arg17 : BitVec 32 := Scf.iv c0_i32_7 c1_i32_8 k0_t3
  let v332 : BitVec 32 := Scalar.muli c8_i32_129 arg17
  let v333 : Index := Scalar.indexCast v332
  let c0_130 : Index := 0#32
  ![8, v333.toNat, 0]
def k0_off16 (k0_t3 : Fin k0_t3_loop.trips) : Fin 3 → Nat :=
  let c9 : Index := 9#32
  let c8_i32_131 : BitVec 32 := 8#32
  let c0_i32_7 : BitVec 32 := 0#32
  let c1_i32_8 : BitVec 32 := 1#32
  let arg17 : BitVec 32 := Scf.iv c0_i32_7 c1_i32_8 k0_t3
  let v336 : BitVec 32 := Scalar.muli c8_i32_131 arg17
  let v337 : Index := Scalar.indexCast v336
  let c0_132 : Index := 0#32
  ![9, v337.toNat, 0]
def k0_off17 (k0_t3 : Fin k0_t3_loop.trips) : Fin 3 → Nat :=
  let c10 : Index := 10#32
  let c8_i32_133 : BitVec 32 := 8#32
  let c0_i32_7 : BitVec 32 := 0#32
  let c1_i32_8 : BitVec 32 := 1#32
  let arg17 : BitVec 32 := Scf.iv c0_i32_7 c1_i32_8 k0_t3
  let v340 : BitVec 32 := Scalar.muli c8_i32_133 arg17
  let v341 : Index := Scalar.indexCast v340
  let c0_134 : Index := 0#32
  ![10, v341.toNat, 0]
def k0_off18 (k0_t3 : Fin k0_t3_loop.trips) : Fin 3 → Nat :=
  let c11 : Index := 11#32
  let c8_i32_135 : BitVec 32 := 8#32
  let c0_i32_7 : BitVec 32 := 0#32
  let c1_i32_8 : BitVec 32 := 1#32
  let arg17 : BitVec 32 := Scf.iv c0_i32_7 c1_i32_8 k0_t3
  let v344 : BitVec 32 := Scalar.muli c8_i32_135 arg17
  let v345 : Index := Scalar.indexCast v344
  let c0_136 : Index := 0#32
  ![11, v345.toNat, 0]
def k0_off19 (k0_t3 : Fin k0_t3_loop.trips) : Fin 3 → Nat :=
  let c12 : Index := 12#32
  let c8_i32_137 : BitVec 32 := 8#32
  let c0_i32_7 : BitVec 32 := 0#32
  let c1_i32_8 : BitVec 32 := 1#32
  let arg17 : BitVec 32 := Scf.iv c0_i32_7 c1_i32_8 k0_t3
  let v348 : BitVec 32 := Scalar.muli c8_i32_137 arg17
  let v349 : Index := Scalar.indexCast v348
  let c0_138 : Index := 0#32
  ![12, v349.toNat, 0]
def k0_off20 (k0_t3 : Fin k0_t3_loop.trips) : Fin 3 → Nat :=
  let c13 : Index := 13#32
  let c8_i32_139 : BitVec 32 := 8#32
  let c0_i32_7 : BitVec 32 := 0#32
  let c1_i32_8 : BitVec 32 := 1#32
  let arg17 : BitVec 32 := Scf.iv c0_i32_7 c1_i32_8 k0_t3
  let v352 : BitVec 32 := Scalar.muli c8_i32_139 arg17
  let v353 : Index := Scalar.indexCast v352
  let c0_140 : Index := 0#32
  ![13, v353.toNat, 0]
def k0_off21 (k0_t3 : Fin k0_t3_loop.trips) : Fin 3 → Nat :=
  let c14 : Index := 14#32
  let c8_i32_141 : BitVec 32 := 8#32
  let c0_i32_7 : BitVec 32 := 0#32
  let c1_i32_8 : BitVec 32 := 1#32
  let arg17 : BitVec 32 := Scf.iv c0_i32_7 c1_i32_8 k0_t3
  let v356 : BitVec 32 := Scalar.muli c8_i32_141 arg17
  let v357 : Index := Scalar.indexCast v356
  let c0_142 : Index := 0#32
  ![14, v357.toNat, 0]
def k0_off22 (k0_t3 : Fin k0_t3_loop.trips) : Fin 3 → Nat :=
  let c15 : Index := 15#32
  let c8_i32_143 : BitVec 32 := 8#32
  let c0_i32_7 : BitVec 32 := 0#32
  let c1_i32_8 : BitVec 32 := 1#32
  let arg17 : BitVec 32 := Scf.iv c0_i32_7 c1_i32_8 k0_t3
  let v360 : BitVec 32 := Scalar.muli c8_i32_143 arg17
  let v361 : Index := Scalar.indexCast v360
  let c0_144 : Index := 0#32
  ![15, v361.toNat, 0]
def k0_off23 (k0_t3 : Fin k0_t3_loop.trips) : Fin 3 → Nat :=
  let c16 : Index := 16#32
  let c8_i32_145 : BitVec 32 := 8#32
  let c0_i32_7 : BitVec 32 := 0#32
  let c1_i32_8 : BitVec 32 := 1#32
  let arg17 : BitVec 32 := Scf.iv c0_i32_7 c1_i32_8 k0_t3
  let v364 : BitVec 32 := Scalar.muli c8_i32_145 arg17
  let v365 : Index := Scalar.indexCast v364
  let c0_146 : Index := 0#32
  ![16, v365.toNat, 0]
def k0_off24 (k0_t3 : Fin k0_t3_loop.trips) : Fin 3 → Nat :=
  let c17 : Index := 17#32
  let c8_i32_147 : BitVec 32 := 8#32
  let c0_i32_7 : BitVec 32 := 0#32
  let c1_i32_8 : BitVec 32 := 1#32
  let arg17 : BitVec 32 := Scf.iv c0_i32_7 c1_i32_8 k0_t3
  let v368 : BitVec 32 := Scalar.muli c8_i32_147 arg17
  let v369 : Index := Scalar.indexCast v368
  let c0_148 : Index := 0#32
  ![17, v369.toNat, 0]
def k0_off25 (k0_t3 : Fin k0_t3_loop.trips) : Fin 3 → Nat :=
  let c18 : Index := 18#32
  let c8_i32_149 : BitVec 32 := 8#32
  let c0_i32_7 : BitVec 32 := 0#32
  let c1_i32_8 : BitVec 32 := 1#32
  let arg17 : BitVec 32 := Scf.iv c0_i32_7 c1_i32_8 k0_t3
  let v372 : BitVec 32 := Scalar.muli c8_i32_149 arg17
  let v373 : Index := Scalar.indexCast v372
  let c0_150 : Index := 0#32
  ![18, v373.toNat, 0]
def k0_off26 (k0_t3 : Fin k0_t3_loop.trips) : Fin 3 → Nat :=
  let c19 : Index := 19#32
  let c8_i32_151 : BitVec 32 := 8#32
  let c0_i32_7 : BitVec 32 := 0#32
  let c1_i32_8 : BitVec 32 := 1#32
  let arg17 : BitVec 32 := Scf.iv c0_i32_7 c1_i32_8 k0_t3
  let v376 : BitVec 32 := Scalar.muli c8_i32_151 arg17
  let v377 : Index := Scalar.indexCast v376
  let c0_152 : Index := 0#32
  ![19, v377.toNat, 0]
def k0_off27 (k0_t3 : Fin k0_t3_loop.trips) : Fin 3 → Nat :=
  let c20 : Index := 20#32
  let c8_i32_153 : BitVec 32 := 8#32
  let c0_i32_7 : BitVec 32 := 0#32
  let c1_i32_8 : BitVec 32 := 1#32
  let arg17 : BitVec 32 := Scf.iv c0_i32_7 c1_i32_8 k0_t3
  let v380 : BitVec 32 := Scalar.muli c8_i32_153 arg17
  let v381 : Index := Scalar.indexCast v380
  let c0_154 : Index := 0#32
  ![20, v381.toNat, 0]
def k0_off28 (k0_t3 : Fin k0_t3_loop.trips) : Fin 3 → Nat :=
  let c21 : Index := 21#32
  let c8_i32_155 : BitVec 32 := 8#32
  let c0_i32_7 : BitVec 32 := 0#32
  let c1_i32_8 : BitVec 32 := 1#32
  let arg17 : BitVec 32 := Scf.iv c0_i32_7 c1_i32_8 k0_t3
  let v384 : BitVec 32 := Scalar.muli c8_i32_155 arg17
  let v385 : Index := Scalar.indexCast v384
  let c0_156 : Index := 0#32
  ![21, v385.toNat, 0]
def k0_off29 (k0_t3 : Fin k0_t3_loop.trips) : Fin 3 → Nat :=
  let c22 : Index := 22#32
  let c8_i32_157 : BitVec 32 := 8#32
  let c0_i32_7 : BitVec 32 := 0#32
  let c1_i32_8 : BitVec 32 := 1#32
  let arg17 : BitVec 32 := Scf.iv c0_i32_7 c1_i32_8 k0_t3
  let v388 : BitVec 32 := Scalar.muli c8_i32_157 arg17
  let v389 : Index := Scalar.indexCast v388
  let c0_158 : Index := 0#32
  ![22, v389.toNat, 0]
def k0_off30 (k0_t3 : Fin k0_t3_loop.trips) : Fin 3 → Nat :=
  let c23 : Index := 23#32
  let c8_i32_159 : BitVec 32 := 8#32
  let c0_i32_7 : BitVec 32 := 0#32
  let c1_i32_8 : BitVec 32 := 1#32
  let arg17 : BitVec 32 := Scf.iv c0_i32_7 c1_i32_8 k0_t3
  let v392 : BitVec 32 := Scalar.muli c8_i32_159 arg17
  let v393 : Index := Scalar.indexCast v392
  let c0_160 : Index := 0#32
  ![23, v393.toNat, 0]
def k0_off31 (k0_t3 : Fin k0_t3_loop.trips) : Fin 3 → Nat :=
  let c24 : Index := 24#32
  let c8_i32_161 : BitVec 32 := 8#32
  let c0_i32_7 : BitVec 32 := 0#32
  let c1_i32_8 : BitVec 32 := 1#32
  let arg17 : BitVec 32 := Scf.iv c0_i32_7 c1_i32_8 k0_t3
  let v396 : BitVec 32 := Scalar.muli c8_i32_161 arg17
  let v397 : Index := Scalar.indexCast v396
  let c0_162 : Index := 0#32
  ![24, v397.toNat, 0]
def k0_off32 (k0_t3 : Fin k0_t3_loop.trips) : Fin 3 → Nat :=
  let c25 : Index := 25#32
  let c8_i32_163 : BitVec 32 := 8#32
  let c0_i32_7 : BitVec 32 := 0#32
  let c1_i32_8 : BitVec 32 := 1#32
  let arg17 : BitVec 32 := Scf.iv c0_i32_7 c1_i32_8 k0_t3
  let v400 : BitVec 32 := Scalar.muli c8_i32_163 arg17
  let v401 : Index := Scalar.indexCast v400
  let c0_164 : Index := 0#32
  ![25, v401.toNat, 0]
def k0_off33 (k0_t3 : Fin k0_t3_loop.trips) : Fin 3 → Nat :=
  let c26 : Index := 26#32
  let c8_i32_165 : BitVec 32 := 8#32
  let c0_i32_7 : BitVec 32 := 0#32
  let c1_i32_8 : BitVec 32 := 1#32
  let arg17 : BitVec 32 := Scf.iv c0_i32_7 c1_i32_8 k0_t3
  let v404 : BitVec 32 := Scalar.muli c8_i32_165 arg17
  let v405 : Index := Scalar.indexCast v404
  let c0_166 : Index := 0#32
  ![26, v405.toNat, 0]
def k0_off34 (k0_t3 : Fin k0_t3_loop.trips) : Fin 3 → Nat :=
  let c27 : Index := 27#32
  let c8_i32_167 : BitVec 32 := 8#32
  let c0_i32_7 : BitVec 32 := 0#32
  let c1_i32_8 : BitVec 32 := 1#32
  let arg17 : BitVec 32 := Scf.iv c0_i32_7 c1_i32_8 k0_t3
  let v408 : BitVec 32 := Scalar.muli c8_i32_167 arg17
  let v409 : Index := Scalar.indexCast v408
  let c0_168 : Index := 0#32
  ![27, v409.toNat, 0]
def k0_off35 (k0_t3 : Fin k0_t3_loop.trips) : Fin 3 → Nat :=
  let c28 : Index := 28#32
  let c8_i32_169 : BitVec 32 := 8#32
  let c0_i32_7 : BitVec 32 := 0#32
  let c1_i32_8 : BitVec 32 := 1#32
  let arg17 : BitVec 32 := Scf.iv c0_i32_7 c1_i32_8 k0_t3
  let v412 : BitVec 32 := Scalar.muli c8_i32_169 arg17
  let v413 : Index := Scalar.indexCast v412
  let c0_170 : Index := 0#32
  ![28, v413.toNat, 0]
def k0_off36 (k0_t3 : Fin k0_t3_loop.trips) : Fin 3 → Nat :=
  let c29 : Index := 29#32
  let c8_i32_171 : BitVec 32 := 8#32
  let c0_i32_7 : BitVec 32 := 0#32
  let c1_i32_8 : BitVec 32 := 1#32
  let arg17 : BitVec 32 := Scf.iv c0_i32_7 c1_i32_8 k0_t3
  let v416 : BitVec 32 := Scalar.muli c8_i32_171 arg17
  let v417 : Index := Scalar.indexCast v416
  let c0_172 : Index := 0#32
  ![29, v417.toNat, 0]
def k0_off37 (k0_t3 : Fin k0_t3_loop.trips) : Fin 3 → Nat :=
  let c30 : Index := 30#32
  let c8_i32_173 : BitVec 32 := 8#32
  let c0_i32_7 : BitVec 32 := 0#32
  let c1_i32_8 : BitVec 32 := 1#32
  let arg17 : BitVec 32 := Scf.iv c0_i32_7 c1_i32_8 k0_t3
  let v420 : BitVec 32 := Scalar.muli c8_i32_173 arg17
  let v421 : Index := Scalar.indexCast v420
  let c0_174 : Index := 0#32
  ![30, v421.toNat, 0]
def k0_off38 (k0_t3 : Fin k0_t3_loop.trips) : Fin 3 → Nat :=
  let c31 : Index := 31#32
  let c8_i32_175 : BitVec 32 := 8#32
  let c0_i32_7 : BitVec 32 := 0#32
  let c1_i32_8 : BitVec 32 := 1#32
  let arg17 : BitVec 32 := Scf.iv c0_i32_7 c1_i32_8 k0_t3
  let v424 : BitVec 32 := Scalar.muli c8_i32_175 arg17
  let v425 : Index := Scalar.indexCast v424
  let c0_176 : Index := 0#32
  ![31, v425.toNat, 0]
def k0_off39 (k0_t3 : Fin k0_t3_loop.trips) (c0_i32_177 : BitVec 32) : Fin 2 → Nat :=
  let c8_i32_110 : BitVec 32 := 8#32
  let c0_i32_7 : BitVec 32 := 0#32
  let c1_i32_8 : BitVec 32 := 1#32
  let arg17 : BitVec 32 := Scf.iv c0_i32_7 c1_i32_8 k0_t3
  let v298 : BitVec 32 := Scalar.muli c8_i32_110 arg17
  let c112_i32_111 : BitVec 32 := 112#32
  let v299 : BitVec 32 := Scalar.remsi v298 c112_i32_111
  let c68_i32 : BitVec 32 := 68#32
  let v590 : BitVec 32 := Scalar.muli v299 c68_i32
  let v591 : BitVec 32 := Scalar.addi v590 c0_i32_177
  let c8_i32_109 : BitVec 32 := 8#32
  let v296 : BitVec 32 := Scalar.muli c8_i32_109 arg17
  let c112_i32 : BitVec 32 := 112#32
  let v297 : BitVec 32 := Scalar.divsi v296 c112_i32
  let v592 : BitVec 32 := Scalar.addi v591 v297
  let v593 : Index := Scalar.indexCast v592
  let c0_178 : Index := 0#32
  ![v593.toNat, 0]
def k0_mult2 (i : grid0.Coords) : BitVec 32 :=
  let arg1 : BitVec 32 := BitVec.ofNat 32 (i 1).val
  let c128_i32_37 : BitVec 32 := 128#32
  let v111 : BitVec 32 := Scalar.muli arg1 c128_i32_37
  v111
def k0_off40 (i : grid0.Coords) : Fin 2 → Nat :=
  let c0 : Index := 0#32
  let arg1 : BitVec 32 := BitVec.ofNat 32 (i 1).val
  let c128_i32_37 : BitVec 32 := 128#32
  let v111 : BitVec 32 := Scalar.muli arg1 c128_i32_37
  let v112 : BitVec 32 := v111
  let v118 : Index := Scalar.indexCast v112
  ![0, v118.toNat]
@[reducible] def k0_t4_loop : Scf.Loop 32 :=
  let c0_i32_40 : BitVec 32 := 0#32
  let c54_i32_41 : BitVec 32 := 54#32
  let v126 : BitVec 32 := Scalar.addi c0_i32_40 c54_i32_41
  let c1_i32_42 : BitVec 32 := 1#32
  ⟨c0_i32_40, v126, c1_i32_42⟩
def k0_off41 (k0_t4 : Fin k0_t4_loop.trips) : Fin 2 → Nat :=
  let c2_i32_109 : BitVec 32 := 2#32
  let c0_i32_40 : BitVec 32 := 0#32
  let c1_i32_42 : BitVec 32 := 1#32
  let arg17 : BitVec 32 := Scf.iv c0_i32_40 c1_i32_42 k0_t4
  let v296 : BitVec 32 := Scalar.muli c2_i32_109 arg17
  let c68_i32 : BitVec 32 := 68#32
  let v297 : BitVec 32 := Scalar.muli v296 c68_i32
  let v298 : Index := Scalar.indexCast v297
  let c0_110 : Index := 0#32
  ![v298.toNat, 0]
def k0_off42 (k0_t4 : Fin k0_t4_loop.trips) : Fin 2 → Nat :=
  let c2_i32_111 : BitVec 32 := 2#32
  let c0_i32_40 : BitVec 32 := 0#32
  let c1_i32_42 : BitVec 32 := 1#32
  let arg17 : BitVec 32 := Scf.iv c0_i32_40 c1_i32_42 k0_t4
  let v300 : BitVec 32 := Scalar.muli c2_i32_111 arg17
  let c1_i32_112 : BitVec 32 := 1#32
  let v301 : BitVec 32 := Scalar.addi v300 c1_i32_112
  let c68_i32_113 : BitVec 32 := 68#32
  let v302 : BitVec 32 := Scalar.muli v301 c68_i32_113
  let v303 : Index := Scalar.indexCast v302
  let c0_114 : Index := 0#32
  ![v303.toNat, 0]
def k0_mult3 (k0_t4 : Fin k0_t4_loop.trips) : BitVec 32 :=
  let c0_i32_40 : BitVec 32 := 0#32
  let c1_i32_42 : BitVec 32 := 1#32
  let arg17 : BitVec 32 := Scf.iv c0_i32_40 c1_i32_42 k0_t4
  let c128_i32_117 : BitVec 32 := 128#32
  let v314 : BitVec 32 := Scalar.muli arg17 c128_i32_117
  v314
def k0_off43 (k0_t4 : Fin k0_t4_loop.trips) : Fin 3 → Nat :=
  let c0_118 : Index := 0#32
  let c0_119 : Index := 0#32
  let c0_i32_40 : BitVec 32 := 0#32
  let c1_i32_42 : BitVec 32 := 1#32
  let arg17 : BitVec 32 := Scf.iv c0_i32_40 c1_i32_42 k0_t4
  let c128_i32_117 : BitVec 32 := 128#32
  let v314 : BitVec 32 := Scalar.muli arg17 c128_i32_117
  let v315 : BitVec 32 := v314
  let v316 : Index := Scalar.indexCast v315
  ![0, 0, v316.toNat]
def k0_mult4 (i : grid0.Coords) : BitVec 32 :=
  let arg1 : BitVec 32 := BitVec.ofNat 32 (i 1).val
  let c128_i32_106 : BitVec 32 := 128#32
  let v283 : BitVec 32 := Scalar.muli arg1 c128_i32_106
  v283
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x6912 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S108x108 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S6912x1152 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1152 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x1152 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x6912 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S3x640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x1152 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S3x640 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== KernelIdeal.lean ====
abbrev S3x640x6912 : Shape := ⟨3, ![3, 640, 6912]⟩
abbrev S3x640x1152 : Shape := ⟨3, ![3, 640, 1152]⟩
abbrev S1152 : Shape := ⟨1, ![1152]⟩
abbrev S108x108 : Shape := ⟨2, ![108, 108]⟩
abbrev S6912x1152 : Shape := ⟨2, ![6912, 1152]⟩
abbrev S1x1152 : Shape := ⟨2, ![1, 1152]⟩
abbrev S3x640 : Shape := ⟨2, ![3, 640]⟩
abbrev S1x128x6912 : Shape := ⟨3, ![1, 128, 6912]⟩
abbrev S1x128x1152 : Shape := ⟨3, ![1, 128, 1152]⟩
abbrev S224x224 : Shape := ⟨2, ![224, 224]⟩
abbrev S4032x128 : Shape := ⟨2, ![4032, 128]⟩
abbrev S4032x2x128 : Shape := ⟨3, ![4032, 2, 128]⟩
abbrev S4032x1x128 : Shape := ⟨3, ![4032, 1, 128]⟩
abbrev S32x224x128 : Shape := ⟨3, ![32, 224, 128]⟩
abbrev S7616x128 : Shape := ⟨2, ![7616, 128]⟩
abbrev S108x224 : Shape := ⟨2, ![108, 224]⟩
abbrev S144x128 : Shape := ⟨2, ![144, 128]⟩
abbrev S144x2x128 : Shape := ⟨3, ![144, 2, 128]⟩
abbrev S144x1x128 : Shape := ⟨3, ![144, 1, 128]⟩
abbrev S1x128x128 : Shape := ⟨3, ![1, 128, 128]⟩
abbrev S128x128 : Shape := ⟨2, ![128, 128]⟩
abbrev S64x128 : Shape := ⟨2, ![64, 128]⟩
abbrev S32x128 : Shape := ⟨2, ![32, 128]⟩
abbrev S32x2x128 : Shape := ⟨3, ![32, 2, 128]⟩
abbrev S32x1x128 : Shape := ⟨3, ![32, 1, 128]⟩
abbrev S112x128 : Shape := ⟨2, ![112, 128]⟩
abbrev S112x2x128 : Shape := ⟨3, ![112, 2, 128]⟩
abbrev S112x1x128 : Shape := ⟨3, ![112, 1, 128]⟩
abbrev S224x128 : Shape := ⟨2, ![224, 128]⟩
abbrev S224x256 : Shape := ⟨2, ![224, 256]⟩
abbrev S1x224x128 : Shape := ⟨3, ![1, 224, 128]⟩
abbrev S8x128 : Shape := ⟨2, ![8, 128]⟩
abbrev S1x8x128 : Shape := ⟨3, ![1, 8, 128]⟩
abbrev S128 : Shape := ⟨1, ![128]⟩
abbrev S1x128 : Shape := ⟨2, ![1, 128]⟩
abbrev S3x128 : Shape := ⟨2, ![3, 128]⟩
abbrev S128x6912 : Shape := ⟨2, ![128, 6912]⟩
abbrev S6912x1024 : Shape := ⟨2, ![6912, 1024]⟩
abbrev S128x1024 : Shape := ⟨2, ![128, 1024]⟩
abbrev S6912x256 : Shape := ⟨2, ![6912, 256]⟩
abbrev S128x256 : Shape := ⟨2, ![128, 256]⟩
abbrev S128x1152 : Shape := ⟨2, ![128, 1152]⟩
abbrev S128x1 : Shape := ⟨2, ![128, 1]⟩

abbrev nBuf : Space → Nat
  | .hbm => 13
  | .vmem => 20
  | .smem => 0
  | _ => 0

abbrev bufTy : (tb : Table) → Fin (tcTables nBuf tb) → BufTy
  | .hbm, ⟨0, _⟩ => ⟨S3x640x6912, .bf16⟩
  | .hbm, ⟨1, _⟩ => ⟨S3x640x1152, .bf16⟩
  | .hbm, ⟨2, _⟩ => ⟨S1152, .f32⟩
  | .hbm, ⟨3, _⟩ => ⟨S108x108, .f32⟩
  | .hbm, ⟨4, _⟩ => ⟨S6912x1152, .fp8e4m3⟩
  | .hbm, ⟨5, _⟩ => ⟨S1152, .f32⟩
  | .hbm, ⟨6, _⟩ => ⟨S1x1152, .f32⟩
  | .hbm, ⟨7, _⟩ => ⟨S1x1152, .f32⟩
  | .hbm, ⟨8, _⟩ => ⟨S3x640x1152, .bf16⟩
  | .hbm, ⟨9, _⟩ => ⟨S3x640x6912, .fp8e4m3⟩
  | .hbm, ⟨10, _⟩ => ⟨S3x640, .f32⟩
  | .hbm, ⟨11, _⟩ => ⟨S3x640x1152, .fp8e4m3⟩
  | .hbm, ⟨12, _⟩ => ⟨S3x640, .f32⟩
  | .local _ .vmem, ⟨0, _⟩ => ⟨S1x128x6912, .bf16⟩
  | .local _ .vmem, ⟨1, _⟩ => ⟨S1x128x6912, .bf16⟩
  | .local _ .vmem, ⟨2, _⟩ => ⟨S1x128x1152, .bf16⟩
  | .local _ .vmem, ⟨3, _⟩ => ⟨S1x128x1152, .bf16⟩
  | .local _ .vmem, ⟨4, _⟩ => ⟨S1x1152, .f32⟩
  | .local _ .vmem, ⟨5, _⟩ => ⟨S108x108, .f32⟩
  | .local _ .vmem, ⟨6, _⟩ => ⟨S6912x1152, .fp8e4m3⟩
  | .local _ .vmem, ⟨7, _⟩ => ⟨S1x1152, .f32⟩
  | .local _ .vmem, ⟨8, _⟩ => ⟨S1x128x1152, .bf16⟩
  | .local _ .vmem, ⟨9, _⟩ => ⟨S1x128x1152, .bf16⟩
  | .local _ .vmem, ⟨10, _⟩ => ⟨S1x128x6912, .fp8e4m3⟩
  | .local _ .vmem, ⟨11, _⟩ => ⟨S1x128x6912, .fp8e4m3⟩
  | .local _ .vmem, ⟨12, _⟩ => ⟨S3x640, .f32⟩
  | .local _ .vmem, ⟨13, _⟩ => ⟨S1x128x1152, .fp8e4m3⟩
  | .local _ .vmem, ⟨14, _⟩ => ⟨S1x128x1152, .fp8e4m3⟩
  | .local _ .vmem, ⟨15, _⟩ => ⟨S3x640, .f32⟩
  | .local _ .vmem, ⟨16, _⟩ => ⟨S224x224, .bf16⟩
  | .local _ .vmem, ⟨17, _⟩ => ⟨S4032x2x128, .bf16⟩
  | .local _ .vmem, ⟨18, _⟩ => ⟨S32x224x128, .f32⟩
  | .local _ .vmem, ⟨19, _⟩ => ⟨S7616x128, .f32⟩
  | _, _ => ⟨S3x640x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F] [Named F]

def κ : String → Option EReal := fun
  | "inv_d" => some ((1 / 1152 : ℝ) : EReal)
  | _ => none

abbrev grid0 : Pipeline.Grid := ⟨2, ![3, 5], ![false, false]⟩

@[reducible] def k0_t1_loop : Scf.Loop 32 :=
  let c0_i32_2 : BitVec 32 := 0#32
  let c54_i32 : BitVec 32 := 54#32
  let v5 : BitVec 32 := Scalar.addi c0_i32_2 c54_i32
  let c1_i32 : BitVec 32 := 1#32
  ⟨c0_i32_2, v5, c1_i32⟩
def k0_mult1 (k0_t1 : Fin k0_t1_loop.trips) : BitVec 32 :=
  let c0_i32_2 : BitVec 32 := 0#32
  let c1_i32 : BitVec 32 := 1#32
  let arg17 : BitVec 32 := Scf.iv c0_i32_2 c1_i32 k0_t1
  let c128_i32_109 : BitVec 32 := 128#32
  let v296 : BitVec 32 := Scalar.muli arg17 c128_i32_109
  v296
def k0_off1 (k0_t1 : Fin k0_t1_loop.trips) : Fin 3 → Nat :=
  let c0_110 : Index := 0#32
  let c0_111 : Index := 0#32
  let c0_i32_2 : BitVec 32 := 0#32
  let c1_i32 : BitVec 32 := 1#32
  let arg17 : BitVec 32 := Scf.iv c0_i32_2 c1_i32 k0_t1
  let c128_i32_109 : BitVec 32 := 128#32
  let v296 : BitVec 32 := Scalar.muli arg17 c128_i32_109
  let v297 : BitVec 32 := v296
  let v298 : Index := Scalar.indexCast v297
  ![0, 0, v298.toNat]
def k0_off2 (k0_t1 : Fin k0_t1_loop.trips) : Fin 3 → Nat :=
  let c2_i32_112 : BitVec 32 := 2#32
  let c0_i32_2 : BitVec 32 := 0#32
  let c1_i32 : BitVec 32 := 1#32
  let arg17 : BitVec 32 := Scf.iv c0_i32_2 c1_i32 k0_t1
  let v304 : BitVec 32 := Scalar.muli c2_i32_112 arg17
  let c36_i32 : BitVec 32 := 36#32
  let v305 : BitVec 32 := Scalar.muli v304 c36_i32
  let v306 : Index := Scalar.indexCast v305
  let c0_113 : Index := 0#32
  ![v306.toNat, 0, 0]
def k0_off3 (k0_t1 : Fin k0_t1_loop.trips) : Fin 3 → Nat :=
  let c2_i32_114 : BitVec 32 := 2#32
  let c0_i32_2 : BitVec 32 := 0#32
  let c1_i32 : BitVec 32 := 1#32
  let arg17 : BitVec 32 := Scf.iv c0_i32_2 c1_i32 k0_t1
  let v311 : BitVec 32 := Scalar.muli c2_i32_114 arg17
  let c1_i32_115 : BitVec 32 := 1#32
  let v312 : BitVec 32 := Scalar.addi v311 c1_i32_115
  let c36_i32_116 : BitVec 32 := 36#32
  let v313 : BitVec 32 := Scalar.muli v312 c36_i32_116
  let v314 : Index := Scalar.indexCast v313
  let c0_117 : Index := 0#32
  ![v314.toNat, 0, 0]
@[reducible] def k0_t2_loop : Scf.Loop 32 :=
  let c0_i32_4 : BitVec 32 := 0#32
  let c16_i32 : BitVec 32 := 16#32
  let v6 : BitVec 32 := Scalar.addi c0_i32_4 c16_i32
  let c1_i32_5 : BitVec 32 := 1#32
  ⟨c0_i32_4, v6, c1_i32_5⟩
def k0_off4 (k0_t2 : Fin k0_t2_loop.trips) (c0_i32_110 : BitVec 32) : Fin 3 → Nat :=
  let c2_i32_109 : BitVec 32 := 2#32
  let c0_i32_4 : BitVec 32 := 0#32
  let c1_i32_5 : BitVec 32 := 1#32
  let arg17 : BitVec 32 := Scf.iv c0_i32_4 c1_i32_5 k0_t2
  let v296 : BitVec 32 := Scalar.muli c2_i32_109 arg17
  let v297 : BitVec 32 := Scalar.addi v296 c0_i32_110
  let v298 : Index := Scalar.indexCast v297
  let c0_111 : Index := 0#32
  ![v298.toNat, 0, 0]
def k0_off5 (k0_t2 : Fin k0_t2_loop.trips) : Fin 3 → Nat :=
  let c2_i32_118 : BitVec 32 := 2#32
  let c0_i32_4 : BitVec 32 := 0#32
  let c1_i32_5 : BitVec 32 := 1#32
  let arg17 : BitVec 32 := Scf.iv c0_i32_4 c1_i32_5 k0_t2
  let v310 : BitVec 32 := Scalar.muli c2_i32_118 arg17
  let v311 : Index := Scalar.indexCast v310
  let c0_119 : Index := 0#32
  let c0_120 : Index := 0#32
  ![v311.toNat, 0, 0]
def k0_off6 (k0_t2 : Fin k0_t2_loop.trips) : Fin 3 → Nat :=
  let c2_i32_121 : BitVec 32 := 2#32
  let c0_i32_4 : BitVec 32 := 0#32
  let c1_i32_5 : BitVec 32 := 1#32
  let arg17 : BitVec 32 := Scf.iv c0_i32_4 c1_i32_5 k0_t2
  let v316 : BitVec 32 := Scalar.muli c2_i32_121 arg17
  let c1_i32_122 : BitVec 32 := 1#32
  let v317 : BitVec 32 := Scalar.addi v316 c1_i32_122
  let v318 : Index := Scalar.indexCast v317
  let c0_123 : Index := 0#32
  let c0_124 : Index := 0#32
  ![v318.toNat, 0, 0]
@[reducible] def k0_t3_loop : Scf.Loop 32 :=
  let c0_i32_7 : BitVec 32 := 0#32
  let c28_i32 : BitVec 32 := 28#32
  let v8 : BitVec 32 := Scalar.addi c0_i32_7 c28_i32
  let c1_i32_8 : BitVec 32 := 1#32
  ⟨c0_i32_7, v8, c1_i32_8⟩
def k0_off7 (k0_t3 : Fin k0_t3_loop.trips) : Fin 3 → Nat :=
  let c0_113 : Index := 0#32
  let c8_i32_112 : BitVec 32 := 8#32
  let c0_i32_7 : BitVec 32 := 0#32
  let c1_i32_8 : BitVec 32 := 1#32
  let arg17 : BitVec 32 := Scf.iv c0_i32_7 c1_i32_8 k0_t3
  let v300 : BitVec 32 := Scalar.muli c8_i32_112 arg17
  let v301 : Index := Scalar.indexCast v300
  let c0_114 : Index := 0#32
  ![0, v301.toNat, 0]
def k0_off8 (k0_t3 : Fin k0_t3_loop.trips) : Fin 3 → Nat :=
  let c1 : Index := 1#32
  let c8_i32_115 : BitVec 32 := 8#32
  let c0_i32_7 : BitVec 32 := 0#32
  let c1_i32_8 : BitVec 32 := 1#32
  let arg17 : BitVec 32 := Scf.iv c0_i32_7 c1_i32_8 k0_t3
  let v304 : BitVec 32 := Scalar.muli c8_i32_115 arg17
  let v305 : Index := Scalar.indexCast v304
  let c0_116 : Index := 0#32
  ![1, v305.toNat, 0]
def k0_off9 (k0_t3 : Fin k0_t3_loop.trips) : Fin 3 → Nat :=
  let c2 : Index := 2#32
  let c8_i32_117 : BitVec 32 := 8#32
  let c0_i32_7 : BitVec 32 := 0#32
  let c1_i32_8 : BitVec 32 := 1#32
  let arg17 : BitVec 32 := Scf.iv c0_i32_7 c1_i32_8 k0_t3
  let v308 : BitVec 32 := Scalar.muli c8_i32_117 arg17
  let v309 : Index := Scalar.indexCast v308
  let c0_118 : Index := 0#32
  ![2, v309.toNat, 0]
def k0_off10 (k0_t3 : Fin k0_t3_loop.trips) : Fin 3 → Nat :=
  let c3 : Index := 3#32
  let c8_i32_119 : BitVec 32 := 8#32
  let c0_i32_7 : BitVec 32 := 0#32
  let c1_i32_8 : BitVec 32 := 1#32
  let arg17 : BitVec 32 := Scf.iv c0_i32_7 c1_i32_8 k0_t3
  let v312 : BitVec 32 := Scalar.muli c8_i32_119 arg17
  let v313 : Index := Scalar.indexCast v312
  let c0_120 : Index := 0#32
  ![3, v313.toNat, 0]
def k0_off11 (k0_t3 : Fin k0_t3_loop.trips) : Fin 3 → Nat :=
  let c4 : Index := 4#32
  let c8_i32_121 : BitVec 32 := 8#32
  let c0_i32_7 : BitVec 32 := 0#32
  let c1_i32_8 : BitVec 32 := 1#32
  let arg17 : BitVec 32 := Scf.iv c0_i32_7 c1_i32_8 k0_t3
  let v316 : BitVec 32 := Scalar.muli c8_i32_121 arg17
  let v317 : Index := Scalar.indexCast v316
  let c0_122 : Index := 0#32
  ![4, v317.toNat, 0]
def k0_off12 (k0_t3 : Fin k0_t3_loop.trips) : Fin 3 → Nat :=
  let c5 : Index := 5#32
  let c8_i32_123 : BitVec 32 := 8#32
  let c0_i32_7 : BitVec 32 := 0#32
  let c1_i32_8 : BitVec 32 := 1#32
  let arg17 : BitVec 32 := Scf.iv c0_i32_7 c1_i32_8 k0_t3
  let v320 : BitVec 32 := Scalar.muli c8_i32_123 arg17
  let v321 : Index := Scalar.indexCast v320
  let c0_124 : Index := 0#32
  ![5, v321.toNat, 0]
def k0_off13 (k0_t3 : Fin k0_t3_loop.trips) : Fin 3 → Nat :=
  let c6 : Index := 6#32
  let c8_i32_125 : BitVec 32 := 8#32
  let c0_i32_7 : BitVec 32 := 0#32
  let c1_i32_8 : BitVec 32 := 1#32
  let arg17 : BitVec 32 := Scf.iv c0_i32_7 c1_i32_8 k0_t3
  let v324 : BitVec 32 := Scalar.muli c8_i32_125 arg17
  let v325 : Index := Scalar.indexCast v324
  let c0_126 : Index := 0#32
  ![6, v325.toNat, 0]
def k0_off14 (k0_t3 : Fin k0_t3_loop.trips) : Fin 3 → Nat :=
  let c7 : Index := 7#32
  let c8_i32_127 : BitVec 32 := 8#32
  let c0_i32_7 : BitVec 32 := 0#32
  let c1_i32_8 : BitVec 32 := 1#32
  let arg17 : BitVec 32 := Scf.iv c0_i32_7 c1_i32_8 k0_t3
  let v328 : BitVec 32 := Scalar.muli c8_i32_127 arg17
  let v329 : Index := Scalar.indexCast v328
  let c0_128 : Index := 0#32
  ![7, v329.toNat, 0]
def k0_off15 (k0_t3 : Fin k0_t3_loop.trips) : Fin 3 → Nat :=
  let c8 : Index := 8#32
  let c8_i32_129 : BitVec 32 := 8#32
  let c0_i32_7 : BitVec 32 := 0#32
  let c1_i32_8 : BitVec 32 := 1#32
  let arg17 : BitVec 32 := Scf.iv c0_i32_7 c1_i32_8 k0_t3
  let v332 : BitVec 32 := Scalar.muli c8_i32_129 arg17
  let v333 : Index := Scalar.indexCast v332
  let c0_130 : Index := 0#32
  ![8, v333.toNat, 0]
def k0_off16 (k0_t3 : Fin k0_t3_loop.trips) : Fin 3 → Nat :=
  let c9 : Index := 9#32
  let c8_i32_131 : BitVec 32 := 8#32
  let c0_i32_7 : BitVec 32 := 0#32
  let c1_i32_8 : BitVec 32 := 1#32
  let arg17 : BitVec 32 := Scf.iv c0_i32_7 c1_i32_8 k0_t3
  let v336 : BitVec 32 := Scalar.muli c8_i32_131 arg17
  let v337 : Index := Scalar.indexCast v336
  let c0_132 : Index := 0#32
  ![9, v337.toNat, 0]
def k0_off17 (k0_t3 : Fin k0_t3_loop.trips) : Fin 3 → Nat :=
  let c10 : Index := 10#32
  let c8_i32_133 : BitVec 32 := 8#32
  let c0_i32_7 : BitVec 32 := 0#32
  let c1_i32_8 : BitVec 32 := 1#32
  let arg17 : BitVec 32 := Scf.iv c0_i32_7 c1_i32_8 k0_t3
  let v340 : BitVec 32 := Scalar.muli c8_i32_133 arg17
  let v341 : Index := Scalar.indexCast v340
  let c0_134 : Index := 0#32
  ![10, v341.toNat, 0]
def k0_off18 (k0_t3 : Fin k0_t3_loop.trips) : Fin 3 → Nat :=
  let c11 : Index := 11#32
  let c8_i32_135 : BitVec 32 := 8#32
  let c0_i32_7 : BitVec 32 := 0#32
  let c1_i32_8 : BitVec 32 := 1#32
  let arg17 : BitVec 32 := Scf.iv c0_i32_7 c1_i32_8 k0_t3
  let v344 : BitVec 32 := Scalar.muli c8_i32_135 arg17
  let v345 : Index := Scalar.indexCast v344
  let c0_136 : Index := 0#32
  ![11, v345.toNat, 0]
def k0_off19 (k0_t3 : Fin k0_t3_loop.trips) : Fin 3 → Nat :=
  let c12 : Index := 12#32
  let c8_i32_137 : BitVec 32 := 8#32
  let c0_i32_7 : BitVec 32 := 0#32
  let c1_i32_8 : BitVec 32 := 1#32
  let arg17 : BitVec 32 := Scf.iv c0_i32_7 c1_i32_8 k0_t3
  let v348 : BitVec 32 := Scalar.muli c8_i32_137 arg17
  let v349 : Index := Scalar.indexCast v348
  let c0_138 : Index := 0#32
  ![12, v349.toNat, 0]
def k0_off20 (k0_t3 : Fin k0_t3_loop.trips) : Fin 3 → Nat :=
  let c13 : Index := 13#32
  let c8_i32_139 : BitVec 32 := 8#32
  let c0_i32_7 : BitVec 32 := 0#32
  let c1_i32_8 : BitVec 32 := 1#32
  let arg17 : BitVec 32 := Scf.iv c0_i32_7 c1_i32_8 k0_t3
  let v352 : BitVec 32 := Scalar.muli c8_i32_139 arg17
  let v353 : Index := Scalar.indexCast v352
  let c0_140 : Index := 0#32
  ![13, v353.toNat, 0]
def k0_off21 (k0_t3 : Fin k0_t3_loop.trips) : Fin 3 → Nat :=
  let c14 : Index := 14#32
  let c8_i32_141 : BitVec 32 := 8#32
  let c0_i32_7 : BitVec 32 := 0#32
  let c1_i32_8 : BitVec 32 := 1#32
  let arg17 : BitVec 32 := Scf.iv c0_i32_7 c1_i32_8 k0_t3
  let v356 : BitVec 32 := Scalar.muli c8_i32_141 arg17
  let v357 : Index := Scalar.indexCast v356
  let c0_142 : Index := 0#32
  ![14, v357.toNat, 0]
def k0_off22 (k0_t3 : Fin k0_t3_loop.trips) : Fin 3 → Nat :=
  let c15 : Index := 15#32
  let c8_i32_143 : BitVec 32 := 8#32
  let c0_i32_7 : BitVec 32 := 0#32
  let c1_i32_8 : BitVec 32 := 1#32
  let arg17 : BitVec 32 := Scf.iv c0_i32_7 c1_i32_8 k0_t3
  let v360 : BitVec 32 := Scalar.muli c8_i32_143 arg17
  let v361 : Index := Scalar.indexCast v360
  let c0_144 : Index := 0#32
  ![15, v361.toNat, 0]
def k0_off23 (k0_t3 : Fin k0_t3_loop.trips) : Fin 3 → Nat :=
  let c16 : Index := 16#32
  let c8_i32_145 : BitVec 32 := 8#32
  let c0_i32_7 : BitVec 32 := 0#32
  let c1_i32_8 : BitVec 32 := 1#32
  let arg17 : BitVec 32 := Scf.iv c0_i32_7 c1_i32_8 k0_t3
  let v364 : BitVec 32 := Scalar.muli c8_i32_145 arg17
  let v365 : Index := Scalar.indexCast v364
  let c0_146 : Index := 0#32
  ![16, v365.toNat, 0]
def k0_off24 (k0_t3 : Fin k0_t3_loop.trips) : Fin 3 → Nat :=
  let c17 : Index := 17#32
  let c8_i32_147 : BitVec 32 := 8#32
  let c0_i32_7 : BitVec 32 := 0#32
  let c1_i32_8 : BitVec 32 := 1#32
  let arg17 : BitVec 32 := Scf.iv c0_i32_7 c1_i32_8 k0_t3
  let v368 : BitVec 32 := Scalar.muli c8_i32_147 arg17
  let v369 : Index := Scalar.indexCast v368
  let c0_148 : Index := 0#32
  ![17, v369.toNat, 0]
def k0_off25 (k0_t3 : Fin k0_t3_loop.trips) : Fin 3 → Nat :=
  let c18 : Index := 18#32
  let c8_i32_149 : BitVec 32 := 8#32
  let c0_i32_7 : BitVec 32 := 0#32
  let c1_i32_8 : BitVec 32 := 1#32
  let arg17 : BitVec 32 := Scf.iv c0_i32_7 c1_i32_8 k0_t3
  let v372 : BitVec 32 := Scalar.muli c8_i32_149 arg17
  let v373 : Index := Scalar.indexCast v372
  let c0_150 : Index := 0#32
  ![18, v373.toNat, 0]
def k0_off26 (k0_t3 : Fin k0_t3_loop.trips) : Fin 3 → Nat :=
  let c19 : Index := 19#32
  let c8_i32_151 : BitVec 32 := 8#32
  let c0_i32_7 : BitVec 32 := 0#32
  let c1_i32_8 : BitVec 32 := 1#32
  let arg17 : BitVec 32 := Scf.iv c0_i32_7 c1_i32_8 k0_t3
  let v376 : BitVec 32 := Scalar.muli c8_i32_151 arg17
  let v377 : Index := Scalar.indexCast v376
  let c0_152 : Index := 0#32
  ![19, v377.toNat, 0]
def k0_off27 (k0_t3 : Fin k0_t3_loop.trips) : Fin 3 → Nat :=
  let c20 : Index := 20#32
  let c8_i32_153 : BitVec 32 := 8#32
  let c0_i32_7 : BitVec 32 := 0#32
  let c1_i32_8 : BitVec 32 := 1#32
  let arg17 : BitVec 32 := Scf.iv c0_i32_7 c1_i32_8 k0_t3
  let v380 : BitVec 32 := Scalar.muli c8_i32_153 arg17
  let v381 : Index := Scalar.indexCast v380
  let c0_154 : Index := 0#32
  ![20, v381.toNat, 0]
def k0_off28 (k0_t3 : Fin k0_t3_loop.trips) : Fin 3 → Nat :=
  let c21 : Index := 21#32
  let c8_i32_155 : BitVec 32 := 8#32
  let c0_i32_7 : BitVec 32 := 0#32
  let c1_i32_8 : BitVec 32 := 1#32
  let arg17 : BitVec 32 := Scf.iv c0_i32_7 c1_i32_8 k0_t3
  let v384 : BitVec 32 := Scalar.muli c8_i32_155 arg17
  let v385 : Index := Scalar.indexCast v384
  let c0_156 : Index := 0#32
  ![21, v385.toNat, 0]
def k0_off29 (k0_t3 : Fin k0_t3_loop.trips) : Fin 3 → Nat :=
  let c22 : Index := 22#32
  let c8_i32_157 : BitVec 32 := 8#32
  let c0_i32_7 : BitVec 32 := 0#32
  let c1_i32_8 : BitVec 32 := 1#32
  let arg17 : BitVec 32 := Scf.iv c0_i32_7 c1_i32_8 k0_t3
  let v388 : BitVec 32 := Scalar.muli c8_i32_157 arg17
  let v389 : Index := Scalar.indexCast v388
  let c0_158 : Index := 0#32
  ![22, v389.toNat, 0]
def k0_off30 (k0_t3 : Fin k0_t3_loop.trips) : Fin 3 → Nat :=
  let c23 : Index := 23#32
  let c8_i32_159 : BitVec 32 := 8#32
  let c0_i32_7 : BitVec 32 := 0#32
  let c1_i32_8 : BitVec 32 := 1#32
  let arg17 : BitVec 32 := Scf.iv c0_i32_7 c1_i32_8 k0_t3
  let v392 : BitVec 32 := Scalar.muli c8_i32_159 arg17
  let v393 : Index := Scalar.indexCast v392
  let c0_160 : Index := 0#32
  ![23, v393.toNat, 0]
def k0_off31 (k0_t3 : Fin k0_t3_loop.trips) : Fin 3 → Nat :=
  let c24 : Index := 24#32
  let c8_i32_161 : BitVec 32 := 8#32
  let c0_i32_7 : BitVec 32 := 0#32
  let c1_i32_8 : BitVec 32 := 1#32
  let arg17 : BitVec 32 := Scf.iv c0_i32_7 c1_i32_8 k0_t3
  let v396 : BitVec 32 := Scalar.muli c8_i32_161 arg17
  let v397 : Index := Scalar.indexCast v396
  let c0_162 : Index := 0#32
  ![24, v397.toNat, 0]
def k0_off32 (k0_t3 : Fin k0_t3_loop.trips) : Fin 3 → Nat :=
  let c25 : Index := 25#32
  let c8_i32_163 : BitVec 32 := 8#32
  let c0_i32_7 : BitVec 32 := 0#32
  let c1_i32_8 : BitVec 32 := 1#32
  let arg17 : BitVec 32 := Scf.iv c0_i32_7 c1_i32_8 k0_t3
  let v400 : BitVec 32 := Scalar.muli c8_i32_163 arg17
  let v401 : Index := Scalar.indexCast v400
  let c0_164 : Index := 0#32
  ![25, v401.toNat, 0]
def k0_off33 (k0_t3 : Fin k0_t3_loop.trips) : Fin 3 → Nat :=
  let c26 : Index := 26#32
  let c8_i32_165 : BitVec 32 := 8#32
  let c0_i32_7 : BitVec 32 := 0#32
  let c1_i32_8 : BitVec 32 := 1#32
  let arg17 : BitVec 32 := Scf.iv c0_i32_7 c1_i32_8 k0_t3
  let v404 : BitVec 32 := Scalar.muli c8_i32_165 arg17
  let v405 : Index := Scalar.indexCast v404
  let c0_166 : Index := 0#32
  ![26, v405.toNat, 0]
def k0_off34 (k0_t3 : Fin k0_t3_loop.trips) : Fin 3 → Nat :=
  let c27 : Index := 27#32
  let c8_i32_167 : BitVec 32 := 8#32
  let c0_i32_7 : BitVec 32 := 0#32
  let c1_i32_8 : BitVec 32 := 1#32
  let arg17 : BitVec 32 := Scf.iv c0_i32_7 c1_i32_8 k0_t3
  let v408 : BitVec 32 := Scalar.muli c8_i32_167 arg17
  let v409 : Index := Scalar.indexCast v408
  let c0_168 : Index := 0#32
  ![27, v409.toNat, 0]
def k0_off35 (k0_t3 : Fin k0_t3_loop.trips) : Fin 3 → Nat :=
  let c28 : Index := 28#32
  let c8_i32_169 : BitVec 32 := 8#32
  let c0_i32_7 : BitVec 32 := 0#32
  let c1_i32_8 : BitVec 32 := 1#32
  let arg17 : BitVec 32 := Scf.iv c0_i32_7 c1_i32_8 k0_t3
  let v412 : BitVec 32 := Scalar.muli c8_i32_169 arg17
  let v413 : Index := Scalar.indexCast v412
  let c0_170 : Index := 0#32
  ![28, v413.toNat, 0]
def k0_off36 (k0_t3 : Fin k0_t3_loop.trips) : Fin 3 → Nat :=
  let c29 : Index := 29#32
  let c8_i32_171 : BitVec 32 := 8#32
  let c0_i32_7 : BitVec 32 := 0#32
  let c1_i32_8 : BitVec 32 := 1#32
  let arg17 : BitVec 32 := Scf.iv c0_i32_7 c1_i32_8 k0_t3
  let v416 : BitVec 32 := Scalar.muli c8_i32_171 arg17
  let v417 : Index := Scalar.indexCast v416
  let c0_172 : Index := 0#32
  ![29, v417.toNat, 0]
def k0_off37 (k0_t3 : Fin k0_t3_loop.trips) : Fin 3 → Nat :=
  let c30 : Index := 30#32
  let c8_i32_173 : BitVec 32 := 8#32
  let c0_i32_7 : BitVec 32 := 0#32
  let c1_i32_8 : BitVec 32 := 1#32
  let arg17 : BitVec 32 := Scf.iv c0_i32_7 c1_i32_8 k0_t3
  let v420 : BitVec 32 := Scalar.muli c8_i32_173 arg17
  let v421 : Index := Scalar.indexCast v420
  let c0_174 : Index := 0#32
  ![30, v421.toNat, 0]
def k0_off38 (k0_t3 : Fin k0_t3_loop.trips) : Fin 3 → Nat :=
  let c31 : Index := 31#32
  let c8_i32_175 : BitVec 32 := 8#32
  let c0_i32_7 : BitVec 32 := 0#32
  let c1_i32_8 : BitVec 32 := 1#32
  let arg17 : BitVec 32 := Scf.iv c0_i32_7 c1_i32_8 k0_t3
  let v424 : BitVec 32 := Scalar.muli c8_i32_175 arg17
  let v425 : Index := Scalar.indexCast v424
  let c0_176 : Index := 0#32
  ![31, v425.toNat, 0]
def k0_off39 (k0_t3 : Fin k0_t3_loop.trips) (c0_i32_177 : BitVec 32) : Fin 2 → Nat :=
  let c8_i32_110 : BitVec 32 := 8#32
  let c0_i32_7 : BitVec 32 := 0#32
  let c1_i32_8 : BitVec 32 := 1#32
  let arg17 : BitVec 32 := Scf.iv c0_i32_7 c1_i32_8 k0_t3
  let v298 : BitVec 32 := Scalar.muli c8_i32_110 arg17
  let c112_i32_111 : BitVec 32 := 112#32
  let v299 : BitVec 32 := Scalar.remsi v298 c112_i32_111
  let c68_i32 : BitVec 32 := 68#32
  let v590 : BitVec 32 := Scalar.muli v299 c68_i32
  let v591 : BitVec 32 := Scalar.addi v590 c0_i32_177
  let c8_i32_109 : BitVec 32 := 8#32
  let v296 : BitVec 32 := Scalar.muli c8_i32_109 arg17
  let c112_i32 : BitVec 32 := 112#32
  let v297 : BitVec 32 := Scalar.divsi v296 c112_i32
  let v592 : BitVec 32 := Scalar.addi v591 v297
  let v593 : Index := Scalar.indexCast v592
  let c0_178 : Index := 0#32
  ![v593.toNat, 0]
def k0_mult2 (i : grid0.Coords) : BitVec 32 :=
  let arg1 : BitVec 32 := BitVec.ofNat 32 (i 1).val
  let c128_i32_37 : BitVec 32 := 128#32
  let v111 : BitVec 32 := Scalar.muli arg1 c128_i32_37
  v111
def k0_off40 (i : grid0.Coords) : Fin 2 → Nat :=
  let c0 : Index := 0#32
  let arg1 : BitVec 32 := BitVec.ofNat 32 (i 1).val
  let c128_i32_37 : BitVec 32 := 128#32
  let v111 : BitVec 32 := Scalar.muli arg1 c128_i32_37
  let v112 : BitVec 32 := v111
  let v118 : Index := Scalar.indexCast v112
  ![0, v118.toNat]
@[reducible] def k0_t4_loop : Scf.Loop 32 :=
  let c0_i32_40 : BitVec 32 := 0#32
  let c54_i32_41 : BitVec 32 := 54#32
  let v126 : BitVec 32 := Scalar.addi c0_i32_40 c54_i32_41
  let c1_i32_42 : BitVec 32 := 1#32
  ⟨c0_i32_40, v126, c1_i32_42⟩
def k0_off41 (k0_t4 : Fin k0_t4_loop.trips) : Fin 2 → Nat :=
  let c2_i32_109 : BitVec 32 := 2#32
  let c0_i32_40 : BitVec 32 := 0#32
  let c1_i32_42 : BitVec 32 := 1#32
  let arg17 : BitVec 32 := Scf.iv c0_i32_40 c1_i32_42 k0_t4
  let v296 : BitVec 32 := Scalar.muli c2_i32_109 arg17
  let c68_i32 : BitVec 32 := 68#32
  let v297 : BitVec 32 := Scalar.muli v296 c68_i32
  let v298 : Index := Scalar.indexCast v297
  let c0_110 : Index := 0#32
  ![v298.toNat, 0]
def k0_off42 (k0_t4 : Fin k0_t4_loop.trips) : Fin 2 → Nat :=
  let c2_i32_111 : BitVec 32 := 2#32
  let c0_i32_40 : BitVec 32 := 0#32
  let c1_i32_42 : BitVec 32 := 1#32
  let arg17 : BitVec 32 := Scf.iv c0_i32_40 c1_i32_42 k0_t4
  let v300 : BitVec 32 := Scalar.muli c2_i32_111 arg17
  let c1_i32_112 : BitVec 32 := 1#32
  let v301 : BitVec 32 := Scalar.addi v300 c1_i32_112
  let c68_i32_113 : BitVec 32 := 68#32
  let v302 : BitVec 32 := Scalar.muli v301 c68_i32_113
  let v303 : Index := Scalar.indexCast v302
  let c0_114 : Index := 0#32
  ![v303.toNat, 0]
def k0_mult3 (k0_t4 : Fin k0_t4_loop.trips) : BitVec 32 :=
  let c0_i32_40 : BitVec 32 := 0#32
  let c1_i32_42 : BitVec 32 := 1#32
  let arg17 : BitVec 32 := Scf.iv c0_i32_40 c1_i32_42 k0_t4
  let c128_i32_117 : BitVec 32 := 128#32
  let v314 : BitVec 32 := Scalar.muli arg17 c128_i32_117
  v314
def k0_off43 (k0_t4 : Fin k0_t4_loop.trips) : Fin 3 → Nat :=
  let c0_118 : Index := 0#32
  let c0_119 : Index := 0#32
  let c0_i32_40 : BitVec 32 := 0#32
  let c1_i32_42 : BitVec 32 := 1#32
  let arg17 : BitVec 32 := Scf.iv c0_i32_40 c1_i32_42 k0_t4
  let c128_i32_117 : BitVec 32 := 128#32
  let v314 : BitVec 32 := Scalar.muli arg17 c128_i32_117
  let v315 : BitVec 32 := v314
  let v316 : Index := Scalar.indexCast v315
  ![0, 0, v316.toNat]
def k0_mult4 (i : grid0.Coords) : BitVec 32 :=
  let arg1 : BitVec 32 := BitVec.ofNat 32 (i 1).val
  let c128_i32_106 : BitVec 32 := 128#32
  let v283 : BitVec 32 := Scalar.muli arg1 c128_i32_106
  v283
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x6912 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S108x108 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S6912x1152 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1152 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x1152 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x6912 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S3x640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x1152 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S3x640 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S3x640x6912 : Shape := ⟨3, ![3, 640, 6912]⟩
abbrev S3x640x1152 : Shape := ⟨3, ![3, 640, 1152]⟩
abbrev S1152 : Shape := ⟨1, ![1152]⟩
abbrev S108x108 : Shape := ⟨2, ![108, 108]⟩
abbrev S6912x1152 : Shape := ⟨2, ![6912, 1152]⟩
abbrev S3x640x108x64 : Shape := ⟨4, ![3, 640, 108, 64]⟩
abbrev S108x3x640x64 : Shape := ⟨4, ![108, 3, 640, 64]⟩
abbrev S3x640x108x32x2x1 : Shape := ⟨6, ![3, 640, 108, 32, 2, 1]⟩
abbrev S3x640x108x32x1x1 : Shape := ⟨6, ![3, 640, 108, 32, 1, 1]⟩
abbrev S3x640x108x32x1 : Shape := ⟨5, ![3, 640, 108, 32, 1]⟩
abbrev S3x640x108x16x2x2 : Shape := ⟨6, ![3, 640, 108, 16, 2, 2]⟩
abbrev S3x640x108x16x1x2 : Shape := ⟨6, ![3, 640, 108, 16, 1, 2]⟩
abbrev S3x640x108x16x2 : Shape := ⟨5, ![3, 640, 108, 16, 2]⟩
abbrev S3x640x108x8x2x4 : Shape := ⟨6, ![3, 640, 108, 8, 2, 4]⟩
abbrev S3x640x108x8x1x4 : Shape := ⟨6, ![3, 640, 108, 8, 1, 4]⟩
abbrev S3x640x108x8x4 : Shape := ⟨5, ![3, 640, 108, 8, 4]⟩
abbrev S3x640x108x4x2x8 : Shape := ⟨6, ![3, 640, 108, 4, 2, 8]⟩
abbrev S3x640x108x4x1x8 : Shape := ⟨6, ![3, 640, 108, 4, 1, 8]⟩
abbrev S3x640x108x4x8 : Shape := ⟨5, ![3, 640, 108, 4, 8]⟩
abbrev S3x640x108x2x2x16 : Shape := ⟨6, ![3, 640, 108, 2, 2, 16]⟩
abbrev S3x640x108x2x1x16 : Shape := ⟨6, ![3, 640, 108, 2, 1, 16]⟩
abbrev S3x640x108x2x16 : Shape := ⟨5, ![3, 640, 108, 2, 16]⟩
abbrev S3x640x108x1x2x32 : Shape := ⟨6, ![3, 640, 108, 1, 2, 32]⟩
abbrev S3x640x108x1x1x32 : Shape := ⟨6, ![3, 640, 108, 1, 1, 32]⟩
abbrev S3x640x108x1x32 : Shape := ⟨5, ![3, 640, 108, 1, 32]⟩
abbrev S_ : Shape := ⟨0, ![]⟩
abbrev S1x1x1152 : Shape := ⟨3, ![1, 1, 1152]⟩
abbrev S3x640 : Shape := ⟨2, ![3, 640]⟩
abbrev S3x640x1 : Shape := ⟨3, ![3, 640, 1]⟩
abbrev S1x1x253 : Shape := ⟨3, ![1, 1, 253]⟩
abbrev S3x640x253 : Shape := ⟨3, ![3, 640, 253]⟩
abbrev S1920x6912 : Shape := ⟨2, ![1920, 6912]⟩
abbrev S1920x1152 : Shape := ⟨2, ![1920, 1152]⟩

abbrev nBuf : Space → Nat
  | .hbm => 87
  | .vmem => 10
  | .smem => 0
  | _ => 0

abbrev bufTy : (tb : Table) → Fin (tcTables nBuf tb) → BufTy
  | .hbm, ⟨0, _⟩ => ⟨S3x640x6912, .bf16⟩
  | .hbm, ⟨1, _⟩ => ⟨S3x640x1152, .bf16⟩
  | .hbm, ⟨2, _⟩ => ⟨S1152, .f32⟩
  | .hbm, ⟨3, _⟩ => ⟨S108x108, .f32⟩
  | .hbm, ⟨4, _⟩ => ⟨S6912x1152, .fp8e4m3⟩
  | .hbm, ⟨5, _⟩ => ⟨S1152, .f32⟩
  | .hbm, ⟨6, _⟩ => ⟨S3x640x6912, .f32⟩
  | .hbm, ⟨7, _⟩ => ⟨S3x640x108x64, .f32⟩
  | .hbm, ⟨8, _⟩ => ⟨S108x3x640x64, .f32⟩
  | .hbm, ⟨9, _⟩ => ⟨S3x640x108x64, .f32⟩
  | .hbm, ⟨10, _⟩ => ⟨S3x640x108x32x2x1, .f32⟩
  | .hbm, ⟨11, _⟩ => ⟨S3x640x108x32x1x1, .f32⟩
  | .hbm, ⟨12, _⟩ => ⟨S3x640x108x32x1, .f32⟩
  | .hbm, ⟨13, _⟩ => ⟨S3x640x108x32x1x1, .f32⟩
  | .hbm, ⟨14, _⟩ => ⟨S3x640x108x32x1, .f32⟩
  | .hbm, ⟨15, _⟩ => ⟨S3x640x108x32x1, .f32⟩
  | .hbm, ⟨16, _⟩ => ⟨S3x640x108x32x1, .f32⟩
  | .hbm, ⟨17, _⟩ => ⟨S3x640x108x32x1x1, .f32⟩
  | .hbm, ⟨18, _⟩ => ⟨S3x640x108x32x1x1, .f32⟩
  | .hbm, ⟨19, _⟩ => ⟨S3x640x108x32x2x1, .f32⟩
  | .hbm, ⟨20, _⟩ => ⟨S3x640x108x64, .f32⟩
  | .hbm, ⟨21, _⟩ => ⟨S3x640x108x16x2x2, .f32⟩
  | .hbm, ⟨22, _⟩ => ⟨S3x640x108x16x1x2, .f32⟩
  | .hbm, ⟨23, _⟩ => ⟨S3x640x108x16x2, .f32⟩
  | .hbm, ⟨24, _⟩ => ⟨S3x640x108x16x1x2, .f32⟩
  | .hbm, ⟨25, _⟩ => ⟨S3x640x108x16x2, .f32⟩
  | .hbm, ⟨26, _⟩ => ⟨S3x640x108x16x2, .f32⟩
  | .hbm, ⟨27, _⟩ => ⟨S3x640x108x16x2, .f32⟩
  | .hbm, ⟨28, _⟩ => ⟨S3x640x108x16x1x2, .f32⟩
  | .hbm, ⟨29, _⟩ => ⟨S3x640x108x16x1x2, .f32⟩
  | .hbm, ⟨30, _⟩ => ⟨S3x640x108x16x2x2, .f32⟩
  | .hbm, ⟨31, _⟩ => ⟨S3x640x108x64, .f32⟩
  | .hbm, ⟨32, _⟩ => ⟨S3x640x108x8x2x4, .f32⟩
  | .hbm, ⟨33, _⟩ => ⟨S3x640x108x8x1x4, .f32⟩
  | .hbm, ⟨34, _⟩ => ⟨S3x640x108x8x4, .f32⟩
  | .hbm, ⟨35, _⟩ => ⟨S3x640x108x8x1x4, .f32⟩
  | .hbm, ⟨36, _⟩ => ⟨S3x640x108x8x4, .f32⟩
  | .hbm, ⟨37, _⟩ => ⟨S3x640x108x8x4, .f32⟩
  | .hbm, ⟨38, _⟩ => ⟨S3x640x108x8x4, .f32⟩
  | .hbm, ⟨39, _⟩ => ⟨S3x640x108x8x1x4, .f32⟩
  | .hbm, ⟨40, _⟩ => ⟨S3x640x108x8x1x4, .f32⟩
  | .hbm, ⟨41, _⟩ => ⟨S3x640x108x8x2x4, .f32⟩
  | .hbm, ⟨42, _⟩ => ⟨S3x640x108x64, .f32⟩
  | .hbm, ⟨43, _⟩ => ⟨S3x640x108x4x2x8, .f32⟩
  | .hbm, ⟨44, _⟩ => ⟨S3x640x108x4x1x8, .f32⟩
  | .hbm, ⟨45, _⟩ => ⟨S3x640x108x4x8, .f32⟩
  | .hbm, ⟨46, _⟩ => ⟨S3x640x108x4x1x8, .f32⟩
  | .hbm, ⟨47, _⟩ => ⟨S3x640x108x4x8, .f32⟩
  | .hbm, ⟨48, _⟩ => ⟨S3x640x108x4x8, .f32⟩
  | .hbm, ⟨49, _⟩ => ⟨S3x640x108x4x8, .f32⟩
  | .hbm, ⟨50, _⟩ => ⟨S3x640x108x4x1x8, .f32⟩
  | .hbm, ⟨51, _⟩ => ⟨S3x640x108x4x1x8, .f32⟩
  | .hbm, ⟨52, _⟩ => ⟨S3x640x108x4x2x8, .f32⟩
  | .hbm, ⟨53, _⟩ => ⟨S3x640x108x64, .f32⟩
  | .hbm, ⟨54, _⟩ => ⟨S3x640x108x2x2x16, .f32⟩
  | .hbm, ⟨55, _⟩ => ⟨S3x640x108x2x1x16, .f32⟩
  | .hbm, ⟨56, _⟩ => ⟨S3x640x108x2x16, .f32⟩
  | .hbm, ⟨57, _⟩ => ⟨S3x640x108x2x1x16, .f32⟩
  | .hbm, ⟨58, _⟩ => ⟨S3x640x108x2x16, .f32⟩
  | .hbm, ⟨59, _⟩ => ⟨S3x640x108x2x16, .f32⟩
  | .hbm, ⟨60, _⟩ => ⟨S3x640x108x2x16, .f32⟩
  | .hbm, ⟨61, _⟩ => ⟨S3x640x108x2x1x16, .f32⟩
  | .hbm, ⟨62, _⟩ => ⟨S3x640x108x2x1x16, .f32⟩
  | .hbm, ⟨63, _⟩ => ⟨S3x640x108x2x2x16, .f32⟩
  | .hbm, ⟨64, _⟩ => ⟨S3x640x108x64, .f32⟩
  | .hbm, ⟨65, _⟩ => ⟨S3x640x108x1x2x32, .f32⟩
  | .hbm, ⟨66, _⟩ => ⟨S3x640x108x1x1x32, .f32⟩
  | .hbm, ⟨67, _⟩ => ⟨S3x640x108x1x32, .f32⟩
  | .hbm, ⟨68, _⟩ => ⟨S3x640x108x1x1x32, .f32⟩
  | .hbm, ⟨69, _⟩ => ⟨S3x640x108x1x32, .f32⟩
  | .hbm, ⟨70, _⟩ => ⟨S3x640x108x1x32, .f32⟩
  | .hbm, ⟨71, _⟩ => ⟨S3x640x108x1x32, .f32⟩
  | .hbm, ⟨72, _⟩ => ⟨S3x640x108x1x1x32, .f32⟩
  | .hbm, ⟨73, _⟩ => ⟨S3x640x108x1x1x32, .f32⟩
  | .hbm, ⟨74, _⟩ => ⟨S3x640x108x1x2x32, .f32⟩
  | .hbm, ⟨75, _⟩ => ⟨S3x640x108x64, .f32⟩
  | .hbm, ⟨76, _⟩ => ⟨S_, .f32⟩
  | .hbm, ⟨77, _⟩ => ⟨S3x640x108x64, .f32⟩
  | .hbm, ⟨78, _⟩ => ⟨S3x640x108x64, .f32⟩
  | .hbm, ⟨79, _⟩ => ⟨S3x640x6912, .f32⟩
  | .hbm, ⟨80, _⟩ => ⟨S1x1x1152, .f32⟩
  | .hbm, ⟨81, _⟩ => ⟨S1x1x1152, .f32⟩
  | .hbm, ⟨82, _⟩ => ⟨S3x640x1152, .bf16⟩
  | .hbm, ⟨83, _⟩ => ⟨S3x640x6912, .fp8e4m3⟩
  | .hbm, ⟨84, _⟩ => ⟨S3x640, .f32⟩
  | .hbm, ⟨85, _⟩ => ⟨S3x640x1152, .fp8e4m3⟩
  | .hbm, ⟨86, _⟩ => ⟨S3x640, .f32⟩
  | .local _ .vmem, ⟨0, _⟩ => ⟨S3x640x6912, .f32⟩
  | .local _ .vmem, ⟨1, _⟩ => ⟨S3x640x1152, .bf16⟩
  | .local _ .vmem, ⟨2, _⟩ => ⟨S1x1x1152, .f32⟩
  | .local _ .vmem, ⟨3, _⟩ => ⟨S6912x1152, .fp8e4m3⟩
  | .local _ .vmem, ⟨4, _⟩ => ⟨S1x1x1152, .f32⟩
  | .local _ .vmem, ⟨5, _⟩ => ⟨S3x640x1152, .bf16⟩
  | .local _ .vmem, ⟨6, _⟩ => ⟨S3x640x6912, .fp8e4m3⟩
  | .local _ .vmem, ⟨7, _⟩ => ⟨S3x640, .f32⟩
  | .local _ .vmem, ⟨8, _⟩ => ⟨S3x640x1152, .fp8e4m3⟩
  | .local _ .vmem, ⟨9, _⟩ => ⟨S3x640, .f32⟩
  | _, _ => ⟨S3x640x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_cst : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75_0 : Ref sig .tc := ⟨.hbm, 82, rfl⟩
abbrev main_v75_1 : Ref sig .tc := ⟨.hbm, 83, rfl⟩
abbrev main_v75_2 : Ref sig .tc := ⟨.hbm, 84, rfl⟩
abbrev main_v75_3 : Ref sig .tc := ⟨.hbm, 85, rfl⟩
abbrev main_v75_4 : Ref sig .tc := ⟨.hbm, 86, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S3x640x6912 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6912x1152 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x640x1152 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x640x6912 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x640x1152 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x640 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelLoop.lean ====
module

public import proofs.«01_k».proof.Proof.Gen.Kernel.Loops

/-! # The radix-32 loop of the printed kernel, for its frame

`loopInv_k0_t3` is the loop of butterflies of `Kernel`: one trip reads the rotated rows (`arg15`) and stores into the
scratch array of finished rows (`arg16`) at some contents. Nothing is said of the values: the frame needs none. -/

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

set_option warn.classDefReducibility false in
/-- The radix-32 loop keeps the rotated rows and leaves the finished rows at some contents. -/
@[sl_loop] def loopInv_k0_t3 (𝒱 : Variants) (c : Dev nD) (bd : Option 𝒱.V) (E : Set ℕ) (i : grid0.Coords) (arg2 : Memref sig .tc .vmem S1x128x6912 .bf16) (harg2 : arg2.IsWhole) (arg3 : Memref sig .tc .vmem S1x128x1152 .bf16) (harg3 : arg3.IsWhole) (arg4 : Memref sig .tc .vmem S1x1152 .f32) (harg4 : arg4.IsWhole) (arg5 : Memref sig .tc .vmem S108x108 .f32) (harg5 : arg5.IsWhole) (arg6 : Memref sig .tc .vmem S6912x1152 .fp8e4m3) (harg6 : arg6.IsWhole) (arg7 : Memref sig .tc .vmem S1x1152 .f32) (harg7 : arg7.IsWhole) (arg8 : Memref sig .tc .vmem S1x128x1152 .bf16) (harg8 : arg8.IsWhole) (arg9 : Memref sig .tc .vmem S1x128x6912 .fp8e4m3) (harg9 : arg9.IsWhole) (arg10 : Memref sig .tc .vmem S3x640 .f32) (harg10 : arg10.IsWhole) (arg11 : Memref sig .tc .vmem S1x128x1152 .fp8e4m3) (harg11 : arg11.IsWhole) (arg12 : Memref sig .tc .vmem S3x640 .f32) (harg12 : arg12.IsWhole) (arg13 : Memref sig .tc .vmem S224x224 .bf16) (harg13 : arg13.IsWhole) (arg14 : Memref sig .tc .vmem S4032x128 .i32) (harg14 : arg14.IsWhole) (arg15 : Memref sig .tc .vmem S32x224x128 .f32) (harg15 : arg15.IsWhole) (arg16 : Memref sig .tc .vmem S7616x128 .f32) (harg16 : arg16.IsWhole) (X_arg15 : BufTy.Contents (Elt F) arg15.view.ty) (init : FVec F S8x128 .f32) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 init where
  inv := fun k acc => iprop((arg15.view.loc (c : Thread nD τ) ↦[arg15.view.set]{fullShare} X_arg15) ∗ (∃ f, (arg16.view.loc (c : Thread nD τ) ↦[arg16.view.set]{fullShare} f)))
  step := fun k acc => by
    unfold k0_t3_body
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    iintro ⟨HR, ⟨%f, HW⟩⟩
    sl_exec
    sl_step
    isplitl [HR]; · iexact HR
    iexists _; iexact HW

end Cert.Proof.Kernel

end
-- ==== Proof.KernelFrame.lean ====
module

public import proofs.«01_k».proof.Proof.KernelLoop
public import proofs.«01_k».proof.Proof.Gen.Kernel.Frame

/-! # The frame of `Kernel`

`frame`: from any memory the printed program terminates without a fault, its arguments end unchanged and every semaphore ends at
zero. Nothing is said of what it computes: the outputs and the scratch arrays are carried at some contents. -/

@[expose] public section

set_option maxRecDepth 16384
set_option maxHeartbeats 8000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- The kernel's body keeps its input buffers and leaves its output buffers and scratch arrays at some contents. -/
theorem sound_kernel (c : Dev nD) (E : Set ℕ) (i : grid0.Coords) (arg2 : Memref sig .tc .vmem S1x128x6912 .bf16) (harg2 : arg2.IsWhole) (arg3 : Memref sig .tc .vmem S1x128x1152 .bf16) (harg3 : arg3.IsWhole) (arg4 : Memref sig .tc .vmem S1x1152 .f32) (harg4 : arg4.IsWhole) (arg5 : Memref sig .tc .vmem S108x108 .f32) (harg5 : arg5.IsWhole) (arg6 : Memref sig .tc .vmem S6912x1152 .fp8e4m3) (harg6 : arg6.IsWhole) (arg7 : Memref sig .tc .vmem S1x1152 .f32) (harg7 : arg7.IsWhole) (arg8 : Memref sig .tc .vmem S1x128x1152 .bf16) (harg8 : arg8.IsWhole) (arg9 : Memref sig .tc .vmem S1x128x6912 .fp8e4m3) (harg9 : arg9.IsWhole) (arg10 : Memref sig .tc .vmem S3x640 .f32) (harg10 : arg10.IsWhole) (arg11 : Memref sig .tc .vmem S1x128x1152 .fp8e4m3) (harg11 : arg11.IsWhole) (arg12 : Memref sig .tc .vmem S3x640 .f32) (harg12 : arg12.IsWhole) (arg13 : Memref sig .tc .vmem S224x224 .bf16) (harg13 : arg13.IsWhole) (arg14 : Memref sig .tc .vmem S4032x128 .i32) (harg14 : arg14.IsWhole) (arg15 : Memref sig .tc .vmem S32x224x128 .f32) (harg15 : arg15.IsWhole) (arg16 : Memref sig .tc .vmem S7616x128 .f32) (harg16 : arg16.IsWhole)
    (x0 : Vec F S1x128x6912 .bf16) (x1 : Vec F S1x128x1152 .bf16) (x2 : Vec F S1x1152 .f32) (x3 : Vec F S108x108 .f32) (x4 : Vec F S6912x1152 .fp8e4m3) (x5 : Vec F S1x1152 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_rotate_quant_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  subst hf0 hf1 hf2 hf3 hf4 hf5
  by_cases k0_h1 : Scalar.cmpi .ne (Scalar.extui (Scalar.andi (Scalar.cmpi .eq (BitVec.ofNat 32 (i 0).val) 0#32) (Scalar.cmpi .eq (BitVec.ofNat 32 (i 1).val) 0#32))) 0#32 = 1#1
  all_goals
    sl_unfold [cc0_rotate_quant_proj]
    simp only [k0_part1_eq_skeleton, k0_part2_eq_skeleton, k0_part16_eq_skeleton, k0_part17_eq_skeleton, k0_part18_eq_skeleton, k0_part19_eq_skeleton, k0_part20_eq_skeleton, k0_part21_eq_skeleton, k0_part22_eq_skeleton]
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; iexists _; isplitr
      swap; · iexact H6
      ipureintro; rfl
    isplitl [H7]
    · iexists _; iexists _; isplitr
      swap; · iexact H7
      ipureintro; rfl
    isplitl [H8]
    · iexists _; iexists _; isplitr
      swap; · iexact H8
      ipureintro; rfl
    isplitl [H9]
    · iexists _; iexists _; isplitr
      swap; · iexact H9
      ipureintro; rfl
    isplitl [H10]
    · iexists _; iexists _; isplitr
      swap; · iexact H10
      ipureintro; rfl
    isplitl [H11]
    · iexists _; iexists _; isplitr
      swap; · iexact H11
      ipureintro; rfl
    isplitl [H12]
    · iexists _; iexists _; isplitr
      swap; · iexact H12
      ipureintro; rfl
    isplitl [H13]
    · iexists _; iexists _; isplitr
      swap; · iexact H13
      ipureintro; rfl
    iexists _; iexists _; isplitr
    swap; · iexact H14
    ipureintro; rfl

variable (m : (ℓ : Loc nD τ sig) → Buf (Elt F) ℓ) (ρ : Dev nD → PrngReg)

/-- Which windows' contents are not tracked: the five outputs. -/
def untracked : Fin 11 → Bool := fun w => decide (6 ≤ w.val)

/-- The proof data of the one pipeline on core `c`: the arrays as the region finds them; after a point each input's buffer still
    at its block, nothing said of the outputs. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => Classical.arbitrary _
    | ⟨7, _⟩ => fun _ => Classical.arbitrary _
    | ⟨8, _⟩ => fun _ => Classical.arbitrary _
    | ⟨9, _⟩ => fun _ => Classical.arbitrary _
    | ⟨10, _⟩ => fun _ => Classical.arbitrary _
  Φ _ := Pipeline.ΦA spec0 c
  q _ := fullShare
  owed _ := 0

theorem A_eqF (c : Dev nD) (w : Fin cfg0.W) : (datsF m 0 c).A w = V m c (Pipeline.arrRef spec0 w) := by
  dsimp only [datsF]

theorem afterF_0 (c : Dev nD) (t : Fin cfg0.N) : (datsF m 0 c).after 0 t = iblk m c 0 t := by dsimp only [datsF]
theorem beforeF_0 (c : Dev nD) (t : Fin cfg0.N) (d) : (datsF m 0 c).before 0 t d = iblk m c 0 t :=
  before0_0_of m (datsF m 0 c) (A_eqF m c 0) (afterF_0 m c) t d
theorem afterF_1 (c : Dev nD) (t : Fin cfg0.N) : (datsF m 0 c).after 1 t = iblk m c 1 t := by dsimp only [datsF]
theorem beforeF_1 (c : Dev nD) (t : Fin cfg0.N) (d) : (datsF m 0 c).before 1 t d = iblk m c 1 t :=
  before0_1_of m (datsF m 0 c) (A_eqF m c 1) (afterF_1 m c) t d
theorem afterF_2 (c : Dev nD) (t : Fin cfg0.N) : (datsF m 0 c).after 2 t = iblk m c 2 t := by dsimp only [datsF]
theorem beforeF_2 (c : Dev nD) (t : Fin cfg0.N) (d) : (datsF m 0 c).before 2 t d = iblk m c 2 t :=
  before0_2_of m (datsF m 0 c) (A_eqF m c 2) (afterF_2 m c) t d
theorem afterF_3 (c : Dev nD) (t : Fin cfg0.N) : (datsF m 0 c).after 3 t = iblk m c 3 t := by dsimp only [datsF]
theorem beforeF_3 (c : Dev nD) (t : Fin cfg0.N) (d) : (datsF m 0 c).before 3 t d = iblk m c 3 t :=
  before0_3_of m (datsF m 0 c) (A_eqF m c 3) (afterF_3 m c) t d
theorem afterF_4 (c : Dev nD) (t : Fin cfg0.N) : (datsF m 0 c).after 4 t = iblk m c 4 t := by dsimp only [datsF]
theorem beforeF_4 (c : Dev nD) (t : Fin cfg0.N) (d) : (datsF m 0 c).before 4 t d = iblk m c 4 t :=
  before0_4_of m (datsF m 0 c) (A_eqF m c 4) (afterF_4 m c) t d
theorem afterF_5 (c : Dev nD) (t : Fin cfg0.N) : (datsF m 0 c).after 5 t = iblk m c 5 t := by dsimp only [datsF]
theorem beforeF_5 (c : Dev nD) (t : Fin cfg0.N) (d) : (datsF m 0 c).before 5 t d = iblk m c 5 t :=
  before0_5_of m (datsF m 0 c) (A_eqF m c 5) (afterF_5 m c) t d

/-- What the body is called with at point `t`, -/
def bodyPreF (c : Dev nD) (t : Fin cfg0.N) : sProp 𝕄 :=
  iprop((datsF m 0 c).Φ t.castSucc ∗ (datsF m 0 c).owesAt () t.castSucc
    ∗ (∃ d, owns (c : Thread nD τ) (st0_0 t) fullShare ((datsF m 0 c).before 0 t d))
    ∗ (∃ d, owns (c : Thread nD τ) (st0_1 t) fullShare ((datsF m 0 c).before 1 t d))
    ∗ (∃ d, owns (c : Thread nD τ) (st0_2 t) fullShare ((datsF m 0 c).before 2 t d))
    ∗ (∃ d, owns (c : Thread nD τ) (st0_3 t) fullShare ((datsF m 0 c).before 3 t d))
    ∗ (∃ d, owns (c : Thread nD τ) (st0_4 t) fullShare ((datsF m 0 c).before 4 t d))
    ∗ (∃ d, owns (c : Thread nD τ) (st0_5 t) fullShare ((datsF m 0 c).before 5 t d))
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X))

/-- and what it returns. -/
def bodyPostF (c : Dev nD) (t : Fin cfg0.N) : sProp 𝕄 :=
  iprop((datsF m 0 c).Φ t.succ ∗ (datsF m 0 c).owesAt () t.succ
    ∗ owns (c : Thread nD τ) (st0_0 t) fullShare ((datsF m 0 c).after 0 t)
    ∗ owns (c : Thread nD τ) (st0_1 t) fullShare ((datsF m 0 c).after 1 t)
    ∗ owns (c : Thread nD τ) (st0_2 t) fullShare ((datsF m 0 c).after 2 t)
    ∗ owns (c : Thread nD τ) (st0_3 t) fullShare ((datsF m 0 c).after 3 t)
    ∗ owns (c : Thread nD τ) (st0_4 t) fullShare ((datsF m 0 c).after 4 t)
    ∗ owns (c : Thread nD τ) (st0_5 t) fullShare ((datsF m 0 c).after 5 t)
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X))

/-- The body at any point. -/
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [beforeF_0, beforeF_1, beforeF_2, beforeF_3, beforeF_4, beforeF_5]
  rw [show (datsF m 0 c).Φ t.succ = iprop(Pipeline.scopedRest spec0 c ∗ ∃ r, prngReg c r) from rfl,
    show (datsF m 0 c).Φ t.castSucc = iprop(Pipeline.scopedRest spec0 c ∗ ∃ r, prngReg c r) from rfl,
    show (datsF m 0 c).owesAt () t.succ = (datsF m 0 c).owesAt () t.castSucc from rfl, scopedRest0_eq,
    afterF_0, afterF_1, afterF_2, afterF_3, afterF_4, afterF_5]
  simp only [← owns_whole]
  iintro ⟨⟨⟨⟨%g0, S0⟩, ⟨%g1, S1⟩, ⟨%g2, S2⟩, ⟨%g3, S3⟩⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [S0]; · iexists _; iexact S0
  isplitl [S1]; · iexists _; iexact S1
  isplitl [S2]; · iexists _; iexact S2
  isplitl [S3]; · iexists _; iexact S3
  iintro ⟨H0, H1, H2, H3, H4, H5, H6, H7, H8, H9, H10, S0, S1, S2, S3⟩
  isplitl [S0 S1 S2 S3 HP]
  · isplitl [S0 S1 S2 S3]
    · isplitl [S0]; · iexact S0
      isplitl [S1]; · iexact S1
      isplitl [S2]; · iexact S2
      iexact S3
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligationF (c : Dev nD) : BodyObligation (datsF (F := F) m 0 c) (defs₀ (F := F)) Variants.none () Set.univ untracked := fun t => by
  rw [bigSep_W0, bigSep_W0, defs₀_row]
  exact triple_restated (sound_bodyF m c t) rfl .rfl fun _ => .rfl

set_option backward.isDefEq.respectTransparency.types false in
/-- The run: every input array ends as it was found, every other buffer no window stages too, every semaphore at zero. -/
theorem run_mainF : θ_run defs (onTc (τ := τ) (main (F := F))) (s₀ m ρ)
    (fun r => Pipeline.RDat.FramePost (cfgs 0) (fun c => (datsF m 0 c).toRForget untracked) (V m) r ∧ r.2.sem = fun _ => 0) :=
  Pipeline.θ_run_frame_forget (Q' := _) cfgs (datsF m) (0 : Fin 1) launch0 defs₀ Variants.none untracked m ρ main
    (hbody := fun c => (body_obligationF m c).loose) (hshare := fun c => (datsF m 0 c).share_full fun _ => rfl)
    (howed := fun _ _ => rfl) (V := V m) (hmain := hmain m Variants.none) (hA := A_eqF m) (hΦ := fun _ _ => rfl)

/-- The frame: the arguments end unchanged and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨
      (h.1.arr_in c 0 rfl).trans ((A_eqF m c 0).trans (V_main_arg0 m c)),
      (h.1.arr_in c 1 rfl).trans ((A_eqF m c 1).trans (V_main_arg1 m c)),
      ((h.1 c).2 main_arg2 (Pipeline.mem_restRefs_of main_arg2 (by decide) (by decide))).trans (V_main_arg2 m c),
      (h.1.arr_in c 3 rfl).trans ((A_eqF m c 3).trans (V_main_arg3 m c)),
      (h.1.arr_in c 4 rfl).trans ((A_eqF m c 4).trans (V_main_arg4 m c)),
      ((h.1 c).2 main_arg5 (Pipeline.mem_restRefs_of main_arg5 (by decide) (by decide))).trans (V_main_arg5 m c)⟩, h.2⟩) (run_mainF m ρ)

end Cert.Proof.Kernel

end
-- ==== Proof.LoopTranspose.lean ====
module

public import proofs.«01_k».proof.Proof.Gen.KernelIdeal.Loops
public import Idealize.ShloMosaic.Lib.Pointwise
public import Idealize.ShloMosaic.Lib.Pipeline.Value
public import Idealize.ShloMosaic.Lib.WritesUnit

/-! # The loop that transposes a tile of `x`: what the pair scratch holds after it -/

@[expose] public section

set_option maxRecDepth 16384
set_option maxHeartbeats 4000000

noncomputable section

namespace Cert.Proof.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- What row `y 0`, half `y 1`, lane `y 2` of the pair scratch is to hold: row `36 k + m` holds the entries `64 k + 2 m` and `64 k + 2 m + 1`
    of each row of `x` (rows `m` from 32 on are never written). -/
def pairT (x : Vec Ideal S1x128x6912 .bf16) : Vec Ideal S4032x2x128 .bf16 := fun y =>
  x (ix3 0 (y 2) ⟨(64 * ((y 0).val / 36) + 2 * ((y 0).val % 36) + (y 1).val) % 6912, Nat.mod_lt _ (by decide)⟩)

theorem off1_eq : ∀ k : Fin k0_t1_loop.trips, k0_off1 k = ![0, 0, 128 * k.val] := by decide +kernel
theorem off2_eq : ∀ k : Fin k0_t1_loop.trips, k0_off2 k = ![72 * k.val, 0, 0] := by decide +kernel
theorem off3_eq : ∀ k : Fin k0_t1_loop.trips, k0_off3 k = ![72 * k.val + 36, 0, 0] := by decide +kernel

/-- What a trip stores into its first group of rows, -/
theorem pay243_apply (w : Vec Ideal S1x128x128 .bf16) (y : S32x2x128.Idx) :
    k0_pay243 w y = w (ix3 0 (y 2) ⟨2 * (y 0).val + (y 1).val, by have h0 : (y 0).val < 32 := (y 0).isLt; have h1 : (y 1).val < 2 := (y 1).isLt; omega⟩) := by
  idx_vars y
  fin_vals y1 with h1 <;> pointwise [k0_pay243, k0_pay242, k0_pay241, k0_pay240]
  · rw [if_pos (by omega)]; congr 2; apply Fin.ext; show 2 * y0.val = 2 * y0.val + y1.val; omega
  · rw [if_neg (by omega)]; congr 2; apply Fin.ext; show 2 * y0.val + 1 = 2 * y0.val + y1.val; omega

/-- and into its second. -/
theorem pay244_apply (w : Vec Ideal S1x128x128 .bf16) (y : S32x2x128.Idx) :
    k0_pay244 w y = w (ix3 0 (y 2) ⟨64 + 2 * (y 0).val + (y 1).val, by have h0 : (y 0).val < 32 := (y 0).isLt; have h1 : (y 1).val < 2 := (y 1).isLt; omega⟩) := by
  idx_vars y
  fin_vals y1 with h1 <;> pointwise [k0_pay244, k0_pay242, k0_pay241, k0_pay240]
  · rw [if_pos (by omega)]; congr 2; apply Fin.ext; show 2 * (32 + y0.val) = 64 + 2 * y0.val + y1.val; omega
  · rw [if_neg (by omega)]; congr 2; apply Fin.ext; show 2 * (32 + y0.val) + 1 = 64 + 2 * y0.val + y1.val; omega

theorem pairT_step (arg2 : Memref sig .tc .vmem S1x128x6912 .bf16) (arg14 : Memref sig .tc .vmem S4032x2x128 .bf16) (X : BufTy.Contents (Elt Ideal) arg2.view.ty)
    (k : Fin k0_t1_loop.trips) (hk : k.val < 54) (f : BufTy.Contents (Elt Ideal) arg14.view.ty)
    (hf : ∀ y : S4032x2x128.Idx, (y 0).val / 36 < 2 * k.val → (y 0).val % 36 < 32 → arg14.view.read (Elt Ideal) f y = pairT (arg2.view.read (Elt Ideal) X) y)
    (y : S4032x2x128.Idx) (h1 : (y 0).val / 36 < 2 * (k.val + 1)) (h2 : (y 0).val % 36 < 32) :
    arg14.view.read (Elt Ideal) (arg14.view.writes (Elt Ideal) f
      [⟨Rect.unit (s := S4032x2x128) (k0_off3 k) S32x2x128.size (k0_off3_inb k), k0_pay244 (arg2.view.readAt (Elt Ideal) (Rect.unit (s := S1x128x6912) (k0_off1 k) S1x128x128.size (k0_off1_inb k)).toLoadRect X)⟩,
       ⟨Rect.unit (s := S4032x2x128) (k0_off2 k) S32x2x128.size (k0_off2_inb k), k0_pay243 (arg2.view.readAt (Elt Ideal) (Rect.unit (s := S1x128x6912) (k0_off1 k) S1x128x128.size (k0_off1_inb k)).toLoadRect X)⟩]) y
      = pairT (arg2.view.read (Elt Ideal) X) y := by
  have hy1 : (y 1).val < 2 := (y 1).isLt
  have hy2 : (y 2).val < 128 := (y 2).isLt
  by_cases hlt : (y 0).val / 36 < 2 * k.val
  · rw [View.read_writes_apply_of_forall_not_mem, hf y hlt h2]
    intro p hp
    simp only [List.mem_cons, List.not_mem_nil, or_false] at hp
    rcases hp with rfl | rfl
    · exact Rect.not_mem_set_of_axis _ y 0 (72 * k.val + 36) 32 (by simp [off3_eq]) rfl rfl (by omega)
    · exact Rect.not_mem_set_of_axis _ y 0 (72 * k.val) 32 (by simp [off2_eq]) rfl rfl (by omega)
  · refine View.read_writes_apply_of_pieces _ f (pairT (arg2.view.read (Elt Ideal) X)) _ ?_ y ?_
    · intro p hp x
      simp only [List.mem_cons, List.not_mem_nil, or_false] at hp
      rcases hp with rfl | rfl
      · show k0_pay244 _ x = _
        have hx0 : (x 0).val < 32 := (x 0).isLt
        have hx1 : (x 1).val < 2 := (x 1).isLt
        rw [pay244_apply, View.readAt_apply, pairT]
        refine congrArg (arg2.view.read (Elt Ideal) X) (funext fun a => Fin.ext ?_)
        match a with
        | ⟨0, _⟩ => simp [off1_eq]
        | ⟨1, _⟩ => simp [off1_eq, off3_eq]
        | ⟨2, _⟩ => simp [off1_eq, off3_eq]; omega
      · show k0_pay243 _ x = _
        have hx0 : (x 0).val < 32 := (x 0).isLt
        have hx1 : (x 1).val < 2 := (x 1).isLt
        rw [pay243_apply, View.readAt_apply, pairT]
        refine congrArg (arg2.view.read (Elt Ideal) X) (funext fun a => Fin.ext ?_)
        match a with
        | ⟨0, _⟩ => simp [off1_eq]
        | ⟨1, _⟩ => simp [off1_eq, off2_eq]
        | ⟨2, _⟩ => simp [off1_eq, off2_eq]; omega
    · by_cases hp : (y 0).val / 36 = 2 * k.val
      · refine ⟨_, List.mem_cons_of_mem _ List.mem_cons_self, ?_⟩
        rw [Rect.mem_set_unit]
        intro a
        match a with
        | ⟨0, _⟩ => simp [off2_eq]; omega
        | ⟨1, _⟩ => simp [off2_eq]; omega
        | ⟨2, _⟩ => simp [off2_eq]; omega
      · refine ⟨_, List.mem_cons_self, ?_⟩
        rw [Rect.mem_set_unit]
        intro a
        match a with
        | ⟨0, _⟩ => simp [off3_eq]; omega
        | ⟨1, _⟩ => simp [off3_eq]; omega
        | ⟨2, _⟩ => simp [off3_eq]; omega

set_option warn.classDefReducibility false in
/-- Before trip `k` of the transposing loop the rows of the pair scratch that belong to the first `2 k` groups hold what they are to hold. -/
@[sl_loop] def loopT1 (𝒱 : Variants) (c : Dev nD) (bd : Option 𝒱.V) (E : Set ℕ) (i : grid0.Coords) (arg2 : Memref sig .tc .vmem S1x128x6912 .bf16) (harg2 : arg2.IsWhole) (arg3 : Memref sig .tc .vmem S1x128x1152 .bf16) (harg3 : arg3.IsWhole) (arg4 : Memref sig .tc .vmem S1x1152 .f32) (harg4 : arg4.IsWhole) (arg5 : Memref sig .tc .vmem S108x108 .f32) (harg5 : arg5.IsWhole) (arg6 : Memref sig .tc .vmem S6912x1152 .fp8e4m3) (harg6 : arg6.IsWhole) (arg7 : Memref sig .tc .vmem S1x1152 .f32) (harg7 : arg7.IsWhole) (arg8 : Memref sig .tc .vmem S1x128x1152 .bf16) (harg8 : arg8.IsWhole) (arg9 : Memref sig .tc .vmem S1x128x6912 .fp8e4m3) (harg9 : arg9.IsWhole) (arg10 : Memref sig .tc .vmem S3x640 .f32) (harg10 : arg10.IsWhole) (arg11 : Memref sig .tc .vmem S1x128x1152 .fp8e4m3) (harg11 : arg11.IsWhole) (arg12 : Memref sig .tc .vmem S3x640 .f32) (harg12 : arg12.IsWhole) (arg13 : Memref sig .tc .vmem S224x224 .bf16) (harg13 : arg13.IsWhole) (arg14 : Memref sig .tc .vmem S4032x2x128 .bf16) (harg14 : arg14.IsWhole) (arg15 : Memref sig .tc .vmem S32x224x128 .f32) (harg15 : arg15.IsWhole) (arg16 : Memref sig .tc .vmem S7616x128 .f32) (harg16 : arg16.IsWhole) (X_arg2 : BufTy.Contents (Elt Ideal) arg2.view.ty) :
    LoopInvTy_k0_t1 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 where
  inv := fun k _ => iprop((arg2.view.loc (c : Thread nD τ) ↦[arg2.view.set]{fullShare} X_arg2) ∗ (∃ f, (arg14.view.loc (c : Thread nD τ) ↦[arg14.view.set]{fullShare} f)
      ∗ ⌜∀ y : S4032x2x128.Idx, (y 0).val / 36 < 2 * k → (y 0).val % 36 < 32 → arg14.view.read (Elt Ideal) f y = pairT (arg2.view.read (Elt Ideal) X_arg2) y⌝))
  step := fun k acc => by
    have hk : k.val < 54 := Nat.lt_of_lt_of_le k.isLt k0_t1_abs.2.1
    unfold k0_t1_body
    iintro ⟨HR, ⟨%f, HW, %hf⟩⟩
    sl_exec
    sl_step
    isplitl [HR]; · iexact HR
    iexists _; isplitl [HW]; · iexact HW
    ipureintro
    exact pairT_step arg2 arg14 X_arg2 k hk f hf

end Cert.Proof.Value

end
-- ==== Proof.LoopDot.lean ====
module

public import proofs.«01_k».proof.Proof.Gen.KernelIdeal.Loops
public import Idealize.ShloMosaic.Lib.Pointwise
public import Idealize.ShloMosaic.Lib.Pipeline.Value
public import Idealize.ShloMosaic.Lib.WritesUnit

/-! # The loop of small matrix products: what the product scratch holds after it -/

@[expose] public section

set_option maxRecDepth 16384
set_option maxHeartbeats 4000000

noncomputable section

namespace Cert.Proof.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- What the product scratch is to hold in slab `y 0`, row `y 1`, lane `y 2`: row `y 1` of the small matrix times the column made of the rows
    `36 (κ / 2) + y 0`, halves `κ % 2`, of the pair scratch. -/
def dotT (G : Vec Ideal S224x224 .bf16) (X : Vec Ideal S4032x2x128 .bf16) : Vec Ideal S32x224x128 .f32 := fun y =>
  ∑ κ : Fin 224, (G (ix2 (y 1) κ) * X (ix3 ⟨(κ.val / 2 * 36 + (y 0).val) % 4032, Nat.mod_lt _ (by decide)⟩ ⟨κ.val % 2, Nat.mod_lt _ (by decide)⟩ (y 2)) : EReal)

theorem off4_0 : ∀ k : Fin k0_t2_loop.trips, k0_off4 k 0#32 = ![2 * k.val, 0, 0] := by decide +kernel
theorem off4_1 : ∀ k : Fin k0_t2_loop.trips, k0_off4 k 1#32 = ![2 * k.val + 1, 0, 0] := by decide +kernel
theorem off5_eq : ∀ k : Fin k0_t2_loop.trips, k0_off5 k = ![2 * k.val, 0, 0] := by decide +kernel
theorem off6_eq : ∀ k : Fin k0_t2_loop.trips, k0_off6 k = ![2 * k.val + 1, 0, 0] := by decide +kernel

/-- What a trip stores into its first slab, -/
theorem pay246_apply (v w : Vec Ideal S112x2x128 .bf16) (g : Vec Ideal S224x224 .bf16) (y : S1x224x128.Idx) :
    k0_pay246 v w g y = ∑ κ : Fin 224, (g (ix2 (y 1) κ) * v (ix3 ⟨κ.val / 2, by omega⟩ ⟨κ.val % 2, by omega⟩ (y 2)) : EReal) := by
  idx_vars y
  pointwise [k0_pay246, k0_pay245]
  refine Finset.sum_congr rfl fun κ _ => ?_
  split
  · next h => congr 3; exact Fin.ext h.symm
  · next h => congr 3; apply Fin.ext; show 1 = κ.val % 2; omega

/-- and into its second. -/
theorem pay247_apply (v w : Vec Ideal S112x2x128 .bf16) (g : Vec Ideal S224x224 .bf16) (y : S1x224x128.Idx) :
    k0_pay247 v w g y = ∑ κ : Fin 224, (g (ix2 (y 1) κ) * w (ix3 ⟨κ.val / 2, by omega⟩ ⟨κ.val % 2, by omega⟩ (y 2)) : EReal) := by
  idx_vars y
  pointwise [k0_pay247, k0_pay245]
  refine Finset.sum_congr rfl fun κ _ => ?_
  split
  · next h => congr 3; exact Fin.ext h.symm
  · next h => congr 3; apply Fin.ext; show 1 = κ.val % 2; omega

theorem dotT_step (arg13 : Memref sig .tc .vmem S224x224 .bf16) (arg14 : Memref sig .tc .vmem S4032x2x128 .bf16) (arg15 : Memref sig .tc .vmem S32x224x128 .f32)
    (G : BufTy.Contents (Elt Ideal) arg13.view.ty) (X : BufTy.Contents (Elt Ideal) arg14.view.ty)
    (k : Fin k0_t2_loop.trips) (hk : k.val < 16) (f : BufTy.Contents (Elt Ideal) arg15.view.ty)
    (hf : ∀ y : S32x224x128.Idx, (y 0).val < 2 * k.val → arg15.view.read (Elt Ideal) f y = dotT (arg13.view.read (Elt Ideal) G) (arg14.view.read (Elt Ideal) X) y)
    (y : S32x224x128.Idx) (h1 : (y 0).val < 2 * (k.val + 1)) :
    arg15.view.read (Elt Ideal) (arg15.view.writes (Elt Ideal) f
      [⟨Rect.unit (s := S32x224x128) (k0_off6 k) S1x224x128.size (k0_off6_inb k),
          k0_pay247 (arg14.view.readAt (Elt Ideal) (⟨k0_off4 k 0#32, S112x2x128.size, ![36, 1, 1], (k0_off4_inb k 0)⟩ : LoadRect S4032x2x128) X)
            (arg14.view.readAt (Elt Ideal) (⟨k0_off4 k 1#32, S112x2x128.size, ![36, 1, 1], (k0_off4_inb k 1)⟩ : LoadRect S4032x2x128) X)
            (arg13.view.readAt (Elt Ideal) (Rect.unit (s := S224x224) ![0, 0] S224x224.size inb_S224x224_S224x224_0_0).toLoadRect G)⟩,
       ⟨Rect.unit (s := S32x224x128) (k0_off5 k) S1x224x128.size (k0_off5_inb k),
          k0_pay246 (arg14.view.readAt (Elt Ideal) (⟨k0_off4 k 0#32, S112x2x128.size, ![36, 1, 1], (k0_off4_inb k 0)⟩ : LoadRect S4032x2x128) X)
            (arg14.view.readAt (Elt Ideal) (⟨k0_off4 k 1#32, S112x2x128.size, ![36, 1, 1], (k0_off4_inb k 1)⟩ : LoadRect S4032x2x128) X)
            (arg13.view.readAt (Elt Ideal) (Rect.unit (s := S224x224) ![0, 0] S224x224.size inb_S224x224_S224x224_0_0).toLoadRect G)⟩]) y
      = dotT (arg13.view.read (Elt Ideal) G) (arg14.view.read (Elt Ideal) X) y := by
  have hy1 : (y 1).val < 224 := (y 1).isLt
  have hy2 : (y 2).val < 128 := (y 2).isLt
  by_cases hlt : (y 0).val < 2 * k.val
  · rw [View.read_writes_apply_of_forall_not_mem, hf y hlt]
    intro p hp
    simp only [List.mem_cons, List.not_mem_nil, or_false] at hp
    rcases hp with rfl | rfl
    · exact Rect.not_mem_set_of_axis _ y 0 (2 * k.val + 1) 1 (by simp [off6_eq]) rfl rfl (by omega)
    · exact Rect.not_mem_set_of_axis _ y 0 (2 * k.val) 1 (by simp [off5_eq]) rfl rfl (by omega)
  · refine View.read_writes_apply_of_pieces _ f (dotT (arg13.view.read (Elt Ideal) G) (arg14.view.read (Elt Ideal) X)) _ ?_ y ?_
    · intro p hp x
      simp only [List.mem_cons, List.not_mem_nil, or_false] at hp
      rcases hp with rfl | rfl
      · show k0_pay247 _ _ _ x = _
        have hx0 : (x 0).val < 1 := (x 0).isLt
        rw [pay247_apply, dotT]
        refine Finset.sum_congr rfl fun κ _ => ?_
        have hκ : κ.val < 224 := κ.isLt
        rw [View.readAt_apply, View.readAt_apply]
        congr 1
        · refine congrArg (arg13.view.read (Elt Ideal) G) (funext fun a => Fin.ext ?_)
          match a with
          | ⟨0, _⟩ => simp [off6_eq]
          | ⟨1, _⟩ => simp [off6_eq]
        · refine congrArg (arg14.view.read (Elt Ideal) X) (funext fun a => Fin.ext ?_)
          match a with
          | ⟨0, _⟩ => simp [off4_1, off6_eq]; omega
          | ⟨1, _⟩ => simp [off4_1, off6_eq]
          | ⟨2, _⟩ => simp [off4_1, off6_eq]
      · show k0_pay246 _ _ _ x = _
        have hx0 : (x 0).val < 1 := (x 0).isLt
        rw [pay246_apply, dotT]
        refine Finset.sum_congr rfl fun κ _ => ?_
        have hκ : κ.val < 224 := κ.isLt
        rw [View.readAt_apply, View.readAt_apply]
        congr 1
        · refine congrArg (arg13.view.read (Elt Ideal) G) (funext fun a => Fin.ext ?_)
          match a with
          | ⟨0, _⟩ => simp [off5_eq]
          | ⟨1, _⟩ => simp [off5_eq]
        · refine congrArg (arg14.view.read (Elt Ideal) X) (funext fun a => Fin.ext ?_)
          match a with
          | ⟨0, _⟩ => simp [off4_0, off5_eq]; omega
          | ⟨1, _⟩ => simp [off4_0, off5_eq]
          | ⟨2, _⟩ => simp [off4_0, off5_eq]
    · by_cases hp : (y 0).val = 2 * k.val
      · refine ⟨_, List.mem_cons_of_mem _ List.mem_cons_self, ?_⟩
        rw [Rect.mem_set_unit]
        intro a
        match a with
        | ⟨0, _⟩ => simp [off5_eq]; omega
        | ⟨1, _⟩ => simp [off5_eq]; omega
        | ⟨2, _⟩ => simp [off5_eq]; omega
      · refine ⟨_, List.mem_cons_self, ?_⟩
        rw [Rect.mem_set_unit]
        intro a
        match a with
        | ⟨0, _⟩ => simp [off6_eq]; omega
        | ⟨1, _⟩ => simp [off6_eq]; omega
        | ⟨2, _⟩ => simp [off6_eq]; omega

set_option warn.classDefReducibility false in
/-- Before trip `k` of the loop of products the first `2 k` slabs of the product scratch hold what they are to hold. -/
@[sl_loop] def loopT2 (𝒱 : Variants) (c : Dev nD) (bd : Option 𝒱.V) (E : Set ℕ) (i : grid0.Coords) (arg2 : Memref sig .tc .vmem S1x128x6912 .bf16) (harg2 : arg2.IsWhole) (arg3 : Memref sig .tc .vmem S1x128x1152 .bf16) (harg3 : arg3.IsWhole) (arg4 : Memref sig .tc .vmem S1x1152 .f32) (harg4 : arg4.IsWhole) (arg5 : Memref sig .tc .vmem S108x108 .f32) (harg5 : arg5.IsWhole) (arg6 : Memref sig .tc .vmem S6912x1152 .fp8e4m3) (harg6 : arg6.IsWhole) (arg7 : Memref sig .tc .vmem S1x1152 .f32) (harg7 : arg7.IsWhole) (arg8 : Memref sig .tc .vmem S1x128x1152 .bf16) (harg8 : arg8.IsWhole) (arg9 : Memref sig .tc .vmem S1x128x6912 .fp8e4m3) (harg9 : arg9.IsWhole) (arg10 : Memref sig .tc .vmem S3x640 .f32) (harg10 : arg10.IsWhole) (arg11 : Memref sig .tc .vmem S1x128x1152 .fp8e4m3) (harg11 : arg11.IsWhole) (arg12 : Memref sig .tc .vmem S3x640 .f32) (harg12 : arg12.IsWhole) (arg13 : Memref sig .tc .vmem S224x224 .bf16) (harg13 : arg13.IsWhole) (arg14 : Memref sig .tc .vmem S4032x2x128 .bf16) (harg14 : arg14.IsWhole) (arg15 : Memref sig .tc .vmem S32x224x128 .f32) (harg15 : arg15.IsWhole) (arg16 : Memref sig .tc .vmem S7616x128 .f32) (harg16 : arg16.IsWhole) (X_arg13 : BufTy.Contents (Elt Ideal) arg13.view.ty) (X_arg14 : BufTy.Contents (Elt Ideal) arg14.view.ty) :
    LoopInvTy_k0_t2 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 where
  inv := fun k _ => iprop((arg13.view.loc (c : Thread nD τ) ↦[arg13.view.set]{fullShare} X_arg13) ∗ (arg14.view.loc (c : Thread nD τ) ↦[arg14.view.set]{fullShare} X_arg14) ∗ (∃ f, (arg15.view.loc (c : Thread nD τ) ↦[arg15.view.set]{fullShare} f)
      ∗ ⌜∀ y : S32x224x128.Idx, (y 0).val < 2 * k → arg15.view.read (Elt Ideal) f y = dotT (arg13.view.read (Elt Ideal) X_arg13) (arg14.view.read (Elt Ideal) X_arg14) y⌝))
  step := fun k acc => by
    have hk : k.val < 16 := Nat.lt_of_lt_of_le k.isLt k0_t2_abs.2.1
    unfold k0_t2_body
    iintro ⟨HG, HR, ⟨%f, HW, %hf⟩⟩
    sl_exec
    sl_step
    isplitl [HG]; · iexact HG
    isplitl [HR]; · iexact HR
    iexists _; isplitl [HW]; · iexact HW
    ipureintro
    exact dotT_step arg13 arg14 arg15 X_arg13 X_arg14 k hk f hf

end Cert.Proof.Value

end
-- ==== Proof.Butterfly.lean ====
module

public import proofs.«01_k».proof.Proof.Gen.KernelIdeal.Loops
public import Idealize.ShloMosaic.Lib.Pointwise

/-! # The butterflies of one trip: each of its 32 rows, and its running maxima -/

@[expose] public section

set_option maxRecDepth 16384
set_option maxHeartbeats 4000000

noncomputable section

namespace Cert.Proof.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- One stage of a Walsh–Hadamard transform of a sequence: entries `h` apart become their sum and their difference. -/
def stage (h : ℕ) (f : ℕ → EReal) (p : ℕ) : EReal := if p / h % 2 = 0 then f p + f (p + h) else f (p - h) - f p

/-- The Walsh–Hadamard transform of 32 entries. -/
def bf32 (f : ℕ → EReal) : ℕ → EReal := stage 16 (stage 8 (stage 4 (stage 2 (stage 1 f))))

/-- The absolute value. -/
def absE (a : EReal) : EReal := max a (-a)

/-- Entry `x` of each of 32 blocks, as a sequence. -/
def seqW (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) (m : ℕ) : EReal :=
  [w0, w1, w2, w3, w4, w5, w6, w7, w8, w9, w10, w11, w12, w13, w14, w15, w16, w17, w18, w19, w20, w21, w22, w23, w24, w25, w26, w27, w28, w29, w30, w31].get ⟨m % 32, Nat.mod_lt _ (by decide)⟩ (ix3 0 (x 0) (x 1))

theorem row0_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay203 (k0_pay139 (k0_pay83 (k0_pay19 w8) (k0_pay20 w9) (k0_pay21 w10) (k0_pay22 w11)) (k0_pay87 (k0_pay23 w12) (k0_pay24 w13) (k0_pay25 w14) (k0_pay26 w15)) (k0_pay107 (k0_pay43 (k0_pay11 w0) (k0_pay12 w1)) (k0_pay45 (k0_pay13 w2) (k0_pay14 w3)) (k0_pay47 (k0_pay15 w4) (k0_pay16 w5)) (k0_pay49 (k0_pay17 w6) (k0_pay18 w7)))) (k0_pay155 (k0_pay91 (k0_pay27 w16) (k0_pay28 w17) (k0_pay29 w18) (k0_pay30 w19)) (k0_pay95 (k0_pay31 w20) (k0_pay32 w21) (k0_pay33 w22) (k0_pay34 w23)) (k0_pay99 (k0_pay35 w24) (k0_pay36 w25) (k0_pay37 w26) (k0_pay38 w27)) (k0_pay103 (k0_pay39 w28) (k0_pay40 w29) (k0_pay41 w30) (k0_pay42 w31)))) x = bf32 (seqW w0 w1 w2 w3 w4 w5 w6 w7 w8 w9 w10 w11 w12 w13 w14 w15 w16 w17 w18 w19 w20 w21 w22 w23 w24 w25 w26 w27 w28 w29 w30 w31 x) 0 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row1_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay205 (k0_pay141 (k0_pay85 (k0_pay19 w8) (k0_pay20 w9) (k0_pay21 w10) (k0_pay22 w11)) (k0_pay89 (k0_pay23 w12) (k0_pay24 w13) (k0_pay25 w14) (k0_pay26 w15)) (k0_pay109 (k0_pay17 w6) (k0_pay18 w7) (k0_pay44 (k0_pay11 w0) (k0_pay12 w1)) (k0_pay46 (k0_pay13 w2) (k0_pay14 w3)) (k0_pay48 (k0_pay15 w4) (k0_pay16 w5)))) (k0_pay157 (k0_pay93 (k0_pay27 w16) (k0_pay28 w17) (k0_pay29 w18) (k0_pay30 w19)) (k0_pay97 (k0_pay31 w20) (k0_pay32 w21) (k0_pay33 w22) (k0_pay34 w23)) (k0_pay101 (k0_pay35 w24) (k0_pay36 w25) (k0_pay37 w26) (k0_pay38 w27)) (k0_pay105 (k0_pay39 w28) (k0_pay40 w29) (k0_pay41 w30) (k0_pay42 w31)))) x = bf32 (seqW w0 w1 w2 w3 w4 w5 w6 w7 w8 w9 w10 w11 w12 w13 w14 w15 w16 w17 w18 w19 w20 w21 w22 w23 w24 w25 w26 w27 w28 w29 w30 w31 x) 1 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row2_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay207 (k0_pay175 (k0_pay143 (k0_pay76 (k0_pay43 (k0_pay11 w0) (k0_pay12 w1)) (k0_pay45 (k0_pay13 w2) (k0_pay14 w3))) (k0_pay80 (k0_pay47 (k0_pay15 w4) (k0_pay16 w5)) (k0_pay49 (k0_pay17 w6) (k0_pay18 w7))) (k0_pay84 (k0_pay19 w8) (k0_pay20 w9) (k0_pay21 w10) (k0_pay22 w11)) (k0_pay88 (k0_pay23 w12) (k0_pay24 w13) (k0_pay25 w14) (k0_pay26 w15))) (k0_pay159 (k0_pay92 (k0_pay27 w16) (k0_pay28 w17) (k0_pay29 w18) (k0_pay30 w19)) (k0_pay96 (k0_pay31 w20) (k0_pay32 w21) (k0_pay33 w22) (k0_pay34 w23)) (k0_pay100 (k0_pay35 w24) (k0_pay36 w25) (k0_pay37 w26) (k0_pay38 w27)) (k0_pay104 (k0_pay39 w28) (k0_pay40 w29) (k0_pay41 w30) (k0_pay42 w31))))) x = bf32 (seqW w0 w1 w2 w3 w4 w5 w6 w7 w8 w9 w10 w11 w12 w13 w14 w15 w16 w17 w18 w19 w20 w21 w22 w23 w24 w25 w26 w27 w28 w29 w30 w31 x) 2 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row3_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay208 (k0_pay177 (k0_pay145 (k0_pay78 (k0_pay44 (k0_pay11 w0) (k0_pay12 w1)) (k0_pay46 (k0_pay13 w2) (k0_pay14 w3))) (k0_pay82 (k0_pay17 w6) (k0_pay18 w7) (k0_pay48 (k0_pay15 w4) (k0_pay16 w5))) (k0_pay86 (k0_pay19 w8) (k0_pay20 w9) (k0_pay21 w10) (k0_pay22 w11)) (k0_pay90 (k0_pay23 w12) (k0_pay24 w13) (k0_pay25 w14) (k0_pay26 w15))) (k0_pay161 (k0_pay94 (k0_pay27 w16) (k0_pay28 w17) (k0_pay29 w18) (k0_pay30 w19)) (k0_pay98 (k0_pay31 w20) (k0_pay32 w21) (k0_pay33 w22) (k0_pay34 w23)) (k0_pay102 (k0_pay35 w24) (k0_pay36 w25) (k0_pay37 w26) (k0_pay38 w27)) (k0_pay106 (k0_pay39 w28) (k0_pay40 w29) (k0_pay41 w30) (k0_pay42 w31))))) x = bf32 (seqW w0 w1 w2 w3 w4 w5 w6 w7 w8 w9 w10 w11 w12 w13 w14 w15 w16 w17 w18 w19 w20 w21 w22 w23 w24 w25 w26 w27 w28 w29 w30 w31 x) 3 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row4_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay209 (k0_pay179 (k0_pay147 (k0_pay83 (k0_pay19 w8) (k0_pay20 w9) (k0_pay21 w10) (k0_pay22 w11)) (k0_pay87 (k0_pay23 w12) (k0_pay24 w13) (k0_pay25 w14) (k0_pay26 w15)) (k0_pay108 (k0_pay43 (k0_pay11 w0) (k0_pay12 w1)) (k0_pay45 (k0_pay13 w2) (k0_pay14 w3)) (k0_pay47 (k0_pay15 w4) (k0_pay16 w5)) (k0_pay49 (k0_pay17 w6) (k0_pay18 w7)))) (k0_pay163 (k0_pay91 (k0_pay27 w16) (k0_pay28 w17) (k0_pay29 w18) (k0_pay30 w19)) (k0_pay95 (k0_pay31 w20) (k0_pay32 w21) (k0_pay33 w22) (k0_pay34 w23)) (k0_pay99 (k0_pay35 w24) (k0_pay36 w25) (k0_pay37 w26) (k0_pay38 w27)) (k0_pay103 (k0_pay39 w28) (k0_pay40 w29) (k0_pay41 w30) (k0_pay42 w31))))) x = bf32 (seqW w0 w1 w2 w3 w4 w5 w6 w7 w8 w9 w10 w11 w12 w13 w14 w15 w16 w17 w18 w19 w20 w21 w22 w23 w24 w25 w26 w27 w28 w29 w30 w31 x) 4 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row5_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay210 (k0_pay181 (k0_pay149 (k0_pay77 (k0_pay44 (k0_pay11 w0) (k0_pay12 w1)) (k0_pay46 (k0_pay13 w2) (k0_pay14 w3))) (k0_pay81 (k0_pay17 w6) (k0_pay18 w7) (k0_pay48 (k0_pay15 w4) (k0_pay16 w5))) (k0_pay85 (k0_pay19 w8) (k0_pay20 w9) (k0_pay21 w10) (k0_pay22 w11)) (k0_pay89 (k0_pay23 w12) (k0_pay24 w13) (k0_pay25 w14) (k0_pay26 w15))) (k0_pay165 (k0_pay93 (k0_pay27 w16) (k0_pay28 w17) (k0_pay29 w18) (k0_pay30 w19)) (k0_pay97 (k0_pay31 w20) (k0_pay32 w21) (k0_pay33 w22) (k0_pay34 w23)) (k0_pay101 (k0_pay35 w24) (k0_pay36 w25) (k0_pay37 w26) (k0_pay38 w27)) (k0_pay105 (k0_pay39 w28) (k0_pay40 w29) (k0_pay41 w30) (k0_pay42 w31))))) x = bf32 (seqW w0 w1 w2 w3 w4 w5 w6 w7 w8 w9 w10 w11 w12 w13 w14 w15 w16 w17 w18 w19 w20 w21 w22 w23 w24 w25 w26 w27 w28 w29 w30 w31 x) 5 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row6_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay212 (k0_pay183 (k0_pay151 (k0_pay76 (k0_pay43 (k0_pay11 w0) (k0_pay12 w1)) (k0_pay45 (k0_pay13 w2) (k0_pay14 w3))) (k0_pay80 (k0_pay47 (k0_pay15 w4) (k0_pay16 w5)) (k0_pay49 (k0_pay17 w6) (k0_pay18 w7))) (k0_pay84 (k0_pay19 w8) (k0_pay20 w9) (k0_pay21 w10) (k0_pay22 w11)) (k0_pay88 (k0_pay23 w12) (k0_pay24 w13) (k0_pay25 w14) (k0_pay26 w15))) (k0_pay167 (k0_pay92 (k0_pay27 w16) (k0_pay28 w17) (k0_pay29 w18) (k0_pay30 w19)) (k0_pay96 (k0_pay31 w20) (k0_pay32 w21) (k0_pay33 w22) (k0_pay34 w23)) (k0_pay100 (k0_pay35 w24) (k0_pay36 w25) (k0_pay37 w26) (k0_pay38 w27)) (k0_pay104 (k0_pay39 w28) (k0_pay40 w29) (k0_pay41 w30) (k0_pay42 w31))))) x = bf32 (seqW w0 w1 w2 w3 w4 w5 w6 w7 w8 w9 w10 w11 w12 w13 w14 w15 w16 w17 w18 w19 w20 w21 w22 w23 w24 w25 w26 w27 w28 w29 w30 w31 x) 6 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row7_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay213 (k0_pay185 (k0_pay153 (k0_pay78 (k0_pay44 (k0_pay11 w0) (k0_pay12 w1)) (k0_pay46 (k0_pay13 w2) (k0_pay14 w3))) (k0_pay82 (k0_pay17 w6) (k0_pay18 w7) (k0_pay48 (k0_pay15 w4) (k0_pay16 w5))) (k0_pay86 (k0_pay19 w8) (k0_pay20 w9) (k0_pay21 w10) (k0_pay22 w11)) (k0_pay90 (k0_pay23 w12) (k0_pay24 w13) (k0_pay25 w14) (k0_pay26 w15))) (k0_pay169 (k0_pay94 (k0_pay27 w16) (k0_pay28 w17) (k0_pay29 w18) (k0_pay30 w19)) (k0_pay98 (k0_pay31 w20) (k0_pay32 w21) (k0_pay33 w22) (k0_pay34 w23)) (k0_pay102 (k0_pay35 w24) (k0_pay36 w25) (k0_pay37 w26) (k0_pay38 w27)) (k0_pay106 (k0_pay39 w28) (k0_pay40 w29) (k0_pay41 w30) (k0_pay42 w31))))) x = bf32 (seqW w0 w1 w2 w3 w4 w5 w6 w7 w8 w9 w10 w11 w12 w13 w14 w15 w16 w17 w18 w19 w20 w21 w22 w23 w24 w25 w26 w27 w28 w29 w30 w31 x) 7 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row8_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay214 (k0_pay187 (k0_pay140 (k0_pay83 (k0_pay19 w8) (k0_pay20 w9) (k0_pay21 w10) (k0_pay22 w11)) (k0_pay87 (k0_pay23 w12) (k0_pay24 w13) (k0_pay25 w14) (k0_pay26 w15)) (k0_pay107 (k0_pay43 (k0_pay11 w0) (k0_pay12 w1)) (k0_pay45 (k0_pay13 w2) (k0_pay14 w3)) (k0_pay47 (k0_pay15 w4) (k0_pay16 w5)) (k0_pay49 (k0_pay17 w6) (k0_pay18 w7)))) (k0_pay156 (k0_pay91 (k0_pay27 w16) (k0_pay28 w17) (k0_pay29 w18) (k0_pay30 w19)) (k0_pay95 (k0_pay31 w20) (k0_pay32 w21) (k0_pay33 w22) (k0_pay34 w23)) (k0_pay99 (k0_pay35 w24) (k0_pay36 w25) (k0_pay37 w26) (k0_pay38 w27)) (k0_pay103 (k0_pay39 w28) (k0_pay40 w29) (k0_pay41 w30) (k0_pay42 w31))))) x = bf32 (seqW w0 w1 w2 w3 w4 w5 w6 w7 w8 w9 w10 w11 w12 w13 w14 w15 w16 w17 w18 w19 w20 w21 w22 w23 w24 w25 w26 w27 w28 w29 w30 w31 x) 8 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row9_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay215 (k0_pay189 (k0_pay142 (k0_pay85 (k0_pay19 w8) (k0_pay20 w9) (k0_pay21 w10) (k0_pay22 w11)) (k0_pay89 (k0_pay23 w12) (k0_pay24 w13) (k0_pay25 w14) (k0_pay26 w15)) (k0_pay109 (k0_pay17 w6) (k0_pay18 w7) (k0_pay44 (k0_pay11 w0) (k0_pay12 w1)) (k0_pay46 (k0_pay13 w2) (k0_pay14 w3)) (k0_pay48 (k0_pay15 w4) (k0_pay16 w5)))) (k0_pay158 (k0_pay93 (k0_pay27 w16) (k0_pay28 w17) (k0_pay29 w18) (k0_pay30 w19)) (k0_pay97 (k0_pay31 w20) (k0_pay32 w21) (k0_pay33 w22) (k0_pay34 w23)) (k0_pay101 (k0_pay35 w24) (k0_pay36 w25) (k0_pay37 w26) (k0_pay38 w27)) (k0_pay105 (k0_pay39 w28) (k0_pay40 w29) (k0_pay41 w30) (k0_pay42 w31))))) x = bf32 (seqW w0 w1 w2 w3 w4 w5 w6 w7 w8 w9 w10 w11 w12 w13 w14 w15 w16 w17 w18 w19 w20 w21 w22 w23 w24 w25 w26 w27 w28 w29 w30 w31 x) 9 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row10_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay216 (k0_pay191 (k0_pay144 (k0_pay76 (k0_pay43 (k0_pay11 w0) (k0_pay12 w1)) (k0_pay45 (k0_pay13 w2) (k0_pay14 w3))) (k0_pay80 (k0_pay47 (k0_pay15 w4) (k0_pay16 w5)) (k0_pay49 (k0_pay17 w6) (k0_pay18 w7))) (k0_pay84 (k0_pay19 w8) (k0_pay20 w9) (k0_pay21 w10) (k0_pay22 w11)) (k0_pay88 (k0_pay23 w12) (k0_pay24 w13) (k0_pay25 w14) (k0_pay26 w15))) (k0_pay160 (k0_pay92 (k0_pay27 w16) (k0_pay28 w17) (k0_pay29 w18) (k0_pay30 w19)) (k0_pay96 (k0_pay31 w20) (k0_pay32 w21) (k0_pay33 w22) (k0_pay34 w23)) (k0_pay100 (k0_pay35 w24) (k0_pay36 w25) (k0_pay37 w26) (k0_pay38 w27)) (k0_pay104 (k0_pay39 w28) (k0_pay40 w29) (k0_pay41 w30) (k0_pay42 w31))))) x = bf32 (seqW w0 w1 w2 w3 w4 w5 w6 w7 w8 w9 w10 w11 w12 w13 w14 w15 w16 w17 w18 w19 w20 w21 w22 w23 w24 w25 w26 w27 w28 w29 w30 w31 x) 10 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row11_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay218 (k0_pay193 (k0_pay146 (k0_pay78 (k0_pay44 (k0_pay11 w0) (k0_pay12 w1)) (k0_pay46 (k0_pay13 w2) (k0_pay14 w3))) (k0_pay82 (k0_pay17 w6) (k0_pay18 w7) (k0_pay48 (k0_pay15 w4) (k0_pay16 w5))) (k0_pay86 (k0_pay19 w8) (k0_pay20 w9) (k0_pay21 w10) (k0_pay22 w11)) (k0_pay90 (k0_pay23 w12) (k0_pay24 w13) (k0_pay25 w14) (k0_pay26 w15))) (k0_pay162 (k0_pay94 (k0_pay27 w16) (k0_pay28 w17) (k0_pay29 w18) (k0_pay30 w19)) (k0_pay98 (k0_pay31 w20) (k0_pay32 w21) (k0_pay33 w22) (k0_pay34 w23)) (k0_pay102 (k0_pay35 w24) (k0_pay36 w25) (k0_pay37 w26) (k0_pay38 w27)) (k0_pay106 (k0_pay39 w28) (k0_pay40 w29) (k0_pay41 w30) (k0_pay42 w31))))) x = bf32 (seqW w0 w1 w2 w3 w4 w5 w6 w7 w8 w9 w10 w11 w12 w13 w14 w15 w16 w17 w18 w19 w20 w21 w22 w23 w24 w25 w26 w27 w28 w29 w30 w31 x) 11 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row12_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay219 (k0_pay195 (k0_pay148 (k0_pay83 (k0_pay19 w8) (k0_pay20 w9) (k0_pay21 w10) (k0_pay22 w11)) (k0_pay87 (k0_pay23 w12) (k0_pay24 w13) (k0_pay25 w14) (k0_pay26 w15)) (k0_pay108 (k0_pay43 (k0_pay11 w0) (k0_pay12 w1)) (k0_pay45 (k0_pay13 w2) (k0_pay14 w3)) (k0_pay47 (k0_pay15 w4) (k0_pay16 w5)) (k0_pay49 (k0_pay17 w6) (k0_pay18 w7)))) (k0_pay164 (k0_pay91 (k0_pay27 w16) (k0_pay28 w17) (k0_pay29 w18) (k0_pay30 w19)) (k0_pay95 (k0_pay31 w20) (k0_pay32 w21) (k0_pay33 w22) (k0_pay34 w23)) (k0_pay99 (k0_pay35 w24) (k0_pay36 w25) (k0_pay37 w26) (k0_pay38 w27)) (k0_pay103 (k0_pay39 w28) (k0_pay40 w29) (k0_pay41 w30) (k0_pay42 w31))))) x = bf32 (seqW w0 w1 w2 w3 w4 w5 w6 w7 w8 w9 w10 w11 w12 w13 w14 w15 w16 w17 w18 w19 w20 w21 w22 w23 w24 w25 w26 w27 w28 w29 w30 w31 x) 12 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row13_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay220 (k0_pay197 (k0_pay150 (k0_pay77 (k0_pay44 (k0_pay11 w0) (k0_pay12 w1)) (k0_pay46 (k0_pay13 w2) (k0_pay14 w3))) (k0_pay81 (k0_pay17 w6) (k0_pay18 w7) (k0_pay48 (k0_pay15 w4) (k0_pay16 w5))) (k0_pay85 (k0_pay19 w8) (k0_pay20 w9) (k0_pay21 w10) (k0_pay22 w11)) (k0_pay89 (k0_pay23 w12) (k0_pay24 w13) (k0_pay25 w14) (k0_pay26 w15))) (k0_pay166 (k0_pay93 (k0_pay27 w16) (k0_pay28 w17) (k0_pay29 w18) (k0_pay30 w19)) (k0_pay97 (k0_pay31 w20) (k0_pay32 w21) (k0_pay33 w22) (k0_pay34 w23)) (k0_pay101 (k0_pay35 w24) (k0_pay36 w25) (k0_pay37 w26) (k0_pay38 w27)) (k0_pay105 (k0_pay39 w28) (k0_pay40 w29) (k0_pay41 w30) (k0_pay42 w31))))) x = bf32 (seqW w0 w1 w2 w3 w4 w5 w6 w7 w8 w9 w10 w11 w12 w13 w14 w15 w16 w17 w18 w19 w20 w21 w22 w23 w24 w25 w26 w27 w28 w29 w30 w31 x) 13 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row14_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay221 (k0_pay199 (k0_pay152 (k0_pay76 (k0_pay43 (k0_pay11 w0) (k0_pay12 w1)) (k0_pay45 (k0_pay13 w2) (k0_pay14 w3))) (k0_pay80 (k0_pay47 (k0_pay15 w4) (k0_pay16 w5)) (k0_pay49 (k0_pay17 w6) (k0_pay18 w7))) (k0_pay84 (k0_pay19 w8) (k0_pay20 w9) (k0_pay21 w10) (k0_pay22 w11)) (k0_pay88 (k0_pay23 w12) (k0_pay24 w13) (k0_pay25 w14) (k0_pay26 w15))) (k0_pay168 (k0_pay92 (k0_pay27 w16) (k0_pay28 w17) (k0_pay29 w18) (k0_pay30 w19)) (k0_pay96 (k0_pay31 w20) (k0_pay32 w21) (k0_pay33 w22) (k0_pay34 w23)) (k0_pay100 (k0_pay35 w24) (k0_pay36 w25) (k0_pay37 w26) (k0_pay38 w27)) (k0_pay104 (k0_pay39 w28) (k0_pay40 w29) (k0_pay41 w30) (k0_pay42 w31))))) x = bf32 (seqW w0 w1 w2 w3 w4 w5 w6 w7 w8 w9 w10 w11 w12 w13 w14 w15 w16 w17 w18 w19 w20 w21 w22 w23 w24 w25 w26 w27 w28 w29 w30 w31 x) 14 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row15_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay223 (k0_pay201 (k0_pay130 (k0_pay94 (k0_pay27 w16) (k0_pay28 w17) (k0_pay29 w18) (k0_pay30 w19)) (k0_pay98 (k0_pay31 w20) (k0_pay32 w21) (k0_pay33 w22) (k0_pay34 w23))) (k0_pay138 (k0_pay102 (k0_pay35 w24) (k0_pay36 w25) (k0_pay37 w26) (k0_pay38 w27)) (k0_pay106 (k0_pay39 w28) (k0_pay40 w29) (k0_pay41 w30) (k0_pay42 w31))) (k0_pay154 (k0_pay78 (k0_pay44 (k0_pay11 w0) (k0_pay12 w1)) (k0_pay46 (k0_pay13 w2) (k0_pay14 w3))) (k0_pay82 (k0_pay17 w6) (k0_pay18 w7) (k0_pay48 (k0_pay15 w4) (k0_pay16 w5))) (k0_pay86 (k0_pay19 w8) (k0_pay20 w9) (k0_pay21 w10) (k0_pay22 w11)) (k0_pay90 (k0_pay23 w12) (k0_pay24 w13) (k0_pay25 w14) (k0_pay26 w15))))) x = bf32 (seqW w0 w1 w2 w3 w4 w5 w6 w7 w8 w9 w10 w11 w12 w13 w14 w15 w16 w17 w18 w19 w20 w21 w22 w23 w24 w25 w26 w27 w28 w29 w30 w31 x) 15 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row16_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay224 (k0_pay172 (k0_pay139 (k0_pay83 (k0_pay19 w8) (k0_pay20 w9) (k0_pay21 w10) (k0_pay22 w11)) (k0_pay87 (k0_pay23 w12) (k0_pay24 w13) (k0_pay25 w14) (k0_pay26 w15)) (k0_pay107 (k0_pay43 (k0_pay11 w0) (k0_pay12 w1)) (k0_pay45 (k0_pay13 w2) (k0_pay14 w3)) (k0_pay47 (k0_pay15 w4) (k0_pay16 w5)) (k0_pay49 (k0_pay17 w6) (k0_pay18 w7)))) (k0_pay155 (k0_pay91 (k0_pay27 w16) (k0_pay28 w17) (k0_pay29 w18) (k0_pay30 w19)) (k0_pay95 (k0_pay31 w20) (k0_pay32 w21) (k0_pay33 w22) (k0_pay34 w23)) (k0_pay99 (k0_pay35 w24) (k0_pay36 w25) (k0_pay37 w26) (k0_pay38 w27)) (k0_pay103 (k0_pay39 w28) (k0_pay40 w29) (k0_pay41 w30) (k0_pay42 w31))))) x = bf32 (seqW w0 w1 w2 w3 w4 w5 w6 w7 w8 w9 w10 w11 w12 w13 w14 w15 w16 w17 w18 w19 w20 w21 w22 w23 w24 w25 w26 w27 w28 w29 w30 w31 x) 16 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row17_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay225 (k0_pay174 (k0_pay141 (k0_pay85 (k0_pay19 w8) (k0_pay20 w9) (k0_pay21 w10) (k0_pay22 w11)) (k0_pay89 (k0_pay23 w12) (k0_pay24 w13) (k0_pay25 w14) (k0_pay26 w15)) (k0_pay109 (k0_pay17 w6) (k0_pay18 w7) (k0_pay44 (k0_pay11 w0) (k0_pay12 w1)) (k0_pay46 (k0_pay13 w2) (k0_pay14 w3)) (k0_pay48 (k0_pay15 w4) (k0_pay16 w5)))) (k0_pay157 (k0_pay93 (k0_pay27 w16) (k0_pay28 w17) (k0_pay29 w18) (k0_pay30 w19)) (k0_pay97 (k0_pay31 w20) (k0_pay32 w21) (k0_pay33 w22) (k0_pay34 w23)) (k0_pay101 (k0_pay35 w24) (k0_pay36 w25) (k0_pay37 w26) (k0_pay38 w27)) (k0_pay105 (k0_pay39 w28) (k0_pay40 w29) (k0_pay41 w30) (k0_pay42 w31))))) x = bf32 (seqW w0 w1 w2 w3 w4 w5 w6 w7 w8 w9 w10 w11 w12 w13 w14 w15 w16 w17 w18 w19 w20 w21 w22 w23 w24 w25 w26 w27 w28 w29 w30 w31 x) 17 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row18_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay226 (k0_pay176 (k0_pay143 (k0_pay76 (k0_pay43 (k0_pay11 w0) (k0_pay12 w1)) (k0_pay45 (k0_pay13 w2) (k0_pay14 w3))) (k0_pay80 (k0_pay47 (k0_pay15 w4) (k0_pay16 w5)) (k0_pay49 (k0_pay17 w6) (k0_pay18 w7))) (k0_pay84 (k0_pay19 w8) (k0_pay20 w9) (k0_pay21 w10) (k0_pay22 w11)) (k0_pay88 (k0_pay23 w12) (k0_pay24 w13) (k0_pay25 w14) (k0_pay26 w15))) (k0_pay159 (k0_pay92 (k0_pay27 w16) (k0_pay28 w17) (k0_pay29 w18) (k0_pay30 w19)) (k0_pay96 (k0_pay31 w20) (k0_pay32 w21) (k0_pay33 w22) (k0_pay34 w23)) (k0_pay100 (k0_pay35 w24) (k0_pay36 w25) (k0_pay37 w26) (k0_pay38 w27)) (k0_pay104 (k0_pay39 w28) (k0_pay40 w29) (k0_pay41 w30) (k0_pay42 w31))))) x = bf32 (seqW w0 w1 w2 w3 w4 w5 w6 w7 w8 w9 w10 w11 w12 w13 w14 w15 w16 w17 w18 w19 w20 w21 w22 w23 w24 w25 w26 w27 w28 w29 w30 w31 x) 18 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row19_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay227 (k0_pay178 (k0_pay145 (k0_pay78 (k0_pay44 (k0_pay11 w0) (k0_pay12 w1)) (k0_pay46 (k0_pay13 w2) (k0_pay14 w3))) (k0_pay82 (k0_pay17 w6) (k0_pay18 w7) (k0_pay48 (k0_pay15 w4) (k0_pay16 w5))) (k0_pay86 (k0_pay19 w8) (k0_pay20 w9) (k0_pay21 w10) (k0_pay22 w11)) (k0_pay90 (k0_pay23 w12) (k0_pay24 w13) (k0_pay25 w14) (k0_pay26 w15))) (k0_pay161 (k0_pay94 (k0_pay27 w16) (k0_pay28 w17) (k0_pay29 w18) (k0_pay30 w19)) (k0_pay98 (k0_pay31 w20) (k0_pay32 w21) (k0_pay33 w22) (k0_pay34 w23)) (k0_pay102 (k0_pay35 w24) (k0_pay36 w25) (k0_pay37 w26) (k0_pay38 w27)) (k0_pay106 (k0_pay39 w28) (k0_pay40 w29) (k0_pay41 w30) (k0_pay42 w31))))) x = bf32 (seqW w0 w1 w2 w3 w4 w5 w6 w7 w8 w9 w10 w11 w12 w13 w14 w15 w16 w17 w18 w19 w20 w21 w22 w23 w24 w25 w26 w27 w28 w29 w30 w31 x) 19 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row20_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay229 (k0_pay180 (k0_pay147 (k0_pay83 (k0_pay19 w8) (k0_pay20 w9) (k0_pay21 w10) (k0_pay22 w11)) (k0_pay87 (k0_pay23 w12) (k0_pay24 w13) (k0_pay25 w14) (k0_pay26 w15)) (k0_pay108 (k0_pay43 (k0_pay11 w0) (k0_pay12 w1)) (k0_pay45 (k0_pay13 w2) (k0_pay14 w3)) (k0_pay47 (k0_pay15 w4) (k0_pay16 w5)) (k0_pay49 (k0_pay17 w6) (k0_pay18 w7)))) (k0_pay163 (k0_pay91 (k0_pay27 w16) (k0_pay28 w17) (k0_pay29 w18) (k0_pay30 w19)) (k0_pay95 (k0_pay31 w20) (k0_pay32 w21) (k0_pay33 w22) (k0_pay34 w23)) (k0_pay99 (k0_pay35 w24) (k0_pay36 w25) (k0_pay37 w26) (k0_pay38 w27)) (k0_pay103 (k0_pay39 w28) (k0_pay40 w29) (k0_pay41 w30) (k0_pay42 w31))))) x = bf32 (seqW w0 w1 w2 w3 w4 w5 w6 w7 w8 w9 w10 w11 w12 w13 w14 w15 w16 w17 w18 w19 w20 w21 w22 w23 w24 w25 w26 w27 w28 w29 w30 w31 x) 20 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row21_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay230 (k0_pay182 (k0_pay149 (k0_pay77 (k0_pay44 (k0_pay11 w0) (k0_pay12 w1)) (k0_pay46 (k0_pay13 w2) (k0_pay14 w3))) (k0_pay81 (k0_pay17 w6) (k0_pay18 w7) (k0_pay48 (k0_pay15 w4) (k0_pay16 w5))) (k0_pay85 (k0_pay19 w8) (k0_pay20 w9) (k0_pay21 w10) (k0_pay22 w11)) (k0_pay89 (k0_pay23 w12) (k0_pay24 w13) (k0_pay25 w14) (k0_pay26 w15))) (k0_pay165 (k0_pay93 (k0_pay27 w16) (k0_pay28 w17) (k0_pay29 w18) (k0_pay30 w19)) (k0_pay97 (k0_pay31 w20) (k0_pay32 w21) (k0_pay33 w22) (k0_pay34 w23)) (k0_pay101 (k0_pay35 w24) (k0_pay36 w25) (k0_pay37 w26) (k0_pay38 w27)) (k0_pay105 (k0_pay39 w28) (k0_pay40 w29) (k0_pay41 w30) (k0_pay42 w31))))) x = bf32 (seqW w0 w1 w2 w3 w4 w5 w6 w7 w8 w9 w10 w11 w12 w13 w14 w15 w16 w17 w18 w19 w20 w21 w22 w23 w24 w25 w26 w27 w28 w29 w30 w31 x) 21 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row22_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay231 (k0_pay184 (k0_pay151 (k0_pay76 (k0_pay43 (k0_pay11 w0) (k0_pay12 w1)) (k0_pay45 (k0_pay13 w2) (k0_pay14 w3))) (k0_pay80 (k0_pay47 (k0_pay15 w4) (k0_pay16 w5)) (k0_pay49 (k0_pay17 w6) (k0_pay18 w7))) (k0_pay84 (k0_pay19 w8) (k0_pay20 w9) (k0_pay21 w10) (k0_pay22 w11)) (k0_pay88 (k0_pay23 w12) (k0_pay24 w13) (k0_pay25 w14) (k0_pay26 w15))) (k0_pay167 (k0_pay92 (k0_pay27 w16) (k0_pay28 w17) (k0_pay29 w18) (k0_pay30 w19)) (k0_pay96 (k0_pay31 w20) (k0_pay32 w21) (k0_pay33 w22) (k0_pay34 w23)) (k0_pay100 (k0_pay35 w24) (k0_pay36 w25) (k0_pay37 w26) (k0_pay38 w27)) (k0_pay104 (k0_pay39 w28) (k0_pay40 w29) (k0_pay41 w30) (k0_pay42 w31))))) x = bf32 (seqW w0 w1 w2 w3 w4 w5 w6 w7 w8 w9 w10 w11 w12 w13 w14 w15 w16 w17 w18 w19 w20 w21 w22 w23 w24 w25 w26 w27 w28 w29 w30 w31 x) 22 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row23_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay232 (k0_pay186 (k0_pay153 (k0_pay78 (k0_pay44 (k0_pay11 w0) (k0_pay12 w1)) (k0_pay46 (k0_pay13 w2) (k0_pay14 w3))) (k0_pay82 (k0_pay17 w6) (k0_pay18 w7) (k0_pay48 (k0_pay15 w4) (k0_pay16 w5))) (k0_pay86 (k0_pay19 w8) (k0_pay20 w9) (k0_pay21 w10) (k0_pay22 w11)) (k0_pay90 (k0_pay23 w12) (k0_pay24 w13) (k0_pay25 w14) (k0_pay26 w15))) (k0_pay169 (k0_pay94 (k0_pay27 w16) (k0_pay28 w17) (k0_pay29 w18) (k0_pay30 w19)) (k0_pay98 (k0_pay31 w20) (k0_pay32 w21) (k0_pay33 w22) (k0_pay34 w23)) (k0_pay102 (k0_pay35 w24) (k0_pay36 w25) (k0_pay37 w26) (k0_pay38 w27)) (k0_pay106 (k0_pay39 w28) (k0_pay40 w29) (k0_pay41 w30) (k0_pay42 w31))))) x = bf32 (seqW w0 w1 w2 w3 w4 w5 w6 w7 w8 w9 w10 w11 w12 w13 w14 w15 w16 w17 w18 w19 w20 w21 w22 w23 w24 w25 w26 w27 w28 w29 w30 w31 x) 23 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row24_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay233 (k0_pay188 (k0_pay140 (k0_pay83 (k0_pay19 w8) (k0_pay20 w9) (k0_pay21 w10) (k0_pay22 w11)) (k0_pay87 (k0_pay23 w12) (k0_pay24 w13) (k0_pay25 w14) (k0_pay26 w15)) (k0_pay107 (k0_pay43 (k0_pay11 w0) (k0_pay12 w1)) (k0_pay45 (k0_pay13 w2) (k0_pay14 w3)) (k0_pay47 (k0_pay15 w4) (k0_pay16 w5)) (k0_pay49 (k0_pay17 w6) (k0_pay18 w7)))) (k0_pay156 (k0_pay91 (k0_pay27 w16) (k0_pay28 w17) (k0_pay29 w18) (k0_pay30 w19)) (k0_pay95 (k0_pay31 w20) (k0_pay32 w21) (k0_pay33 w22) (k0_pay34 w23)) (k0_pay99 (k0_pay35 w24) (k0_pay36 w25) (k0_pay37 w26) (k0_pay38 w27)) (k0_pay103 (k0_pay39 w28) (k0_pay40 w29) (k0_pay41 w30) (k0_pay42 w31))))) x = bf32 (seqW w0 w1 w2 w3 w4 w5 w6 w7 w8 w9 w10 w11 w12 w13 w14 w15 w16 w17 w18 w19 w20 w21 w22 w23 w24 w25 w26 w27 w28 w29 w30 w31 x) 24 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row25_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay235 (k0_pay190 (k0_pay142 (k0_pay85 (k0_pay19 w8) (k0_pay20 w9) (k0_pay21 w10) (k0_pay22 w11)) (k0_pay89 (k0_pay23 w12) (k0_pay24 w13) (k0_pay25 w14) (k0_pay26 w15)) (k0_pay109 (k0_pay17 w6) (k0_pay18 w7) (k0_pay44 (k0_pay11 w0) (k0_pay12 w1)) (k0_pay46 (k0_pay13 w2) (k0_pay14 w3)) (k0_pay48 (k0_pay15 w4) (k0_pay16 w5)))) (k0_pay158 (k0_pay93 (k0_pay27 w16) (k0_pay28 w17) (k0_pay29 w18) (k0_pay30 w19)) (k0_pay97 (k0_pay31 w20) (k0_pay32 w21) (k0_pay33 w22) (k0_pay34 w23)) (k0_pay101 (k0_pay35 w24) (k0_pay36 w25) (k0_pay37 w26) (k0_pay38 w27)) (k0_pay105 (k0_pay39 w28) (k0_pay40 w29) (k0_pay41 w30) (k0_pay42 w31))))) x = bf32 (seqW w0 w1 w2 w3 w4 w5 w6 w7 w8 w9 w10 w11 w12 w13 w14 w15 w16 w17 w18 w19 w20 w21 w22 w23 w24 w25 w26 w27 w28 w29 w30 w31 x) 25 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row26_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay236 (k0_pay192 (k0_pay144 (k0_pay76 (k0_pay43 (k0_pay11 w0) (k0_pay12 w1)) (k0_pay45 (k0_pay13 w2) (k0_pay14 w3))) (k0_pay80 (k0_pay47 (k0_pay15 w4) (k0_pay16 w5)) (k0_pay49 (k0_pay17 w6) (k0_pay18 w7))) (k0_pay84 (k0_pay19 w8) (k0_pay20 w9) (k0_pay21 w10) (k0_pay22 w11)) (k0_pay88 (k0_pay23 w12) (k0_pay24 w13) (k0_pay25 w14) (k0_pay26 w15))) (k0_pay160 (k0_pay92 (k0_pay27 w16) (k0_pay28 w17) (k0_pay29 w18) (k0_pay30 w19)) (k0_pay96 (k0_pay31 w20) (k0_pay32 w21) (k0_pay33 w22) (k0_pay34 w23)) (k0_pay100 (k0_pay35 w24) (k0_pay36 w25) (k0_pay37 w26) (k0_pay38 w27)) (k0_pay104 (k0_pay39 w28) (k0_pay40 w29) (k0_pay41 w30) (k0_pay42 w31))))) x = bf32 (seqW w0 w1 w2 w3 w4 w5 w6 w7 w8 w9 w10 w11 w12 w13 w14 w15 w16 w17 w18 w19 w20 w21 w22 w23 w24 w25 w26 w27 w28 w29 w30 w31 x) 26 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row27_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay237 (k0_pay194 (k0_pay146 (k0_pay78 (k0_pay44 (k0_pay11 w0) (k0_pay12 w1)) (k0_pay46 (k0_pay13 w2) (k0_pay14 w3))) (k0_pay82 (k0_pay17 w6) (k0_pay18 w7) (k0_pay48 (k0_pay15 w4) (k0_pay16 w5))) (k0_pay86 (k0_pay19 w8) (k0_pay20 w9) (k0_pay21 w10) (k0_pay22 w11)) (k0_pay90 (k0_pay23 w12) (k0_pay24 w13) (k0_pay25 w14) (k0_pay26 w15))) (k0_pay162 (k0_pay94 (k0_pay27 w16) (k0_pay28 w17) (k0_pay29 w18) (k0_pay30 w19)) (k0_pay98 (k0_pay31 w20) (k0_pay32 w21) (k0_pay33 w22) (k0_pay34 w23)) (k0_pay102 (k0_pay35 w24) (k0_pay36 w25) (k0_pay37 w26) (k0_pay38 w27)) (k0_pay106 (k0_pay39 w28) (k0_pay40 w29) (k0_pay41 w30) (k0_pay42 w31))))) x = bf32 (seqW w0 w1 w2 w3 w4 w5 w6 w7 w8 w9 w10 w11 w12 w13 w14 w15 w16 w17 w18 w19 w20 w21 w22 w23 w24 w25 w26 w27 w28 w29 w30 w31 x) 27 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row28_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay238 (k0_pay196 (k0_pay148 (k0_pay83 (k0_pay19 w8) (k0_pay20 w9) (k0_pay21 w10) (k0_pay22 w11)) (k0_pay87 (k0_pay23 w12) (k0_pay24 w13) (k0_pay25 w14) (k0_pay26 w15)) (k0_pay108 (k0_pay43 (k0_pay11 w0) (k0_pay12 w1)) (k0_pay45 (k0_pay13 w2) (k0_pay14 w3)) (k0_pay47 (k0_pay15 w4) (k0_pay16 w5)) (k0_pay49 (k0_pay17 w6) (k0_pay18 w7)))) (k0_pay164 (k0_pay91 (k0_pay27 w16) (k0_pay28 w17) (k0_pay29 w18) (k0_pay30 w19)) (k0_pay95 (k0_pay31 w20) (k0_pay32 w21) (k0_pay33 w22) (k0_pay34 w23)) (k0_pay99 (k0_pay35 w24) (k0_pay36 w25) (k0_pay37 w26) (k0_pay38 w27)) (k0_pay103 (k0_pay39 w28) (k0_pay40 w29) (k0_pay41 w30) (k0_pay42 w31))))) x = bf32 (seqW w0 w1 w2 w3 w4 w5 w6 w7 w8 w9 w10 w11 w12 w13 w14 w15 w16 w17 w18 w19 w20 w21 w22 w23 w24 w25 w26 w27 w28 w29 w30 w31 x) 28 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row29_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay249 (k0_pay198 (k0_pay150 (k0_pay77 (k0_pay44 (k0_pay11 w0) (k0_pay12 w1)) (k0_pay46 (k0_pay13 w2) (k0_pay14 w3))) (k0_pay81 (k0_pay17 w6) (k0_pay18 w7) (k0_pay48 (k0_pay15 w4) (k0_pay16 w5))) (k0_pay85 (k0_pay19 w8) (k0_pay20 w9) (k0_pay21 w10) (k0_pay22 w11)) (k0_pay89 (k0_pay23 w12) (k0_pay24 w13) (k0_pay25 w14) (k0_pay26 w15))) (k0_pay166 (k0_pay93 (k0_pay27 w16) (k0_pay28 w17) (k0_pay29 w18) (k0_pay30 w19)) (k0_pay97 (k0_pay31 w20) (k0_pay32 w21) (k0_pay33 w22) (k0_pay34 w23)) (k0_pay101 (k0_pay35 w24) (k0_pay36 w25) (k0_pay37 w26) (k0_pay38 w27)) (k0_pay105 (k0_pay39 w28) (k0_pay40 w29) (k0_pay41 w30) (k0_pay42 w31))))) x = bf32 (seqW w0 w1 w2 w3 w4 w5 w6 w7 w8 w9 w10 w11 w12 w13 w14 w15 w16 w17 w18 w19 w20 w21 w22 w23 w24 w25 w26 w27 w28 w29 w30 w31 x) 29 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row30_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay250 (k0_pay200 (k0_pay152 (k0_pay76 (k0_pay43 (k0_pay11 w0) (k0_pay12 w1)) (k0_pay45 (k0_pay13 w2) (k0_pay14 w3))) (k0_pay80 (k0_pay47 (k0_pay15 w4) (k0_pay16 w5)) (k0_pay49 (k0_pay17 w6) (k0_pay18 w7))) (k0_pay84 (k0_pay19 w8) (k0_pay20 w9) (k0_pay21 w10) (k0_pay22 w11)) (k0_pay88 (k0_pay23 w12) (k0_pay24 w13) (k0_pay25 w14) (k0_pay26 w15))) (k0_pay168 (k0_pay92 (k0_pay27 w16) (k0_pay28 w17) (k0_pay29 w18) (k0_pay30 w19)) (k0_pay96 (k0_pay31 w20) (k0_pay32 w21) (k0_pay33 w22) (k0_pay34 w23)) (k0_pay100 (k0_pay35 w24) (k0_pay36 w25) (k0_pay37 w26) (k0_pay38 w27)) (k0_pay104 (k0_pay39 w28) (k0_pay40 w29) (k0_pay41 w30) (k0_pay42 w31))))) x = bf32 (seqW w0 w1 w2 w3 w4 w5 w6 w7 w8 w9 w10 w11 w12 w13 w14 w15 w16 w17 w18 w19 w20 w21 w22 w23 w24 w25 w26 w27 w28 w29 w30 w31 x) 30 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem row31_apply (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay252 (k0_pay202 (k0_pay130 (k0_pay94 (k0_pay27 w16) (k0_pay28 w17) (k0_pay29 w18) (k0_pay30 w19)) (k0_pay98 (k0_pay31 w20) (k0_pay32 w21) (k0_pay33 w22) (k0_pay34 w23))) (k0_pay138 (k0_pay102 (k0_pay35 w24) (k0_pay36 w25) (k0_pay37 w26) (k0_pay38 w27)) (k0_pay106 (k0_pay39 w28) (k0_pay40 w29) (k0_pay41 w30) (k0_pay42 w31))) (k0_pay154 (k0_pay78 (k0_pay44 (k0_pay11 w0) (k0_pay12 w1)) (k0_pay46 (k0_pay13 w2) (k0_pay14 w3))) (k0_pay82 (k0_pay17 w6) (k0_pay18 w7) (k0_pay48 (k0_pay15 w4) (k0_pay16 w5))) (k0_pay86 (k0_pay19 w8) (k0_pay20 w9) (k0_pay21 w10) (k0_pay22 w11)) (k0_pay90 (k0_pay23 w12) (k0_pay24 w13) (k0_pay25 w14) (k0_pay26 w15))))) x = bf32 (seqW w0 w1 w2 w3 w4 w5 w6 w7 w8 w9 w10 w11 w12 w13 w14 w15 w16 w17 w18 w19 w20 w21 w22 w23 w24 w25 w26 w27 w28 w29 w30 w31 x) 31 := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

theorem acc_apply (acc : FVec Ideal S8x128 .f32) (w0 w1 w2 w3 w4 w5 w6 w7 w8 w9 w10 w11 w12 w13 w14 w15 w16 w17 w18 w19 w20 w21 w22 w23 w24 w25 w26 w27 w28 w29 w30 w31 : Vec Ideal S1x8x128 .f32) (x : S8x128.Idx) :
    (k0_pay251 (k0_pay200 (k0_pay152 (k0_pay76 (k0_pay43 (k0_pay11 w0) (k0_pay12 w1)) (k0_pay45 (k0_pay13 w2) (k0_pay14 w3))) (k0_pay80 (k0_pay47 (k0_pay15 w4) (k0_pay16 w5)) (k0_pay49 (k0_pay17 w6) (k0_pay18 w7))) (k0_pay84 (k0_pay19 w8) (k0_pay20 w9) (k0_pay21 w10) (k0_pay22 w11)) (k0_pay88 (k0_pay23 w12) (k0_pay24 w13) (k0_pay25 w14) (k0_pay26 w15))) (k0_pay168 (k0_pay92 (k0_pay27 w16) (k0_pay28 w17) (k0_pay29 w18) (k0_pay30 w19)) (k0_pay96 (k0_pay31 w20) (k0_pay32 w21) (k0_pay33 w22) (k0_pay34 w23)) (k0_pay100 (k0_pay35 w24) (k0_pay36 w25) (k0_pay37 w26) (k0_pay38 w27)) (k0_pay104 (k0_pay39 w28) (k0_pay40 w29) (k0_pay41 w30) (k0_pay42 w31)))) (k0_pay202 (k0_pay130 (k0_pay94 (k0_pay27 w16) (k0_pay28 w17) (k0_pay29 w18) (k0_pay30 w19)) (k0_pay98 (k0_pay31 w20) (k0_pay32 w21) (k0_pay33 w22) (k0_pay34 w23))) (k0_pay138 (k0_pay102 (k0_pay35 w24) (k0_pay36 w25) (k0_pay37 w26) (k0_pay38 w27)) (k0_pay106 (k0_pay39 w28) (k0_pay40 w29) (k0_pay41 w30) (k0_pay42 w31))) (k0_pay154 (k0_pay78 (k0_pay44 (k0_pay11 w0) (k0_pay12 w1)) (k0_pay46 (k0_pay13 w2) (k0_pay14 w3))) (k0_pay82 (k0_pay17 w6) (k0_pay18 w7) (k0_pay48 (k0_pay15 w4) (k0_pay16 w5))) (k0_pay86 (k0_pay19 w8) (k0_pay20 w9) (k0_pay21 w10) (k0_pay22 w11)) (k0_pay90 (k0_pay23 w12) (k0_pay24 w13) (k0_pay25 w14) (k0_pay26 w15)))) (k0_pay239 (k0_pay192 (k0_pay144 (k0_pay76 (k0_pay43 (k0_pay11 w0) (k0_pay12 w1)) (k0_pay45 (k0_pay13 w2) (k0_pay14 w3))) (k0_pay80 (k0_pay47 (k0_pay15 w4) (k0_pay16 w5)) (k0_pay49 (k0_pay17 w6) (k0_pay18 w7))) (k0_pay84 (k0_pay19 w8) (k0_pay20 w9) (k0_pay21 w10) (k0_pay22 w11)) (k0_pay88 (k0_pay23 w12) (k0_pay24 w13) (k0_pay25 w14) (k0_pay26 w15))) (k0_pay160 (k0_pay92 (k0_pay27 w16) (k0_pay28 w17) (k0_pay29 w18) (k0_pay30 w19)) (k0_pay96 (k0_pay31 w20) (k0_pay32 w21) (k0_pay33 w22) (k0_pay34 w23)) (k0_pay100 (k0_pay35 w24) (k0_pay36 w25) (k0_pay37 w26) (k0_pay38 w27)) (k0_pay104 (k0_pay39 w28) (k0_pay40 w29) (k0_pay41 w30) (k0_pay42 w31)))) (k0_pay194 (k0_pay146 (k0_pay78 (k0_pay44 (k0_pay11 w0) (k0_pay12 w1)) (k0_pay46 (k0_pay13 w2) (k0_pay14 w3))) (k0_pay82 (k0_pay17 w6) (k0_pay18 w7) (k0_pay48 (k0_pay15 w4) (k0_pay16 w5))) (k0_pay86 (k0_pay19 w8) (k0_pay20 w9) (k0_pay21 w10) (k0_pay22 w11)) (k0_pay90 (k0_pay23 w12) (k0_pay24 w13) (k0_pay25 w14) (k0_pay26 w15))) (k0_pay162 (k0_pay94 (k0_pay27 w16) (k0_pay28 w17) (k0_pay29 w18) (k0_pay30 w19)) (k0_pay98 (k0_pay31 w20) (k0_pay32 w21) (k0_pay33 w22) (k0_pay34 w23)) (k0_pay102 (k0_pay35 w24) (k0_pay36 w25) (k0_pay37 w26) (k0_pay38 w27)) (k0_pay106 (k0_pay39 w28) (k0_pay40 w29) (k0_pay41 w30) (k0_pay42 w31)))) (k0_pay196 (k0_pay148 (k0_pay83 (k0_pay19 w8) (k0_pay20 w9) (k0_pay21 w10) (k0_pay22 w11)) (k0_pay87 (k0_pay23 w12) (k0_pay24 w13) (k0_pay25 w14) (k0_pay26 w15)) (k0_pay108 (k0_pay43 (k0_pay11 w0) (k0_pay12 w1)) (k0_pay45 (k0_pay13 w2) (k0_pay14 w3)) (k0_pay47 (k0_pay15 w4) (k0_pay16 w5)) (k0_pay49 (k0_pay17 w6) (k0_pay18 w7)))) (k0_pay164 (k0_pay91 (k0_pay27 w16) (k0_pay28 w17) (k0_pay29 w18) (k0_pay30 w19)) (k0_pay95 (k0_pay31 w20) (k0_pay32 w21) (k0_pay33 w22) (k0_pay34 w23)) (k0_pay99 (k0_pay35 w24) (k0_pay36 w25) (k0_pay37 w26) (k0_pay38 w27)) (k0_pay103 (k0_pay39 w28) (k0_pay40 w29) (k0_pay41 w30) (k0_pay42 w31)))) (k0_pay198 (k0_pay150 (k0_pay77 (k0_pay44 (k0_pay11 w0) (k0_pay12 w1)) (k0_pay46 (k0_pay13 w2) (k0_pay14 w3))) (k0_pay81 (k0_pay17 w6) (k0_pay18 w7) (k0_pay48 (k0_pay15 w4) (k0_pay16 w5))) (k0_pay85 (k0_pay19 w8) (k0_pay20 w9) (k0_pay21 w10) (k0_pay22 w11)) (k0_pay89 (k0_pay23 w12) (k0_pay24 w13) (k0_pay25 w14) (k0_pay26 w15))) (k0_pay166 (k0_pay93 (k0_pay27 w16) (k0_pay28 w17) (k0_pay29 w18) (k0_pay30 w19)) (k0_pay97 (k0_pay31 w20) (k0_pay32 w21) (k0_pay33 w22) (k0_pay34 w23)) (k0_pay101 (k0_pay35 w24) (k0_pay36 w25) (k0_pay37 w26) (k0_pay38 w27)) (k0_pay105 (k0_pay39 w28) (k0_pay40 w29) (k0_pay41 w30) (k0_pay42 w31)))) (k0_pay234 (k0_pay182 (k0_pay149 (k0_pay77 (k0_pay44 (k0_pay11 w0) (k0_pay12 w1)) (k0_pay46 (k0_pay13 w2) (k0_pay14 w3))) (k0_pay81 (k0_pay17 w6) (k0_pay18 w7) (k0_pay48 (k0_pay15 w4) (k0_pay16 w5))) (k0_pay85 (k0_pay19 w8) (k0_pay20 w9) (k0_pay21 w10) (k0_pay22 w11)) (k0_pay89 (k0_pay23 w12) (k0_pay24 w13) (k0_pay25 w14) (k0_pay26 w15))) (k0_pay165 (k0_pay93 (k0_pay27 w16) (k0_pay28 w17) (k0_pay29 w18) (k0_pay30 w19)) (k0_pay97 (k0_pay31 w20) (k0_pay32 w21) (k0_pay33 w22) (k0_pay34 w23)) (k0_pay101 (k0_pay35 w24) (k0_pay36 w25) (k0_pay37 w26) (k0_pay38 w27)) (k0_pay105 (k0_pay39 w28) (k0_pay40 w29) (k0_pay41 w30) (k0_pay42 w31)))) (k0_pay184 (k0_pay151 (k0_pay76 (k0_pay43 (k0_pay11 w0) (k0_pay12 w1)) (k0_pay45 (k0_pay13 w2) (k0_pay14 w3))) (k0_pay80 (k0_pay47 (k0_pay15 w4) (k0_pay16 w5)) (k0_pay49 (k0_pay17 w6) (k0_pay18 w7))) (k0_pay84 (k0_pay19 w8) (k0_pay20 w9) (k0_pay21 w10) (k0_pay22 w11)) (k0_pay88 (k0_pay23 w12) (k0_pay24 w13) (k0_pay25 w14) (k0_pay26 w15))) (k0_pay167 (k0_pay92 (k0_pay27 w16) (k0_pay28 w17) (k0_pay29 w18) (k0_pay30 w19)) (k0_pay96 (k0_pay31 w20) (k0_pay32 w21) (k0_pay33 w22) (k0_pay34 w23)) (k0_pay100 (k0_pay35 w24) (k0_pay36 w25) (k0_pay37 w26) (k0_pay38 w27)) (k0_pay104 (k0_pay39 w28) (k0_pay40 w29) (k0_pay41 w30) (k0_pay42 w31)))) (k0_pay186 (k0_pay153 (k0_pay78 (k0_pay44 (k0_pay11 w0) (k0_pay12 w1)) (k0_pay46 (k0_pay13 w2) (k0_pay14 w3))) (k0_pay82 (k0_pay17 w6) (k0_pay18 w7) (k0_pay48 (k0_pay15 w4) (k0_pay16 w5))) (k0_pay86 (k0_pay19 w8) (k0_pay20 w9) (k0_pay21 w10) (k0_pay22 w11)) (k0_pay90 (k0_pay23 w12) (k0_pay24 w13) (k0_pay25 w14) (k0_pay26 w15))) (k0_pay169 (k0_pay94 (k0_pay27 w16) (k0_pay28 w17) (k0_pay29 w18) (k0_pay30 w19)) (k0_pay98 (k0_pay31 w20) (k0_pay32 w21) (k0_pay33 w22) (k0_pay34 w23)) (k0_pay102 (k0_pay35 w24) (k0_pay36 w25) (k0_pay37 w26) (k0_pay38 w27)) (k0_pay106 (k0_pay39 w28) (k0_pay40 w29) (k0_pay41 w30) (k0_pay42 w31)))) (k0_pay188 (k0_pay140 (k0_pay83 (k0_pay19 w8) (k0_pay20 w9) (k0_pay21 w10) (k0_pay22 w11)) (k0_pay87 (k0_pay23 w12) (k0_pay24 w13) (k0_pay25 w14) (k0_pay26 w15)) (k0_pay107 (k0_pay43 (k0_pay11 w0) (k0_pay12 w1)) (k0_pay45 (k0_pay13 w2) (k0_pay14 w3)) (k0_pay47 (k0_pay15 w4) (k0_pay16 w5)) (k0_pay49 (k0_pay17 w6) (k0_pay18 w7)))) (k0_pay156 (k0_pay91 (k0_pay27 w16) (k0_pay28 w17) (k0_pay29 w18) (k0_pay30 w19)) (k0_pay95 (k0_pay31 w20) (k0_pay32 w21) (k0_pay33 w22) (k0_pay34 w23)) (k0_pay99 (k0_pay35 w24) (k0_pay36 w25) (k0_pay37 w26) (k0_pay38 w27)) (k0_pay103 (k0_pay39 w28) (k0_pay40 w29) (k0_pay41 w30) (k0_pay42 w31)))) (k0_pay190 (k0_pay142 (k0_pay85 (k0_pay19 w8) (k0_pay20 w9) (k0_pay21 w10) (k0_pay22 w11)) (k0_pay89 (k0_pay23 w12) (k0_pay24 w13) (k0_pay25 w14) (k0_pay26 w15)) (k0_pay109 (k0_pay17 w6) (k0_pay18 w7) (k0_pay44 (k0_pay11 w0) (k0_pay12 w1)) (k0_pay46 (k0_pay13 w2) (k0_pay14 w3)) (k0_pay48 (k0_pay15 w4) (k0_pay16 w5)))) (k0_pay158 (k0_pay93 (k0_pay27 w16) (k0_pay28 w17) (k0_pay29 w18) (k0_pay30 w19)) (k0_pay97 (k0_pay31 w20) (k0_pay32 w21) (k0_pay33 w22) (k0_pay34 w23)) (k0_pay101 (k0_pay35 w24) (k0_pay36 w25) (k0_pay37 w26) (k0_pay38 w27)) (k0_pay105 (k0_pay39 w28) (k0_pay40 w29) (k0_pay41 w30) (k0_pay42 w31)))) (k0_pay228 (k0_pay172 (k0_pay139 (k0_pay83 (k0_pay19 w8) (k0_pay20 w9) (k0_pay21 w10) (k0_pay22 w11)) (k0_pay87 (k0_pay23 w12) (k0_pay24 w13) (k0_pay25 w14) (k0_pay26 w15)) (k0_pay107 (k0_pay43 (k0_pay11 w0) (k0_pay12 w1)) (k0_pay45 (k0_pay13 w2) (k0_pay14 w3)) (k0_pay47 (k0_pay15 w4) (k0_pay16 w5)) (k0_pay49 (k0_pay17 w6) (k0_pay18 w7)))) (k0_pay155 (k0_pay91 (k0_pay27 w16) (k0_pay28 w17) (k0_pay29 w18) (k0_pay30 w19)) (k0_pay95 (k0_pay31 w20) (k0_pay32 w21) (k0_pay33 w22) (k0_pay34 w23)) (k0_pay99 (k0_pay35 w24) (k0_pay36 w25) (k0_pay37 w26) (k0_pay38 w27)) (k0_pay103 (k0_pay39 w28) (k0_pay40 w29) (k0_pay41 w30) (k0_pay42 w31)))) (k0_pay174 (k0_pay141 (k0_pay85 (k0_pay19 w8) (k0_pay20 w9) (k0_pay21 w10) (k0_pay22 w11)) (k0_pay89 (k0_pay23 w12) (k0_pay24 w13) (k0_pay25 w14) (k0_pay26 w15)) (k0_pay109 (k0_pay17 w6) (k0_pay18 w7) (k0_pay44 (k0_pay11 w0) (k0_pay12 w1)) (k0_pay46 (k0_pay13 w2) (k0_pay14 w3)) (k0_pay48 (k0_pay15 w4) (k0_pay16 w5)))) (k0_pay157 (k0_pay93 (k0_pay27 w16) (k0_pay28 w17) (k0_pay29 w18) (k0_pay30 w19)) (k0_pay97 (k0_pay31 w20) (k0_pay32 w21) (k0_pay33 w22) (k0_pay34 w23)) (k0_pay101 (k0_pay35 w24) (k0_pay36 w25) (k0_pay37 w26) (k0_pay38 w27)) (k0_pay105 (k0_pay39 w28) (k0_pay40 w29) (k0_pay41 w30) (k0_pay42 w31)))) (k0_pay176 (k0_pay143 (k0_pay76 (k0_pay43 (k0_pay11 w0) (k0_pay12 w1)) (k0_pay45 (k0_pay13 w2) (k0_pay14 w3))) (k0_pay80 (k0_pay47 (k0_pay15 w4) (k0_pay16 w5)) (k0_pay49 (k0_pay17 w6) (k0_pay18 w7))) (k0_pay84 (k0_pay19 w8) (k0_pay20 w9) (k0_pay21 w10) (k0_pay22 w11)) (k0_pay88 (k0_pay23 w12) (k0_pay24 w13) (k0_pay25 w14) (k0_pay26 w15))) (k0_pay159 (k0_pay92 (k0_pay27 w16) (k0_pay28 w17) (k0_pay29 w18) (k0_pay30 w19)) (k0_pay96 (k0_pay31 w20) (k0_pay32 w21) (k0_pay33 w22) (k0_pay34 w23)) (k0_pay100 (k0_pay35 w24) (k0_pay36 w25) (k0_pay37 w26) (k0_pay38 w27)) (k0_pay104 (k0_pay39 w28) (k0_pay40 w29) (k0_pay41 w30) (k0_pay42 w31)))) (k0_pay178 (k0_pay145 (k0_pay78 (k0_pay44 (k0_pay11 w0) (k0_pay12 w1)) (k0_pay46 (k0_pay13 w2) (k0_pay14 w3))) (k0_pay82 (k0_pay17 w6) (k0_pay18 w7) (k0_pay48 (k0_pay15 w4) (k0_pay16 w5))) (k0_pay86 (k0_pay19 w8) (k0_pay20 w9) (k0_pay21 w10) (k0_pay22 w11)) (k0_pay90 (k0_pay23 w12) (k0_pay24 w13) (k0_pay25 w14) (k0_pay26 w15))) (k0_pay161 (k0_pay94 (k0_pay27 w16) (k0_pay28 w17) (k0_pay29 w18) (k0_pay30 w19)) (k0_pay98 (k0_pay31 w20) (k0_pay32 w21) (k0_pay33 w22) (k0_pay34 w23)) (k0_pay102 (k0_pay35 w24) (k0_pay36 w25) (k0_pay37 w26) (k0_pay38 w27)) (k0_pay106 (k0_pay39 w28) (k0_pay40 w29) (k0_pay41 w30) (k0_pay42 w31)))) (k0_pay180 (k0_pay147 (k0_pay83 (k0_pay19 w8) (k0_pay20 w9) (k0_pay21 w10) (k0_pay22 w11)) (k0_pay87 (k0_pay23 w12) (k0_pay24 w13) (k0_pay25 w14) (k0_pay26 w15)) (k0_pay108 (k0_pay43 (k0_pay11 w0) (k0_pay12 w1)) (k0_pay45 (k0_pay13 w2) (k0_pay14 w3)) (k0_pay47 (k0_pay15 w4) (k0_pay16 w5)) (k0_pay49 (k0_pay17 w6) (k0_pay18 w7)))) (k0_pay163 (k0_pay91 (k0_pay27 w16) (k0_pay28 w17) (k0_pay29 w18) (k0_pay30 w19)) (k0_pay95 (k0_pay31 w20) (k0_pay32 w21) (k0_pay33 w22) (k0_pay34 w23)) (k0_pay99 (k0_pay35 w24) (k0_pay36 w25) (k0_pay37 w26) (k0_pay38 w27)) (k0_pay103 (k0_pay39 w28) (k0_pay40 w29) (k0_pay41 w30) (k0_pay42 w31)))) (k0_pay222 (k0_pay195 (k0_pay148 (k0_pay83 (k0_pay19 w8) (k0_pay20 w9) (k0_pay21 w10) (k0_pay22 w11)) (k0_pay87 (k0_pay23 w12) (k0_pay24 w13) (k0_pay25 w14) (k0_pay26 w15)) (k0_pay108 (k0_pay43 (k0_pay11 w0) (k0_pay12 w1)) (k0_pay45 (k0_pay13 w2) (k0_pay14 w3)) (k0_pay47 (k0_pay15 w4) (k0_pay16 w5)) (k0_pay49 (k0_pay17 w6) (k0_pay18 w7)))) (k0_pay164 (k0_pay91 (k0_pay27 w16) (k0_pay28 w17) (k0_pay29 w18) (k0_pay30 w19)) (k0_pay95 (k0_pay31 w20) (k0_pay32 w21) (k0_pay33 w22) (k0_pay34 w23)) (k0_pay99 (k0_pay35 w24) (k0_pay36 w25) (k0_pay37 w26) (k0_pay38 w27)) (k0_pay103 (k0_pay39 w28) (k0_pay40 w29) (k0_pay41 w30) (k0_pay42 w31)))) (k0_pay197 (k0_pay150 (k0_pay77 (k0_pay44 (k0_pay11 w0) (k0_pay12 w1)) (k0_pay46 (k0_pay13 w2) (k0_pay14 w3))) (k0_pay81 (k0_pay17 w6) (k0_pay18 w7) (k0_pay48 (k0_pay15 w4) (k0_pay16 w5))) (k0_pay85 (k0_pay19 w8) (k0_pay20 w9) (k0_pay21 w10) (k0_pay22 w11)) (k0_pay89 (k0_pay23 w12) (k0_pay24 w13) (k0_pay25 w14) (k0_pay26 w15))) (k0_pay166 (k0_pay93 (k0_pay27 w16) (k0_pay28 w17) (k0_pay29 w18) (k0_pay30 w19)) (k0_pay97 (k0_pay31 w20) (k0_pay32 w21) (k0_pay33 w22) (k0_pay34 w23)) (k0_pay101 (k0_pay35 w24) (k0_pay36 w25) (k0_pay37 w26) (k0_pay38 w27)) (k0_pay105 (k0_pay39 w28) (k0_pay40 w29) (k0_pay41 w30) (k0_pay42 w31)))) (k0_pay199 (k0_pay152 (k0_pay76 (k0_pay43 (k0_pay11 w0) (k0_pay12 w1)) (k0_pay45 (k0_pay13 w2) (k0_pay14 w3))) (k0_pay80 (k0_pay47 (k0_pay15 w4) (k0_pay16 w5)) (k0_pay49 (k0_pay17 w6) (k0_pay18 w7))) (k0_pay84 (k0_pay19 w8) (k0_pay20 w9) (k0_pay21 w10) (k0_pay22 w11)) (k0_pay88 (k0_pay23 w12) (k0_pay24 w13) (k0_pay25 w14) (k0_pay26 w15))) (k0_pay168 (k0_pay92 (k0_pay27 w16) (k0_pay28 w17) (k0_pay29 w18) (k0_pay30 w19)) (k0_pay96 (k0_pay31 w20) (k0_pay32 w21) (k0_pay33 w22) (k0_pay34 w23)) (k0_pay100 (k0_pay35 w24) (k0_pay36 w25) (k0_pay37 w26) (k0_pay38 w27)) (k0_pay104 (k0_pay39 w28) (k0_pay40 w29) (k0_pay41 w30) (k0_pay42 w31)))) (k0_pay201 (k0_pay130 (k0_pay94 (k0_pay27 w16) (k0_pay28 w17) (k0_pay29 w18) (k0_pay30 w19)) (k0_pay98 (k0_pay31 w20) (k0_pay32 w21) (k0_pay33 w22) (k0_pay34 w23))) (k0_pay138 (k0_pay102 (k0_pay35 w24) (k0_pay36 w25) (k0_pay37 w26) (k0_pay38 w27)) (k0_pay106 (k0_pay39 w28) (k0_pay40 w29) (k0_pay41 w30) (k0_pay42 w31))) (k0_pay154 (k0_pay78 (k0_pay44 (k0_pay11 w0) (k0_pay12 w1)) (k0_pay46 (k0_pay13 w2) (k0_pay14 w3))) (k0_pay82 (k0_pay17 w6) (k0_pay18 w7) (k0_pay48 (k0_pay15 w4) (k0_pay16 w5))) (k0_pay86 (k0_pay19 w8) (k0_pay20 w9) (k0_pay21 w10) (k0_pay22 w11)) (k0_pay90 (k0_pay23 w12) (k0_pay24 w13) (k0_pay25 w14) (k0_pay26 w15)))) (k0_pay217 (k0_pay185 (k0_pay153 (k0_pay78 (k0_pay44 (k0_pay11 w0) (k0_pay12 w1)) (k0_pay46 (k0_pay13 w2) (k0_pay14 w3))) (k0_pay82 (k0_pay17 w6) (k0_pay18 w7) (k0_pay48 (k0_pay15 w4) (k0_pay16 w5))) (k0_pay86 (k0_pay19 w8) (k0_pay20 w9) (k0_pay21 w10) (k0_pay22 w11)) (k0_pay90 (k0_pay23 w12) (k0_pay24 w13) (k0_pay25 w14) (k0_pay26 w15))) (k0_pay169 (k0_pay94 (k0_pay27 w16) (k0_pay28 w17) (k0_pay29 w18) (k0_pay30 w19)) (k0_pay98 (k0_pay31 w20) (k0_pay32 w21) (k0_pay33 w22) (k0_pay34 w23)) (k0_pay102 (k0_pay35 w24) (k0_pay36 w25) (k0_pay37 w26) (k0_pay38 w27)) (k0_pay106 (k0_pay39 w28) (k0_pay40 w29) (k0_pay41 w30) (k0_pay42 w31)))) (k0_pay187 (k0_pay140 (k0_pay83 (k0_pay19 w8) (k0_pay20 w9) (k0_pay21 w10) (k0_pay22 w11)) (k0_pay87 (k0_pay23 w12) (k0_pay24 w13) (k0_pay25 w14) (k0_pay26 w15)) (k0_pay107 (k0_pay43 (k0_pay11 w0) (k0_pay12 w1)) (k0_pay45 (k0_pay13 w2) (k0_pay14 w3)) (k0_pay47 (k0_pay15 w4) (k0_pay16 w5)) (k0_pay49 (k0_pay17 w6) (k0_pay18 w7)))) (k0_pay156 (k0_pay91 (k0_pay27 w16) (k0_pay28 w17) (k0_pay29 w18) (k0_pay30 w19)) (k0_pay95 (k0_pay31 w20) (k0_pay32 w21) (k0_pay33 w22) (k0_pay34 w23)) (k0_pay99 (k0_pay35 w24) (k0_pay36 w25) (k0_pay37 w26) (k0_pay38 w27)) (k0_pay103 (k0_pay39 w28) (k0_pay40 w29) (k0_pay41 w30) (k0_pay42 w31)))) (k0_pay189 (k0_pay142 (k0_pay85 (k0_pay19 w8) (k0_pay20 w9) (k0_pay21 w10) (k0_pay22 w11)) (k0_pay89 (k0_pay23 w12) (k0_pay24 w13) (k0_pay25 w14) (k0_pay26 w15)) (k0_pay109 (k0_pay17 w6) (k0_pay18 w7) (k0_pay44 (k0_pay11 w0) (k0_pay12 w1)) (k0_pay46 (k0_pay13 w2) (k0_pay14 w3)) (k0_pay48 (k0_pay15 w4) (k0_pay16 w5)))) (k0_pay158 (k0_pay93 (k0_pay27 w16) (k0_pay28 w17) (k0_pay29 w18) (k0_pay30 w19)) (k0_pay97 (k0_pay31 w20) (k0_pay32 w21) (k0_pay33 w22) (k0_pay34 w23)) (k0_pay101 (k0_pay35 w24) (k0_pay36 w25) (k0_pay37 w26) (k0_pay38 w27)) (k0_pay105 (k0_pay39 w28) (k0_pay40 w29) (k0_pay41 w30) (k0_pay42 w31)))) (k0_pay191 (k0_pay144 (k0_pay76 (k0_pay43 (k0_pay11 w0) (k0_pay12 w1)) (k0_pay45 (k0_pay13 w2) (k0_pay14 w3))) (k0_pay80 (k0_pay47 (k0_pay15 w4) (k0_pay16 w5)) (k0_pay49 (k0_pay17 w6) (k0_pay18 w7))) (k0_pay84 (k0_pay19 w8) (k0_pay20 w9) (k0_pay21 w10) (k0_pay22 w11)) (k0_pay88 (k0_pay23 w12) (k0_pay24 w13) (k0_pay25 w14) (k0_pay26 w15))) (k0_pay160 (k0_pay92 (k0_pay27 w16) (k0_pay28 w17) (k0_pay29 w18) (k0_pay30 w19)) (k0_pay96 (k0_pay31 w20) (k0_pay32 w21) (k0_pay33 w22) (k0_pay34 w23)) (k0_pay100 (k0_pay35 w24) (k0_pay36 w25) (k0_pay37 w26) (k0_pay38 w27)) (k0_pay104 (k0_pay39 w28) (k0_pay40 w29) (k0_pay41 w30) (k0_pay42 w31)))) (k0_pay193 (k0_pay146 (k0_pay78 (k0_pay44 (k0_pay11 w0) (k0_pay12 w1)) (k0_pay46 (k0_pay13 w2) (k0_pay14 w3))) (k0_pay82 (k0_pay17 w6) (k0_pay18 w7) (k0_pay48 (k0_pay15 w4) (k0_pay16 w5))) (k0_pay86 (k0_pay19 w8) (k0_pay20 w9) (k0_pay21 w10) (k0_pay22 w11)) (k0_pay90 (k0_pay23 w12) (k0_pay24 w13) (k0_pay25 w14) (k0_pay26 w15))) (k0_pay162 (k0_pay94 (k0_pay27 w16) (k0_pay28 w17) (k0_pay29 w18) (k0_pay30 w19)) (k0_pay98 (k0_pay31 w20) (k0_pay32 w21) (k0_pay33 w22) (k0_pay34 w23)) (k0_pay102 (k0_pay35 w24) (k0_pay36 w25) (k0_pay37 w26) (k0_pay38 w27)) (k0_pay106 (k0_pay39 w28) (k0_pay40 w29) (k0_pay41 w30) (k0_pay42 w31)))) (k0_pay211 (k0_pay177 (k0_pay145 (k0_pay78 (k0_pay44 (k0_pay11 w0) (k0_pay12 w1)) (k0_pay46 (k0_pay13 w2) (k0_pay14 w3))) (k0_pay82 (k0_pay17 w6) (k0_pay18 w7) (k0_pay48 (k0_pay15 w4) (k0_pay16 w5))) (k0_pay86 (k0_pay19 w8) (k0_pay20 w9) (k0_pay21 w10) (k0_pay22 w11)) (k0_pay90 (k0_pay23 w12) (k0_pay24 w13) (k0_pay25 w14) (k0_pay26 w15))) (k0_pay161 (k0_pay94 (k0_pay27 w16) (k0_pay28 w17) (k0_pay29 w18) (k0_pay30 w19)) (k0_pay98 (k0_pay31 w20) (k0_pay32 w21) (k0_pay33 w22) (k0_pay34 w23)) (k0_pay102 (k0_pay35 w24) (k0_pay36 w25) (k0_pay37 w26) (k0_pay38 w27)) (k0_pay106 (k0_pay39 w28) (k0_pay40 w29) (k0_pay41 w30) (k0_pay42 w31)))) (k0_pay179 (k0_pay147 (k0_pay83 (k0_pay19 w8) (k0_pay20 w9) (k0_pay21 w10) (k0_pay22 w11)) (k0_pay87 (k0_pay23 w12) (k0_pay24 w13) (k0_pay25 w14) (k0_pay26 w15)) (k0_pay108 (k0_pay43 (k0_pay11 w0) (k0_pay12 w1)) (k0_pay45 (k0_pay13 w2) (k0_pay14 w3)) (k0_pay47 (k0_pay15 w4) (k0_pay16 w5)) (k0_pay49 (k0_pay17 w6) (k0_pay18 w7)))) (k0_pay163 (k0_pay91 (k0_pay27 w16) (k0_pay28 w17) (k0_pay29 w18) (k0_pay30 w19)) (k0_pay95 (k0_pay31 w20) (k0_pay32 w21) (k0_pay33 w22) (k0_pay34 w23)) (k0_pay99 (k0_pay35 w24) (k0_pay36 w25) (k0_pay37 w26) (k0_pay38 w27)) (k0_pay103 (k0_pay39 w28) (k0_pay40 w29) (k0_pay41 w30) (k0_pay42 w31)))) (k0_pay181 (k0_pay149 (k0_pay77 (k0_pay44 (k0_pay11 w0) (k0_pay12 w1)) (k0_pay46 (k0_pay13 w2) (k0_pay14 w3))) (k0_pay81 (k0_pay17 w6) (k0_pay18 w7) (k0_pay48 (k0_pay15 w4) (k0_pay16 w5))) (k0_pay85 (k0_pay19 w8) (k0_pay20 w9) (k0_pay21 w10) (k0_pay22 w11)) (k0_pay89 (k0_pay23 w12) (k0_pay24 w13) (k0_pay25 w14) (k0_pay26 w15))) (k0_pay165 (k0_pay93 (k0_pay27 w16) (k0_pay28 w17) (k0_pay29 w18) (k0_pay30 w19)) (k0_pay97 (k0_pay31 w20) (k0_pay32 w21) (k0_pay33 w22) (k0_pay34 w23)) (k0_pay101 (k0_pay35 w24) (k0_pay36 w25) (k0_pay37 w26) (k0_pay38 w27)) (k0_pay105 (k0_pay39 w28) (k0_pay40 w29) (k0_pay41 w30) (k0_pay42 w31)))) (k0_pay183 (k0_pay151 (k0_pay76 (k0_pay43 (k0_pay11 w0) (k0_pay12 w1)) (k0_pay45 (k0_pay13 w2) (k0_pay14 w3))) (k0_pay80 (k0_pay47 (k0_pay15 w4) (k0_pay16 w5)) (k0_pay49 (k0_pay17 w6) (k0_pay18 w7))) (k0_pay84 (k0_pay19 w8) (k0_pay20 w9) (k0_pay21 w10) (k0_pay22 w11)) (k0_pay88 (k0_pay23 w12) (k0_pay24 w13) (k0_pay25 w14) (k0_pay26 w15))) (k0_pay167 (k0_pay92 (k0_pay27 w16) (k0_pay28 w17) (k0_pay29 w18) (k0_pay30 w19)) (k0_pay96 (k0_pay31 w20) (k0_pay32 w21) (k0_pay33 w22) (k0_pay34 w23)) (k0_pay100 (k0_pay35 w24) (k0_pay36 w25) (k0_pay37 w26) (k0_pay38 w27)) (k0_pay104 (k0_pay39 w28) (k0_pay40 w29) (k0_pay41 w30) (k0_pay42 w31)))) (k0_pay204 acc (k0_pay139 (k0_pay83 (k0_pay19 w8) (k0_pay20 w9) (k0_pay21 w10) (k0_pay22 w11)) (k0_pay87 (k0_pay23 w12) (k0_pay24 w13) (k0_pay25 w14) (k0_pay26 w15)) (k0_pay107 (k0_pay43 (k0_pay11 w0) (k0_pay12 w1)) (k0_pay45 (k0_pay13 w2) (k0_pay14 w3)) (k0_pay47 (k0_pay15 w4) (k0_pay16 w5)) (k0_pay49 (k0_pay17 w6) (k0_pay18 w7)))) (k0_pay141 (k0_pay85 (k0_pay19 w8) (k0_pay20 w9) (k0_pay21 w10) (k0_pay22 w11)) (k0_pay89 (k0_pay23 w12) (k0_pay24 w13) (k0_pay25 w14) (k0_pay26 w15)) (k0_pay109 (k0_pay17 w6) (k0_pay18 w7) (k0_pay44 (k0_pay11 w0) (k0_pay12 w1)) (k0_pay46 (k0_pay13 w2) (k0_pay14 w3)) (k0_pay48 (k0_pay15 w4) (k0_pay16 w5)))) (k0_pay155 (k0_pay91 (k0_pay27 w16) (k0_pay28 w17) (k0_pay29 w18) (k0_pay30 w19)) (k0_pay95 (k0_pay31 w20) (k0_pay32 w21) (k0_pay33 w22) (k0_pay34 w23)) (k0_pay99 (k0_pay35 w24) (k0_pay36 w25) (k0_pay37 w26) (k0_pay38 w27)) (k0_pay103 (k0_pay39 w28) (k0_pay40 w29) (k0_pay41 w30) (k0_pay42 w31))) (k0_pay157 (k0_pay93 (k0_pay27 w16) (k0_pay28 w17) (k0_pay29 w18) (k0_pay30 w19)) (k0_pay97 (k0_pay31 w20) (k0_pay32 w21) (k0_pay33 w22) (k0_pay34 w23)) (k0_pay101 (k0_pay35 w24) (k0_pay36 w25) (k0_pay37 w26) (k0_pay38 w27)) (k0_pay105 (k0_pay39 w28) (k0_pay40 w29) (k0_pay41 w30) (k0_pay42 w31)))) (k0_pay206 (k0_pay143 (k0_pay76 (k0_pay43 (k0_pay11 w0) (k0_pay12 w1)) (k0_pay45 (k0_pay13 w2) (k0_pay14 w3))) (k0_pay80 (k0_pay47 (k0_pay15 w4) (k0_pay16 w5)) (k0_pay49 (k0_pay17 w6) (k0_pay18 w7))) (k0_pay84 (k0_pay19 w8) (k0_pay20 w9) (k0_pay21 w10) (k0_pay22 w11)) (k0_pay88 (k0_pay23 w12) (k0_pay24 w13) (k0_pay25 w14) (k0_pay26 w15))) (k0_pay159 (k0_pay92 (k0_pay27 w16) (k0_pay28 w17) (k0_pay29 w18) (k0_pay30 w19)) (k0_pay96 (k0_pay31 w20) (k0_pay32 w21) (k0_pay33 w22) (k0_pay34 w23)) (k0_pay100 (k0_pay35 w24) (k0_pay36 w25) (k0_pay37 w26) (k0_pay38 w27)) (k0_pay104 (k0_pay39 w28) (k0_pay40 w29) (k0_pay41 w30) (k0_pay42 w31))))))))))) x = (max (max (max (max (max (max (max (max (max (max (max (max (max (max (max (max (max (max (max (max (max (max (max (max (max (max (max (max (max (max (max (max (acc x) (absE (bf32 (seqW w0 w1 w2 w3 w4 w5 w6 w7 w8 w9 w10 w11 w12 w13 w14 w15 w16 w17 w18 w19 w20 w21 w22 w23 w24 w25 w26 w27 w28 w29 w30 w31 x) 0))) (absE (bf32 (seqW w0 w1 w2 w3 w4 w5 w6 w7 w8 w9 w10 w11 w12 w13 w14 w15 w16 w17 w18 w19 w20 w21 w22 w23 w24 w25 w26 w27 w28 w29 w30 w31 x) 1))) (absE (bf32 (seqW w0 w1 w2 w3 w4 w5 w6 w7 w8 w9 w10 w11 w12 w13 w14 w15 w16 w17 w18 w19 w20 w21 w22 w23 w24 w25 w26 w27 w28 w29 w30 w31 x) 2))) (absE (bf32 (seqW w0 w1 w2 w3 w4 w5 w6 w7 w8 w9 w10 w11 w12 w13 w14 w15 w16 w17 w18 w19 w20 w21 w22 w23 w24 w25 w26 w27 w28 w29 w30 w31 x) 3))) (absE (bf32 (seqW w0 w1 w2 w3 w4 w5 w6 w7 w8 w9 w10 w11 w12 w13 w14 w15 w16 w17 w18 w19 w20 w21 w22 w23 w24 w25 w26 w27 w28 w29 w30 w31 x) 4))) (absE (bf32 (seqW w0 w1 w2 w3 w4 w5 w6 w7 w8 w9 w10 w11 w12 w13 w14 w15 w16 w17 w18 w19 w20 w21 w22 w23 w24 w25 w26 w27 w28 w29 w30 w31 x) 5))) (absE (bf32 (seqW w0 w1 w2 w3 w4 w5 w6 w7 w8 w9 w10 w11 w12 w13 w14 w15 w16 w17 w18 w19 w20 w21 w22 w23 w24 w25 w26 w27 w28 w29 w30 w31 x) 6))) (absE (bf32 (seqW w0 w1 w2 w3 w4 w5 w6 w7 w8 w9 w10 w11 w12 w13 w14 w15 w16 w17 w18 w19 w20 w21 w22 w23 w24 w25 w26 w27 w28 w29 w30 w31 x) 7))) (absE (bf32 (seqW w0 w1 w2 w3 w4 w5 w6 w7 w8 w9 w10 w11 w12 w13 w14 w15 w16 w17 w18 w19 w20 w21 w22 w23 w24 w25 w26 w27 w28 w29 w30 w31 x) 8))) (absE (bf32 (seqW w0 w1 w2 w3 w4 w5 w6 w7 w8 w9 w10 w11 w12 w13 w14 w15 w16 w17 w18 w19 w20 w21 w22 w23 w24 w25 w26 w27 w28 w29 w30 w31 x) 9))) (absE (bf32 (seqW w0 w1 w2 w3 w4 w5 w6 w7 w8 w9 w10 w11 w12 w13 w14 w15 w16 w17 w18 w19 w20 w21 w22 w23 w24 w25 w26 w27 w28 w29 w30 w31 x) 10))) (absE (bf32 (seqW w0 w1 w2 w3 w4 w5 w6 w7 w8 w9 w10 w11 w12 w13 w14 w15 w16 w17 w18 w19 w20 w21 w22 w23 w24 w25 w26 w27 w28 w29 w30 w31 x) 11))) (absE (bf32 (seqW w0 w1 w2 w3 w4 w5 w6 w7 w8 w9 w10 w11 w12 w13 w14 w15 w16 w17 w18 w19 w20 w21 w22 w23 w24 w25 w26 w27 w28 w29 w30 w31 x) 12))) (absE (bf32 (seqW w0 w1 w2 w3 w4 w5 w6 w7 w8 w9 w10 w11 w12 w13 w14 w15 w16 w17 w18 w19 w20 w21 w22 w23 w24 w25 w26 w27 w28 w29 w30 w31 x) 13))) (absE (bf32 (seqW w0 w1 w2 w3 w4 w5 w6 w7 w8 w9 w10 w11 w12 w13 w14 w15 w16 w17 w18 w19 w20 w21 w22 w23 w24 w25 w26 w27 w28 w29 w30 w31 x) 14))) (absE (bf32 (seqW w0 w1 w2 w3 w4 w5 w6 w7 w8 w9 w10 w11 w12 w13 w14 w15 w16 w17 w18 w19 w20 w21 w22 w23 w24 w25 w26 w27 w28 w29 w30 w31 x) 15))) (absE (bf32 (seqW w0 w1 w2 w3 w4 w5 w6 w7 w8 w9 w10 w11 w12 w13 w14 w15 w16 w17 w18 w19 w20 w21 w22 w23 w24 w25 w26 w27 w28 w29 w30 w31 x) 16))) (absE (bf32 (seqW w0 w1 w2 w3 w4 w5 w6 w7 w8 w9 w10 w11 w12 w13 w14 w15 w16 w17 w18 w19 w20 w21 w22 w23 w24 w25 w26 w27 w28 w29 w30 w31 x) 17))) (absE (bf32 (seqW w0 w1 w2 w3 w4 w5 w6 w7 w8 w9 w10 w11 w12 w13 w14 w15 w16 w17 w18 w19 w20 w21 w22 w23 w24 w25 w26 w27 w28 w29 w30 w31 x) 18))) (absE (bf32 (seqW w0 w1 w2 w3 w4 w5 w6 w7 w8 w9 w10 w11 w12 w13 w14 w15 w16 w17 w18 w19 w20 w21 w22 w23 w24 w25 w26 w27 w28 w29 w30 w31 x) 19))) (absE (bf32 (seqW w0 w1 w2 w3 w4 w5 w6 w7 w8 w9 w10 w11 w12 w13 w14 w15 w16 w17 w18 w19 w20 w21 w22 w23 w24 w25 w26 w27 w28 w29 w30 w31 x) 20))) (absE (bf32 (seqW w0 w1 w2 w3 w4 w5 w6 w7 w8 w9 w10 w11 w12 w13 w14 w15 w16 w17 w18 w19 w20 w21 w22 w23 w24 w25 w26 w27 w28 w29 w30 w31 x) 21))) (absE (bf32 (seqW w0 w1 w2 w3 w4 w5 w6 w7 w8 w9 w10 w11 w12 w13 w14 w15 w16 w17 w18 w19 w20 w21 w22 w23 w24 w25 w26 w27 w28 w29 w30 w31 x) 22))) (absE (bf32 (seqW w0 w1 w2 w3 w4 w5 w6 w7 w8 w9 w10 w11 w12 w13 w14 w15 w16 w17 w18 w19 w20 w21 w22 w23 w24 w25 w26 w27 w28 w29 w30 w31 x) 23))) (absE (bf32 (seqW w0 w1 w2 w3 w4 w5 w6 w7 w8 w9 w10 w11 w12 w13 w14 w15 w16 w17 w18 w19 w20 w21 w22 w23 w24 w25 w26 w27 w28 w29 w30 w31 x) 24))) (absE (bf32 (seqW w0 w1 w2 w3 w4 w5 w6 w7 w8 w9 w10 w11 w12 w13 w14 w15 w16 w17 w18 w19 w20 w21 w22 w23 w24 w25 w26 w27 w28 w29 w30 w31 x) 25))) (absE (bf32 (seqW w0 w1 w2 w3 w4 w5 w6 w7 w8 w9 w10 w11 w12 w13 w14 w15 w16 w17 w18 w19 w20 w21 w22 w23 w24 w25 w26 w27 w28 w29 w30 w31 x) 26))) (absE (bf32 (seqW w0 w1 w2 w3 w4 w5 w6 w7 w8 w9 w10 w11 w12 w13 w14 w15 w16 w17 w18 w19 w20 w21 w22 w23 w24 w25 w26 w27 w28 w29 w30 w31 x) 27))) (absE (bf32 (seqW w0 w1 w2 w3 w4 w5 w6 w7 w8 w9 w10 w11 w12 w13 w14 w15 w16 w17 w18 w19 w20 w21 w22 w23 w24 w25 w26 w27 w28 w29 w30 w31 x) 28))) (absE (bf32 (seqW w0 w1 w2 w3 w4 w5 w6 w7 w8 w9 w10 w11 w12 w13 w14 w15 w16 w17 w18 w19 w20 w21 w22 w23 w24 w25 w26 w27 w28 w29 w30 w31 x) 29))) (absE (bf32 (seqW w0 w1 w2 w3 w4 w5 w6 w7 w8 w9 w10 w11 w12 w13 w14 w15 w16 w17 w18 w19 w20 w21 w22 w23 w24 w25 w26 w27 w28 w29 w30 w31 x) 30))) (absE (bf32 (seqW w0 w1 w2 w3 w4 w5 w6 w7 w8 w9 w10 w11 w12 w13 w14 w15 w16 w17 w18 w19 w20 w21 w22 w23 w24 w25 w26 w27 w28 w29 w30 w31 x) 31))) := by
  idx_vars x
  pointwise [k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199,k0_pay200,k0_pay201,k0_pay202,k0_pay203,k0_pay204,k0_pay205,k0_pay206,k0_pay207,k0_pay208,k0_pay209,k0_pay210,k0_pay211,k0_pay212,k0_pay213,k0_pay214,k0_pay215,k0_pay216,k0_pay217,k0_pay218,k0_pay219,k0_pay220,k0_pay221,k0_pay222,k0_pay223,k0_pay224,k0_pay225,k0_pay226,k0_pay227,k0_pay228,k0_pay229,k0_pay230,k0_pay231,k0_pay232,k0_pay233,k0_pay234,k0_pay235,k0_pay236,k0_pay237,k0_pay238,k0_pay239,k0_pay249,k0_pay250,k0_pay251,k0_pay252]
  rfl

end Cert.Proof.Value

end
-- ==== Proof.LoopButterfly.lean ====
module

public import proofs.«01_k».proof.Proof.Butterfly
public import Idealize.ShloMosaic.Lib.Pipeline.Value
public import Idealize.ShloMosaic.Lib.WritesUnit

/-! # The loop of butterflies: what the butterfly scratch and the running maxima hold after it -/

@[expose] public section

set_option maxRecDepth 16384
set_option maxHeartbeats 4000000

noncomputable section

namespace Cert.Proof.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The transform, at entry `p`, of lane `n` of row `r` of the 32 slabs of the product scratch. -/
def bfZ (Z : Vec Ideal S32x224x128 .f32) (r : ℕ) (n : Fin 128) (p : ℕ) : EReal :=
  bf32 (fun m => Z (ix3 ⟨m % 32, Nat.mod_lt _ (by decide)⟩ ⟨r % 224, Nat.mod_lt _ (by decide)⟩ n)) p

/-- What the butterfly scratch is to hold: row `68 a + 2 p + b` is entry `p` of the transform of row `112 b + a`. -/
def bfT (Z : Vec Ideal S32x224x128 .f32) : Vec Ideal S7616x128 .f32 := fun y =>
  bfZ Z ((y 0).val % 68 % 2 * 112 + (y 0).val / 68) (y 1) ((y 0).val % 68 / 2)

theorem off7_eq : ∀ k : Fin k0_t3_loop.trips, k0_off7 k = ![0, 8 * k.val, 0] := by decide +kernel
theorem off8_eq : ∀ k : Fin k0_t3_loop.trips, k0_off8 k = ![1, 8 * k.val, 0] := by decide +kernel
theorem off9_eq : ∀ k : Fin k0_t3_loop.trips, k0_off9 k = ![2, 8 * k.val, 0] := by decide +kernel
theorem off10_eq : ∀ k : Fin k0_t3_loop.trips, k0_off10 k = ![3, 8 * k.val, 0] := by decide +kernel
theorem off11_eq : ∀ k : Fin k0_t3_loop.trips, k0_off11 k = ![4, 8 * k.val, 0] := by decide +kernel
theorem off12_eq : ∀ k : Fin k0_t3_loop.trips, k0_off12 k = ![5, 8 * k.val, 0] := by decide +kernel
theorem off13_eq : ∀ k : Fin k0_t3_loop.trips, k0_off13 k = ![6, 8 * k.val, 0] := by decide +kernel
theorem off14_eq : ∀ k : Fin k0_t3_loop.trips, k0_off14 k = ![7, 8 * k.val, 0] := by decide +kernel
theorem off15_eq : ∀ k : Fin k0_t3_loop.trips, k0_off15 k = ![8, 8 * k.val, 0] := by decide +kernel
theorem off16_eq : ∀ k : Fin k0_t3_loop.trips, k0_off16 k = ![9, 8 * k.val, 0] := by decide +kernel
theorem off17_eq : ∀ k : Fin k0_t3_loop.trips, k0_off17 k = ![10, 8 * k.val, 0] := by decide +kernel
theorem off18_eq : ∀ k : Fin k0_t3_loop.trips, k0_off18 k = ![11, 8 * k.val, 0] := by decide +kernel
theorem off19_eq : ∀ k : Fin k0_t3_loop.trips, k0_off19 k = ![12, 8 * k.val, 0] := by decide +kernel
theorem off20_eq : ∀ k : Fin k0_t3_loop.trips, k0_off20 k = ![13, 8 * k.val, 0] := by decide +kernel
theorem off21_eq : ∀ k : Fin k0_t3_loop.trips, k0_off21 k = ![14, 8 * k.val, 0] := by decide +kernel
theorem off22_eq : ∀ k : Fin k0_t3_loop.trips, k0_off22 k = ![15, 8 * k.val, 0] := by decide +kernel
theorem off23_eq : ∀ k : Fin k0_t3_loop.trips, k0_off23 k = ![16, 8 * k.val, 0] := by decide +kernel
theorem off24_eq : ∀ k : Fin k0_t3_loop.trips, k0_off24 k = ![17, 8 * k.val, 0] := by decide +kernel
theorem off25_eq : ∀ k : Fin k0_t3_loop.trips, k0_off25 k = ![18, 8 * k.val, 0] := by decide +kernel
theorem off26_eq : ∀ k : Fin k0_t3_loop.trips, k0_off26 k = ![19, 8 * k.val, 0] := by decide +kernel
theorem off27_eq : ∀ k : Fin k0_t3_loop.trips, k0_off27 k = ![20, 8 * k.val, 0] := by decide +kernel
theorem off28_eq : ∀ k : Fin k0_t3_loop.trips, k0_off28 k = ![21, 8 * k.val, 0] := by decide +kernel
theorem off29_eq : ∀ k : Fin k0_t3_loop.trips, k0_off29 k = ![22, 8 * k.val, 0] := by decide +kernel
theorem off30_eq : ∀ k : Fin k0_t3_loop.trips, k0_off30 k = ![23, 8 * k.val, 0] := by decide +kernel
theorem off31_eq : ∀ k : Fin k0_t3_loop.trips, k0_off31 k = ![24, 8 * k.val, 0] := by decide +kernel
theorem off32_eq : ∀ k : Fin k0_t3_loop.trips, k0_off32 k = ![25, 8 * k.val, 0] := by decide +kernel
theorem off33_eq : ∀ k : Fin k0_t3_loop.trips, k0_off33 k = ![26, 8 * k.val, 0] := by decide +kernel
theorem off34_eq : ∀ k : Fin k0_t3_loop.trips, k0_off34 k = ![27, 8 * k.val, 0] := by decide +kernel
theorem off35_eq : ∀ k : Fin k0_t3_loop.trips, k0_off35 k = ![28, 8 * k.val, 0] := by decide +kernel
theorem off36_eq : ∀ k : Fin k0_t3_loop.trips, k0_off36 k = ![29, 8 * k.val, 0] := by decide +kernel
theorem off37_eq : ∀ k : Fin k0_t3_loop.trips, k0_off37 k = ![30, 8 * k.val, 0] := by decide +kernel
theorem off38_eq : ∀ k : Fin k0_t3_loop.trips, k0_off38 k = ![31, 8 * k.val, 0] := by decide +kernel
theorem off39_eq : ∀ k : Fin k0_t3_loop.trips, ∀ p : Fin 32, k0_off39 k (BitVec.ofNat 32 (2 * p.val)) = ![8 * k.val % 112 * 68 + 2 * p.val + 8 * k.val / 112, 0] := by decide +kernel

/-- A load of a trip reads eight rows of one slab. -/
theorem load_apply (arg15 : Memref sig .tc .vmem S32x224x128 .f32) (X : BufTy.Contents (Elt Ideal) arg15.view.ty) (k : Fin k0_t3_loop.trips) (off : Fin 3 → ℕ) (m : ℕ) (hm : m < 32) (inb) (h : off = ![m, 8 * k.val, 0]) (x : S8x128.Idx) :
    arg15.view.readAt (Elt Ideal) (Rect.unit (s := S32x224x128) off S1x8x128.size inb).toLoadRect X (ix3 0 (x 0) (x 1))
      = arg15.view.read (Elt Ideal) X (ix3 ⟨m, hm⟩ ⟨(8 * k.val + (x 0).val) % 224, Nat.mod_lt _ (by decide)⟩ (x 1)) := by
  subst h
  have hk : k.val < 28 := Nat.lt_of_lt_of_le k.isLt k0_t3_abs.2.1
  have hx0 : (x 0).val < 8 := (x 0).isLt
  rw [View.readAt_apply]
  refine congrArg (arg15.view.read (Elt Ideal) X) (funext fun a => Fin.ext ?_)
  match a with
  | ⟨0, _⟩ => show m + 1 * 0 = m; omega
  | ⟨1, _⟩ => show 8 * k.val + 1 * (x 0).val = (8 * k.val + (x 0).val) % 224; omega
  | ⟨2, _⟩ => show 0 + 1 * (x 1).val = (x 1).val; omega

theorem loads_get (arg15 : Memref sig .tc .vmem S32x224x128 .f32) (X : BufTy.Contents (Elt Ideal) arg15.view.ty) (k : Fin k0_t3_loop.trips) (x : S8x128.Idx) : ∀ j : Fin 32,
    [arg15.view.readAt (Elt Ideal) (Rect.unit (s := S32x224x128) (k0_off7 k) S1x8x128.size (k0_off7_inb k)).toLoadRect X, arg15.view.readAt (Elt Ideal) (Rect.unit (s := S32x224x128) (k0_off8 k) S1x8x128.size (k0_off8_inb k)).toLoadRect X, arg15.view.readAt (Elt Ideal) (Rect.unit (s := S32x224x128) (k0_off9 k) S1x8x128.size (k0_off9_inb k)).toLoadRect X, arg15.view.readAt (Elt Ideal) (Rect.unit (s := S32x224x128) (k0_off10 k) S1x8x128.size (k0_off10_inb k)).toLoadRect X, arg15.view.readAt (Elt Ideal) (Rect.unit (s := S32x224x128) (k0_off11 k) S1x8x128.size (k0_off11_inb k)).toLoadRect X, arg15.view.readAt (Elt Ideal) (Rect.unit (s := S32x224x128) (k0_off12 k) S1x8x128.size (k0_off12_inb k)).toLoadRect X, arg15.view.readAt (Elt Ideal) (Rect.unit (s := S32x224x128) (k0_off13 k) S1x8x128.size (k0_off13_inb k)).toLoadRect X, arg15.view.readAt (Elt Ideal) (Rect.unit (s := S32x224x128) (k0_off14 k) S1x8x128.size (k0_off14_inb k)).toLoadRect X, arg15.view.readAt (Elt Ideal) (Rect.unit (s := S32x224x128) (k0_off15 k) S1x8x128.size (k0_off15_inb k)).toLoadRect X, arg15.view.readAt (Elt Ideal) (Rect.unit (s := S32x224x128) (k0_off16 k) S1x8x128.size (k0_off16_inb k)).toLoadRect X, arg15.view.readAt (Elt Ideal) (Rect.unit (s := S32x224x128) (k0_off17 k) S1x8x128.size (k0_off17_inb k)).toLoadRect X, arg15.view.readAt (Elt Ideal) (Rect.unit (s := S32x224x128) (k0_off18 k) S1x8x128.size (k0_off18_inb k)).toLoadRect X, arg15.view.readAt (Elt Ideal) (Rect.unit (s := S32x224x128) (k0_off19 k) S1x8x128.size (k0_off19_inb k)).toLoadRect X, arg15.view.readAt (Elt Ideal) (Rect.unit (s := S32x224x128) (k0_off20 k) S1x8x128.size (k0_off20_inb k)).toLoadRect X, arg15.view.readAt (Elt Ideal) (Rect.unit (s := S32x224x128) (k0_off21 k) S1x8x128.size (k0_off21_inb k)).toLoadRect X, arg15.view.readAt (Elt Ideal) (Rect.unit (s := S32x224x128) (k0_off22 k) S1x8x128.size (k0_off22_inb k)).toLoadRect X, arg15.view.readAt (Elt Ideal) (Rect.unit (s := S32x224x128) (k0_off23 k) S1x8x128.size (k0_off23_inb k)).toLoadRect X, arg15.view.readAt (Elt Ideal) (Rect.unit (s := S32x224x128) (k0_off24 k) S1x8x128.size (k0_off24_inb k)).toLoadRect X, arg15.view.readAt (Elt Ideal) (Rect.unit (s := S32x224x128) (k0_off25 k) S1x8x128.size (k0_off25_inb k)).toLoadRect X, arg15.view.readAt (Elt Ideal) (Rect.unit (s := S32x224x128) (k0_off26 k) S1x8x128.size (k0_off26_inb k)).toLoadRect X, arg15.view.readAt (Elt Ideal) (Rect.unit (s := S32x224x128) (k0_off27 k) S1x8x128.size (k0_off27_inb k)).toLoadRect X, arg15.view.readAt (Elt Ideal) (Rect.unit (s := S32x224x128) (k0_off28 k) S1x8x128.size (k0_off28_inb k)).toLoadRect X, arg15.view.readAt (Elt Ideal) (Rect.unit (s := S32x224x128) (k0_off29 k) S1x8x128.size (k0_off29_inb k)).toLoadRect X, arg15.view.readAt (Elt Ideal) (Rect.unit (s := S32x224x128) (k0_off30 k) S1x8x128.size (k0_off30_inb k)).toLoadRect X, arg15.view.readAt (Elt Ideal) (Rect.unit (s := S32x224x128) (k0_off31 k) S1x8x128.size (k0_off31_inb k)).toLoadRect X, arg15.view.readAt (Elt Ideal) (Rect.unit (s := S32x224x128) (k0_off32 k) S1x8x128.size (k0_off32_inb k)).toLoadRect X, arg15.view.readAt (Elt Ideal) (Rect.unit (s := S32x224x128) (k0_off33 k) S1x8x128.size (k0_off33_inb k)).toLoadRect X, arg15.view.readAt (Elt Ideal) (Rect.unit (s := S32x224x128) (k0_off34 k) S1x8x128.size (k0_off34_inb k)).toLoadRect X, arg15.view.readAt (Elt Ideal) (Rect.unit (s := S32x224x128) (k0_off35 k) S1x8x128.size (k0_off35_inb k)).toLoadRect X, arg15.view.readAt (Elt Ideal) (Rect.unit (s := S32x224x128) (k0_off36 k) S1x8x128.size (k0_off36_inb k)).toLoadRect X, arg15.view.readAt (Elt Ideal) (Rect.unit (s := S32x224x128) (k0_off37 k) S1x8x128.size (k0_off37_inb k)).toLoadRect X, arg15.view.readAt (Elt Ideal) (Rect.unit (s := S32x224x128) (k0_off38 k) S1x8x128.size (k0_off38_inb k)).toLoadRect X].get j (ix3 0 (x 0) (x 1))
      = arg15.view.read (Elt Ideal) X (ix3 j ⟨(8 * k.val + (x 0).val) % 224, Nat.mod_lt _ (by decide)⟩ (x 1)) := by
  rintro ⟨j, hj⟩
  interval_cases j
  · show arg15.view.readAt (Elt Ideal) (Rect.unit (s := S32x224x128) (k0_off7 k) S1x8x128.size (k0_off7_inb k)).toLoadRect X _ = _
    exact load_apply arg15 X k _ 0 (by decide) _ (off7_eq k) x
  · show arg15.view.readAt (Elt Ideal) (Rect.unit (s := S32x224x128) (k0_off8 k) S1x8x128.size (k0_off8_inb k)).toLoadRect X _ = _
    exact load_apply arg15 X k _ 1 (by decide) _ (off8_eq k) x
  · show arg15.view.readAt (Elt Ideal) (Rect.unit (s := S32x224x128) (k0_off9 k) S1x8x128.size (k0_off9_inb k)).toLoadRect X _ = _
    exact load_apply arg15 X k _ 2 (by decide) _ (off9_eq k) x
  · show arg15.view.readAt (Elt Ideal) (Rect.unit (s := S32x224x128) (k0_off10 k) S1x8x128.size (k0_off10_inb k)).toLoadRect X _ = _
    exact load_apply arg15 X k _ 3 (by decide) _ (off10_eq k) x
  · show arg15.view.readAt (Elt Ideal) (Rect.unit (s := S32x224x128) (k0_off11 k) S1x8x128.size (k0_off11_inb k)).toLoadRect X _ = _
    exact load_apply arg15 X k _ 4 (by decide) _ (off11_eq k) x
  · show arg15.view.readAt (Elt Ideal) (Rect.unit (s := S32x224x128) (k0_off12 k) S1x8x128.size (k0_off12_inb k)).toLoadRect X _ = _
    exact load_apply arg15 X k _ 5 (by decide) _ (off12_eq k) x
  · show arg15.view.readAt (Elt Ideal) (Rect.unit (s := S32x224x128) (k0_off13 k) S1x8x128.size (k0_off13_inb k)).toLoadRect X _ = _
    exact load_apply arg15 X k _ 6 (by decide) _ (off13_eq k) x
  · show arg15.view.readAt (Elt Ideal) (Rect.unit (s := S32x224x128) (k0_off14 k) S1x8x128.size (k0_off14_inb k)).toLoadRect X _ = _
    exact load_apply arg15 X k _ 7 (by decide) _ (off14_eq k) x
  · show arg15.view.readAt (Elt Ideal) (Rect.unit (s := S32x224x128) (k0_off15 k) S1x8x128.size (k0_off15_inb k)).toLoadRect X _ = _
    exact load_apply arg15 X k _ 8 (by decide) _ (off15_eq k) x
  · show arg15.view.readAt (Elt Ideal) (Rect.unit (s := S32x224x128) (k0_off16 k) S1x8x128.size (k0_off16_inb k)).toLoadRect X _ = _
    exact load_apply arg15 X k _ 9 (by decide) _ (off16_eq k) x
  · show arg15.view.readAt (Elt Ideal) (Rect.unit (s := S32x224x128) (k0_off17 k) S1x8x128.size (k0_off17_inb k)).toLoadRect X _ = _
    exact load_apply arg15 X k _ 10 (by decide) _ (off17_eq k) x
  · show arg15.view.readAt (Elt Ideal) (Rect.unit (s := S32x224x128) (k0_off18 k) S1x8x128.size (k0_off18_inb k)).toLoadRect X _ = _
    exact load_apply arg15 X k _ 11 (by decide) _ (off18_eq k) x
  · show arg15.view.readAt (Elt Ideal) (Rect.unit (s := S32x224x128) (k0_off19 k) S1x8x128.size (k0_off19_inb k)).toLoadRect X _ = _
    exact load_apply arg15 X k _ 12 (by decide) _ (off19_eq k) x
  · show arg15.view.readAt (Elt Ideal) (Rect.unit (s := S32x224x128) (k0_off20 k) S1x8x128.size (k0_off20_inb k)).toLoadRect X _ = _
    exact load_apply arg15 X k _ 13 (by decide) _ (off20_eq k) x
  · show arg15.view.readAt (Elt Ideal) (Rect.unit (s := S32x224x128) (k0_off21 k) S1x8x128.size (k0_off21_inb k)).toLoadRect X _ = _
    exact load_apply arg15 X k _ 14 (by decide) _ (off21_eq k) x
  · show arg15.view.readAt (Elt Ideal) (Rect.unit (s := S32x224x128) (k0_off22 k) S1x8x128.size (k0_off22_inb k)).toLoadRect X _ = _
    exact load_apply arg15 X k _ 15 (by decide) _ (off22_eq k) x
  · show arg15.view.readAt (Elt Ideal) (Rect.unit (s := S32x224x128) (k0_off23 k) S1x8x128.size (k0_off23_inb k)).toLoadRect X _ = _
    exact load_apply arg15 X k _ 16 (by decide) _ (off23_eq k) x
  · show arg15.view.readAt (Elt Ideal) (Rect.unit (s := S32x224x128) (k0_off24 k) S1x8x128.size (k0_off24_inb k)).toLoadRect X _ = _
    exact load_apply arg15 X k _ 17 (by decide) _ (off24_eq k) x
  · show arg15.view.readAt (Elt Ideal) (Rect.unit (s := S32x224x128) (k0_off25 k) S1x8x128.size (k0_off25_inb k)).toLoadRect X _ = _
    exact load_apply arg15 X k _ 18 (by decide) _ (off25_eq k) x
  · show arg15.view.readAt (Elt Ideal) (Rect.unit (s := S32x224x128) (k0_off26 k) S1x8x128.size (k0_off26_inb k)).toLoadRect X _ = _
    exact load_apply arg15 X k _ 19 (by decide) _ (off26_eq k) x
  · show arg15.view.readAt (Elt Ideal) (Rect.unit (s := S32x224x128) (k0_off27 k) S1x8x128.size (k0_off27_inb k)).toLoadRect X _ = _
    exact load_apply arg15 X k _ 20 (by decide) _ (off27_eq k) x
  · show arg15.view.readAt (Elt Ideal) (Rect.unit (s := S32x224x128) (k0_off28 k) S1x8x128.size (k0_off28_inb k)).toLoadRect X _ = _
    exact load_apply arg15 X k _ 21 (by decide) _ (off28_eq k) x
  · show arg15.view.readAt (Elt Ideal) (Rect.unit (s := S32x224x128) (k0_off29 k) S1x8x128.size (k0_off29_inb k)).toLoadRect X _ = _
    exact load_apply arg15 X k _ 22 (by decide) _ (off29_eq k) x
  · show arg15.view.readAt (Elt Ideal) (Rect.unit (s := S32x224x128) (k0_off30 k) S1x8x128.size (k0_off30_inb k)).toLoadRect X _ = _
    exact load_apply arg15 X k _ 23 (by decide) _ (off30_eq k) x
  · show arg15.view.readAt (Elt Ideal) (Rect.unit (s := S32x224x128) (k0_off31 k) S1x8x128.size (k0_off31_inb k)).toLoadRect X _ = _
    exact load_apply arg15 X k _ 24 (by decide) _ (off31_eq k) x
  · show arg15.view.readAt (Elt Ideal) (Rect.unit (s := S32x224x128) (k0_off32 k) S1x8x128.size (k0_off32_inb k)).toLoadRect X _ = _
    exact load_apply arg15 X k _ 25 (by decide) _ (off32_eq k) x
  · show arg15.view.readAt (Elt Ideal) (Rect.unit (s := S32x224x128) (k0_off33 k) S1x8x128.size (k0_off33_inb k)).toLoadRect X _ = _
    exact load_apply arg15 X k _ 26 (by decide) _ (off33_eq k) x
  · show arg15.view.readAt (Elt Ideal) (Rect.unit (s := S32x224x128) (k0_off34 k) S1x8x128.size (k0_off34_inb k)).toLoadRect X _ = _
    exact load_apply arg15 X k _ 27 (by decide) _ (off34_eq k) x
  · show arg15.view.readAt (Elt Ideal) (Rect.unit (s := S32x224x128) (k0_off35 k) S1x8x128.size (k0_off35_inb k)).toLoadRect X _ = _
    exact load_apply arg15 X k _ 28 (by decide) _ (off35_eq k) x
  · show arg15.view.readAt (Elt Ideal) (Rect.unit (s := S32x224x128) (k0_off36 k) S1x8x128.size (k0_off36_inb k)).toLoadRect X _ = _
    exact load_apply arg15 X k _ 29 (by decide) _ (off36_eq k) x
  · show arg15.view.readAt (Elt Ideal) (Rect.unit (s := S32x224x128) (k0_off37 k) S1x8x128.size (k0_off37_inb k)).toLoadRect X _ = _
    exact load_apply arg15 X k _ 30 (by decide) _ (off37_eq k) x
  · show arg15.view.readAt (Elt Ideal) (Rect.unit (s := S32x224x128) (k0_off38 k) S1x8x128.size (k0_off38_inb k)).toLoadRect X _ = _
    exact load_apply arg15 X k _ 31 (by decide) _ (off38_eq k) x

/-- The 32 blocks a trip loads are, at an entry, the 32 slabs at that trip's row and lane. -/
theorem bf_loads (arg15 : Memref sig .tc .vmem S32x224x128 .f32) (X : BufTy.Contents (Elt Ideal) arg15.view.ty) (k : Fin k0_t3_loop.trips) (x : S8x128.Idx) (p : ℕ) :
    bf32 (seqW (arg15.view.readAt (Elt Ideal) (Rect.unit (s := S32x224x128) (k0_off7 k) S1x8x128.size (k0_off7_inb k)).toLoadRect X)
      (arg15.view.readAt (Elt Ideal) (Rect.unit (s := S32x224x128) (k0_off8 k) S1x8x128.size (k0_off8_inb k)).toLoadRect X)
      (arg15.view.readAt (Elt Ideal) (Rect.unit (s := S32x224x128) (k0_off9 k) S1x8x128.size (k0_off9_inb k)).toLoadRect X)
      (arg15.view.readAt (Elt Ideal) (Rect.unit (s := S32x224x128) (k0_off10 k) S1x8x128.size (k0_off10_inb k)).toLoadRect X)
      (arg15.view.readAt (Elt Ideal) (Rect.unit (s := S32x224x128) (k0_off11 k) S1x8x128.size (k0_off11_inb k)).toLoadRect X)
      (arg15.view.readAt (Elt Ideal) (Rect.unit (s := S32x224x128) (k0_off12 k) S1x8x128.size (k0_off12_inb k)).toLoadRect X)
      (arg15.view.readAt (Elt Ideal) (Rect.unit (s := S32x224x128) (k0_off13 k) S1x8x128.size (k0_off13_inb k)).toLoadRect X)
      (arg15.view.readAt (Elt Ideal) (Rect.unit (s := S32x224x128) (k0_off14 k) S1x8x128.size (k0_off14_inb k)).toLoadRect X)
      (arg15.view.readAt (Elt Ideal) (Rect.unit (s := S32x224x128) (k0_off15 k) S1x8x128.size (k0_off15_inb k)).toLoadRect X)
      (arg15.view.readAt (Elt Ideal) (Rect.unit (s := S32x224x128) (k0_off16 k) S1x8x128.size (k0_off16_inb k)).toLoadRect X)
      (arg15.view.readAt (Elt Ideal) (Rect.unit (s := S32x224x128) (k0_off17 k) S1x8x128.size (k0_off17_inb k)).toLoadRect X)
      (arg15.view.readAt (Elt Ideal) (Rect.unit (s := S32x224x128) (k0_off18 k) S1x8x128.size (k0_off18_inb k)).toLoadRect X)
      (arg15.view.readAt (Elt Ideal) (Rect.unit (s := S32x224x128) (k0_off19 k) S1x8x128.size (k0_off19_inb k)).toLoadRect X)
      (arg15.view.readAt (Elt Ideal) (Rect.unit (s := S32x224x128) (k0_off20 k) S1x8x128.size (k0_off20_inb k)).toLoadRect X)
      (arg15.view.readAt (Elt Ideal) (Rect.unit (s := S32x224x128) (k0_off21 k) S1x8x128.size (k0_off21_inb k)).toLoadRect X)
      (arg15.view.readAt (Elt Ideal) (Rect.unit (s := S32x224x128) (k0_off22 k) S1x8x128.size (k0_off22_inb k)).toLoadRect X)
      (arg15.view.readAt (Elt Ideal) (Rect.unit (s := S32x224x128) (k0_off23 k) S1x8x128.size (k0_off23_inb k)).toLoadRect X)
      (arg15.view.readAt (Elt Ideal) (Rect.unit (s := S32x224x128) (k0_off24 k) S1x8x128.size (k0_off24_inb k)).toLoadRect X)
      (arg15.view.readAt (Elt Ideal) (Rect.unit (s := S32x224x128) (k0_off25 k) S1x8x128.size (k0_off25_inb k)).toLoadRect X)
      (arg15.view.readAt (Elt Ideal) (Rect.unit (s := S32x224x128) (k0_off26 k) S1x8x128.size (k0_off26_inb k)).toLoadRect X)
      (arg15.view.readAt (Elt Ideal) (Rect.unit (s := S32x224x128) (k0_off27 k) S1x8x128.size (k0_off27_inb k)).toLoadRect X)
      (arg15.view.readAt (Elt Ideal) (Rect.unit (s := S32x224x128) (k0_off28 k) S1x8x128.size (k0_off28_inb k)).toLoadRect X)
      (arg15.view.readAt (Elt Ideal) (Rect.unit (s := S32x224x128) (k0_off29 k) S1x8x128.size (k0_off29_inb k)).toLoadRect X)
      (arg15.view.readAt (Elt Ideal) (Rect.unit (s := S32x224x128) (k0_off30 k) S1x8x128.size (k0_off30_inb k)).toLoadRect X)
      (arg15.view.readAt (Elt Ideal) (Rect.unit (s := S32x224x128) (k0_off31 k) S1x8x128.size (k0_off31_inb k)).toLoadRect X)
      (arg15.view.readAt (Elt Ideal) (Rect.unit (s := S32x224x128) (k0_off32 k) S1x8x128.size (k0_off32_inb k)).toLoadRect X)
      (arg15.view.readAt (Elt Ideal) (Rect.unit (s := S32x224x128) (k0_off33 k) S1x8x128.size (k0_off33_inb k)).toLoadRect X)
      (arg15.view.readAt (Elt Ideal) (Rect.unit (s := S32x224x128) (k0_off34 k) S1x8x128.size (k0_off34_inb k)).toLoadRect X)
      (arg15.view.readAt (Elt Ideal) (Rect.unit (s := S32x224x128) (k0_off35 k) S1x8x128.size (k0_off35_inb k)).toLoadRect X)
      (arg15.view.readAt (Elt Ideal) (Rect.unit (s := S32x224x128) (k0_off36 k) S1x8x128.size (k0_off36_inb k)).toLoadRect X)
      (arg15.view.readAt (Elt Ideal) (Rect.unit (s := S32x224x128) (k0_off37 k) S1x8x128.size (k0_off37_inb k)).toLoadRect X)
      (arg15.view.readAt (Elt Ideal) (Rect.unit (s := S32x224x128) (k0_off38 k) S1x8x128.size (k0_off38_inb k)).toLoadRect X) x) p = bfZ (arg15.view.read (Elt Ideal) X) (8 * k.val + (x 0).val) (x 1) p := by
  unfold bfZ
  congr 1
  funext m
  exact loads_get arg15 X k x ⟨m % 32, Nat.mod_lt _ (by decide)⟩

theorem notMem (y : S7616x128.Idx) (k : Fin k0_t3_loop.trips) (p : ℕ) (hp : p < 32) (off : Fin 2 → ℕ) (h : off = ![8 * k.val % 112 * 68 + 2 * p + 8 * k.val / 112, 0])
    (hc : (y 0).val % 68 < 64) (hlt : ((y 0).val % 68 % 2 * 112 + (y 0).val / 68) / 8 < k.val) (inb) :
    y ∉ (⟨⟨off, S8x128.size, ![68, 1], inb⟩, spos_68_1⟩ : Rect S7616x128).set := by
  subst h
  have hk : k.val < 28 := Nat.lt_of_lt_of_le k.isLt k0_t3_abs.2.1
  rw [show ∀ r : Rect S7616x128, y ∈ r.set ↔ ∀ a, ∃ j < r.size a, (y a : ℕ) = r.off a + r.stride a * j from fun r => LoadRect.mem_set r.toLoadRect]
  intro hy
  obtain ⟨j, hj, he⟩ := hy 0
  have hj' : j < 8 := hj
  have he' : (y 0).val = 8 * k.val % 112 * 68 + 2 * p + 8 * k.val / 112 + 68 * j := he
  have h1 : (y 0).val / 68 = 8 * k.val % 112 + j := by omega
  have h2 : (y 0).val % 68 = 2 * p + 8 * k.val / 112 := by omega
  omega

theorem memPiece (y : S7616x128.Idx) (k : Fin k0_t3_loop.trips) (p : ℕ) {off : Fin 2 → ℕ} (h : off = ![8 * k.val % 112 * 68 + 2 * p + 8 * k.val / 112, 0])
    (hc : (y 0).val % 68 < 64) (h1 : ((y 0).val % 68 % 2 * 112 + (y 0).val / 68) / 8 < k.val + 1)
    (hlt : ¬ ((y 0).val % 68 % 2 * 112 + (y 0).val / 68) / 8 < k.val) (hq : (y 0).val % 68 / 2 = p) (inb) :
    y ∈ (⟨⟨off, S8x128.size, ![68, 1], inb⟩, spos_68_1⟩ : Rect S7616x128).set := by
  subst h
  have hk : k.val < 28 := Nat.lt_of_lt_of_le k.isLt k0_t3_abs.2.1
  have hy0 : (y 0).val < 7616 := (y 0).isLt
  have hy1 : (y 1).val < 128 := (y 1).isLt
  rw [show ∀ r : Rect S7616x128, y ∈ r.set ↔ ∀ a, ∃ j < r.size a, (y a : ℕ) = r.off a + r.stride a * j from fun r => LoadRect.mem_set r.toLoadRect]
  intro a
  match a with
  | ⟨0, _⟩ =>
    have h3 : (y 0).val % 68 % 2 = 8 * k.val / 112 := by omega
    have ha : (y 0).val / 68 < 112 := by omega
    generalize hA : (y 0).val / 68 = A at *
    generalize hB : (y 0).val % 68 % 2 = B at *
    refine ⟨A - 8 * k.val % 112, ?_, ?_⟩
    · show A - 8 * k.val % 112 < 8
      omega
    · show (y 0).val = 8 * k.val % 112 * 68 + 2 * p + 8 * k.val / 112 + 68 * (A - 8 * k.val % 112)
      omega
  | ⟨1, _⟩ => exact ⟨(y 1).val, hy1, by show (y 1).val = 0 + 1 * (y 1).val; omega⟩

theorem piece (arg15 : Memref sig .tc .vmem S32x224x128 .f32) (X : BufTy.Contents (Elt Ideal) arg15.view.ty) (k : Fin k0_t3_loop.trips) (p : ℕ) (hp : p < 32) (Q : Vec Ideal S8x128 .f32)
    (hQ : ∀ x : S8x128.Idx, Q x = bfZ (arg15.view.read (Elt Ideal) X) (8 * k.val + (x 0).val) (x 1) p)
    (off : Fin 2 → ℕ) (h : off = ![8 * k.val % 112 * 68 + 2 * p + 8 * k.val / 112, 0]) (inb) (x : S8x128.Idx) :
    Q x = bfT (arg15.view.read (Elt Ideal) X) ((⟨⟨off, S8x128.size, ![68, 1], inb⟩, spos_68_1⟩ : Rect S7616x128).emb x) := by
  subst h
  have hk : k.val < 28 := Nat.lt_of_lt_of_le k.isLt k0_t3_abs.2.1
  have hx0 : (x 0).val < 8 := (x 0).isLt
  have e0 : (((⟨⟨![8 * k.val % 112 * 68 + 2 * p + 8 * k.val / 112, 0], S8x128.size, ![68, 1], inb⟩, spos_68_1⟩ : Rect S7616x128).emb x) 0).val
      = 8 * k.val % 112 * 68 + 2 * p + 8 * k.val / 112 + 68 * (x 0).val := rfl
  have e1 : (((⟨⟨![8 * k.val % 112 * 68 + 2 * p + 8 * k.val / 112, 0], S8x128.size, ![68, 1], inb⟩, spos_68_1⟩ : Rect S7616x128).emb x) 1) = x 1 :=
    Fin.ext (by show 0 + 1 * (x 1).val = _; omega)
  have hb : 8 * k.val / 112 ≤ 1 := by omega
  generalize hA : 8 * k.val % 112 = A at *
  generalize hB : 8 * k.val / 112 = b at *
  have h1 : (A * 68 + 2 * p + b + 68 * (x 0).val) / 68 = A + (x 0).val := by omega
  have h2 : (A * 68 + 2 * p + b + 68 * (x 0).val) % 68 = 2 * p + b := by omega
  have h3 : (2 * p + b) % 2 * 112 + (A + (x 0).val) = 8 * k.val + (x 0).val := by omega
  have h4 : (2 * p + b) / 2 = p := by omega
  rw [hQ, bfT, e0, e1, h1, h2, h3, h4]

theorem bfT_step (arg15 : Memref sig .tc .vmem S32x224x128 .f32) (arg16 : Memref sig .tc .vmem S7616x128 .f32) (X : BufTy.Contents (Elt Ideal) arg15.view.ty)
    (k : Fin k0_t3_loop.trips) (f : BufTy.Contents (Elt Ideal) arg16.view.ty)
    (hf : ∀ y : S7616x128.Idx, (y 0).val % 68 < 64 → ((y 0).val % 68 % 2 * 112 + (y 0).val / 68) / 8 < k.val → arg16.view.read (Elt Ideal) f y = bfT (arg15.view.read (Elt Ideal) X) y)
    (P0 P1 P2 P3 P4 P5 P6 P7 P8 P9 P10 P11 P12 P13 P14 P15 P16 P17 P18 P19 P20 P21 P22 P23 P24 P25 P26 P27 P28 P29 P30 P31 : Vec Ideal S8x128 .f32)
    (hP0 : ∀ x : S8x128.Idx, P0 x = bfZ (arg15.view.read (Elt Ideal) X) (8 * k.val + (x 0).val) (x 1) 0)
    (hP1 : ∀ x : S8x128.Idx, P1 x = bfZ (arg15.view.read (Elt Ideal) X) (8 * k.val + (x 0).val) (x 1) 1)
    (hP2 : ∀ x : S8x128.Idx, P2 x = bfZ (arg15.view.read (Elt Ideal) X) (8 * k.val + (x 0).val) (x 1) 2)
    (hP3 : ∀ x : S8x128.Idx, P3 x = bfZ (arg15.view.read (Elt Ideal) X) (8 * k.val + (x 0).val) (x 1) 3)
    (hP4 : ∀ x : S8x128.Idx, P4 x = bfZ (arg15.view.read (Elt Ideal) X) (8 * k.val + (x 0).val) (x 1) 4)
    (hP5 : ∀ x : S8x128.Idx, P5 x = bfZ (arg15.view.read (Elt Ideal) X) (8 * k.val + (x 0).val) (x 1) 5)
    (hP6 : ∀ x : S8x128.Idx, P6 x = bfZ (arg15.view.read (Elt Ideal) X) (8 * k.val + (x 0).val) (x 1) 6)
    (hP7 : ∀ x : S8x128.Idx, P7 x = bfZ (arg15.view.read (Elt Ideal) X) (8 * k.val + (x 0).val) (x 1) 7)
    (hP8 : ∀ x : S8x128.Idx, P8 x = bfZ (arg15.view.read (Elt Ideal) X) (8 * k.val + (x 0).val) (x 1) 8)
    (hP9 : ∀ x : S8x128.Idx, P9 x = bfZ (arg15.view.read (Elt Ideal) X) (8 * k.val + (x 0).val) (x 1) 9)
    (hP10 : ∀ x : S8x128.Idx, P10 x = bfZ (arg15.view.read (Elt Ideal) X) (8 * k.val + (x 0).val) (x 1) 10)
    (hP11 : ∀ x : S8x128.Idx, P11 x = bfZ (arg15.view.read (Elt Ideal) X) (8 * k.val + (x 0).val) (x 1) 11)
    (hP12 : ∀ x : S8x128.Idx, P12 x = bfZ (arg15.view.read (Elt Ideal) X) (8 * k.val + (x 0).val) (x 1) 12)
    (hP13 : ∀ x : S8x128.Idx, P13 x = bfZ (arg15.view.read (Elt Ideal) X) (8 * k.val + (x 0).val) (x 1) 13)
    (hP14 : ∀ x : S8x128.Idx, P14 x = bfZ (arg15.view.read (Elt Ideal) X) (8 * k.val + (x 0).val) (x 1) 14)
    (hP15 : ∀ x : S8x128.Idx, P15 x = bfZ (arg15.view.read (Elt Ideal) X) (8 * k.val + (x 0).val) (x 1) 15)
    (hP16 : ∀ x : S8x128.Idx, P16 x = bfZ (arg15.view.read (Elt Ideal) X) (8 * k.val + (x 0).val) (x 1) 16)
    (hP17 : ∀ x : S8x128.Idx, P17 x = bfZ (arg15.view.read (Elt Ideal) X) (8 * k.val + (x 0).val) (x 1) 17)
    (hP18 : ∀ x : S8x128.Idx, P18 x = bfZ (arg15.view.read (Elt Ideal) X) (8 * k.val + (x 0).val) (x 1) 18)
    (hP19 : ∀ x : S8x128.Idx, P19 x = bfZ (arg15.view.read (Elt Ideal) X) (8 * k.val + (x 0).val) (x 1) 19)
    (hP20 : ∀ x : S8x128.Idx, P20 x = bfZ (arg15.view.read (Elt Ideal) X) (8 * k.val + (x 0).val) (x 1) 20)
    (hP21 : ∀ x : S8x128.Idx, P21 x = bfZ (arg15.view.read (Elt Ideal) X) (8 * k.val + (x 0).val) (x 1) 21)
    (hP22 : ∀ x : S8x128.Idx, P22 x = bfZ (arg15.view.read (Elt Ideal) X) (8 * k.val + (x 0).val) (x 1) 22)
    (hP23 : ∀ x : S8x128.Idx, P23 x = bfZ (arg15.view.read (Elt Ideal) X) (8 * k.val + (x 0).val) (x 1) 23)
    (hP24 : ∀ x : S8x128.Idx, P24 x = bfZ (arg15.view.read (Elt Ideal) X) (8 * k.val + (x 0).val) (x 1) 24)
    (hP25 : ∀ x : S8x128.Idx, P25 x = bfZ (arg15.view.read (Elt Ideal) X) (8 * k.val + (x 0).val) (x 1) 25)
    (hP26 : ∀ x : S8x128.Idx, P26 x = bfZ (arg15.view.read (Elt Ideal) X) (8 * k.val + (x 0).val) (x 1) 26)
    (hP27 : ∀ x : S8x128.Idx, P27 x = bfZ (arg15.view.read (Elt Ideal) X) (8 * k.val + (x 0).val) (x 1) 27)
    (hP28 : ∀ x : S8x128.Idx, P28 x = bfZ (arg15.view.read (Elt Ideal) X) (8 * k.val + (x 0).val) (x 1) 28)
    (hP29 : ∀ x : S8x128.Idx, P29 x = bfZ (arg15.view.read (Elt Ideal) X) (8 * k.val + (x 0).val) (x 1) 29)
    (hP30 : ∀ x : S8x128.Idx, P30 x = bfZ (arg15.view.read (Elt Ideal) X) (8 * k.val + (x 0).val) (x 1) 30)
    (hP31 : ∀ x : S8x128.Idx, P31 x = bfZ (arg15.view.read (Elt Ideal) X) (8 * k.val + (x 0).val) (x 1) 31)
    (y : S7616x128.Idx) (hc : (y 0).val % 68 < 64) (h1 : ((y 0).val % 68 % 2 * 112 + (y 0).val / 68) / 8 < k.val + 1) :
    arg16.view.read (Elt Ideal) (arg16.view.writes (Elt Ideal) f
      [⟨(⟨⟨k0_off39 k 62#32, S8x128.size, ![68, 1], (k0_off39_inb k 31)⟩, spos_68_1⟩ : Rect S7616x128), P31⟩,
       ⟨(⟨⟨k0_off39 k 60#32, S8x128.size, ![68, 1], (k0_off39_inb k 30)⟩, spos_68_1⟩ : Rect S7616x128), P30⟩,
       ⟨(⟨⟨k0_off39 k 58#32, S8x128.size, ![68, 1], (k0_off39_inb k 29)⟩, spos_68_1⟩ : Rect S7616x128), P29⟩,
       ⟨(⟨⟨k0_off39 k 56#32, S8x128.size, ![68, 1], (k0_off39_inb k 28)⟩, spos_68_1⟩ : Rect S7616x128), P28⟩,
       ⟨(⟨⟨k0_off39 k 54#32, S8x128.size, ![68, 1], (k0_off39_inb k 27)⟩, spos_68_1⟩ : Rect S7616x128), P27⟩,
       ⟨(⟨⟨k0_off39 k 52#32, S8x128.size, ![68, 1], (k0_off39_inb k 26)⟩, spos_68_1⟩ : Rect S7616x128), P26⟩,
       ⟨(⟨⟨k0_off39 k 50#32, S8x128.size, ![68, 1], (k0_off39_inb k 25)⟩, spos_68_1⟩ : Rect S7616x128), P25⟩,
       ⟨(⟨⟨k0_off39 k 48#32, S8x128.size, ![68, 1], (k0_off39_inb k 24)⟩, spos_68_1⟩ : Rect S7616x128), P24⟩,
       ⟨(⟨⟨k0_off39 k 46#32, S8x128.size, ![68, 1], (k0_off39_inb k 23)⟩, spos_68_1⟩ : Rect S7616x128), P23⟩,
       ⟨(⟨⟨k0_off39 k 44#32, S8x128.size, ![68, 1], (k0_off39_inb k 22)⟩, spos_68_1⟩ : Rect S7616x128), P22⟩,
       ⟨(⟨⟨k0_off39 k 42#32, S8x128.size, ![68, 1], (k0_off39_inb k 21)⟩, spos_68_1⟩ : Rect S7616x128), P21⟩,
       ⟨(⟨⟨k0_off39 k 40#32, S8x128.size, ![68, 1], (k0_off39_inb k 20)⟩, spos_68_1⟩ : Rect S7616x128), P20⟩,
       ⟨(⟨⟨k0_off39 k 38#32, S8x128.size, ![68, 1], (k0_off39_inb k 19)⟩, spos_68_1⟩ : Rect S7616x128), P19⟩,
       ⟨(⟨⟨k0_off39 k 36#32, S8x128.size, ![68, 1], (k0_off39_inb k 18)⟩, spos_68_1⟩ : Rect S7616x128), P18⟩,
       ⟨(⟨⟨k0_off39 k 34#32, S8x128.size, ![68, 1], (k0_off39_inb k 17)⟩, spos_68_1⟩ : Rect S7616x128), P17⟩,
       ⟨(⟨⟨k0_off39 k 32#32, S8x128.size, ![68, 1], (k0_off39_inb k 16)⟩, spos_68_1⟩ : Rect S7616x128), P16⟩,
       ⟨(⟨⟨k0_off39 k 30#32, S8x128.size, ![68, 1], (k0_off39_inb k 15)⟩, spos_68_1⟩ : Rect S7616x128), P15⟩,
       ⟨(⟨⟨k0_off39 k 28#32, S8x128.size, ![68, 1], (k0_off39_inb k 14)⟩, spos_68_1⟩ : Rect S7616x128), P14⟩,
       ⟨(⟨⟨k0_off39 k 26#32, S8x128.size, ![68, 1], (k0_off39_inb k 13)⟩, spos_68_1⟩ : Rect S7616x128), P13⟩,
       ⟨(⟨⟨k0_off39 k 24#32, S8x128.size, ![68, 1], (k0_off39_inb k 12)⟩, spos_68_1⟩ : Rect S7616x128), P12⟩,
       ⟨(⟨⟨k0_off39 k 22#32, S8x128.size, ![68, 1], (k0_off39_inb k 11)⟩, spos_68_1⟩ : Rect S7616x128), P11⟩,
       ⟨(⟨⟨k0_off39 k 20#32, S8x128.size, ![68, 1], (k0_off39_inb k 10)⟩, spos_68_1⟩ : Rect S7616x128), P10⟩,
       ⟨(⟨⟨k0_off39 k 18#32, S8x128.size, ![68, 1], (k0_off39_inb k 9)⟩, spos_68_1⟩ : Rect S7616x128), P9⟩,
       ⟨(⟨⟨k0_off39 k 16#32, S8x128.size, ![68, 1], (k0_off39_inb k 8)⟩, spos_68_1⟩ : Rect S7616x128), P8⟩,
       ⟨(⟨⟨k0_off39 k 14#32, S8x128.size, ![68, 1], (k0_off39_inb k 7)⟩, spos_68_1⟩ : Rect S7616x128), P7⟩,
       ⟨(⟨⟨k0_off39 k 12#32, S8x128.size, ![68, 1], (k0_off39_inb k 6)⟩, spos_68_1⟩ : Rect S7616x128), P6⟩,
       ⟨(⟨⟨k0_off39 k 10#32, S8x128.size, ![68, 1], (k0_off39_inb k 5)⟩, spos_68_1⟩ : Rect S7616x128), P5⟩,
       ⟨(⟨⟨k0_off39 k 8#32, S8x128.size, ![68, 1], (k0_off39_inb k 4)⟩, spos_68_1⟩ : Rect S7616x128), P4⟩,
       ⟨(⟨⟨k0_off39 k 6#32, S8x128.size, ![68, 1], (k0_off39_inb k 3)⟩, spos_68_1⟩ : Rect S7616x128), P3⟩,
       ⟨(⟨⟨k0_off39 k 4#32, S8x128.size, ![68, 1], (k0_off39_inb k 2)⟩, spos_68_1⟩ : Rect S7616x128), P2⟩,
       ⟨(⟨⟨k0_off39 k 2#32, S8x128.size, ![68, 1], (k0_off39_inb k 1)⟩, spos_68_1⟩ : Rect S7616x128), P1⟩,
       ⟨(⟨⟨k0_off39 k 0#32, S8x128.size, ![68, 1], (k0_off39_inb k 0)⟩, spos_68_1⟩ : Rect S7616x128), P0⟩]) y
      = bfT (arg15.view.read (Elt Ideal) X) y := by
  by_cases hlt : ((y 0).val % 68 % 2 * 112 + (y 0).val / 68) / 8 < k.val
  · rw [View.read_writes_apply_of_forall_not_mem, hf y hc hlt]
    intro q hq
    simp only [List.mem_cons, List.not_mem_nil, or_false] at hq
    rcases hq with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    · exact notMem y k 31 (by decide) _ (off39_eq k 31) hc hlt _
    · exact notMem y k 30 (by decide) _ (off39_eq k 30) hc hlt _
    · exact notMem y k 29 (by decide) _ (off39_eq k 29) hc hlt _
    · exact notMem y k 28 (by decide) _ (off39_eq k 28) hc hlt _
    · exact notMem y k 27 (by decide) _ (off39_eq k 27) hc hlt _
    · exact notMem y k 26 (by decide) _ (off39_eq k 26) hc hlt _
    · exact notMem y k 25 (by decide) _ (off39_eq k 25) hc hlt _
    · exact notMem y k 24 (by decide) _ (off39_eq k 24) hc hlt _
    · exact notMem y k 23 (by decide) _ (off39_eq k 23) hc hlt _
    · exact notMem y k 22 (by decide) _ (off39_eq k 22) hc hlt _
    · exact notMem y k 21 (by decide) _ (off39_eq k 21) hc hlt _
    · exact notMem y k 20 (by decide) _ (off39_eq k 20) hc hlt _
    · exact notMem y k 19 (by decide) _ (off39_eq k 19) hc hlt _
    · exact notMem y k 18 (by decide) _ (off39_eq k 18) hc hlt _
    · exact notMem y k 17 (by decide) _ (off39_eq k 17) hc hlt _
    · exact notMem y k 16 (by decide) _ (off39_eq k 16) hc hlt _
    · exact notMem y k 15 (by decide) _ (off39_eq k 15) hc hlt _
    · exact notMem y k 14 (by decide) _ (off39_eq k 14) hc hlt _
    · exact notMem y k 13 (by decide) _ (off39_eq k 13) hc hlt _
    · exact notMem y k 12 (by decide) _ (off39_eq k 12) hc hlt _
    · exact notMem y k 11 (by decide) _ (off39_eq k 11) hc hlt _
    · exact notMem y k 10 (by decide) _ (off39_eq k 10) hc hlt _
    · exact notMem y k 9 (by decide) _ (off39_eq k 9) hc hlt _
    · exact notMem y k 8 (by decide) _ (off39_eq k 8) hc hlt _
    · exact notMem y k 7 (by decide) _ (off39_eq k 7) hc hlt _
    · exact notMem y k 6 (by decide) _ (off39_eq k 6) hc hlt _
    · exact notMem y k 5 (by decide) _ (off39_eq k 5) hc hlt _
    · exact notMem y k 4 (by decide) _ (off39_eq k 4) hc hlt _
    · exact notMem y k 3 (by decide) _ (off39_eq k 3) hc hlt _
    · exact notMem y k 2 (by decide) _ (off39_eq k 2) hc hlt _
    · exact notMem y k 1 (by decide) _ (off39_eq k 1) hc hlt _
    · exact notMem y k 0 (by decide) _ (off39_eq k 0) hc hlt _
  · refine View.read_writes_apply_of_pieces _ f (bfT (arg15.view.read (Elt Ideal) X)) _ ?_ y ?_
    · intro q hq x
      simp only [List.mem_cons, List.not_mem_nil, or_false] at hq
      rcases hq with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
      · exact piece arg15 X k 31 (by decide) P31 hP31 _ (off39_eq k 31) _ x
      · exact piece arg15 X k 30 (by decide) P30 hP30 _ (off39_eq k 30) _ x
      · exact piece arg15 X k 29 (by decide) P29 hP29 _ (off39_eq k 29) _ x
      · exact piece arg15 X k 28 (by decide) P28 hP28 _ (off39_eq k 28) _ x
      · exact piece arg15 X k 27 (by decide) P27 hP27 _ (off39_eq k 27) _ x
      · exact piece arg15 X k 26 (by decide) P26 hP26 _ (off39_eq k 26) _ x
      · exact piece arg15 X k 25 (by decide) P25 hP25 _ (off39_eq k 25) _ x
      · exact piece arg15 X k 24 (by decide) P24 hP24 _ (off39_eq k 24) _ x
      · exact piece arg15 X k 23 (by decide) P23 hP23 _ (off39_eq k 23) _ x
      · exact piece arg15 X k 22 (by decide) P22 hP22 _ (off39_eq k 22) _ x
      · exact piece arg15 X k 21 (by decide) P21 hP21 _ (off39_eq k 21) _ x
      · exact piece arg15 X k 20 (by decide) P20 hP20 _ (off39_eq k 20) _ x
      · exact piece arg15 X k 19 (by decide) P19 hP19 _ (off39_eq k 19) _ x
      · exact piece arg15 X k 18 (by decide) P18 hP18 _ (off39_eq k 18) _ x
      · exact piece arg15 X k 17 (by decide) P17 hP17 _ (off39_eq k 17) _ x
      · exact piece arg15 X k 16 (by decide) P16 hP16 _ (off39_eq k 16) _ x
      · exact piece arg15 X k 15 (by decide) P15 hP15 _ (off39_eq k 15) _ x
      · exact piece arg15 X k 14 (by decide) P14 hP14 _ (off39_eq k 14) _ x
      · exact piece arg15 X k 13 (by decide) P13 hP13 _ (off39_eq k 13) _ x
      · exact piece arg15 X k 12 (by decide) P12 hP12 _ (off39_eq k 12) _ x
      · exact piece arg15 X k 11 (by decide) P11 hP11 _ (off39_eq k 11) _ x
      · exact piece arg15 X k 10 (by decide) P10 hP10 _ (off39_eq k 10) _ x
      · exact piece arg15 X k 9 (by decide) P9 hP9 _ (off39_eq k 9) _ x
      · exact piece arg15 X k 8 (by decide) P8 hP8 _ (off39_eq k 8) _ x
      · exact piece arg15 X k 7 (by decide) P7 hP7 _ (off39_eq k 7) _ x
      · exact piece arg15 X k 6 (by decide) P6 hP6 _ (off39_eq k 6) _ x
      · exact piece arg15 X k 5 (by decide) P5 hP5 _ (off39_eq k 5) _ x
      · exact piece arg15 X k 4 (by decide) P4 hP4 _ (off39_eq k 4) _ x
      · exact piece arg15 X k 3 (by decide) P3 hP3 _ (off39_eq k 3) _ x
      · exact piece arg15 X k 2 (by decide) P2 hP2 _ (off39_eq k 2) _ x
      · exact piece arg15 X k 1 (by decide) P1 hP1 _ (off39_eq k 1) _ x
      · exact piece arg15 X k 0 (by decide) P0 hP0 _ (off39_eq k 0) _ x
    · obtain ⟨j, hj, hj32⟩ : ∃ j, (y 0).val % 68 / 2 = j ∧ j < 32 := ⟨(y 0).val % 68 / 2, rfl, by omega⟩
      interval_cases j
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))))), memPiece y k 0 (off39_eq k 0) hc h1 hlt hj _⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))))), memPiece y k 1 (off39_eq k 1) hc h1 hlt hj _⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))), memPiece y k 2 (off39_eq k 2) hc h1 hlt hj _⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))), memPiece y k 3 (off39_eq k 3) hc h1 hlt hj _⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))), memPiece y k 4 (off39_eq k 4) hc h1 hlt hj _⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))), memPiece y k 5 (off39_eq k 5) hc h1 hlt hj _⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))), memPiece y k 6 (off39_eq k 6) hc h1 hlt hj _⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))), memPiece y k 7 (off39_eq k 7) hc h1 hlt hj _⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), memPiece y k 8 (off39_eq k 8) hc h1 hlt hj _⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), memPiece y k 9 (off39_eq k 9) hc h1 hlt hj _⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), memPiece y k 10 (off39_eq k 10) hc h1 hlt hj _⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), memPiece y k 11 (off39_eq k 11) hc h1 hlt hj _⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), memPiece y k 12 (off39_eq k 12) hc h1 hlt hj _⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), memPiece y k 13 (off39_eq k 13) hc h1 hlt hj _⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), memPiece y k 14 (off39_eq k 14) hc h1 hlt hj _⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), memPiece y k 15 (off39_eq k 15) hc h1 hlt hj _⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), memPiece y k 16 (off39_eq k 16) hc h1 hlt hj _⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), memPiece y k 17 (off39_eq k 17) hc h1 hlt hj _⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), memPiece y k 18 (off39_eq k 18) hc h1 hlt hj _⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), memPiece y k 19 (off39_eq k 19) hc h1 hlt hj _⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), memPiece y k 20 (off39_eq k 20) hc h1 hlt hj _⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), memPiece y k 21 (off39_eq k 21) hc h1 hlt hj _⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), memPiece y k 22 (off39_eq k 22) hc h1 hlt hj _⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), memPiece y k 23 (off39_eq k 23) hc h1 hlt hj _⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), memPiece y k 24 (off39_eq k 24) hc h1 hlt hj _⟩
      · exact ⟨_, List.mem_cons_of_mem _ (List.mem_cons_of_mem _ (List.mem_cons_of_mem _ (List.mem_cons_of_mem _ (List.mem_cons_of_mem _ (List.mem_cons_of_mem _ (List.mem_cons_self)))))), memPiece y k 25 (off39_eq k 25) hc h1 hlt hj _⟩
      · exact ⟨_, List.mem_cons_of_mem _ (List.mem_cons_of_mem _ (List.mem_cons_of_mem _ (List.mem_cons_of_mem _ (List.mem_cons_of_mem _ (List.mem_cons_self))))), memPiece y k 26 (off39_eq k 26) hc h1 hlt hj _⟩
      · exact ⟨_, List.mem_cons_of_mem _ (List.mem_cons_of_mem _ (List.mem_cons_of_mem _ (List.mem_cons_of_mem _ (List.mem_cons_self)))), memPiece y k 27 (off39_eq k 27) hc h1 hlt hj _⟩
      · exact ⟨_, List.mem_cons_of_mem _ (List.mem_cons_of_mem _ (List.mem_cons_of_mem _ (List.mem_cons_self))), memPiece y k 28 (off39_eq k 28) hc h1 hlt hj _⟩
      · exact ⟨_, List.mem_cons_of_mem _ (List.mem_cons_of_mem _ (List.mem_cons_self)), memPiece y k 29 (off39_eq k 29) hc h1 hlt hj _⟩
      · exact ⟨_, List.mem_cons_of_mem _ (List.mem_cons_self), memPiece y k 30 (off39_eq k 30) hc h1 hlt hj _⟩
      · exact ⟨_, List.mem_cons_self, memPiece y k 31 (off39_eq k 31) hc h1 hlt hj _⟩

/-- The running maximum after a trip: the least bound of the one before and of the absolute values of the trip's 32 rows. -/
theorem amax_step (V : ℕ → ℕ → EReal) (a a' b : EReal) (k : ℕ)
    (ha' : a' = (max (max (max (max (max (max (max (max (max (max (max (max (max (max (max (max (max (max (max (max (max (max (max (max (max (max (max (max (max (max (max (max a (absE (V k 0))) (absE (V k 1))) (absE (V k 2))) (absE (V k 3))) (absE (V k 4))) (absE (V k 5))) (absE (V k 6))) (absE (V k 7))) (absE (V k 8))) (absE (V k 9))) (absE (V k 10))) (absE (V k 11))) (absE (V k 12))) (absE (V k 13))) (absE (V k 14))) (absE (V k 15))) (absE (V k 16))) (absE (V k 17))) (absE (V k 18))) (absE (V k 19))) (absE (V k 20))) (absE (V k 21))) (absE (V k 22))) (absE (V k 23))) (absE (V k 24))) (absE (V k 25))) (absE (V k 26))) (absE (V k 27))) (absE (V k 28))) (absE (V k 29))) (absE (V k 30))) (absE (V k 31))))
    (ha : ∀ B, a ≤ B ↔ b ≤ B ∧ ∀ j < k, ∀ p < 32, absE (V j p) ≤ B) (B : EReal) :
    a' ≤ B ↔ b ≤ B ∧ ∀ j < k + 1, ∀ p < 32, absE (V j p) ≤ B := by
  rw [ha']
  simp only [max_le_iff, ha]
  constructor
  · intro h
    refine ⟨by tauto, fun j hj p hp => ?_⟩
    rcases Nat.lt_succ_iff_lt_or_eq.mp hj with hlt | rfl
    · exact (show ∀ j < k, ∀ p < 32, absE (V j p) ≤ B by tauto) j hlt p hp
    · clear ha ha'
      interval_cases p <;> tauto
  · intro h
    have hk := h.2 k (Nat.lt_succ_self k)
    have h0 : b ≤ B ∧ ∀ j < k, ∀ p < 32, absE (V j p) ≤ B := ⟨h.1, fun j hj => h.2 j (Nat.lt_succ_of_lt hj)⟩
    exact ⟨⟨⟨⟨⟨⟨⟨⟨⟨⟨⟨⟨⟨⟨⟨⟨⟨⟨⟨⟨⟨⟨⟨⟨⟨⟨⟨⟨⟨⟨⟨⟨h0, hk 0 (by decide)⟩, hk 1 (by decide)⟩, hk 2 (by decide)⟩, hk 3 (by decide)⟩, hk 4 (by decide)⟩, hk 5 (by decide)⟩, hk 6 (by decide)⟩, hk 7 (by decide)⟩, hk 8 (by decide)⟩, hk 9 (by decide)⟩, hk 10 (by decide)⟩, hk 11 (by decide)⟩, hk 12 (by decide)⟩, hk 13 (by decide)⟩, hk 14 (by decide)⟩, hk 15 (by decide)⟩, hk 16 (by decide)⟩, hk 17 (by decide)⟩, hk 18 (by decide)⟩, hk 19 (by decide)⟩, hk 20 (by decide)⟩, hk 21 (by decide)⟩, hk 22 (by decide)⟩, hk 23 (by decide)⟩, hk 24 (by decide)⟩, hk 25 (by decide)⟩, hk 26 (by decide)⟩, hk 27 (by decide)⟩, hk 28 (by decide)⟩, hk 29 (by decide)⟩, hk 30 (by decide)⟩, hk 31 (by decide)⟩

set_option warn.classDefReducibility false in
/-- Before trip `k` of the loop of butterflies the rows that come from the first `8 k` rows of the product scratch hold what they are to hold,
    and the running maxima are the least bounds of those rows' absolute values. -/
@[sl_loop] def loopT3 (𝒱 : Variants) (c : Dev nD) (bd : Option 𝒱.V) (E : Set ℕ) (i : grid0.Coords) (arg2 : Memref sig .tc .vmem S1x128x6912 .bf16) (harg2 : arg2.IsWhole) (arg3 : Memref sig .tc .vmem S1x128x1152 .bf16) (harg3 : arg3.IsWhole) (arg4 : Memref sig .tc .vmem S1x1152 .f32) (harg4 : arg4.IsWhole) (arg5 : Memref sig .tc .vmem S108x108 .f32) (harg5 : arg5.IsWhole) (arg6 : Memref sig .tc .vmem S6912x1152 .fp8e4m3) (harg6 : arg6.IsWhole) (arg7 : Memref sig .tc .vmem S1x1152 .f32) (harg7 : arg7.IsWhole) (arg8 : Memref sig .tc .vmem S1x128x1152 .bf16) (harg8 : arg8.IsWhole) (arg9 : Memref sig .tc .vmem S1x128x6912 .fp8e4m3) (harg9 : arg9.IsWhole) (arg10 : Memref sig .tc .vmem S3x640 .f32) (harg10 : arg10.IsWhole) (arg11 : Memref sig .tc .vmem S1x128x1152 .fp8e4m3) (harg11 : arg11.IsWhole) (arg12 : Memref sig .tc .vmem S3x640 .f32) (harg12 : arg12.IsWhole) (arg13 : Memref sig .tc .vmem S224x224 .bf16) (harg13 : arg13.IsWhole) (arg14 : Memref sig .tc .vmem S4032x2x128 .bf16) (harg14 : arg14.IsWhole) (arg15 : Memref sig .tc .vmem S32x224x128 .f32) (harg15 : arg15.IsWhole) (arg16 : Memref sig .tc .vmem S7616x128 .f32) (harg16 : arg16.IsWhole) (init : FVec Ideal S8x128 .f32) (X_arg15 : BufTy.Contents (Elt Ideal) arg15.view.ty) :
    LoopInvTy_k0_t3 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 init where
  inv := fun k acc => iprop((arg15.view.loc (c : Thread nD τ) ↦[arg15.view.set]{fullShare} X_arg15) ∗ (∃ f, (arg16.view.loc (c : Thread nD τ) ↦[arg16.view.set]{fullShare} f)
      ∗ ⌜∀ y : S7616x128.Idx, (y 0).val % 68 < 64 → ((y 0).val % 68 % 2 * 112 + (y 0).val / 68) / 8 < k → arg16.view.read (Elt Ideal) f y = bfT (arg15.view.read (Elt Ideal) X_arg15) y⌝)
      ∗ ⌜∀ x : S8x128.Idx, ∀ B : EReal, Iff (acc x ≤ B) (init x ≤ B ∧ ∀ j < k, ∀ p < 32, absE (bfZ (arg15.view.read (Elt Ideal) X_arg15) (8 * j + (x 0).val) (x 1) p) ≤ B)⌝)
  step := fun k acc => by
    have hk : k.val < 28 := Nat.lt_of_lt_of_le k.isLt k0_t3_abs.2.1
    unfold k0_t3_body
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    iintro ⟨HR, ⟨%f, HW, %hf⟩, %hacc⟩
    sl_exec
    sl_step
    isplitl [HR]; · iexact HR
    isplitl [HW]
    · iexists _; isplitl [HW]; · iexact HW
      ipureintro
      exact bfT_step arg15 arg16 X_arg15 k f hf _ _ _ _ _ _ _ _ _ _ _ _ _ _ _ _ _ _ _ _ _ _ _ _ _ _ _ _ _ _ _ _
        (fun x => (row0_apply _ _ _ _ _ _ _ _ _ _ _ _ _ _ _ _ _ _ _ _ _ _ _ _ _ _ _ _ _ _ _ _ x).trans (bf_loads arg15 X_arg15 k x 0))
        (fun x => (row1_apply _ _ _ _ _ _ _ _ _ _ _ _ _ _ _ _ _ _ _ _ _ _ _ _ _ _ _ _ _ _ _ _ x).trans (bf_loads arg15 X_arg15 k x 1))
        (fun x => (row2_apply _ _ _ _ _ _ _ _ _ _ _ _ _ _ _ _ _ _ _ _ _ _ _ _ _ _ _ _ _ _ _ _ x).trans (bf_loads arg15 X_arg15 k x 2))
        (fun x => (row3_apply _ _ _ _ _ _ _ _ _ _ _ _ _ _ _ _ _ _ _ _ _ _ _ _ _ _ _ _ _ _ _ _ x).trans (bf_loads arg15 X_arg15 k x 3))
        (fun x => (row4_apply _ _ _ _ _ _ _ _ _ _ _ _ _ _ _ _ _ _ _ _ _ _ _ _ _ _ _ _ _ _ _ _ x).trans (bf_loads arg15 X_arg15 k x 4))
        (fun x => (row5_apply _ _ _ _ _ _ _ _ _ _ _ _ _ _ _ _ _ _ _ _ _ _ _ _ _ _ _ _ _ _ _ _ x).trans (bf_loads arg15 X_arg15 k x 5))
        (fun x => (row6_apply _ _ _ _ _ _ _ _ _ _ _ _ _ _ _ _ _ _ _ _ _ _ _ _ _ _ _ _ _ _ _ _ x).trans (bf_loads arg15 X_arg15 k x 6))
        (fun x => (row7_apply _ _ _ _ _ _ _ _ _ _ _ _ _ _ _ _ _ _ _ _ _ _ _ _ _ _ _ _ _ _ _ _ x).trans (bf_loads arg15 X_arg15 k x 7))
        (fun x => (row8_apply _ _ _ _ _ _ _ _ _ _ _ _ _ _ _ _ _ _ _ _ _ _ _ _ _ _ _ _ _ _ _ _ x).trans (bf_loads arg15 X_arg15 k x 8))
        (fun x => (row9_apply _ _ _ _ _ _ _ _ _ _ _ _ _ _ _ _ _ _ _ _ _ _ _ _ _ _ _ _ _ _ _ _ x).trans (bf_loads arg15 X_arg15 k x 9))
        (fun x => (row10_apply _ _ _ _ _ _ _ _ _ _ _ _ _ _ _ _ _ _ _ _ _ _ _ _ _ _ _ _ _ _ _ _ x).trans (bf_loads arg15 X_arg15 k x 10))
        (fun x => (row11_apply _ _ _ _ _ _ _ _ _ _ _ _ _ _ _ _ _ _ _ _ _ _ _ _ _ _ _ _ _ _ _ _ x).trans (bf_loads arg15 X_arg15 k x 11))
        (fun x => (row12_apply _ _ _ _ _ _ _ _ _ _ _ _ _ _ _ _ _ _ _ _ _ _ _ _ _ _ _ _ _ _ _ _ x).trans (bf_loads arg15 X_arg15 k x 12))
        (fun x => (row13_apply _ _ _ _ _ _ _ _ _ _ _ _ _ _ _ _ _ _ _ _ _ _ _ _ _ _ _ _ _ _ _ _ x).trans (bf_loads arg15 X_arg15 k x 13))
        (fun x => (row14_apply _ _ _ _ _ _ _ _ _ _ _ _ _ _ _ _ _ _ _ _ _ _ _ _ _ _ _ _ _ _ _ _ x).trans (bf_loads arg15 X_arg15 k x 14))
        (fun x => (row15_apply _ _ _ _ _ _ _ _ _ _ _ _ _ _ _ _ _ _ _ _ _ _ _ _ _ _ _ _ _ _ _ _ x).trans (bf_loads arg15 X_arg15 k x 15))
        (fun x => (row16_apply _ _ _ _ _ _ _ _ _ _ _ _ _ _ _ _ _ _ _ _ _ _ _ _ _ _ _ _ _ _ _ _ x).trans (bf_loads arg15 X_arg15 k x 16))
        (fun x => (row17_apply _ _ _ _ _ _ _ _ _ _ _ _ _ _ _ _ _ _ _ _ _ _ _ _ _ _ _ _ _ _ _ _ x).trans (bf_loads arg15 X_arg15 k x 17))
        (fun x => (row18_apply _ _ _ _ _ _ _ _ _ _ _ _ _ _ _ _ _ _ _ _ _ _ _ _ _ _ _ _ _ _ _ _ x).trans (bf_loads arg15 X_arg15 k x 18))
        (fun x => (row19_apply _ _ _ _ _ _ _ _ _ _ _ _ _ _ _ _ _ _ _ _ _ _ _ _ _ _ _ _ _ _ _ _ x).trans (bf_loads arg15 X_arg15 k x 19))
        (fun x => (row20_apply _ _ _ _ _ _ _ _ _ _ _ _ _ _ _ _ _ _ _ _ _ _ _ _ _ _ _ _ _ _ _ _ x).trans (bf_loads arg15 X_arg15 k x 20))
        (fun x => (row21_apply _ _ _ _ _ _ _ _ _ _ _ _ _ _ _ _ _ _ _ _ _ _ _ _ _ _ _ _ _ _ _ _ x).trans (bf_loads arg15 X_arg15 k x 21))
        (fun x => (row22_apply _ _ _ _ _ _ _ _ _ _ _ _ _ _ _ _ _ _ _ _ _ _ _ _ _ _ _ _ _ _ _ _ x).trans (bf_loads arg15 X_arg15 k x 22))
        (fun x => (row23_apply _ _ _ _ _ _ _ _ _ _ _ _ _ _ _ _ _ _ _ _ _ _ _ _ _ _ _ _ _ _ _ _ x).trans (bf_loads arg15 X_arg15 k x 23))
        (fun x => (row24_apply _ _ _ _ _ _ _ _ _ _ _ _ _ _ _ _ _ _ _ _ _ _ _ _ _ _ _ _ _ _ _ _ x).trans (bf_loads arg15 X_arg15 k x 24))
        (fun x => (row25_apply _ _ _ _ _ _ _ _ _ _ _ _ _ _ _ _ _ _ _ _ _ _ _ _ _ _ _ _ _ _ _ _ x).trans (bf_loads arg15 X_arg15 k x 25))
        (fun x => (row26_apply _ _ _ _ _ _ _ _ _ _ _ _ _ _ _ _ _ _ _ _ _ _ _ _ _ _ _ _ _ _ _ _ x).trans (bf_loads arg15 X_arg15 k x 26))
        (fun x => (row27_apply _ _ _ _ _ _ _ _ _ _ _ _ _ _ _ _ _ _ _ _ _ _ _ _ _ _ _ _ _ _ _ _ x).trans (bf_loads arg15 X_arg15 k x 27))
        (fun x => (row28_apply _ _ _ _ _ _ _ _ _ _ _ _ _ _ _ _ _ _ _ _ _ _ _ _ _ _ _ _ _ _ _ _ x).trans (bf_loads arg15 X_arg15 k x 28))
        (fun x => (row29_apply _ _ _ _ _ _ _ _ _ _ _ _ _ _ _ _ _ _ _ _ _ _ _ _ _ _ _ _ _ _ _ _ x).trans (bf_loads arg15 X_arg15 k x 29))
        (fun x => (row30_apply _ _ _ _ _ _ _ _ _ _ _ _ _ _ _ _ _ _ _ _ _ _ _ _ _ _ _ _ _ _ _ _ x).trans (bf_loads arg15 X_arg15 k x 30))
        (fun x => (row31_apply _ _ _ _ _ _ _ _ _ _ _ _ _ _ _ _ _ _ _ _ _ _ _ _ _ _ _ _ _ _ _ _ x).trans (bf_loads arg15 X_arg15 k x 31))
    ipureintro
    intro x B
    refine amax_step (fun j p => bfZ (arg15.view.read (Elt Ideal) X_arg15) (8 * j + (x 0).val) (x 1) p) _ _ _ k.val ?_ (hacc x) B
    refine (acc_apply acc
            (arg15.view.readAt (Elt Ideal) (Rect.unit (s := S32x224x128) (k0_off7 k) S1x8x128.size (k0_off7_inb k)).toLoadRect X_arg15)
      (arg15.view.readAt (Elt Ideal) (Rect.unit (s := S32x224x128) (k0_off8 k) S1x8x128.size (k0_off8_inb k)).toLoadRect X_arg15)
      (arg15.view.readAt (Elt Ideal) (Rect.unit (s := S32x224x128) (k0_off9 k) S1x8x128.size (k0_off9_inb k)).toLoadRect X_arg15)
      (arg15.view.readAt (Elt Ideal) (Rect.unit (s := S32x224x128) (k0_off10 k) S1x8x128.size (k0_off10_inb k)).toLoadRect X_arg15)
      (arg15.view.readAt (Elt Ideal) (Rect.unit (s := S32x224x128) (k0_off11 k) S1x8x128.size (k0_off11_inb k)).toLoadRect X_arg15)
      (arg15.view.readAt (Elt Ideal) (Rect.unit (s := S32x224x128) (k0_off12 k) S1x8x128.size (k0_off12_inb k)).toLoadRect X_arg15)
      (arg15.view.readAt (Elt Ideal) (Rect.unit (s := S32x224x128) (k0_off13 k) S1x8x128.size (k0_off13_inb k)).toLoadRect X_arg15)
      (arg15.view.readAt (Elt Ideal) (Rect.unit (s := S32x224x128) (k0_off14 k) S1x8x128.size (k0_off14_inb k)).toLoadRect X_arg15)
      (arg15.view.readAt (Elt Ideal) (Rect.unit (s := S32x224x128) (k0_off15 k) S1x8x128.size (k0_off15_inb k)).toLoadRect X_arg15)
      (arg15.view.readAt (Elt Ideal) (Rect.unit (s := S32x224x128) (k0_off16 k) S1x8x128.size (k0_off16_inb k)).toLoadRect X_arg15)
      (arg15.view.readAt (Elt Ideal) (Rect.unit (s := S32x224x128) (k0_off17 k) S1x8x128.size (k0_off17_inb k)).toLoadRect X_arg15)
      (arg15.view.readAt (Elt Ideal) (Rect.unit (s := S32x224x128) (k0_off18 k) S1x8x128.size (k0_off18_inb k)).toLoadRect X_arg15)
      (arg15.view.readAt (Elt Ideal) (Rect.unit (s := S32x224x128) (k0_off19 k) S1x8x128.size (k0_off19_inb k)).toLoadRect X_arg15)
      (arg15.view.readAt (Elt Ideal) (Rect.unit (s := S32x224x128) (k0_off20 k) S1x8x128.size (k0_off20_inb k)).toLoadRect X_arg15)
      (arg15.view.readAt (Elt Ideal) (Rect.unit (s := S32x224x128) (k0_off21 k) S1x8x128.size (k0_off21_inb k)).toLoadRect X_arg15)
      (arg15.view.readAt (Elt Ideal) (Rect.unit (s := S32x224x128) (k0_off22 k) S1x8x128.size (k0_off22_inb k)).toLoadRect X_arg15)
      (arg15.view.readAt (Elt Ideal) (Rect.unit (s := S32x224x128) (k0_off23 k) S1x8x128.size (k0_off23_inb k)).toLoadRect X_arg15)
      (arg15.view.readAt (Elt Ideal) (Rect.unit (s := S32x224x128) (k0_off24 k) S1x8x128.size (k0_off24_inb k)).toLoadRect X_arg15)
      (arg15.view.readAt (Elt Ideal) (Rect.unit (s := S32x224x128) (k0_off25 k) S1x8x128.size (k0_off25_inb k)).toLoadRect X_arg15)
      (arg15.view.readAt (Elt Ideal) (Rect.unit (s := S32x224x128) (k0_off26 k) S1x8x128.size (k0_off26_inb k)).toLoadRect X_arg15)
      (arg15.view.readAt (Elt Ideal) (Rect.unit (s := S32x224x128) (k0_off27 k) S1x8x128.size (k0_off27_inb k)).toLoadRect X_arg15)
      (arg15.view.readAt (Elt Ideal) (Rect.unit (s := S32x224x128) (k0_off28 k) S1x8x128.size (k0_off28_inb k)).toLoadRect X_arg15)
      (arg15.view.readAt (Elt Ideal) (Rect.unit (s := S32x224x128) (k0_off29 k) S1x8x128.size (k0_off29_inb k)).toLoadRect X_arg15)
      (arg15.view.readAt (Elt Ideal) (Rect.unit (s := S32x224x128) (k0_off30 k) S1x8x128.size (k0_off30_inb k)).toLoadRect X_arg15)
      (arg15.view.readAt (Elt Ideal) (Rect.unit (s := S32x224x128) (k0_off31 k) S1x8x128.size (k0_off31_inb k)).toLoadRect X_arg15)
      (arg15.view.readAt (Elt Ideal) (Rect.unit (s := S32x224x128) (k0_off32 k) S1x8x128.size (k0_off32_inb k)).toLoadRect X_arg15)
      (arg15.view.readAt (Elt Ideal) (Rect.unit (s := S32x224x128) (k0_off33 k) S1x8x128.size (k0_off33_inb k)).toLoadRect X_arg15)
      (arg15.view.readAt (Elt Ideal) (Rect.unit (s := S32x224x128) (k0_off34 k) S1x8x128.size (k0_off34_inb k)).toLoadRect X_arg15)
      (arg15.view.readAt (Elt Ideal) (Rect.unit (s := S32x224x128) (k0_off35 k) S1x8x128.size (k0_off35_inb k)).toLoadRect X_arg15)
      (arg15.view.readAt (Elt Ideal) (Rect.unit (s := S32x224x128) (k0_off36 k) S1x8x128.size (k0_off36_inb k)).toLoadRect X_arg15)
      (arg15.view.readAt (Elt Ideal) (Rect.unit (s := S32x224x128) (k0_off37 k) S1x8x128.size (k0_off37_inb k)).toLoadRect X_arg15)
      (arg15.view.readAt (Elt Ideal) (Rect.unit (s := S32x224x128) (k0_off38 k) S1x8x128.size (k0_off38_inb k)).toLoadRect X_arg15) x).trans ?_
    rw [bf_loads arg15 X_arg15 k x 0, bf_loads arg15 X_arg15 k x 1, bf_loads arg15 X_arg15 k x 2, bf_loads arg15 X_arg15 k x 3, bf_loads arg15 X_arg15 k x 4, bf_loads arg15 X_arg15 k x 5, bf_loads arg15 X_arg15 k x 6, bf_loads arg15 X_arg15 k x 7, bf_loads arg15 X_arg15 k x 8, bf_loads arg15 X_arg15 k x 9, bf_loads arg15 X_arg15 k x 10, bf_loads arg15 X_arg15 k x 11, bf_loads arg15 X_arg15 k x 12, bf_loads arg15 X_arg15 k x 13, bf_loads arg15 X_arg15 k x 14, bf_loads arg15 X_arg15 k x 15, bf_loads arg15 X_arg15 k x 16, bf_loads arg15 X_arg15 k x 17, bf_loads arg15 X_arg15 k x 18, bf_loads arg15 X_arg15 k x 19, bf_loads arg15 X_arg15 k x 20, bf_loads arg15 X_arg15 k x 21, bf_loads arg15 X_arg15 k x 22, bf_loads arg15 X_arg15 k x 23, bf_loads arg15 X_arg15 k x 24, bf_loads arg15 X_arg15 k x 25, bf_loads arg15 X_arg15 k x 26, bf_loads arg15 X_arg15 k x 27, bf_loads arg15 X_arg15 k x 28, bf_loads arg15 X_arg15 k x 29, bf_loads arg15 X_arg15 k x 30, bf_loads arg15 X_arg15 k x 31]

end Cert.Proof.Value

end
-- ==== Proof.LoopCode.lean ====
module

public import proofs.«01_k».proof.Proof.Gen.KernelIdeal.Loops
public import Idealize.ShloMosaic.Lib.Pointwise
public import Idealize.ShloMosaic.Lib.Pipeline.Value
public import Idealize.ShloMosaic.Lib.WritesUnit

/-! # The loop that quantises: what the block of codes holds after it -/

@[expose] public section

set_option maxRecDepth 16384
set_option maxHeartbeats 4000000

noncomputable section

namespace Cert.Proof.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The code of entry `z` of the rotated activation, not yet multiplied by the rotation's factor, under the inverse scale `s`. -/
def codeOf (z s : EReal) : EReal :=
  min (Ideal.ofBits .f32 0x43E00000#32) (max (Ideal.ofBits .f32 0xC3E00000#32) (z * (s * Ideal.ofBits .f32 0x3C4511A3#32)))

/-- What the block of codes is to hold: column `n` comes from row `68 (n / 64) + n % 64` of the butterfly scratch. -/
def codeT (Y : Vec Ideal S7616x128 .f32) (s : Vec Ideal S1x128 .f32) : Vec Ideal S1x128x6912 .fp8e4m3 := fun y =>
  codeOf (Y (ix2 ⟨((y 2).val / 64 * 68 + (y 2).val % 64) % 7616, Nat.mod_lt _ (by decide)⟩ (y 1))) (s (ix2 0 (y 1)))

theorem off41_eq : ∀ k : Fin k0_t4_loop.trips, k0_off41 k = ![136 * k.val, 0] := by decide +kernel
theorem off42_eq : ∀ k : Fin k0_t4_loop.trips, k0_off42 k = ![136 * k.val + 68, 0] := by decide +kernel
theorem off43_eq : ∀ k : Fin k0_t4_loop.trips, k0_off43 k = ![0, 0, 128 * k.val] := by decide +kernel

/-- What a trip stores. -/
theorem pay264_apply (s : Vec Ideal S1x128 .f32) (v w : Vec Ideal S64x128 .f32) (y : S1x128x128.Idx) :
    k0_pay264 s v w y = codeOf (if h : (y 2).val < 64 then v (ix2 ⟨(y 2).val, h⟩ (y 1)) else w (ix2 ⟨(y 2).val - 64, by have h2 : (y 2).val < 128 := (y 2).isLt; omega⟩ (y 1))) (s (ix2 0 (y 1))) := by
  idx_vars y
  pointwise [k0_pay264]
  rfl

theorem codeT_step (arg9 : Memref sig .tc .vmem S1x128x6912 .fp8e4m3) (arg16 : Memref sig .tc .vmem S7616x128 .f32)
    (X : BufTy.Contents (Elt Ideal) arg16.view.ty) (s : Vec Ideal S1x128 .f32)
    (k : Fin k0_t4_loop.trips) (hk : k.val < 54) (f : BufTy.Contents (Elt Ideal) arg9.view.ty)
    (hf : ∀ y : S1x128x6912.Idx, (y 2).val < 128 * k.val → arg9.view.read (Elt Ideal) f y = codeT (arg16.view.read (Elt Ideal) X) s y)
    (y : S1x128x6912.Idx) (h1 : (y 2).val < 128 * (k.val + 1)) :
    arg9.view.read (Elt Ideal) (arg9.view.writes (Elt Ideal) f
      [⟨Rect.unit (s := S1x128x6912) (k0_off43 k) S1x128x128.size (k0_off43_inb k),
          k0_pay264 s (arg16.view.readAt (Elt Ideal) (Rect.unit (s := S7616x128) (k0_off41 k) S64x128.size (k0_off41_inb k)).toLoadRect X)
            (arg16.view.readAt (Elt Ideal) (Rect.unit (s := S7616x128) (k0_off42 k) S64x128.size (k0_off42_inb k)).toLoadRect X)⟩]) y
      = codeT (arg16.view.read (Elt Ideal) X) s y := by
  have hy0 : (y 0).val < 1 := (y 0).isLt
  have hy1 : (y 1).val < 128 := (y 1).isLt
  by_cases hlt : (y 2).val < 128 * k.val
  · rw [View.read_writes_apply_of_forall_not_mem, hf y hlt]
    intro p hp
    simp only [List.mem_cons, List.not_mem_nil, or_false] at hp
    rcases hp with rfl
    exact Rect.not_mem_set_of_axis _ y 2 (128 * k.val) 128 (by simp [off43_eq]) rfl rfl (by omega)
  · refine View.read_writes_apply_of_pieces _ f (codeT (arg16.view.read (Elt Ideal) X) s) _ ?_ y ?_
    · intro p hp x
      simp only [List.mem_cons, List.not_mem_nil, or_false] at hp
      rcases hp with rfl
      show k0_pay264 _ _ _ x = _
      have hx2 : (x 2).val < 128 := (x 2).isLt
      rw [pay264_apply, codeT]
      congr 1
      · split
        · next h =>
          rw [View.readAt_apply]
          refine congrArg (arg16.view.read (Elt Ideal) X) (funext fun a => Fin.ext ?_)
          match a with
          | ⟨0, _⟩ => simp [off41_eq, off43_eq]; omega
          | ⟨1, _⟩ => simp [off41_eq, off43_eq]
        · next h =>
          rw [View.readAt_apply]
          refine congrArg (arg16.view.read (Elt Ideal) X) (funext fun a => Fin.ext ?_)
          match a with
          | ⟨0, _⟩ => simp [off42_eq, off43_eq]; omega
          | ⟨1, _⟩ => simp [off42_eq, off43_eq]
      · refine congrArg s (funext fun a => Fin.ext ?_)
        match a with
        | ⟨0, _⟩ => simp [off43_eq]
        | ⟨1, _⟩ => simp [off43_eq]
    · refine ⟨_, List.mem_cons_self, ?_⟩
      rw [Rect.mem_set_unit]
      intro a
      match a with
      | ⟨0, _⟩ => simp [off43_eq]; omega
      | ⟨1, _⟩ => simp [off43_eq]; omega
      | ⟨2, _⟩ => simp [off43_eq]; omega

set_option warn.classDefReducibility false in
/-- Before trip `k` of the quantising loop the first `128 k` columns of the block of codes hold what they are to hold. -/
@[sl_loop] def loopT4 (𝒱 : Variants) (c : Dev nD) (bd : Option 𝒱.V) (E : Set ℕ) (i : grid0.Coords) (arg2 : Memref sig .tc .vmem S1x128x6912 .bf16) (harg2 : arg2.IsWhole) (arg3 : Memref sig .tc .vmem S1x128x1152 .bf16) (harg3 : arg3.IsWhole) (arg4 : Memref sig .tc .vmem S1x1152 .f32) (harg4 : arg4.IsWhole) (arg5 : Memref sig .tc .vmem S108x108 .f32) (harg5 : arg5.IsWhole) (arg6 : Memref sig .tc .vmem S6912x1152 .fp8e4m3) (harg6 : arg6.IsWhole) (arg7 : Memref sig .tc .vmem S1x1152 .f32) (harg7 : arg7.IsWhole) (arg8 : Memref sig .tc .vmem S1x128x1152 .bf16) (harg8 : arg8.IsWhole) (arg9 : Memref sig .tc .vmem S1x128x6912 .fp8e4m3) (harg9 : arg9.IsWhole) (arg10 : Memref sig .tc .vmem S3x640 .f32) (harg10 : arg10.IsWhole) (arg11 : Memref sig .tc .vmem S1x128x1152 .fp8e4m3) (harg11 : arg11.IsWhole) (arg12 : Memref sig .tc .vmem S3x640 .f32) (harg12 : arg12.IsWhole) (arg13 : Memref sig .tc .vmem S224x224 .bf16) (harg13 : arg13.IsWhole) (arg14 : Memref sig .tc .vmem S4032x2x128 .bf16) (harg14 : arg14.IsWhole) (arg15 : Memref sig .tc .vmem S32x224x128 .f32) (harg15 : arg15.IsWhole) (arg16 : Memref sig .tc .vmem S7616x128 .f32) (harg16 : arg16.IsWhole) (v105 : FVec Ideal S1x128 .f32) (v110 : FVec Ideal S1x128 .f32) (v112 : BitVec 32) (v115 : IVec S3x128 1) (v117 : FVec Ideal S3x128 .f32) (v119 : Vec Ideal S3x128 .f32) (X_arg16 : BufTy.Contents (Elt Ideal) arg16.view.ty) :
    LoopInvTy_k0_t4 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 v105 v110 v112 v115 v117 v119 where
  inv := fun k _ => iprop((arg16.view.loc (c : Thread nD τ) ↦[arg16.view.set]{fullShare} X_arg16) ∗ (∃ f, (arg9.view.loc (c : Thread nD τ) ↦[arg9.view.set]{fullShare} f)
      ∗ ⌜∀ y : S1x128x6912.Idx, (y 2).val < 128 * k → arg9.view.read (Elt Ideal) f y = codeT (arg16.view.read (Elt Ideal) X_arg16) v110 y⌝))
  step := fun k acc => by
    have hk : k.val < 54 := Nat.lt_of_lt_of_le k.isLt k0_t4_abs.2.1
    unfold k0_t4_body
    iintro ⟨HR, ⟨%f, HW, %hf⟩⟩
    sl_exec
    sl_step
    isplitl [HR]; · iexact HR
    iexists _; isplitl [HW]; · iexact HW
    ipureintro
    exact codeT_step arg9 arg16 X_arg16 v110 k hk f hf

end Cert.Proof.Value

end
-- ==== Proof.Weave.lean ====
module

public import Idealize.ShloMosaic.Lib.Pointwise
public import Idealize.ShloMosaic.Lib.VecWindow
public import Idealize.ShloMosaic.Lib.WritesUnit
public import proofs.«01_k».proof.Proof.Gen.KernelIdeal.Skeleton

/-! # The Hadamard matrix woven into even and odd columns -/

@[expose] public section

set_option maxRecDepth 16384
set_option maxHeartbeats 4000000

noncomputable section

namespace Cert.Proof.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Whether column `j` of the woven matrix takes column `k` of the Hadamard matrix. -/
theorem pay3_apply (k : Fin 108) (j : Fin 224) : k0_pay3 (ix2 k j) = if j.val / 2 = k.val then 1#1 else 0#1 := by
  pointwise [k0_pay3]
  revert k j
  decide +kernel

/-- The parity of column `j`. -/
theorem pay4_apply (k : Fin 108) (j : Fin 224) : k0_pay4 (ix2 k j) = BitVec.ofNat 32 (j.val % 2) := by
  pointwise [k0_pay4]
  revert j
  decide +kernel

theorem neg_one_bits : Ideal.ofBits FTy.f32 3212836864#32 = -1 := by
  simp [Ideal.ofBits, Ideal.ieee, -EReal.coe_mul]; norm_num

/-- The rows of the sums: column `j` of the woven matrix is column `j / 2` of the Hadamard matrix. -/
theorem pay6_apply (H : Vec Ideal S108x108 .f32) (a : Fin 108) (j : Fin 224) : k0_pay6 (F := Ideal) (k0_pay2 H) k0_pay3 (ix2 a j) = if h : j.val / 2 < 108 then H (ix2 a ⟨j.val / 2, h⟩) else 0 := by
  pointwise [k0_pay6, k0_pay2]
  simp only [pay3_apply]
  split
  · next h =>
    rw [Finset.sum_eq_single (⟨j.val / 2, h⟩ : Fin 108)]
    · simp [Scalar.select]
    · intro x _ hx
      have : ¬ j.val / 2 = x.val := fun e => hx (Fin.ext e.symm)
      simp [Scalar.select, this]
    · intro hx; exact absurd (Finset.mem_univ _) hx
  · next h =>
    refine Finset.sum_eq_zero fun x _ => ?_
    have : ¬ j.val / 2 = x.val := fun e => h (e ▸ x.isLt)
    simp [Scalar.select, this]

/-- The rows of the differences: column `j` is column `j / 2` of the Hadamard matrix, negated where `j` is odd. -/
theorem pay7_apply (H : Vec Ideal S108x108 .f32) (a : Fin 108) (j : Fin 224) : k0_pay7 (F := Ideal) (k0_pay2 H) k0_pay3 k0_pay4 (ix2 a j) = if h : j.val / 2 < 108 then H (ix2 a ⟨j.val / 2, h⟩) * (if j.val % 2 = 1 then -1 else 1) else 0 := by
  pointwise [k0_pay7, k0_pay2]
  have hpar : IntOp.cmpi CmpIPredicate.eq (BitVec.ofNat 32 (j.val % 2)) 1#32 = if j.val % 2 = 1 then 1#1 else 0#1 := by
    rcases Nat.mod_two_eq_zero_or_one j.val with e | e <;> rw [e] <;> rfl
  simp only [pay3_apply, pay4_apply, hpar, neg_one_bits]
  by_cases h : j.val / 2 < 108
  · rw [dif_pos h, Finset.sum_eq_single (⟨j.val / 2, h⟩ : Fin 108)]
    · rcases Nat.mod_two_eq_zero_or_one j.val with e | e <;> simp [Scalar.select, e]
    · intro x _ hx
      have : ¬ j.val / 2 = x.val := fun e => hx (Fin.ext e.symm)
      simp [Scalar.select, this]
    · intro hx; exact absurd (Finset.mem_univ _) hx
  · rw [dif_neg h]
    refine Finset.sum_eq_zero fun x _ => ?_
    have : ¬ j.val / 2 = x.val := fun e => h (e ▸ x.isLt)
    simp [Scalar.select, this]

/-- The woven matrix: its first 108 rows give the sums over even and odd entries, rows 112 to 219 the differences. -/
def gm (H : Vec Ideal S108x108 .f32) : Vec Ideal S224x224 .bf16 := fun y =>
  if h : (y 1).val / 2 < 108 then
    if (y 0).val < 108 then H (ix2 ⟨(y 0).val % 108, Nat.mod_lt _ (by decide)⟩ ⟨(y 1).val / 2, h⟩)
    else if 112 ≤ (y 0).val ∧ (y 0).val < 220 then H (ix2 ⟨((y 0).val - 112) % 108, Nat.mod_lt _ (by decide)⟩ ⟨(y 1).val / 2, h⟩) * (if (y 1).val % 2 = 1 then -1 else 1)
    else 0
  else 0

/-- What the first grid point leaves in the matrix scratch. -/
theorem gm_read (arg5 : Memref sig .tc .vmem S108x108 .f32) (arg13 : Memref sig .tc .vmem S224x224 .bf16) (f : BufTy.Contents (Elt Ideal) arg5.view.ty)
    (g : BufTy.Contents (Elt Ideal) arg13.view.ty) :
    arg13.view.read (Elt Ideal) (arg13.view.writes (Elt Ideal) g
      [⟨Rect.unit (s := S224x224) ![112, 0] S108x224.size inb_S224x224_S108x224_112_0, k0_pay7 (k0_pay2 (arg5.view.readAt (Elt Ideal) (Rect.unit (s := S108x108) ![0, 0] S108x108.size inb_S108x108_S108x108_0_0).toLoadRect f)) k0_pay3 k0_pay4⟩,
       ⟨Rect.unit (s := S224x224) ![0, 0] S108x224.size inb_S224x224_S108x224_0_0, k0_pay6 (k0_pay2 (arg5.view.readAt (Elt Ideal) (Rect.unit (s := S108x108) ![0, 0] S108x108.size inb_S108x108_S108x108_0_0).toLoadRect f)) k0_pay3⟩,
       ⟨Rect.unit (s := S224x224) ![0, 0] S224x224.size inb_S224x224_S224x224_0_0, k0_pay5 (F := Ideal)⟩])
      = gm (arg5.view.read (Elt Ideal) f) := by
  have hH : arg5.view.readAt (Elt Ideal) (Rect.unit (s := S108x108) ![0, 0] S108x108.size inb_S108x108_S108x108_0_0).toLoadRect f = arg5.view.read (Elt Ideal) f := View.readAt_full _ _ _
  rw [hH]
  generalize arg5.view.read (Elt Ideal) f = H
  funext y
  have hy0 : (y 0).val < 224 := (y 0).isLt
  have hy1 : (y 1).val < 224 := (y 1).isLt
  by_cases h2 : 112 ≤ (y 0).val ∧ (y 0).val < 220
  · refine (View.read_writes_cons_unit_of_mem (off' := ![112, 0]) arg13.view g inb_S224x224_S108x224_112_0 _ _ y (ix2 (⟨(y 0).val - 112, by omega⟩ : Fin 108) (⟨(y 1).val, hy1⟩ : Fin 224)) rfl (Fin.forall_fin_two.mpr ⟨by show (y 0).val = 112 + ((y 0).val - 112); omega, by show (y 1).val = 0 + (y 1).val; omega⟩)).trans ?_
    refine (pay7_apply H _ _).trans ?_
    unfold gm
    have e : ((y 0).val - 112) % 108 = (y 0).val - 112 := Nat.mod_eq_of_lt (by omega)
    simp only [e, h2, show ¬ (y 0).val < 108 by omega, if_false, if_true, and_self]
  · refine (View.read_writes_cons_unit_of_not_mem (off' := ![112, 0]) arg13.view g inb_S224x224_S108x224_112_0 _ _ y rfl 0 (by show (y 0).val < 112 ∨ 112 + 108 ≤ (y 0).val; omega)).trans ?_
    by_cases h1 : (y 0).val < 108
    · refine (View.read_writes_cons_unit_of_mem (off' := ![0, 0]) arg13.view g inb_S224x224_S108x224_0_0 _ _ y (ix2 (⟨(y 0).val, by omega⟩ : Fin 108) (⟨(y 1).val, hy1⟩ : Fin 224)) rfl (Fin.forall_fin_two.mpr ⟨by show (y 0).val = 0 + (y 0).val; omega, by show (y 1).val = 0 + (y 1).val; omega⟩)).trans ?_
      refine (pay6_apply H _ _).trans ?_
      unfold gm
      have e : (y 0).val % 108 = (y 0).val := Nat.mod_eq_of_lt (by omega)
      simp only [e, h1, if_true]
    · refine (View.read_writes_cons_unit_of_not_mem (off' := ![0, 0]) arg13.view g inb_S224x224_S108x224_0_0 _ _ y rfl 0 (by show (y 0).val < 0 ∨ 0 + 108 ≤ (y 0).val; omega)).trans ?_
      refine (View.read_writes_cons_unit_of_mem (off' := ![0, 0]) arg13.view g inb_S224x224_S224x224_0_0 _ _ y y rfl (Fin.forall_fin_two.mpr ⟨by show (y 0).val = 0 + (y 0).val; omega, by show (y 1).val = 0 + (y 1).val; omega⟩)).trans ?_
      unfold gm
      simp only [h1, h2, if_false, dite_eq_ite, ite_self]
      idx_vars y
      pointwise [k0_pay5]

end Cert.Proof.Value

end
-- ==== Proof.BodyFacts.lean ====
module

public import proofs.«01_k».proof.Proof.LoopTranspose
public import proofs.«01_k».proof.Proof.LoopDot
public import proofs.«01_k».proof.Proof.LoopButterfly
public import proofs.«01_k».proof.Proof.LoopCode
public import proofs.«01_k».proof.Proof.Weave

/-! # What the body of the kernel leaves in its buffers, as functions of what it finds -/

@[expose] public section

set_option maxRecDepth 16384
set_option maxHeartbeats 4000000

noncomputable section

namespace Cert.Proof.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The product of the woven matrix with the tile of `x`, over the pairs of its columns. -/
def Zof (x0 : Vec Ideal S1x128x6912 .bf16) (x3 : Vec Ideal S108x108 .f32) : Vec Ideal S32x224x128 .f32 := dotT (gm x3) (pairT x0)

/-- The running maxima after the loop of butterflies. -/
def accT (Z : Vec Ideal S32x224x128 .f32) : FVec Ideal S8x128 .f32 := fun x =>
  (0 : EReal) ⊔ ⨆ j : Fin 28, ⨆ p : Fin 32, absE (bfZ Z (8 * j.val + (x 0).val) (x 1) p.val)

/-- The scale of a row of the rotated activation, from the running maxima. -/
def scOf (A : FVec Ideal S8x128 .f32) : FVec Ideal S1x128 .f32 :=
  k0_pay259 (k0_pay253 A) (k0_pay256 (k0_pay253 A) (k0_pay254 A) (k0_pay255 A)) (k0_pay257 (k0_pay253 A) (k0_pay254 A) (k0_pay255 A))

/-- The inverse of that scale. -/
def ivOf (A : FVec Ideal S8x128 .f32) : FVec Ideal S1x128 .f32 :=
  k0_pay260 (k0_pay253 A) (k0_pay256 (k0_pay253 A) (k0_pay254 A) (k0_pay255 A)) (k0_pay257 (k0_pay253 A) (k0_pay254 A) (k0_pay255 A))

/-- The scales of a tile. -/
def xsB (x0 : Vec Ideal S1x128x6912 .bf16) (x3 : Vec Ideal S108x108 .f32) : FVec Ideal S1x128 .f32 := scOf (accT (Zof x0 x3))

/-- The codes of a tile. -/
def xcB (x0 : Vec Ideal S1x128x6912 .bf16) (x3 : Vec Ideal S108x108 .f32) : Vec Ideal S1x128x6912 .fp8e4m3 :=
  codeT (bfT (Zof x0 x3)) (ivOf (accT (Zof x0 x3)))

/-- The first 1024 columns of the weights. -/
def wA (x4 : Vec Ideal S6912x1152 .fp8e4m3) : Vec Ideal S6912x1024 .fp8e4m3 := fun y =>
  x4 (ix2 (y 0) ⟨(y 1).val, Nat.lt_trans (show (y 1).val < 1024 from (y 1).isLt) (by decide)⟩)

/-- The last 256 columns of the weights. -/
def wB (x4 : Vec Ideal S6912x1152 .fp8e4m3) : Vec Ideal S6912x256 .fp8e4m3 := fun y =>
  x4 (ix2 (y 0) ⟨896 + (y 1).val, by have h : (y 1).val < 256 := (y 1).isLt; show 896 + (y 1).val < 1152; omega⟩)

/-- The new residual of a tile, as stored. -/
def roB (x0 : Vec Ideal S1x128x6912 .bf16) (x1 : Vec Ideal S1x128x1152 .bf16) (x3 : Vec Ideal S108x108 .f32) (x4 : Vec Ideal S6912x1152 .fp8e4m3) (x5 : Vec Ideal S1x1152 .f32) :
    Vec Ideal S1x128x1152 .bf16 := k0_pay266 (xsB x0 x3) (xcB x0 x3) (wA x4) (wB x4) x5 x1

/-- The new residual of a tile, as the norm reads it. -/
def rB (x0 : Vec Ideal S1x128x6912 .bf16) (x1 : Vec Ideal S1x128x1152 .bf16) (x3 : Vec Ideal S108x108 .f32) (x4 : Vec Ideal S6912x1152 .fp8e4m3) (x5 : Vec Ideal S1x1152 .f32) :
    FVec Ideal S128x1152 .f32 := k0_pay267 (xsB x0 x3) (xcB x0 x3) (wA x4) (wB x4) x5 x1

/-- The codes of the normalised residual `r` under the gain `g`. -/
def ncOf (r : FVec Ideal S128x1152 .f32) (g : Vec Ideal S1x1152 .f32) : FVec Ideal S1x128x1152 .fp8e4m3 :=
  k0_pay275 (k0_pay268 r g) (k0_pay269 r g) (k0_pay272 (k0_pay269 r g) (k0_pay270 r g) (k0_pay271 r g)) (k0_pay273 (k0_pay269 r g) (k0_pay270 r g) (k0_pay271 r g))

/-- Their scales. -/
def nsOf (r : FVec Ideal S128x1152 .f32) (g : Vec Ideal S1x1152 .f32) : FVec Ideal S1x128 .f32 :=
  k0_pay276 (k0_pay269 r g) (k0_pay272 (k0_pay269 r g) (k0_pay270 r g) (k0_pay271 r g)) (k0_pay273 (k0_pay269 r g) (k0_pay270 r g) (k0_pay271 r g))

/-- The array of scales with the entries of one grid point replaced: row `i 0`, the 128 lanes of tile `i 1`. -/
def upd (i : grid0.Coords) (old : Vec Ideal S3x640 .f32) (s : FVec Ideal S1x128 .f32) : Vec Ideal S3x640 .f32 := fun y =>
  if (y 0).val = (i 0).val ∧ (y 1).val / 128 = (i 1).val then s (ix2 0 ⟨(y 1).val % 128, Nat.mod_lt _ (by decide)⟩) else old y

/-- The grid point is the first. -/
def atStart (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

theorem atStart_iff (i : grid0.Coords) : atStart i ↔ (i 0).val = 0 ∧ (i 1).val = 0 := by
  have h0 : (i 0).val < 3 := (i 0).isLt
  have h1 : (i 1).val < 5 := (i 1).isLt
  unfold atStart
  generalize (i 0).val = a at *
  generalize (i 1).val = b at *
  interval_cases a <;> interval_cases b <;> decide

instance (i : grid0.Coords) : Decidable (atStart i) := decidable_of_iff _ (atStart_iff i).symm

theorem off40_eq (i : grid0.Coords) : k0_off40 i = ![0, 128 * (i 1).val] := by
  have h1 : (i 1).val < 5 := (i 1).isLt
  unfold k0_off40
  generalize (i 1).val = b at *
  interval_cases b <;> decide

/-- The product scratch does not see what the pair scratch holds outside the rows that the loop of transposes writes. -/
theorem dotT_congr (H : Vec Ideal S108x108 .f32) (X X' : Vec Ideal S4032x2x128 .bf16)
    (h : ∀ y : S4032x2x128.Idx, (y 0).val / 36 < 108 → (y 0).val % 36 < 32 → X y = X' y) (y : S32x224x128.Idx) :
    dotT (gm H) X y = dotT (gm H) X' y := by
  unfold dotT
  refine Finset.sum_congr rfl fun κ _ => ?_
  have hκ : κ.val < 224 := κ.isLt
  have hy : (y 0).val < 32 := (y 0).isLt
  by_cases hk : κ.val / 2 < 108
  · rw [h]
    · show (κ.val / 2 * 36 + (y 0).val) % 4032 / 36 < 108
      omega
    · show (κ.val / 2 * 36 + (y 0).val) % 4032 % 36 < 32
      omega
  · have : gm H (ix2 (y 1) κ) = 0 := by unfold gm; exact dif_neg hk
    rw [this]
    exact (zero_mul _).trans (zero_mul _).symm

theorem Z_eq (arg13 : Memref sig .tc .vmem S224x224 .bf16) (arg14 : Memref sig .tc .vmem S4032x2x128 .bf16) (arg15 : Memref sig .tc .vmem S32x224x128 .f32)
    (f13 : BufTy.Contents (Elt Ideal) arg13.view.ty) (f14 : BufTy.Contents (Elt Ideal) arg14.view.ty) (f15 : BufTy.Contents (Elt Ideal) arg15.view.ty)
    (x0 : Vec Ideal S1x128x6912 .bf16) (x3 : Vec Ideal S108x108 .f32)
    (h13 : arg13.view.read (Elt Ideal) f13 = gm x3)
    (h14 : ∀ y : S4032x2x128.Idx, (y 0).val / 36 < 2 * Scf.trips k0_t1_loop.lb k0_t1_loop.ub k0_t1_loop.st → (y 0).val % 36 < 32 → arg14.view.read (Elt Ideal) f14 y = pairT x0 y)
    (h15 : ∀ y : S32x224x128.Idx, (y 0).val < 2 * Scf.trips k0_t2_loop.lb k0_t2_loop.ub k0_t2_loop.st → arg15.view.read (Elt Ideal) f15 y = dotT (arg13.view.read (Elt Ideal) f13) (arg14.view.read (Elt Ideal) f14) y) :
    arg15.view.read (Elt Ideal) f15 = Zof x0 x3 := by
  have t1 : Scf.trips k0_t1_loop.lb k0_t1_loop.ub k0_t1_loop.st = 54 := by decide +kernel
  have t2 : Scf.trips k0_t2_loop.lb k0_t2_loop.ub k0_t2_loop.st = 16 := by decide +kernel
  rw [t1] at h14; rw [t2] at h15
  funext y
  rw [h15 y (show (y 0).val < 32 from (y 0).isLt), h13]
  exact dotT_congr x3 _ _ (fun y h h' => h14 y (by omega) h') y

theorem acc_eq (Z : Vec Ideal S32x224x128 .f32) (acc : FVec Ideal S8x128 .f32)
    (h : ∀ x : S8x128.Idx, ∀ B : EReal, Iff (acc x ≤ B) (k0_pay248 (F := Ideal) x ≤ B ∧ ∀ j < Scf.trips k0_t3_loop.lb k0_t3_loop.ub k0_t3_loop.st, ∀ p < 32, absE (bfZ Z (8 * j + (x 0).val) (x 1) p) ≤ B)) :
    acc = accT Z := by
  have t3 : Scf.trips k0_t3_loop.lb k0_t3_loop.ub k0_t3_loop.st = 28 := by decide +kernel
  rw [t3] at h
  funext x
  have h0 : k0_pay248 (F := Ideal) x = (0 : EReal) := by
    idx_vars x
    pointwise [k0_pay248]
  refine eq_of_forall_ge_iff fun B => (h x B).trans ?_
  rw [h0]
  unfold accT
  rw [sup_le_iff]
  refine and_congr Iff.rfl ?_
  simp only [iSup_le_iff]
  exact ⟨fun g j p => g j.val j.isLt p.val p.isLt, fun g j hj p hp => g ⟨j, hj⟩ ⟨p, hp⟩⟩

theorem code_eq (arg9 : Memref sig .tc .vmem S1x128x6912 .fp8e4m3) (arg16 : Memref sig .tc .vmem S7616x128 .f32)
    (f9 : BufTy.Contents (Elt Ideal) arg9.view.ty) (f16 : BufTy.Contents (Elt Ideal) arg16.view.ty) (Z : Vec Ideal S32x224x128 .f32) (s : Vec Ideal S1x128 .f32)
    (h16 : ∀ y : S7616x128.Idx, (y 0).val % 68 < 64 → ((y 0).val % 68 % 2 * 112 + (y 0).val / 68) / 8 < Scf.trips k0_t3_loop.lb k0_t3_loop.ub k0_t3_loop.st → arg16.view.read (Elt Ideal) f16 y = bfT Z y)
    (h9 : ∀ y : S1x128x6912.Idx, (y 2).val < 128 * Scf.trips k0_t4_loop.lb k0_t4_loop.ub k0_t4_loop.st → arg9.view.read (Elt Ideal) f9 y = codeT (arg16.view.read (Elt Ideal) f16) s y) :
    arg9.view.read (Elt Ideal) f9 = codeT (bfT Z) s := by
  have t3 : Scf.trips k0_t3_loop.lb k0_t3_loop.ub k0_t3_loop.st = 28 := by decide +kernel
  have t4 : Scf.trips k0_t4_loop.lb k0_t4_loop.ub k0_t4_loop.st = 54 := by decide +kernel
  rw [t3] at h16; rw [t4] at h9
  funext y
  have hy : (y 2).val < 6912 := (y 2).isLt
  rw [h9 y (by omega)]
  unfold codeT
  rw [h16]
  · show ((y 2).val / 64 * 68 + (y 2).val % 64) % 7616 % 68 < 64
    omega
  · show (((y 2).val / 64 * 68 + (y 2).val % 64) % 7616 % 68 % 2 * 112 + ((y 2).val / 64 * 68 + (y 2).val % 64) % 7616 / 68) / 8 < 28
    omega

/-- What a whole-block store leaves. -/
theorem read_store3 {n2 n3 : ℕ} {e : EltTy} (a : Memref sig .tc .vmem (⟨3, ![1, n2, n3]⟩ : Shape) e) (g : BufTy.Contents (Elt Ideal) a.view.ty)
    (inb : ∀ x : Fin 3, (![0, 0, 0] : Fin 3 → ℕ) x + (![1, n2, n3] : Fin 3 → ℕ) x ≤ (![1, n2, n3] : Fin 3 → ℕ) x) (v : Vec Ideal (⟨3, ![1, n2, n3]⟩ : Shape) e) :
    a.view.read (Elt Ideal) (a.view.writes (Elt Ideal) g [⟨Rect.unit (s := (⟨3, ![1, n2, n3]⟩ : Shape)) ![0, 0, 0] (![1, n2, n3] : Fin 3 → ℕ) inb, v⟩]) = v := by
  funext y
  refine View.read_writes_cons_unit_of_mem (off' := ![0, 0, 0]) a.view g inb v [] y y rfl fun x => ?_
  match x with
  | 0 => exact (Nat.zero_add _).symm
  | 1 => exact (Nat.zero_add _).symm
  | 2 => exact (Nat.zero_add _).symm

/-- What the store of a point's scales leaves. -/
theorem read_row (a : Memref sig .tc .vmem S3x640 .f32) (g : BufTy.Contents (Elt Ideal) a.view.ty) (i : grid0.Coords)
    (L : List (View.Piece (Elt Ideal) S3x640 .f32)) (P : Vec Ideal S3x128 .f32) (s : FVec Ideal S1x128 .f32) (old : Vec Ideal S3x640 .f32)
    (hold : a.view.read (Elt Ideal) (a.view.writes (Elt Ideal) g L) = old)
    (hP : ∀ x : S3x128.Idx, P x = if (x 0).val = (i 0).val then s (ix2 0 (x 1)) else
      a.view.readAt (Elt Ideal) (Rect.unit (s := S3x640) (k0_off40 i) S3x128.size (k0_off40_inb i)).toLoadRect (a.view.writes (Elt Ideal) g L) x) :
    a.view.read (Elt Ideal) (a.view.writes (Elt Ideal) g (⟨Rect.unit (s := S3x640) (k0_off40 i) S3x128.size (k0_off40_inb i), P⟩ :: L)) = upd i old s := by
  subst hold
  funext y
  have hy0 : (y 0).val < 3 := (y 0).isLt
  have hy1 : (y 1).val < 640 := (y 1).isLt
  have hi1 : (i 1).val < 5 := (i 1).isLt
  unfold upd
  by_cases h : (y 1).val / 128 = (i 1).val
  · refine (View.read_writes_cons_unit_of_mem (off' := ![0, 128 * (i 1).val]) a.view g (k0_off40_inb i) P L y (ix2 (⟨(y 0).val, hy0⟩ : Fin 3) (⟨(y 1).val % 128, Nat.mod_lt _ (by decide)⟩ : Fin 128)) (off40_eq i)
      (Fin.forall_fin_two.mpr ⟨(Nat.zero_add _).symm, by show (y 1).val = 128 * (i 1).val + (y 1).val % 128; omega⟩)).trans ?_
    refine (hP _).trans ?_
    by_cases h0 : (y 0).val = (i 0).val
    · exact (if_pos h0).trans (if_pos (And.intro h0 h)).symm
    · refine (if_neg h0).trans (Eq.trans ?_ (if_neg (fun e => h0 e.1)).symm)
      rw [View.readAt_apply]
      refine congrArg _ (funext fun x => Fin.ext ?_)
      match x with
      | 0 => show (k0_off40 i) 0 + 1 * (y 0).val = (y 0).val; rw [off40_eq]; show 0 + 1 * (y 0).val = (y 0).val; omega
      | 1 => show (k0_off40 i) 1 + 1 * ((y 1).val % 128) = (y 1).val; rw [off40_eq]; show 128 * (i 1).val + 1 * ((y 1).val % 128) = (y 1).val; omega
  · rw [if_neg (fun e => h e.2)]
    exact View.read_writes_cons_unit_of_not_mem (off' := ![0, 128 * (i 1).val]) a.view g (k0_off40_inb i) P L y (off40_eq i) 1 (by show (y 1).val < 128 * (i 1).val ∨ 128 * (i 1).val + 128 ≤ (y 1).val; omega)

theorem cmp_row (n k : ℕ) (hn : n < 3) (hk : k < 3) : IntOp.cmpi CmpIPredicate.eq (BitVec.ofNat 32 n) (BitVec.ofNat 32 k) = if n = k then 1#1 else 0#1 := by
  interval_cases n <;> interval_cases k <;> decide

/-- The select that replaces one row of the scales. -/
theorem pay263_apply (i : grid0.Coords) (A : FVec Ideal S1x128 .f32) (v70 v74 : IVec S1x128 32) (o : Vec Ideal S3x128 .f32) (x : S3x128.Idx) :
    k0_pay263 (F := Ideal) (k0_pay261 (BitVec.ofNat 32 (i 0).val)) (k0_pay262 A v70 v74) o x
      = if (x 0).val = (i 0).val then k0_pay259 A v70 v74 (ix2 0 (x 1)) else o x := by
  have h0 : (x 0).val < 3 := (x 0).isLt
  have h1 : (i 0).val < 3 := (i 0).isLt
  idx_vars x
  pointwise [k0_pay263, k0_pay261, k0_pay262]
  rw [cmp_row _ _ h0 h1]
  split <;> simp_all [Scalar.select]

theorem pay1_apply (i : grid0.Coords) (s : FVec Ideal S1x128 .f32) (o : Vec Ideal S3x128 .f32) (x : S3x128.Idx) :
    k0_pay1 (F := Ideal) (BitVec.ofNat 32 (i 0).val) s (iota .tc S3x128 32 [0] iota_S3x128_d0_w32) o x
      = if (x 0).val = (i 0).val then s (ix2 0 (x 1)) else o x := by
  have h0 : (x 0).val < 3 := (x 0).isLt
  have h1 : (i 0).val < 3 := (i 0).isLt
  idx_vars x
  pointwise [k0_pay1]
  rw [cmp_row _ _ h0 h1]
  split <;> simp_all [Scalar.select]

end Cert.Proof.Value

end
-- ==== Proof.BodyRun.lean ====
module

public import proofs.«01_k».proof.Proof.BodyFacts
public import proofs.«01_k».proof.Proof.Gen.KernelIdeal.Frame

/-! # The run of the body of the kernel, with values -/

@[expose] public section

set_option maxRecDepth 16384
set_option maxHeartbeats 4000000

noncomputable section

namespace Cert.Proof.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem read_start (a : Memref sig .tc .vmem S3x640 .f32) (g : BufTy.Contents (Elt Ideal) a.view.ty) :
    a.view.read (Elt Ideal) (a.view.writes (Elt Ideal) g [⟨Rect.unit (s := S3x640) ![0, 0] S3x640.size inb_S3x640_S3x640_0_0, k0_pay8 (F := Ideal)⟩]) = k0_pay8 (F := Ideal) := by
  funext y
  exact View.read_writes_cons_unit_of_mem (off' := ![0, 0]) a.view g inb_S3x640_S3x640_0_0 _ [] y y rfl (Fin.forall_fin_two.mpr ⟨(Nat.zero_add _).symm, (Nat.zero_add _).symm⟩)

section Reads

variable (arg3 : Memref sig .tc .vmem S1x128x1152 .bf16) (arg4 : Memref sig .tc .vmem S1x1152 .f32) (arg6 : Memref sig .tc .vmem S6912x1152 .fp8e4m3) (arg7 : Memref sig .tc .vmem S1x1152 .f32)
  (arg8 : Memref sig .tc .vmem S1x128x1152 .bf16) (arg11 : Memref sig .tc .vmem S1x128x1152 .fp8e4m3) (arg9 : Memref sig .tc .vmem S1x128x6912 .fp8e4m3)
  (f6 : BufTy.Contents (Elt Ideal) arg8.view.ty) (f9 : BufTy.Contents (Elt Ideal) arg11.view.ty) (f1 : BufTy.Contents (Elt Ideal) arg3.view.ty) (f2 : BufTy.Contents (Elt Ideal) arg4.view.ty) (f4 : BufTy.Contents (Elt Ideal) arg6.view.ty)
  (f5 : BufTy.Contents (Elt Ideal) arg7.view.ty) (fC : BufTy.Contents (Elt Ideal) arg9.view.ty) (S : FVec Ideal S1x128 .f32)
  (x0 : Vec Ideal S1x128x6912 .bf16) (x3 : Vec Ideal S108x108 .f32) (hC : arg9.view.read (Elt Ideal) fC = xcB x0 x3) (hS : S = xsB x0 x3)

/-- The new residual as the run states it, over what the buffers hold. -/
def rRun : FVec Ideal S128x1152 .f32 :=
  k0_pay267 S (View.readAt (Elt Ideal) arg9.view (Rect.unit (s := S1x128x6912) ![0, 0, 0] S1x128x6912.size inb_S1x128x6912_S1x128x6912_0_0_0).toLoadRect fC)
    (View.readAt (Elt Ideal) arg6.view (Rect.unit (s := S6912x1152) ![0, 0] S6912x1024.size inb_S6912x1152_S6912x1024_0_0).toLoadRect f4)
    (View.readAt (Elt Ideal) arg6.view (Rect.unit (s := S6912x1152) ![0, 896] S6912x256.size inb_S6912x1152_S6912x256_0_896).toLoadRect f4)
    (View.readAt (Elt Ideal) arg7.view (Rect.unit (s := S1x1152) ![0, 0] S1x1152.size inb_S1x1152_S1x1152_0_0).toLoadRect f5)
    (View.readAt (Elt Ideal) arg3.view (Rect.unit (s := S1x128x1152) ![0, 0, 0] S1x128x1152.size inb_S1x128x1152_S1x128x1152_0_0_0).toLoadRect f1)

theorem readA : View.readAt (Elt Ideal) arg6.view (Rect.unit (s := S6912x1152) ![0, 0] S6912x1024.size inb_S6912x1152_S6912x1024_0_0).toLoadRect f4 = wA (arg6.view.read (Elt Ideal) f4) := by
  funext y
  refine congrArg (arg6.view.read (Elt Ideal) f4) (funext fun x => Fin.ext ?_)
  match x with
  | 0 => show 0 + 1 * (y 0).val = (y 0).val; omega
  | 1 => show 0 + 1 * (y 1).val = (y 1).val; omega

theorem readB : View.readAt (Elt Ideal) arg6.view (Rect.unit (s := S6912x1152) ![0, 896] S6912x256.size inb_S6912x1152_S6912x256_0_896).toLoadRect f4 = wB (arg6.view.read (Elt Ideal) f4) := by
  funext y
  refine congrArg (arg6.view.read (Elt Ideal) f4) (funext fun x => Fin.ext ?_)
  match x with
  | 0 => show 0 + 1 * (y 0).val = (y 0).val; omega
  | 1 => show 896 + 1 * (y 1).val = 896 + (y 1).val; omega

include hC hS in
theorem rRun_eq : rRun arg3 arg6 arg7 arg9 f1 f4 f5 fC S = rB x0 (arg3.view.read (Elt Ideal) f1) x3 (arg6.view.read (Elt Ideal) f4) (arg7.view.read (Elt Ideal) f5) := by
  unfold rRun rB
  rw [readA, readB, hS, View.readAt_full arg9.view, View.readAt_full arg7.view, View.readAt_full arg3.view, hC]

include hC hS in
theorem ro_read : arg8.view.read (Elt Ideal) (arg8.view.writes (Elt Ideal) f6 [⟨Rect.unit (s := S1x128x1152) ![0, 0, 0] S1x128x1152.size inb_S1x128x1152_S1x128x1152_0_0_0,
    k0_pay266 S (View.readAt (Elt Ideal) arg9.view (Rect.unit (s := S1x128x6912) ![0, 0, 0] S1x128x6912.size inb_S1x128x6912_S1x128x6912_0_0_0).toLoadRect fC)
    (View.readAt (Elt Ideal) arg6.view (Rect.unit (s := S6912x1152) ![0, 0] S6912x1024.size inb_S6912x1152_S6912x1024_0_0).toLoadRect f4)
    (View.readAt (Elt Ideal) arg6.view (Rect.unit (s := S6912x1152) ![0, 896] S6912x256.size inb_S6912x1152_S6912x256_0_896).toLoadRect f4)
    (View.readAt (Elt Ideal) arg7.view (Rect.unit (s := S1x1152) ![0, 0] S1x1152.size inb_S1x1152_S1x1152_0_0).toLoadRect f5)
    (View.readAt (Elt Ideal) arg3.view (Rect.unit (s := S1x128x1152) ![0, 0, 0] S1x128x1152.size inb_S1x128x1152_S1x128x1152_0_0_0).toLoadRect f1)⟩])
    = roB x0 (arg3.view.read (Elt Ideal) f1) x3 (arg6.view.read (Elt Ideal) f4) (arg7.view.read (Elt Ideal) f5) := by
  refine (read_store3 arg8 f6 _ _).trans ?_
  unfold roB
  rw [readA, readB, hS, View.readAt_full arg9.view, View.readAt_full arg7.view, View.readAt_full arg3.view, hC]

/-- The gain as the run reads it. -/
def gRun : Vec Ideal S1x1152 .f32 := View.readAt (Elt Ideal) arg4.view (Rect.unit (s := S1x1152) ![0, 0] S1x1152.size inb_S1x1152_S1x1152_0_0).toLoadRect f2

theorem gRun_eq : gRun arg4 f2 = arg4.view.read (Elt Ideal) f2 := View.readAt_full arg4.view f2 inb_S1x1152_S1x1152_0_0

include hC hS in
theorem nc_read : arg11.view.read (Elt Ideal) (arg11.view.writes (Elt Ideal) f9 [⟨Rect.unit (s := S1x128x1152) ![0, 0, 0] S1x128x1152.size inb_S1x128x1152_S1x128x1152_0_0_0,
    ncOf (rRun arg3 arg6 arg7 arg9 f1 f4 f5 fC S) (gRun arg4 f2)⟩])
    = ncOf (rB x0 (arg3.view.read (Elt Ideal) f1) x3 (arg6.view.read (Elt Ideal) f4) (arg7.view.read (Elt Ideal) f5)) (arg4.view.read (Elt Ideal) f2) := by
  refine (read_store3 arg11 f9 _ _).trans ?_
  rw [rRun_eq arg3 arg6 arg7 arg9 f1 f4 f5 fC S x0 x3 hC hS, gRun_eq]

include hC hS in
theorem ns_read : nsOf (rRun arg3 arg6 arg7 arg9 f1 f4 f5 fC S) (gRun arg4 f2)
    = nsOf (rB x0 (arg3.view.read (Elt Ideal) f1) x3 (arg6.view.read (Elt Ideal) f4) (arg7.view.read (Elt Ideal) f5)) (arg4.view.read (Elt Ideal) f2) := by
  rw [rRun_eq arg3 arg6 arg7 arg9 f1 f4 f5 fC S x0 x3 hC hS, gRun_eq]

end Reads

/-- The body of the kernel at a grid point: the inputs kept, the outputs at their functions of the inputs, the matrix scratch at the
    woven matrix, which every point but the first is to find there. -/
theorem sound_value (c : Dev nD) (E : Set ℕ) (i : grid0.Coords) (arg2 : Memref sig .tc .vmem S1x128x6912 .bf16) (harg2 : arg2.IsWhole) (arg3 : Memref sig .tc .vmem S1x128x1152 .bf16) (harg3 : arg3.IsWhole) (arg4 : Memref sig .tc .vmem S1x1152 .f32) (harg4 : arg4.IsWhole) (arg5 : Memref sig .tc .vmem S108x108 .f32) (harg5 : arg5.IsWhole) (arg6 : Memref sig .tc .vmem S6912x1152 .fp8e4m3) (harg6 : arg6.IsWhole) (arg7 : Memref sig .tc .vmem S1x1152 .f32) (harg7 : arg7.IsWhole) (arg8 : Memref sig .tc .vmem S1x128x1152 .bf16) (harg8 : arg8.IsWhole) (arg9 : Memref sig .tc .vmem S1x128x6912 .fp8e4m3) (harg9 : arg9.IsWhole) (arg10 : Memref sig .tc .vmem S3x640 .f32) (harg10 : arg10.IsWhole) (arg11 : Memref sig .tc .vmem S1x128x1152 .fp8e4m3) (harg11 : arg11.IsWhole) (arg12 : Memref sig .tc .vmem S3x640 .f32) (harg12 : arg12.IsWhole) (arg13 : Memref sig .tc .vmem S224x224 .bf16) (harg13 : arg13.IsWhole) (arg14 : Memref sig .tc .vmem S4032x2x128 .bf16) (harg14 : arg14.IsWhole) (arg15 : Memref sig .tc .vmem S32x224x128 .f32) (harg15 : arg15.IsWhole) (arg16 : Memref sig .tc .vmem S7616x128 .f32) (harg16 : arg16.IsWhole)
    (x0 : Vec Ideal S1x128x6912 .bf16) (x1 : Vec Ideal S1x128x1152 .bf16) (x2 : Vec Ideal S1x1152 .f32) (x3 : Vec Ideal S108x108 .f32) (x4 : Vec Ideal S6912x1152 .fp8e4m3) (x5 : Vec Ideal S1x1152 .f32) (d8 d10 : Vec Ideal S3x640 .f32) (d11 : Vec Ideal S224x224 .bf16) (hG : ¬ atStart i → d11 = gm x3) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare d8 ∗ (∃ d, owns (c : Thread nD τ) arg11 fullShare d) ∗ owns (c : Thread nD τ) arg12 fullShare d10 ∗ owns (c : Thread nD τ) arg13 fullShare d11 ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (roB x0 x1 x3 x4 x5) ∗ owns (c : Thread nD τ) arg9 fullShare (xcB x0 x3) ∗ owns (c : Thread nD τ) arg10 fullShare (upd i (if atStart i then k0_pay8 (F := Ideal) else d8) (xsB x0 x3)) ∗ owns (c : Thread nD τ) arg11 fullShare (ncOf (rB x0 x1 x3 x4 x5) x2) ∗ owns (c : Thread nD τ) arg12 fullShare (upd i (if atStart i then k0_pay8 (F := Ideal) else d10) (nsOf (rB x0 x1 x3 x4 x5) x2)) ∗ owns (c : Thread nD τ) arg13 fullShare (gm x3) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := Ideal)) Variants.none c none) E (cc0_rotate_quant_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%d9, %f9, -, H9⟩, ⟨%f10, %hf10, H10⟩, ⟨%f11, %hf11, H11⟩, ⟨%d12, %f12, -, H12⟩, ⟨%d13, %f13, -, H13⟩, ⟨%d14, %f14, -, H14⟩, Hk⟩
  subst hf0 hf1 hf2 hf3 hf4 hf5 hf8 hf10 hf11
  by_cases k0_h1 : Scalar.cmpi .ne (Scalar.extui (Scalar.andi (Scalar.cmpi .eq (BitVec.ofNat 32 (i 0).val) 0#32) (Scalar.cmpi .eq (BitVec.ofNat 32 (i 1).val) 0#32))) 0#32 = 1#1
  · simp only [cc0_rotate_quant_proj_eq_skeleton]; unfold cc0_rotate_quant_proj_skel
    simp only [k0_part1_eq_skeleton, k0_part2_eq_skeleton, k0_part16_eq_skeleton, k0_part17_eq_skeleton, k0_part18_eq_skeleton, k0_part19_eq_skeleton, k0_part20_eq_skeleton, k0_part21_eq_skeleton, k0_part22_eq_skeleton]
    sl_exec
    sl_step
    have hZ := Z_eq arg13 arg14 arg15 _ _ _ (arg2.view.read (Elt Ideal) f0) (arg5.view.read (Elt Ideal) f3) (gm_read arg5 arg13 f3 _) hL2 hL6
    rw [hZ] at hL9 hL10
    have hA := acc_eq _ _ hL10
    subst hA
    have hC : arg9.view.read (Elt Ideal) fL3 = xcB (arg2.view.read (Elt Ideal) f0) (arg5.view.read (Elt Ideal) f3) := code_eq arg9 arg16 fL3 fL2 _ _ hL9 hL13
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr
      swap; · iexact H6
      ipureintro; exact ro_read arg3 arg6 arg7 arg8 arg9 f6 f1 f4 f5 fL3 _ _ _ hC rfl
    isplitl [H7]
    · iexists _; isplitr
      swap; · iexact H7
      ipureintro; exact hC
    isplitl [H8]
    · iexists _; isplitr
      swap; · iexact H8
      ipureintro; rw [show (if atStart i then k0_pay8 (F := Ideal) else _) = _ from if_pos k0_h1]; exact read_row arg10 _ i _ _ _ _ (read_start arg10 _) (pay263_apply i _ _ _ _)
    isplitl [H9]
    · iexists _; isplitr
      swap; · iexact H9
      ipureintro; exact nc_read arg3 arg4 arg6 arg7 arg11 arg9 f9 f1 f2 f4 f5 fL3 _ _ _ hC rfl
    isplitl [H10]
    · iexists _; isplitr
      swap; · iexact H10
      ipureintro; rw [show (if atStart i then k0_pay8 (F := Ideal) else _) = _ from if_pos k0_h1]; exact (read_row arg12 _ i _ _ _ _ (read_start arg12 _) (pay1_apply i _ _)).trans (congrArg (upd i _) (ns_read arg3 arg4 arg6 arg7 arg9 f1 f2 f4 f5 fL3 _ _ _ hC rfl))
    isplitl [H11]
    · iexists _; isplitr
      swap; · iexact H11
      ipureintro; exact gm_read arg5 arg13 f3 _
    isplitl [H12]
    · iexists _; iexists _; isplitr
      swap; · iexact H12
      ipureintro; rfl
    isplitl [H13]
    · iexists _; iexists _; isplitr
      swap; · iexact H13
      ipureintro; rfl
    iexists _; iexists _; isplitr
    swap; · iexact H14
    ipureintro; rfl
  · simp only [cc0_rotate_quant_proj_eq_skeleton]; unfold cc0_rotate_quant_proj_skel
    simp only [k0_part1_eq_skeleton, k0_part2_eq_skeleton, k0_part16_eq_skeleton, k0_part17_eq_skeleton, k0_part18_eq_skeleton, k0_part19_eq_skeleton, k0_part20_eq_skeleton, k0_part21_eq_skeleton, k0_part22_eq_skeleton]
    sl_exec
    sl_step
    have hZ := Z_eq arg13 arg14 arg15 _ _ _ (arg2.view.read (Elt Ideal) f0) (arg5.view.read (Elt Ideal) f3) (hG k0_h1) hL2 hL6
    rw [hZ] at hL9 hL10
    have hA := acc_eq _ _ hL10
    subst hA
    have hC : arg9.view.read (Elt Ideal) fL3 = xcB (arg2.view.read (Elt Ideal) f0) (arg5.view.read (Elt Ideal) f3) := code_eq arg9 arg16 fL3 fL2 _ _ hL9 hL13
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr
      swap; · iexact H6
      ipureintro; exact ro_read arg3 arg6 arg7 arg8 arg9 f6 f1 f4 f5 fL3 _ _ _ hC rfl
    isplitl [H7]
    · iexists _; isplitr
      swap; · iexact H7
      ipureintro; exact hC
    isplitl [H8]
    · iexists _; isplitr
      swap; · iexact H8
      ipureintro; rw [show (if atStart i then k0_pay8 (F := Ideal) else _) = _ from if_neg k0_h1]; exact read_row arg10 _ i _ _ _ _ (rfl) (pay263_apply i _ _ _ _)
    isplitl [H9]
    · iexists _; isplitr
      swap; · iexact H9
      ipureintro; exact nc_read arg3 arg4 arg6 arg7 arg11 arg9 f9 f1 f2 f4 f5 fL3 _ _ _ hC rfl
    isplitl [H10]
    · iexists _; isplitr
      swap; · iexact H10
      ipureintro; rw [show (if atStart i then k0_pay8 (F := Ideal) else _) = _ from if_neg k0_h1]; exact (read_row arg12 _ i _ _ _ _ (rfl) (pay1_apply i _ _)).trans (congrArg (upd i _) (ns_read arg3 arg4 arg6 arg7 arg9 f1 f2 f4 f5 fL3 _ _ _ hC rfl))
    isplitl [H11]
    · iexists _; isplitr
      swap; · iexact H11
      ipureintro; exact hG k0_h1
    isplitl [H12]
    · iexists _; iexists _; isplitr
      swap; · iexact H12
      ipureintro; rfl
    isplitl [H13]
    · iexists _; iexists _; isplitr
      swap; · iexact H13
      ipureintro; rfl
    iexists _; iexists _; isplitr
    swap; · iexact H14
    ipureintro; rfl

end Cert.Proof.Value

end
-- ==== Proof.KernelRun.lean ====
module

public import proofs.«01_k».proof.Proof.BodyRun
public import proofs.«01_k».proof.Proof.Gen.KernelIdeal.Frame

/-! # The run of `KernelIdeal`, with values -/

@[expose] public section

set_option maxRecDepth 16384
set_option maxHeartbeats 4000000

noncomputable section

namespace Cert.Proof.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The `n`-th grid point. -/
def pt (n : ℕ) : Fin cfg0.N := ⟨n % 15, Nat.mod_lt _ (by decide)⟩

theorem pt_val (t : Fin cfg0.N) : pt t.val = t := Fin.ext (Nat.mod_eq_of_lt t.isLt)

/-- The scales of the rotated activation, at grid point `t`. -/
def xsAt (c : Dev nD) (t : Fin cfg0.N) : FVec Ideal S1x128 .f32 := xsB (iblk m c 0 t) (iblk m c 3 t)

/-- The scales of the normalised residual, at grid point `t`. -/
def nsAt (c : Dev nD) (t : Fin cfg0.N) : FVec Ideal S1x128 .f32 :=
  nsOf (rB (iblk m c 0 t) (iblk m c 1 t) (iblk m c 3 t) (iblk m c 4 t) (iblk m c 5 t)) (iblk m c 2 t)

/-- An array of scales after the points up to `n`: zero before the first, one tile's lanes replaced at each. -/
def accAt (s : Fin cfg0.N → FVec Ideal S1x128 .f32) : ℕ → Vec Ideal S3x640 .f32
  | 0 => upd (grid0.coords (pt 0)) (k0_pay8 (F := Ideal)) (s (pt 0))
  | n + 1 => upd (grid0.coords (pt (n + 1))) (accAt s n) (s (pt (n + 1)))

/-- The array of scales of the rotated activation after the points up to `n`. -/
def xsT (c : Dev nD) (n : ℕ) : Vec Ideal S3x640 .f32 := accAt (xsAt m c) n

/-- The array of scales of the normalised residual after the points up to `n`. -/
def nsT (c : Dev nD) (n : ℕ) : Vec Ideal S3x640 .f32 := accAt (nsAt m c) n

/-- What the body carries from point to point: before the first anything, after it the woven matrix in its scratch. -/
def carried (c : Dev nD) (n : ℕ) : sProp 𝕄 :=
  if n = 0 then iprop(Pipeline.scopedRest spec0 c ∗ ∃ r, prngReg c r)
  else iprop((((c : Thread nD τ).loc cc0_scratch0) ↦{fullShare} gm (iblk m c 3 (pt 0)))
    ∗ (∃ f, ((c : Thread nD τ).loc cc0_scratch1) ↦{fullShare} f) ∗ (∃ f, ((c : Thread nD τ).loc cc0_scratch2) ↦{fullShare} f) ∗ (∃ f, ((c : Thread nD τ).loc cc0_scratch3) ↦{fullShare} f) ∗ ∃ r, prngReg c r)

/-- The proof data of the one pipeline on core `c`: after a point each input's buffer still at its block, each output's at its
    function of the point's blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => roB (iblk m c 0 t) (iblk m c 1 t) (iblk m c 3 t) (iblk m c 4 t) (iblk m c 5 t)
    | ⟨7, _⟩ => xcB (iblk m c 0 t) (iblk m c 3 t)
    | ⟨8, _⟩ => xsT m c t.val
    | ⟨9, _⟩ => ncOf (rB (iblk m c 0 t) (iblk m c 1 t) (iblk m c 3 t) (iblk m c 4 t) (iblk m c 5 t)) (iblk m c 2 t)
    | ⟨10, _⟩ => nsT m c t.val
  Φ n := carried m c n.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = roB (iblk m c 0 t) (iblk m c 1 t) (iblk m c 3 t) (iblk m c 4 t) (iblk m c 5 t) := by dsimp only [dats]
theorem after_7 (c : Dev nD) (t : Fin cfg0.N) : (dats m 0 c).after 7 t = xcB (iblk m c 0 t) (iblk m c 3 t) := by dsimp only [dats]
theorem after_8 (c : Dev nD) (t : Fin cfg0.N) : (dats m 0 c).after 8 t = xsT m c t.val := by dsimp only [dats]
theorem after_9 (c : Dev nD) (t : Fin cfg0.N) : (dats m 0 c).after 9 t = ncOf (rB (iblk m c 0 t) (iblk m c 1 t) (iblk m c 3 t) (iblk m c 4 t) (iblk m c 5 t)) (iblk m c 2 t) := by dsimp only [dats]
theorem after_10 (c : Dev nD) (t : Fin cfg0.N) : (dats m 0 c).after 10 t = nsT m c t.val := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- The Hadamard matrix is the same block at every point. -/
theorem iblk3_const (c : Dev nD) (t : Fin cfg0.N) : iblk m c 3 t = iblk m c 3 (pt 0) := rfl

theorem start_iff (t : Fin cfg0.N) : atStart (grid0.coords t) ↔ t.val = 0 := by
  rw [atStart_iff]; revert t; decide +kernel

/-- An array of scales after a point, from what it held before. -/
theorem acc_step (s : Fin cfg0.N → FVec Ideal S1x128 .f32) (t : Fin cfg0.N) (d : Vec Ideal S3x640 .f32)
    (hd : t.val ≠ 0 → d = accAt s (t.val - 1)) :
    upd (grid0.coords t) (if atStart (grid0.coords t) then k0_pay8 (F := Ideal) else d) (s t) = accAt s t.val := by
  by_cases h : t.val = 0
  · rw [if_pos ((start_iff t).2 h), h]
    have : t = pt 0 := Fin.ext h
    rw [this]; rfl
  · rw [if_neg (fun e => h ((start_iff t).1 e)), hd h]
    obtain ⟨n, hn⟩ := Nat.exists_eq_succ_of_ne_zero h
    rw [hn]
    have : t = pt (n + 1) := by rw [← pt_val t, hn]
    rw [this]; rfl

theorem before_8 (c : Dev nD) (t : Fin cfg0.N) (d) (ht : t.val ≠ 0) : (dats m 0 c).before 8 t d = xsT m c (t.val - 1) :=
  ((dats m 0 c).before_out_kept 8 rfl t ht (by
    refine Bool.eq_false_iff.2 fun e => ?_
    have h := (flush0_8 _).1 e
    have h2 : t.val < 15 := t.isLt
    have h3 : (t.val - 1) % 15 = 14 := h
    omega) (fun _ => rfl) (fun _ _ => rfl) d).trans (after_8 m c _)

theorem before_10 (c : Dev nD) (t : Fin cfg0.N) (d) (ht : t.val ≠ 0) : (dats m 0 c).before 10 t d = nsT m c (t.val - 1) :=
  ((dats m 0 c).before_out_kept 10 rfl t ht (by
    refine Bool.eq_false_iff.2 fun e => ?_
    have h := (flush0_10 _).1 e
    have h2 : t.val < 15 := t.isLt
    have h3 : (t.val - 1) % 15 = 14 := h
    omega) (fun _ => rfl) (fun _ _ => rfl) d).trans (after_10 m c _)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    show (dats m 0 c).Φ t.succ = carried m c (t.val + 1) from rfl, show (dats m 0 c).Φ t.castSucc = carried m c t.val from rfl,
    after_0, after_1, after_2, after_3, after_4, after_5, after_6, after_7, after_8, after_9, after_10]
  unfold carried
  rw [if_neg (Nat.succ_ne_zero _)]
  by_cases ht : t.val = 0
  · rw [if_pos ht, scopedRest0_eq]
    simp only [← owns_whole]
    iintro ⟨⟨⟨⟨%g0, S0⟩, ⟨%g1, S1⟩, ⟨%g2, S2⟩, ⟨%g3, S3⟩⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_value c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) ((dats m 0 c).before 8 t d8) ((dats m 0 c).before 10 t d10) g0 (fun e => absurd ((start_iff t).2 ht) e) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [H9]; · iexists _; iexact H9
    isplitl [H10]; · iexact H10
    isplitl [S0]; · iexact S0
    isplitl [S1]; · iexists _; iexact S1
    isplitl [S2]; · iexists _; iexact S2
    isplitl [S3]; · iexists _; iexact S3
    iintro ⟨H0, H1, H2, H3, H4, H5, H6, H7, H8, H9, H10, S0, S1, S2, S3⟩
    isplitl [S0 S1 S2 S3 HP]
    · rw [iblk3_const m c t]
      isplitl [S0]; · iexact S0
      isplitl [S1]; · iexact S1
      isplitl [S2]; · iexact S2
      isplitl [S3]; · iexact S3
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · rw [show xsT m c t.val = _ from (acc_step (xsAt m c) t ((dats m 0 c).before 8 t d8) (before_8 m c t d8)).symm]; iexact H8
    isplitl [H9]; · iexact H9
    rw [show nsT m c t.val = _ from (acc_step (nsAt m c) t ((dats m 0 c).before 10 t d10) (before_10 m c t d10)).symm]; iexact H10
  · rw [if_neg ht]
    simp only [← owns_whole]
    iintro ⟨⟨S0, ⟨%g1, S1⟩, ⟨%g2, S2⟩, ⟨%g3, S3⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_value c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) ((dats m 0 c).before 8 t d8) ((dats m 0 c).before 10 t d10) (gm (iblk m c 3 (pt 0))) (fun _ => congrArg gm (iblk3_const m c t).symm) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [H9]; · iexists _; iexact H9
    isplitl [H10]; · iexact H10
    isplitl [S0]; · iexact S0
    isplitl [S1]; · iexists _; iexact S1
    isplitl [S2]; · iexists _; iexact S2
    isplitl [S3]; · iexists _; iexact S3
    iintro ⟨H0, H1, H2, H3, H4, H5, H6, H7, H8, H9, H10, S0, S1, S2, S3⟩
    isplitl [S0 S1 S2 S3 HP]
    · rw [iblk3_const m c t]
      isplitl [S0]; · iexact S0
      isplitl [S1]; · iexact S1
      isplitl [S2]; · iexact S2
      isplitl [S3]; · iexact S3
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · rw [show xsT m c t.val = _ from (acc_step (xsAt m c) t ((dats m 0 c).before 8 t d8) (before_8 m c t d8)).symm]; iexact H8
    isplitl [H9]; · iexact H9
    rw [show nsT m c t.val = _ from (acc_step (nsAt m c) t ((dats m 0 c).before 10 t d10) (before_10 m c t d10)).symm]; iexact H10

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The pipeline's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem carried_in (c : Dev nD) : Pipeline.ΦA spec0 c ⊢ (dats m 0 c).Φ 0 := by
  show _ ⊢ carried m c 0
  unfold carried
  rw [if_pos rfl]
  exact .rfl

theorem carried_out (c : Dev nD) : (dats m 0 c).Φ (Fin.last cfg0.N) ⊢ Pipeline.ΦA spec0 c := by
  show carried m c 15 ⊢ iprop(Pipeline.scopedRest spec0 c ∗ ∃ r, prngReg c r)
  unfold carried
  rw [if_neg (by decide), scopedRest0_eq]
  iintro ⟨S0, S1, S2, S3, HP⟩
  isplitl [S0 S1 S2 S3]
  · isplitl [S0]; · iexists _; iexact S0
    isplitl [S1]; · iexact S1
    isplitl [S2]; · iexact S2
    iexact S3
  iexact HP

set_option backward.isDefEq.respectTransparency.types false in
/-- The run: every window's array ends as the proof data states it, every other buffer as it was found. -/
theorem run_main : θ_run defs (onTc (τ := τ) (main (F := Ideal))) (s₀ m ρ)
    (fun r => Pipeline.FramePost cfgs (dats m) (0 : Fin 1) (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := carried_in m) (hout := carried_out m)

end Cert.Proof.Value

end
-- ==== Proof.KernelValue.lean ====
module

public import proofs.«01_k».proof.Proof.KernelRun
public import Idealize.ShloMosaic.Lib.StableHlo.ReadAt
public import Idealize.ShloMosaic.Lib.Pipeline.ValueKit

/-! # The results of the run, entry by entry -/

@[expose] public section

set_option maxRecDepth 16384
set_option maxHeartbeats 400000

noncomputable section

namespace Cert.Proof.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window)

variable (m : (ℓ : Loc nD τ sig) → Buf (Elt Ideal) ℓ) (ρ : Dev nD → PrngReg)

theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The run, with each result named and the arguments unchanged. -/
theorem run_blocks : θ_run defs (onTc (τ := τ) (main (F := Ideal))) ⟨m, fun _ => 0, ρ⟩ fun r => ∀ c : Dev nD,
      r.2.mem ((c : Thread nD τ).loc main_v2_0) = (dats m 0 c).arrAt 6 cfg0.N
      ∧ r.2.mem ((c : Thread nD τ).loc main_v2_1) = (dats m 0 c).arrAt 7 cfg0.N
      ∧ r.2.mem ((c : Thread nD τ).loc main_v2_2) = (dats m 0 c).arrAt 8 cfg0.N
      ∧ r.2.mem ((c : Thread nD τ).loc main_v2_3) = (dats m 0 c).arrAt 9 cfg0.N
      ∧ r.2.mem ((c : Thread nD τ).loc main_v2_4) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
:=
  (θ_run defs _ _).mono (fun r h c => ⟨(h.1 c).1 6, (h.1 c).1 7, (h.1 c).1 8, (h.1 c).1 9, (h.1 c).1 10,
kept_main_arg0 m r h.1 c, kept_main_arg1 m r h.1 c, kept_main_arg2 m r h.1 c, kept_main_arg3 m r h.1 c, kept_main_arg4 m r h.1 c, kept_main_arg5 m r h.1 c⟩)
    (run_main m ρ)

/-- Which tile entry `(b, s)` lies in. -/
def tileOf (b : Fin 3) (s : Fin 640) : Fin cfg0.N := pt (5 * b.val + s.val / 128)

/-- The array of scales after all points: entry `(b, s)` is lane `s % 128` of its tile. -/
theorem upd_apply (n : ℕ) (hn : n < 15) (old : Vec Ideal S3x640 .f32) (w : FVec Ideal S1x128 .f32) (b : Fin 3) (s : Fin 640) :
    upd (grid0.coords (pt n)) old w (ix2 b s) = if 5 * b.val + s.val / 128 = n then w (ix2 0 ⟨s.val % 128, Nat.mod_lt _ (by decide)⟩) else old (ix2 b s) := by
  have hc : ∀ n : Fin 15, (grid0.coords (pt n.val) 0).val = n.val / 5 ∧ (grid0.coords (pt n.val) 1).val = n.val % 5 := by decide +kernel
  obtain ⟨h0, h1⟩ := hc ⟨n, hn⟩
  have hs := s.isLt
  have hb := b.isLt
  have e : (b.val = (grid0.coords (pt n) 0).val ∧ s.val / 128 = (grid0.coords (pt n) 1).val) ↔ 5 * b.val + s.val / 128 = n := by
    rw [h0, h1]
    show (b.val = n / 5 ∧ s.val / 128 = n % 5) ↔ _
    generalize hq : s.val / 128 = q
    have : q < 5 := by omega
    omega
  exact if_congr e rfl rfl

theorem accAt_apply (s : Fin cfg0.N → FVec Ideal S1x128 .f32) (b : Fin 3) (r : Fin 640) : ∀ n < 15, 5 * b.val + r.val / 128 ≤ n →
    accAt s n (ix2 b r) = s (tileOf b r) (ix2 0 ⟨r.val % 128, Nat.mod_lt _ (by decide)⟩) := by
  intro n
  induction n with
  | zero =>
    intro hn h
    have e : 5 * b.val + r.val / 128 = 0 := by omega
    unfold tileOf
    rw [e]
    exact (upd_apply 0 (by omega) _ _ b r).trans (if_pos e)
  | succ n ih =>
    intro hn h
    refine (upd_apply (n + 1) hn _ _ b r).trans ?_
    by_cases e : 5 * b.val + r.val / 128 = n + 1
    · rw [if_pos e]; unfold tileOf; rw [e]
    · rw [if_neg e]; exact ih (by omega) (by omega)

theorem arr8 (c : Dev nD) : (dats m 0 c).arrAt 8 cfg0.N = accAt (xsAt m c) 14 := by
  refine (dats m 0 c).arrAt_eq_of_after_last 8 t0_14 (by decide +kernel) _ fun j => ?_
  rw [after_8]
  blk_simp
  rfl

theorem arr10 (c : Dev nD) : (dats m 0 c).arrAt 10 cfg0.N = accAt (nsAt m c) 14 := by
  refine (dats m 0 c).arrAt_eq_of_after_last 10 t0_14 (by decide +kernel) _ fun j => ?_
  rw [after_10]
  blk_simp
  rfl

/-- What grid point `t` leaves in the block of window 6. -/
def blk6 (c : Dev nD) (t : Fin cfg0.N) : Vec Ideal S1x128x1152 .bf16 := roB (iblk m c 0 t) (iblk m c 1 t) (iblk m c 3 t) (iblk m c 4 t) (iblk m c 5 t)

theorem arr6 (c : Dev nD) : (dats m 0 c).arrAt 6 cfg0.N = fun y : S3x640x1152.Idx =>
    blk6 m c (tileOf (y 0) (y 1)) (ix3 0 ⟨(y 1).val % 128, Nat.mod_lt _ (by decide)⟩ (y 2)) := by
  refine (dats m 0 c).arrAt_eq_of_covers 6 _ (by decide +kernel) fun t hf y => ?_
  have hi : ∀ t : Fin cfg0.N, win0_6.index t 0 = t.val / 5 ∧ win0_6.index t 1 = t.val % 5 ∧ win0_6.index t 2 = 0 := by decide +kernel
  obtain ⟨i0, i1, i2⟩ := hi t
  have h0 : ((win0_6.blk t).view.emb y 0).val = win0_6.index t 0 * 1 + (y 0).val := by blk_simp
  have h1 : ((win0_6.blk t).view.emb y 1).val = win0_6.index t 1 * 128 + (y 1).val := by blk_simp
  have h2 : ((win0_6.blk t).view.emb y 2).val = win0_6.index t 2 * 1152 + (y 2).val := by blk_simp
  have y0 : (y 0).val < 1 := (y 0).isLt
  have y1 : (y 1).val < 128 := (y 1).isLt
  have ht : t.val < 15 := t.isLt
  rw [i0] at h0; rw [i1] at h1; rw [i2] at h2
  have et : tileOf ((win0_6.blk t).view.emb y 0) ((win0_6.blk t).view.emb y 1) = t := by
    refine Fin.ext ?_
    show (5 * ((win0_6.blk t).view.emb y 0).val + ((win0_6.blk t).view.emb y 1).val / 128) % 15 = t.val
    rw [h0, h1]; omega
  have ey : (ix3 0 ⟨((win0_6.blk t).view.emb y 1).val % 128, Nat.mod_lt _ (by decide)⟩ ((win0_6.blk t).view.emb y 2) : S1x128x1152.Idx) = y := by
    funext a
    match a with
    | ⟨0, _⟩ => exact Fin.ext (show 0 = (y 0).val by omega)
    | ⟨1, _⟩ => exact Fin.ext (show ((win0_6.blk t).view.emb y 1).val % 128 = (y 1).val by omega)
    | ⟨2, _⟩ => exact Fin.ext (show ((win0_6.blk t).view.emb y 2).val = (y 2).val by omega)
  have e : (dats m 0 c).after 6 t = blk6 m c t := after_6 m c t
  rw [e]
  show blk6 m c t y = blk6 m c (tileOf ((win0_6.blk t).view.emb y 0) ((win0_6.blk t).view.emb y 1)) (ix3 0 ⟨((win0_6.blk t).view.emb y 1).val % 128, Nat.mod_lt _ (by decide)⟩ ((win0_6.blk t).view.emb y 2))
  rw [et, ey]

/-- What grid point `t` leaves in the block of window 7. -/
def blk7 (c : Dev nD) (t : Fin cfg0.N) : Vec Ideal S1x128x6912 .fp8e4m3 := xcB (iblk m c 0 t) (iblk m c 3 t)

theorem arr7 (c : Dev nD) : (dats m 0 c).arrAt 7 cfg0.N = fun y : S3x640x6912.Idx =>
    blk7 m c (tileOf (y 0) (y 1)) (ix3 0 ⟨(y 1).val % 128, Nat.mod_lt _ (by decide)⟩ (y 2)) := by
  refine (dats m 0 c).arrAt_eq_of_covers 7 _ (by decide +kernel) fun t hf y => ?_
  have hi : ∀ t : Fin cfg0.N, win0_7.index t 0 = t.val / 5 ∧ win0_7.index t 1 = t.val % 5 ∧ win0_7.index t 2 = 0 := by decide +kernel
  obtain ⟨i0, i1, i2⟩ := hi t
  have h0 : ((win0_7.blk t).view.emb y 0).val = win0_7.index t 0 * 1 + (y 0).val := by blk_simp
  have h1 : ((win0_7.blk t).view.emb y 1).val = win0_7.index t 1 * 128 + (y 1).val := by blk_simp
  have h2 : ((win0_7.blk t).view.emb y 2).val = win0_7.index t 2 * 6912 + (y 2).val := by blk_simp
  have y0 : (y 0).val < 1 := (y 0).isLt
  have y1 : (y 1).val < 128 := (y 1).isLt
  have ht : t.val < 15 := t.isLt
  rw [i0] at h0; rw [i1] at h1; rw [i2] at h2
  have et : tileOf ((win0_7.blk t).view.emb y 0) ((win0_7.blk t).view.emb y 1) = t := by
    refine Fin.ext ?_
    show (5 * ((win0_7.blk t).view.emb y 0).val + ((win0_7.blk t).view.emb y 1).val / 128) % 15 = t.val
    rw [h0, h1]; omega
  have ey : (ix3 0 ⟨((win0_7.blk t).view.emb y 1).val % 128, Nat.mod_lt _ (by decide)⟩ ((win0_7.blk t).view.emb y 2) : S1x128x6912.Idx) = y := by
    funext a
    match a with
    | ⟨0, _⟩ => exact Fin.ext (show 0 = (y 0).val by omega)
    | ⟨1, _⟩ => exact Fin.ext (show ((win0_7.blk t).view.emb y 1).val % 128 = (y 1).val by omega)
    | ⟨2, _⟩ => exact Fin.ext (show ((win0_7.blk t).view.emb y 2).val = (y 2).val by omega)
  have e : (dats m 0 c).after 7 t = blk7 m c t := after_7 m c t
  rw [e]
  show blk7 m c t y = blk7 m c (tileOf ((win0_7.blk t).view.emb y 0) ((win0_7.blk t).view.emb y 1)) (ix3 0 ⟨((win0_7.blk t).view.emb y 1).val % 128, Nat.mod_lt _ (by decide)⟩ ((win0_7.blk t).view.emb y 2))
  rw [et, ey]

/-- What grid point `t` leaves in the block of window 9. -/
def blk9 (c : Dev nD) (t : Fin cfg0.N) : Vec Ideal S1x128x1152 .fp8e4m3 := ncOf (rB (iblk m c 0 t) (iblk m c 1 t) (iblk m c 3 t) (iblk m c 4 t) (iblk m c 5 t)) (iblk m c 2 t)

theorem arr9 (c : Dev nD) : (dats m 0 c).arrAt 9 cfg0.N = fun y : S3x640x1152.Idx =>
    blk9 m c (tileOf (y 0) (y 1)) (ix3 0 ⟨(y 1).val % 128, Nat.mod_lt _ (by decide)⟩ (y 2)) := by
  refine (dats m 0 c).arrAt_eq_of_covers 9 _ (by decide +kernel) fun t hf y => ?_
  have hi : ∀ t : Fin cfg0.N, win0_9.index t 0 = t.val / 5 ∧ win0_9.index t 1 = t.val % 5 ∧ win0_9.index t 2 = 0 := by decide +kernel
  obtain ⟨i0, i1, i2⟩ := hi t
  have h0 : ((win0_9.blk t).view.emb y 0).val = win0_9.index t 0 * 1 + (y 0).val := by blk_simp
  have h1 : ((win0_9.blk t).view.emb y 1).val = win0_9.index t 1 * 128 + (y 1).val := by blk_simp
  have h2 : ((win0_9.blk t).view.emb y 2).val = win0_9.index t 2 * 1152 + (y 2).val := by blk_simp
  have y0 : (y 0).val < 1 := (y 0).isLt
  have y1 : (y 1).val < 128 := (y 1).isLt
  have ht : t.val < 15 := t.isLt
  rw [i0] at h0; rw [i1] at h1; rw [i2] at h2
  have et : tileOf ((win0_9.blk t).view.emb y 0) ((win0_9.blk t).view.emb y 1) = t := by
    refine Fin.ext ?_
    show (5 * ((win0_9.blk t).view.emb y 0).val + ((win0_9.blk t).view.emb y 1).val / 128) % 15 = t.val
    rw [h0, h1]; omega
  have ey : (ix3 0 ⟨((win0_9.blk t).view.emb y 1).val % 128, Nat.mod_lt _ (by decide)⟩ ((win0_9.blk t).view.emb y 2) : S1x128x1152.Idx) = y := by
    funext a
    match a with
    | ⟨0, _⟩ => exact Fin.ext (show 0 = (y 0).val by omega)
    | ⟨1, _⟩ => exact Fin.ext (show ((win0_9.blk t).view.emb y 1).val % 128 = (y 1).val by omega)
    | ⟨2, _⟩ => exact Fin.ext (show ((win0_9.blk t).view.emb y 2).val = (y 2).val by omega)
  have e : (dats m 0 c).after 9 t = blk9 m c t := after_9 m c t
  rw [e]
  show blk9 m c t y = blk9 m c (tileOf ((win0_9.blk t).view.emb y 0) ((win0_9.blk t).view.emb y 1)) (ix3 0 ⟨((win0_9.blk t).view.emb y 1).val % 128, Nat.mod_lt _ (by decide)⟩ ((win0_9.blk t).view.emb y 2))
  rw [et, ey]

/-- The row of an array that lane `n` of a tile's block reads. -/
def rowOf (t : Fin cfg0.N) (n : Fin 128) : Fin 640 := ⟨(128 * (t.val % 5) + n.val) % 640, Nat.mod_lt _ (by decide)⟩

/-- The batch of a tile. -/
def batchOf (t : Fin cfg0.N) : Fin 3 := ⟨t.val / 5 % 3, Nat.mod_lt _ (by decide)⟩

theorem row_tile (b : Fin 3) (s : Fin 640) : rowOf (tileOf b s) ⟨s.val % 128, Nat.mod_lt _ (by decide)⟩ = s ∧ batchOf (tileOf b s) = b := by
  have hb := b.isLt
  have hs := s.isLt
  constructor
  · refine Fin.ext ?_
    show (128 * ((5 * b.val + s.val / 128) % 15 % 5) + s.val % 128) % 640 = s.val
    omega
  · refine Fin.ext ?_
    show (5 * b.val + s.val / 128) % 15 / 5 % 3 = b.val
    omega

theorem iblk0_apply (c : Dev nD) (t : Fin cfg0.N) (n : Fin 128) (k : Fin 6912) :
    (iblk m c 0 t : Vec Ideal S1x128x6912 .bf16) (ix3 0 n k) = m ((c : Thread nD τ).loc main_arg0) (ix3 (batchOf t) (rowOf t n) k) := by
  have hi : ∀ t : Fin cfg0.N, win0_0.index t 0 = t.val / 5 ∧ win0_0.index t 1 = t.val % 5 ∧ win0_0.index t 2 = 0 := by decide +kernel
  obtain ⟨i0, i1, i2⟩ := hi t
  have ht : t.val < 15 := t.isLt
  have hn := n.isLt
  have e : (iblk m c 0 t : Vec Ideal S1x128x6912 .bf16) (ix3 0 n k) = V m c main_arg0 ((win0_0.blk t).view.emb (ix3 0 n k)) := rfl
  rw [e, V_main_arg0 m c]
  refine congrArg _ (funext fun a => ?_)
  match a with
  | ⟨0, _⟩ => exact Fin.ext (show win0_0.index t 0 * 1 + 1 * 0 = t.val / 5 % 3 by omega)
  | ⟨1, _⟩ => exact Fin.ext (show win0_0.index t 1 * 128 + 1 * n.val = (128 * (t.val % 5) + n.val) % 640 by omega)
  | ⟨2, _⟩ => exact Fin.ext (show win0_0.index t 2 * 6912 + 1 * k.val = k.val by omega)

theorem iblk1_apply (c : Dev nD) (t : Fin cfg0.N) (n : Fin 128) (k : Fin 1152) :
    (iblk m c 1 t : Vec Ideal S1x128x1152 .bf16) (ix3 0 n k) = m ((c : Thread nD τ).loc main_arg1) (ix3 (batchOf t) (rowOf t n) k) := by
  have hi : ∀ t : Fin cfg0.N, win0_1.index t 0 = t.val / 5 ∧ win0_1.index t 1 = t.val % 5 ∧ win0_1.index t 2 = 0 := by decide +kernel
  obtain ⟨i0, i1, i2⟩ := hi t
  have ht : t.val < 15 := t.isLt
  have hn := n.isLt
  have e : (iblk m c 1 t : Vec Ideal S1x128x1152 .bf16) (ix3 0 n k) = V m c main_arg1 ((win0_1.blk t).view.emb (ix3 0 n k)) := rfl
  rw [e, V_main_arg1 m c]
  refine congrArg _ (funext fun a => ?_)
  match a with
  | ⟨0, _⟩ => exact Fin.ext (show win0_1.index t 0 * 1 + 1 * 0 = t.val / 5 % 3 by omega)
  | ⟨1, _⟩ => exact Fin.ext (show win0_1.index t 1 * 128 + 1 * n.val = (128 * (t.val % 5) + n.val) % 640 by omega)
  | ⟨2, _⟩ => exact Fin.ext (show win0_1.index t 2 * 1152 + 1 * k.val = k.val by omega)

theorem iblk3_eq (c : Dev nD) (t : Fin cfg0.N) : (iblk m c 3 t : Vec Ideal S108x108 .f32) = m ((c : Thread nD τ).loc main_arg3) := by
  funext y
  have e : (iblk m c 3 t : Vec Ideal S108x108 .f32) y = V m c main_arg3 ((win0_3.blk t).view.emb y) := rfl
  rw [e, V_main_arg3 m c]
  refine congrArg _ (funext fun a => ?_)
  match a with
  | ⟨0, _⟩ => exact Fin.ext (show 0 * 108 + 1 * (y 0).val = (y 0).val by omega)
  | ⟨1, _⟩ => exact Fin.ext (show 0 * 108 + 1 * (y 1).val = (y 1).val by omega)

theorem iblk4_eq (c : Dev nD) (t : Fin cfg0.N) : (iblk m c 4 t : Vec Ideal S6912x1152 .fp8e4m3) = m ((c : Thread nD τ).loc main_arg4) := by
  funext y
  have e : (iblk m c 4 t : Vec Ideal S6912x1152 .fp8e4m3) y = V m c main_arg4 ((win0_4.blk t).view.emb y) := rfl
  rw [e, V_main_arg4 m c]
  refine congrArg _ (funext fun a => ?_)
  match a with
  | ⟨0, _⟩ => exact Fin.ext (show 0 * 6912 + 1 * (y 0).val = (y 0).val by omega)
  | ⟨1, _⟩ => exact Fin.ext (show 0 * 1152 + 1 * (y 1).val = (y 1).val by omega)

theorem V_main_v0 (c : Dev nD) (j : Fin 1152) : (V m c main_v0 : Vec Ideal S1x1152 .f32) (ix2 0 j) = m ((c : Thread nD τ).loc main_arg2) (ix1 j) := by
  unfold V
  after_reads_at

theorem iblk2_apply (c : Dev nD) (t : Fin cfg0.N) (j : Fin 1152) :
    (iblk m c 2 t : Vec Ideal S1x1152 .f32) (ix2 0 j) = m ((c : Thread nD τ).loc main_arg2) (ix1 j) := by
  have e : (iblk m c 2 t : Vec Ideal S1x1152 .f32) (ix2 0 j) = V m c main_v0 ((win0_2.blk t).view.emb (ix2 0 j)) := rfl
  rw [e, ← V_main_v0 m c j]
  refine congrArg _ (funext fun a => ?_)
  match a with
  | ⟨0, _⟩ => exact Fin.ext (show 0 * 1 + 1 * 0 = 0 by omega)
  | ⟨1, _⟩ => exact Fin.ext (show 0 * 1152 + 1 * j.val = j.val by omega)

theorem V_main_v1 (c : Dev nD) (j : Fin 1152) : (V m c main_v1 : Vec Ideal S1x1152 .f32) (ix2 0 j) = m ((c : Thread nD τ).loc main_arg5) (ix1 j) := by
  unfold V
  after_reads_at

theorem iblk5_apply (c : Dev nD) (t : Fin cfg0.N) (j : Fin 1152) :
    (iblk m c 5 t : Vec Ideal S1x1152 .f32) (ix2 0 j) = m ((c : Thread nD τ).loc main_arg5) (ix1 j) := by
  have e : (iblk m c 5 t : Vec Ideal S1x1152 .f32) (ix2 0 j) = V m c main_v1 ((win0_5.blk t).view.emb (ix2 0 j)) := rfl
  rw [e, ← V_main_v1 m c j]
  refine congrArg _ (funext fun a => ?_)
  match a with
  | ⟨0, _⟩ => exact Fin.ext (show 0 * 1 + 1 * 0 = 0 by omega)
  | ⟨1, _⟩ => exact Fin.ext (show 0 * 1152 + 1 * j.val = j.val by omega)

end Cert.Proof.Value

end
-- ==== Proof.KernelIdealFrame.lean ====
module

public import proofs.«01_k».proof.Proof.KernelValue

/-! # The frame of `KernelIdeal`

`frame`: from any memory the ideal program terminates without a fault, its arguments end unchanged and every semaphore ends at zero. It is read off
the run that also gives the results (`KernelRun`). -/

@[expose] public section

set_option maxRecDepth 16384

noncomputable section

namespace Cert.Proof.KernelIdeal

open Cert.KernelIdeal Cert.KernelIdeal.Gen Cert.Proof.Value
open Idealize.ShloMosaic Idealize.ShloMosaic.TcCoe

variable (m : (ℓ : Loc nD τ sig) → Buf (Elt Ideal) ℓ) (ρ : Dev nD → PrngReg)

/-- The ideal program terminates without a fault, keeps its arguments and leaves every semaphore at zero. -/
theorem frame : θ_run defs (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0 :=
  (θ_run defs _ _).mono (fun r h => ⟨fun c => ⟨kept_main_arg0 m r h.1 c, kept_main_arg1 m r h.1 c, kept_main_arg2 m r h.1 c,
    kept_main_arg3 m r h.1 c, kept_main_arg4 m r h.1 c, kept_main_arg5 m r h.1 c⟩, h.2⟩) (run_main m ρ)

end Cert.Proof.KernelIdeal

end
-- ==== Proof.Search.lean ====
module

public import proofs.«01_k».proof.Proof.BodyFacts

/-! # The search for the exponent of a scale, lane by lane -/

@[expose] public section

set_option maxRecDepth 16384
set_option maxHeartbeats 400000

noncomputable section

namespace Cert.Proof.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The float whose exponent field is the word `b`. -/
def pw (b : BitVec 32) : EReal := Ideal.ofBits FTy.f32 (IntOp.shli .vector b 23#32)

/-- One step of the search for the exponent field of `t`: the bit `s` is kept where the power of two it gives is at most `t`. -/
def sstep (t : EReal) (s e : BitVec 32) : BitVec 32 := if pw (IntOp.addi e s) ≤ t then IntOp.addi e s else e

/-- The search over the eight bits of the exponent field. -/
def search (t : EReal) : BitVec 32 :=
  sstep t 1#32 (sstep t 2#32 (sstep t 4#32 (sstep t 8#32 (sstep t 16#32 (sstep t 32#32 (sstep t 64#32 (sstep t 128#32 0#32)))))))

/-- The exponent of the scale. -/
def expo (t : EReal) : BitVec 32 :=
  if t = 0 ∨ search t = 255#32 then 0#32 else IntOp.subi (search t) 126#32

theorem zero_bits : Ideal.ofBits FTy.f32 0#32 = 0 := by simp [Ideal.ofBits, Ideal.ieee]

theorem sel_oge (t v : EReal) (a b : BitVec 32) : Scalar.select (FloatOps.cmpf (F := Ideal) (φ := FTy.f32) CmpFPredicate.oge t v) a b = if v ≤ t then a else b := by
  show Scalar.select (Ideal.cmp CmpFPredicate.oge t v) a b = _
  unfold Ideal.cmp Scalar.select
  by_cases h : v ≤ t <;> simp [h]

theorem sel_fin (t z : EReal) (e : BitVec 32) :
    Scalar.select (IntOp.ori (FloatOps.cmpf (F := Ideal) (φ := FTy.f32) CmpFPredicate.oeq t z)
      (IntOp.cmpi .eq (Scalar.select (FloatOps.cmpf (F := Ideal) (φ := FTy.f32) CmpFPredicate.one t t) 255#32 e) 255#32)) 0#32
      (IntOp.subi (Scalar.select (FloatOps.cmpf (F := Ideal) (φ := FTy.f32) CmpFPredicate.one t t) 255#32 e) 126#32)
    = if t = z ∨ e = 255#32 then 0#32 else IntOp.subi e 126#32 := by
  have h1 : Scalar.select (FloatOps.cmpf (F := Ideal) (φ := FTy.f32) CmpFPredicate.one t t) 255#32 e = e := by
    show Scalar.select (Ideal.cmp CmpFPredicate.one t t) _ _ = _
    unfold Ideal.cmp Scalar.select
    simp
  rw [h1]
  show Scalar.select (IntOp.ori (Ideal.cmp CmpFPredicate.oeq t z) (IntOp.cmpi .eq e 255#32)) _ _ = _
  unfold Ideal.cmp Scalar.select
  have hb : (e == 255#32) = decide (e = 255#32) := by
    by_cases h' : e = 255#32 <;> simp [h']
  by_cases h : t = z <;> by_cases h' : e = 255#32 <;> simp [h, h', hb, IntOp.ori, IntOp.cmpi]

theorem sstep_vec {s : Shape} (t : FVec Ideal s .f32) (b : BitVec 32) (z : IVec s 32) (y : s.Idx) :
    select (cmpf .oge t (bitcastToFloat .f32 (shli (addi z (broadcast s b)) (broadcast s 23#32)))) (addi z (broadcast s b)) z y = sstep (t y) b (z y) := by
  unfold sstep pw
  rw [← sel_oge]
  rfl

theorem pay254_apply (A : FVec Ideal S8x128 .f32) (y : S1x128.Idx) : k0_pay254 A y = sstep (k0_pay253 A y) 128#32 0#32 := by
  unfold k0_pay254
  generalize k0_pay253 A = t
  exact sstep_vec t 128#32 (broadcast S1x128 0#32) y

theorem pay255_apply (A : FVec Ideal S8x128 .f32) (y : S1x128.Idx) : k0_pay255 A y = IntOp.shli .vector (IntOp.addi (k0_pay254 A y) 64#32) 23#32 := rfl

/-- Five steps of the search in one block of values. -/
theorem pay256_apply (t : FVec Ideal S1x128 .f32) (e b : IVec S1x128 32) (y : S1x128.Idx) (hb : b y = IntOp.shli .vector (IntOp.addi (e y) 64#32) 23#32) :
    k0_pay256 t e b y = sstep (t y) 4#32 (sstep (t y) 8#32 (sstep (t y) 16#32 (sstep (t y) 32#32 (sstep (t y) 64#32 (e y))))) := by
  unfold sstep pw
  rw [← hb]
  simp only [← sel_oge]
  rfl

theorem pay257_apply (t : FVec Ideal S1x128 .f32) (e b : IVec S1x128 32) (y : S1x128.Idx) :
    k0_pay257 t e b y = IntOp.shli .vector (IntOp.addi (k0_pay256 t e b y) 2#32) 23#32 := rfl

theorem pay258_apply (t : FVec Ideal S1x128 .f32) (e b : IVec S1x128 32) (y : S1x128.Idx) (hb : b y = IntOp.shli .vector (IntOp.addi (e y) 2#32) 23#32) :
    k0_pay258 t e b y = if t y = Ideal.ofBits FTy.f32 0#32 ∨ sstep (t y) 1#32 (sstep (t y) 2#32 (e y)) = 255#32 then 0#32
      else IntOp.subi (sstep (t y) 1#32 (sstep (t y) 2#32 (e y))) 126#32 := by
  rw [← sel_fin]
  unfold sstep pw
  rw [← hb]
  simp only [← sel_oge]
  rfl

theorem pay258_search (A : FVec Ideal S8x128 .f32) (y : S1x128.Idx) :
    k0_pay258 (k0_pay253 A) (k0_pay256 (k0_pay253 A) (k0_pay254 A) (k0_pay255 A)) (k0_pay257 (k0_pay253 A) (k0_pay254 A) (k0_pay255 A)) y = expo (k0_pay253 A y) := by
  rw [pay258_apply _ _ _ _ (pay257_apply _ _ _ _), pay256_apply _ _ _ _ (pay255_apply _ _), pay254_apply, zero_bits]
  rfl

/-- The scale is the power of two of the exponent. -/
theorem scOf_apply (A : FVec Ideal S8x128 .f32) (y : S1x128.Idx) : scOf A y = pw (IntOp.addi (expo (k0_pay253 A y)) 127#32) := by
  rw [← pay258_search]; rfl

/-- The inverse scale is the power of two of minus the exponent. -/
theorem ivOf_apply (A : FVec Ideal S8x128 .f32) (y : S1x128.Idx) : ivOf A y = pw (IntOp.subi 127#32 (expo (k0_pay253 A y))) := by
  rw [← pay258_search]; rfl

theorem pay270_apply (r : FVec Ideal S128x1152 .f32) (g : Vec Ideal S1x1152 .f32) (y : S128x128.Idx) :
    k0_pay270 r g y = sstep (k0_pay269 r g y) 64#32 (sstep (k0_pay269 r g y) 128#32 0#32) := by
  unfold k0_pay270
  generalize k0_pay269 r g = t
  refine (sstep_vec t 64#32 (select (cmpf .oge t (bitcastToFloat .f32 (shli (addi (broadcast S128x128 0#32) (broadcast S128x128 128#32)) (broadcast S128x128 23#32)))) (addi (broadcast S128x128 0#32) (broadcast S128x128 128#32)) (broadcast S128x128 0#32)) y).trans ?_
  exact congrArg (sstep (t y) 64#32) (sstep_vec t 128#32 (broadcast S128x128 0#32) y)

theorem pay271_apply (r : FVec Ideal S128x1152 .f32) (g : Vec Ideal S1x1152 .f32) (y : S128x128.Idx) :
    k0_pay271 r g y = IntOp.shli .vector (IntOp.addi (k0_pay270 r g y) 32#32) 23#32 := rfl

theorem pay272_apply (t : FVec Ideal S128x128 .f32) (e b : IVec S128x128 32) (y : S128x128.Idx) (hb : b y = IntOp.shli .vector (IntOp.addi (e y) 32#32) 23#32) :
    k0_pay272 t e b y = sstep (t y) 2#32 (sstep (t y) 4#32 (sstep (t y) 8#32 (sstep (t y) 16#32 (sstep (t y) 32#32 (e y))))) := by
  unfold sstep pw
  rw [← hb]
  simp only [← sel_oge]
  rfl

theorem pay273_apply (t : FVec Ideal S128x128 .f32) (e b : IVec S128x128 32) (y : S128x128.Idx) :
    k0_pay273 t e b y = IntOp.shli .vector (IntOp.addi (k0_pay272 t e b y) 1#32) 23#32 := rfl

theorem pay274_apply (t : FVec Ideal S128x128 .f32) (e b : IVec S128x128 32) (y : S128x128.Idx) (hb : b y = IntOp.shli .vector (IntOp.addi (e y) 1#32) 23#32) :
    k0_pay274 t e b y = if t y = Ideal.ofBits FTy.f32 0#32 ∨ sstep (t y) 1#32 (e y) = 255#32 then 0#32
      else IntOp.subi (sstep (t y) 1#32 (e y)) 126#32 := by
  rw [← sel_fin]
  unfold sstep pw
  rw [← hb]
  simp only [← sel_oge]
  rfl

theorem pay274_search (r : FVec Ideal S128x1152 .f32) (g : Vec Ideal S1x1152 .f32) (y : S128x128.Idx) :
    k0_pay274 (k0_pay269 r g) (k0_pay272 (k0_pay269 r g) (k0_pay270 r g) (k0_pay271 r g)) (k0_pay273 (k0_pay269 r g) (k0_pay270 r g) (k0_pay271 r g)) y = expo (k0_pay269 r g y) := by
  rw [pay274_apply _ _ _ _ (pay273_apply _ _ _ _), pay272_apply _ _ _ _ (pay271_apply _ _ _), pay270_apply, zero_bits]
  rfl

theorem pay276_apply (t : FVec Ideal S128x128 .f32) (e b : IVec S128x128 32) (i : Fin 128) :
    k0_pay276 t e b (ix2 0 i) = pw (IntOp.addi (k0_pay274 t e b (ix2 i 0)) 127#32) := by
  unfold pw
  pointwise [k0_pay276]

theorem pay275_apply (n : FVec Ideal S128x1152 .f32) (t : FVec Ideal S128x128 .f32) (e b : IVec S128x128 32) (i : Fin 128) (j : Fin 1152) :
    k0_pay275 n t e b (ix3 0 i j) = min (Ideal.ofBits FTy.f32 0x43E00000#32) (max (Ideal.ofBits FTy.f32 0xC3E00000#32) (n (ix2 i j) * pw (IntOp.subi 127#32 (k0_pay274 t e b (ix2 i 0))))) := by
  unfold pw
  pointwise [k0_pay275]

theorem nsOf_apply (r : FVec Ideal S128x1152 .f32) (g : Vec Ideal S1x1152 .f32) (i : Fin 128) :
    nsOf r g (ix2 0 i) = pw (IntOp.addi (expo (k0_pay269 r g (ix2 i 0))) 127#32) := by
  rw [← pay274_search, ← pay276_apply]; rfl

theorem ncOf_apply (r : FVec Ideal S128x1152 .f32) (g : Vec Ideal S1x1152 .f32) (i : Fin 128) (j : Fin 1152) :
    ncOf r g (ix3 0 i j) = min (Ideal.ofBits FTy.f32 0x43E00000#32) (max (Ideal.ofBits FTy.f32 0xC3E00000#32) (k0_pay268 r g (ix2 i j) * pw (IntOp.subi 127#32 (expo (k0_pay269 r g (ix2 i 0)))))) := by
  rw [← pay274_search, ← pay275_apply]; rfl

end Cert.Proof.Value

end
-- ==== Proof.PowScale.lean ====
module

public import proofs.«01_k».proof.Proof.Search

/-! # The exponent found by the search is the count of powers of two -/

@[expose] public section

set_option maxRecDepth 16384
set_option maxHeartbeats 400000

noncomputable section

namespace Cert.Proof.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The float of exponent field `n`. -/
def pwN (n : ℕ) : EReal := pw (BitVec.ofNat 32 n)

theorem pwN_bits : ∀ n : Fin 256, ((IntOp.shli .vector (BitVec.ofNat 32 n.val) 23#32).extractLsb' 31 1 == 1#1) = false
    ∧ ((IntOp.shli .vector (BitVec.ofNat 32 n.val) 23#32).extractLsb' 23 8).toNat = n.val ∧ ((IntOp.shli .vector (BitVec.ofNat 32 n.val) 23#32).extractLsb' 0 23).toNat = 0 := by decide +kernel

theorem ofBits_f32 (b : BitVec 32) : Ideal.ofBits FTy.f32 b = Ideal.ieee 8 23 b := rfl

theorem ofBits_pow (b : BitVec 32) (n : ℕ) (hs : (b.extractLsb' 31 1 == 1#1) = false) (he : (b.extractLsb' 23 8).toNat = n) (hf : (b.extractLsb' 0 23).toNat = 0)
    (h1 : 1 ≤ n) (h2 : n ≤ 254) : Ideal.ofBits FTy.f32 b = (((2:ℝ) ^ ((n:ℤ) - 127) : ℝ) : EReal) := by
  have h : ((2:ℝ) ^ ((n:ℤ) - 127)) = 1 * 8388608 * (2:ℝ) ^ ((n:ℤ) - 127 - 23) := by
    rw [zpow_sub₀ (by norm_num : (2:ℝ) ≠ 0) ((n:ℤ) - 127) 23]; norm_num; ring
  have hc : ((2 ^ 23 + 0 : ℕ) : ℝ) = 8388608 := by norm_num
  have n1 : ¬ n = 2 ^ 8 - 1 := by norm_num; omega
  have n2 : ¬ n = 0 := by omega
  rw [ofBits_f32]
  unfold Ideal.ieee
  rw [show (8 + 23 : ℕ) = 31 from rfl, hs, he, hf, if_neg n1, if_neg n2, if_neg (by decide), hc, h]
  norm_num

theorem ofBits_inf (b : BitVec 32) (hs : (b.extractLsb' 31 1 == 1#1) = false) (he : (b.extractLsb' 23 8).toNat = 255) (hf : (b.extractLsb' 0 23).toNat = 0) :
    Ideal.ofBits FTy.f32 b = ⊤ := by
  rw [ofBits_f32]
  unfold Ideal.ieee
  rw [show (8 + 23 : ℕ) = 31 from rfl, hs, he, hf, if_pos (by norm_num), if_pos rfl, if_neg (by decide)]

theorem pwN_eq (n : ℕ) (h1 : 1 ≤ n) (h2 : n ≤ 254) : pwN n = (((2:ℝ) ^ ((n:ℤ) - 127) : ℝ) : EReal) := by
  have h := pwN_bits ⟨n, by omega⟩
  exact ofBits_pow _ n h.1 h.2.1 h.2.2 h1 h2

theorem pwN_255 : pwN 255 = ⊤ := by
  have h := pwN_bits ⟨255, by omega⟩
  exact ofBits_inf _ h.1 h.2.1 h.2.2

/-- What the search keeps true: `n` is a multiple of `s`, the power of `n` is at most `t`, that of `n + s` above it. -/
def Inv (t : EReal) (s n : ℕ) : Prop := n % s = 0 ∧ n + s ≤ 256 ∧ (n = 0 ∨ pwN n ≤ t) ∧ (n + s = 256 ∨ t < pwN (n + s))

theorem sstep_inv (t : EReal) (s n : ℕ) (hs : 0 < s) (h : Inv t (2 * s) n) :
    ∃ n', sstep t (BitVec.ofNat 32 s) (BitVec.ofNat 32 n) = BitVec.ofNat 32 n' ∧ Inv t s n' := by
  obtain ⟨h1, h2, h3, h4⟩ := h
  have hd : n % s = 0 := Nat.mod_eq_zero_of_dvd (Dvd.dvd.trans (Dvd.intro_left 2 rfl) (Nat.dvd_of_mod_eq_zero h1))
  have ha : IntOp.addi (BitVec.ofNat 32 n) (BitVec.ofNat 32 s) = BitVec.ofNat 32 (n + s) := (BitVec.ofNat_add n s).symm
  unfold sstep
  rw [ha]
  by_cases hc : pw (BitVec.ofNat 32 (n + s)) ≤ t
  · rw [if_pos hc]
    refine ⟨n + s, rfl, ?_, by omega, Or.inr hc, ?_⟩
    · rw [Nat.add_mod_right, hd]
    · rw [show n + s + s = n + 2 * s by ring]; exact h4
  · rw [if_neg hc]
    exact ⟨n, rfl, hd, by omega, h3, Or.inr (not_le.mp hc)⟩

theorem search_spec (t : EReal) : ∃ n, search t = BitVec.ofNat 32 n ∧ n ≤ 255 ∧ (n = 0 ∨ pwN n ≤ t) ∧ (n = 255 ∨ t < pwN (n + 1)) := by
  have h0 : Inv t (2 * 128) 0 := ⟨by norm_num, by norm_num, Or.inl rfl, Or.inl rfl⟩
  obtain ⟨n1, e1, i1⟩ := sstep_inv t 128 0 (by norm_num) h0
  obtain ⟨n2, e2, i2⟩ := sstep_inv t 64 n1 (by norm_num) i1
  obtain ⟨n3, e3, i3⟩ := sstep_inv t 32 n2 (by norm_num) i2
  obtain ⟨n4, e4, i4⟩ := sstep_inv t 16 n3 (by norm_num) i3
  obtain ⟨n5, e5, i5⟩ := sstep_inv t 8 n4 (by norm_num) i4
  obtain ⟨n6, e6, i6⟩ := sstep_inv t 4 n5 (by norm_num) i5
  obtain ⟨n7, e7, i7⟩ := sstep_inv t 2 n6 (by norm_num) i6
  obtain ⟨n8, e8, i8⟩ := sstep_inv t 1 n7 (by norm_num) i7
  refine ⟨n8, ?_, by have := i8.2.1; omega, i8.2.2.1, i8.2.2.2.imp (by omega) id⟩
  unfold search
  rw [e1, e2, e3, e4, e5, e6, e7, e8]

theorem pwN_mono {a b : ℕ} (h1 : 1 ≤ a) (h : a ≤ b) (h2 : b ≤ 254) : pwN a ≤ pwN b := by
  rw [pwN_eq a h1 (by omega), pwN_eq b (by omega) h2]
  exact_mod_cast zpow_le_zpow_right₀ (by norm_num : (1:ℝ) ≤ 2) (by omega : ((a:ℤ) - 127) ≤ (b:ℤ) - 127)

/-- Below `2 ^ 126` the search counts the powers of two, from `2 ^ -126` on, that are at most `t`. -/
theorem search_count (t : EReal) (ht : t < ((2:ℝ) ^ (126:ℤ) : ℝ)) : ∃ n ≤ 252, search t = BitVec.ofNat 32 n ∧
    ∀ k : ℕ, k < 253 → (((2:ℝ) ^ ((k:ℤ) - 126) : ℝ) ≤ t ↔ k < n) := by
  obtain ⟨n, e, h1, h2, h3⟩ := search_spec t
  have hn : n ≤ 252 := by
    by_contra hc
    have h253 : pwN 253 = (((2:ℝ) ^ (126:ℤ) : ℝ) : EReal) := by rw [pwN_eq 253 (by norm_num) (by norm_num)]; norm_num
    rcases h2 with h2 | h2
    · omega
    · have : pwN 253 ≤ pwN n := by
        by_cases h : n ≤ 254
        · exact pwN_mono (by norm_num) (by omega) h
        · have : n = 255 := by omega
          subst this; rw [pwN_255]; exact le_top
      exact absurd (lt_of_lt_of_le ht (h253 ▸ this.trans h2)) (lt_irrefl _)
  refine ⟨n, hn, e, fun k hk => ?_⟩
  have hp : (((2:ℝ) ^ ((k:ℤ) - 126) : ℝ) : EReal) = pwN (k + 1) := by
    rw [pwN_eq (k+1) (by omega) (by omega)]; congr 2; push_cast; ring
  rw [hp]
  constructor
  · intro h
    by_contra hc
    rcases h3 with h3 | h3
    · omega
    · exact absurd (lt_of_lt_of_le h3 ((pwN_mono (by omega) (by omega) (by omega)).trans h)) (lt_irrefl _)
  · intro h
    rcases h2 with h2 | h2
    · omega
    · exact (pwN_mono (by omega) (by omega) (by omega)).trans h2

/-- The exponent of the scale of `t`: zero at zero, and otherwise the number of powers of two up to `t`, less 126. -/
def refE (t : EReal) : EReal :=
  if t = 0 then 0 else (∑ k : Fin 253, if Ideal.exp2 (((k.val : ℝ) - 126 : ℝ) : EReal) ≤ t then (1 : EReal) else 0) - ((126 : ℝ) : EReal)

theorem exp2_int (k : ℤ) : Ideal.exp2 (((k : ℝ)) : EReal) = (((2:ℝ) ^ k : ℝ) : EReal) := by
  rw [Ideal.exp2_coe]
  congr 1
  exact Real.rpow_intCast 2 k

theorem count_lt (n : ℕ) (hn : n ≤ 253) : (∑ k : Fin 253, if k.val < n then (1 : EReal) else 0) = ((n : ℝ) : EReal) := by
  rw [Finset.sum_boole]
  have : (Finset.univ.filter fun k : Fin 253 => k.val < n).card = n := by
    rw [Fin.card_filter_val_lt]; omega
  rw [this]; rfl

/-- The scale and its inverse are the powers of two of the exponent. -/
theorem expo_spec (t : EReal) (ht : t < ((2:ℝ) ^ (126:ℤ) : ℝ)) : ∃ k : ℤ, refE t = ((k : ℝ) : EReal) ∧
    pw (IntOp.addi (expo t) 127#32) = (((2:ℝ) ^ k : ℝ) : EReal) ∧ pw (IntOp.subi 127#32 (expo t)) = (((2:ℝ) ^ (-k) : ℝ) : EReal) := by
  by_cases h0 : t = 0
  · refine ⟨0, by simp [refE, h0], ?_, ?_⟩
    · have : pw (IntOp.addi (expo t) 127#32) = pwN 127 := by simp [expo, h0, pwN, IntOp.addi]
      rw [this, pwN_eq 127 (by norm_num) (by norm_num)]; norm_num
    · have : pw (IntOp.subi 127#32 (expo t)) = pwN 127 := by simp [expo, h0, pwN, IntOp.subi]
      rw [this, pwN_eq 127 (by norm_num) (by norm_num)]; norm_num
  · obtain ⟨n, hn, e, hk⟩ := search_count t ht
    have hne : ¬ (t = 0 ∨ search t = 255#32) := by
      rw [e]; rintro (h | h)
      · exact h0 h
      · have := congrArg BitVec.toNat h
        simp at this; omega
    have hx : expo t = IntOp.subi (BitVec.ofNat 32 n) 126#32 := by unfold expo; rw [if_neg hne, e]
    have hall : ∀ n : Fin 253, IntOp.addi (IntOp.subi (BitVec.ofNat 32 n.val) 126#32) 127#32 = BitVec.ofNat 32 (n.val + 1)
        ∧ IntOp.subi 127#32 (IntOp.subi (BitVec.ofNat 32 n.val) 126#32) = BitVec.ofNat 32 (253 - n.val) := by decide +kernel
    obtain ⟨ha, hb⟩ := hall ⟨n, by omega⟩
    refine ⟨(n:ℤ) - 126, ?_, ?_, ?_⟩
    · unfold refE
      rw [if_neg h0]
      have : ∀ k : Fin 253, (if Ideal.exp2 (((k.val : ℝ) - 126 : ℝ) : EReal) ≤ t then (1 : EReal) else 0) = if k.val < n then 1 else 0 := by
        intro k
        have e2 : ((k.val : ℝ) - 126 : ℝ) = (((k.val : ℤ) - 126 : ℤ) : ℝ) := by push_cast; ring
        rw [e2, exp2_int]
        exact if_congr (hk k.val k.isLt) rfl rfl
      rw [Finset.sum_congr rfl fun k _ => this k, count_lt n (by omega), ← EReal.coe_sub]
      congr 1; push_cast; ring
    · rw [hx, ha]
      show pwN (n + 1) = _
      rw [pwN_eq _ (by omega) (by omega)]; congr 2; push_cast; ring
    · rw [hx, hb]
      show pwN (253 - n) = _
      rw [pwN_eq _ (by omega) (by omega)]; congr 2; push_cast [Nat.cast_sub (show n ≤ 253 by omega)]; ring

end Cert.Proof.Value

end
-- ==== Proof.RowSpec.lean ====
module

public import proofs.«01_k».proof.Proof.PowScale

/-! # One row of the result: the rotation, its exponent, its codes -/

@[expose] public section

set_option maxRecDepth 16384
set_option maxHeartbeats 400000

noncomputable section

namespace Cert.Proof.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The factor of the rotation. -/
def cINV : EReal := Ideal.ofBits FTy.f32 0x3C4511A3#32

/-- The float next to `1 / 448`. -/
def c448 : EReal := Ideal.ofBits FTy.f32 0x3B124925#32

theorem cINV_eq : cINV = ((12915107 / 1073741824 : ℝ) : EReal) := by
  simp [cINV, Ideal.ofBits, Ideal.ieee, -EReal.coe_mul]; norm_num

theorem c448_eq : c448 = ((9586981 / 4294967296 : ℝ) : EReal) := by
  simp [c448, Ideal.ofBits, Ideal.ieee, -EReal.coe_mul]; norm_num

/-- The Walsh–Hadamard transform of 64 entries. -/
def wht64 (f : ℕ → EReal) : ℕ → EReal := stage 32 (bf32 f)

/-- Entry `(a, p)` of the product with the Hadamard matrix: row `a` of the matrix against the entries `p` of the 108 groups of 64. -/
def had (H : ℕ → ℕ → EReal) (x : ℕ → EReal) (a p : ℕ) : EReal := ∑ k : Fin 108, H a k.val * x (64 * k.val + p)

/-- Entry `n` of the rotated row, before its factor. -/
def rotE (H : ℕ → ℕ → EReal) (x : ℕ → EReal) (n : ℕ) : EReal := wht64 (had H x (n / 64)) (n % 64)

/-- The exponent of the scale of a row whose largest absolute value is `a`. -/
def qE (a : EReal) : EReal :=
  if a = 0 then 0 else (∑ k : Fin 253, if Ideal.exp2 (((k.val : ℝ) - 126 : ℝ) : EReal) ≤ a * c448 then (1 : EReal) else 0) - ((126 : ℝ) : EReal)

/-- The scale of such a row. -/
def scaleE (a : EReal) : EReal := Ideal.exp2 (qE a)

/-- The code of `v` in such a row. -/
def codeE (v a : EReal) : EReal :=
  min (Ideal.ofBits FTy.f32 0x43E00000#32) (max (Ideal.ofBits FTy.f32 0xC3E00000#32) (v * Ideal.exp2 (0 - qE a)))

/-- The largest of finitely many values. -/
def maxE {n : ℕ} (f : Fin n → EReal) : EReal := Finset.univ.fold max ⊥ f

/-- The largest absolute value of a rotated row. -/
def rowA (H : ℕ → ℕ → EReal) (x : ℕ → EReal) : EReal := maxE fun n : Fin 6912 => absE (rotE H x n.val * cINV)

theorem maxE_le {n : ℕ} (f : Fin n → EReal) (c : EReal) : maxE f ≤ c ↔ ∀ i, f i ≤ c := by
  unfold maxE
  rw [Finset.fold_max_le]
  simp

theorem qE_eq (a : EReal) : qE a = refE (a * c448) := by
  have h : a = 0 ↔ a * c448 = 0 := by
    rw [mul_eq_zero]
    refine ⟨Or.inl, fun h => h.resolve_right ?_⟩
    rw [c448_eq]
    norm_cast
    positivity
  unfold qE refE
  exact if_congr h rfl rfl

/-- The words of the search give the scale and its inverse. -/
theorem quant_eq (a : EReal) (ha : a * c448 < ((2:ℝ) ^ (126:ℤ) : ℝ)) :
    pw (IntOp.addi (expo (a * c448)) 127#32) = scaleE a ∧ pw (IntOp.subi 127#32 (expo (a * c448))) = Ideal.exp2 (0 - qE a) := by
  obtain ⟨k, h1, h2, h3⟩ := expo_spec _ ha
  have e : qE a = ((k : ℝ) : EReal) := (qE_eq a).trans h1
  refine ⟨?_, ?_⟩
  · rw [h2, scaleE, e, exp2_int]
  · rw [h3, e, ← EReal.coe_zero, ← EReal.coe_sub, show ((0:ℝ) - (k:ℝ)) = ((-k : ℤ) : ℝ) by push_cast; ring, exp2_int]

theorem stage_double (h : ℕ) (hh : 0 < h) (f : ℕ → EReal) (b m : ℕ) (hb : b < 2) :
    stage (2 * h) f (2 * m + b) = stage h (fun m => f (2 * m + b)) m := by
  have hd : (2 * m + b) / (2 * h) = m / h := by
    rw [← Nat.div_div_eq_div_mul]; congr 1; omega
  unfold stage
  rw [hd]
  split
  · show f (2 * m + b) + f (2 * m + b + 2 * h) = f (2 * m + b) + f (2 * (m + h) + b)
    congr 2; ring
  · next hne =>
    have hm : h ≤ m := by
      by_contra hc
      rw [Nat.div_eq_of_lt (not_le.mp hc)] at hne
      exact hne rfl
    show f (2 * m + b - 2 * h) - f (2 * m + b) = f (2 * (m - h) + b) - f (2 * m + b)
    congr 2; omega

/-- The transform of 64 entries is that of 32 on the sums, and on the differences, of neighbours. -/
theorem wht64_split (f : ℕ → EReal) (b m : ℕ) (hb : b < 2) : wht64 f (2 * m + b) = bf32 (fun m => stage 1 f (2 * m + b)) m := by
  have h16 : ∀ g m, stage 32 g (2 * m + b) = stage 16 (fun m => g (2 * m + b)) m := fun g m => stage_double 16 (by norm_num) g b m hb
  have h8 : ∀ g m, stage 16 g (2 * m + b) = stage 8 (fun m => g (2 * m + b)) m := fun g m => stage_double 8 (by norm_num) g b m hb
  have h4 : ∀ g m, stage 8 g (2 * m + b) = stage 4 (fun m => g (2 * m + b)) m := fun g m => stage_double 4 (by norm_num) g b m hb
  have h2 : ∀ g m, stage 4 g (2 * m + b) = stage 2 (fun m => g (2 * m + b)) m := fun g m => stage_double 2 (by norm_num) g b m hb
  have h1 : ∀ g m, stage 2 g (2 * m + b) = stage 1 (fun m => g (2 * m + b)) m := fun g m => stage_double 1 (by norm_num) g b m hb
  unfold wht64 bf32
  simp only [h16, h8, h4, h2, h1]

theorem stage_congr (h N : ℕ) (hh : 0 < h) (hN : N % (2 * h) = 0) {f g : ℕ → EReal} (e : ∀ q < N, f q = g q) :
    ∀ p < N, stage h f p = stage h g p := by
  intro p hp
  unfold stage
  split
  · next hz =>
    have hlt : p + h < N := by
      obtain ⟨c, rfl⟩ := Nat.dvd_of_mod_eq_zero hN
      have h1 := Nat.div_add_mod p h
      have h2 := Nat.mod_lt p hh
      obtain ⟨d, hd⟩ := Nat.dvd_of_mod_eq_zero hz
      rw [hd] at h1
      have h3 : d < c := by
        by_contra hc
        have : 2 * h * c ≤ 2 * h * d := Nat.mul_le_mul_left _ (not_lt.mp hc)
        have e1 : h * (2 * d) = 2 * h * d := by ring
        omega
      have h4 : 2 * h * (d + 1) ≤ 2 * h * c := Nat.mul_le_mul_left _ h3
      have e1 : h * (2 * d) = 2 * h * d := by ring
      have e2 : 2 * h * (d + 1) = 2 * h * d + 2 * h := by ring
      omega
    rw [e p hp, e _ hlt]
  · rw [e p hp, e (p - h) (by omega)]

theorem bf32_congr {f g : ℕ → EReal} (e : ∀ q < 32, f q = g q) : ∀ p < 32, bf32 f p = bf32 g p :=
  stage_congr 16 32 (by norm_num) rfl (stage_congr 8 32 (by norm_num) rfl (stage_congr 4 32 (by norm_num) rfl
    (stage_congr 2 32 (by norm_num) rfl (stage_congr 1 32 (by norm_num) rfl e))))

theorem wht64_congr {f g : ℕ → EReal} (e : ∀ q < 64, f q = g q) : ∀ p < 64, wht64 f p = wht64 g p :=
  stage_congr 32 64 (by norm_num) rfl (stage_congr 16 64 (by norm_num) rfl (stage_congr 8 64 (by norm_num) rfl (stage_congr 4 64 (by norm_num) rfl
    (stage_congr 2 64 (by norm_num) rfl (stage_congr 1 64 (by norm_num) rfl e)))))

theorem bf32_zero (p : ℕ) : bf32 (fun _ => 0) p = 0 := by
  have h : ∀ h, stage h (fun _ => 0) = fun _ => 0 := by
    intro h; funext p; unfold stage; simp
  unfold bf32
  simp only [h]

/-- Every entry is a real of absolute value at most `M`. -/
def Bd (M : ℝ) (f : ℕ → EReal) : Prop := ∀ p, ∃ r : ℝ, f p = r ∧ |r| ≤ M

theorem stage_bd (h : ℕ) {M : ℝ} {f : ℕ → EReal} (hf : Bd M f) : Bd (2 * M) (stage h f) := by
  intro p
  unfold stage
  split
  · obtain ⟨r, e, hr⟩ := hf p
    obtain ⟨r', e', hr'⟩ := hf (p + h)
    exact ⟨r + r', by rw [e, e', EReal.coe_add], by have := abs_add_le r r'; linarith⟩
  · obtain ⟨r, e, hr⟩ := hf p
    obtain ⟨r', e', hr'⟩ := hf (p - h)
    exact ⟨r' - r, by rw [e, e', EReal.coe_sub], by have := abs_sub r' r; linarith⟩

theorem wht64_bd {M : ℝ} {f : ℕ → EReal} (hf : Bd M f) : Bd (64 * M) (wht64 f) := by
  have := stage_bd 32 (stage_bd 16 (stage_bd 8 (stage_bd 4 (stage_bd 2 (stage_bd 1 hf)))))
  intro p
  obtain ⟨r, e, hr⟩ := this p
  exact ⟨r, e, by linarith⟩

theorem had_bd {X : ℝ} (H : ℕ → ℕ → EReal) (x : ℕ → EReal) (a : ℕ) (hH : Bd 1 (H a)) (hx : Bd X x) : Bd (108 * X) (had H x a) := by
  intro p
  choose hr he hb using hH
  choose xr xe xb using hx
  refine ⟨∑ k : Fin 108, hr k.val * xr (64 * k.val + p), ?_, ?_⟩
  · unfold had
    simp only [he, xe, ← EReal.coe_mul]
    exact (map_sum (⟨⟨Real.toEReal, rfl⟩, fun a b => rfl⟩ : ℝ →+ EReal) _ _).symm
  · refine (Finset.abs_sum_le_sum_abs _ _).trans ?_
    refine (Finset.sum_le_card_nsmul _ _ X fun k _ => ?_).trans ?_
    · rw [abs_mul]
      have h1 := hb k.val
      have h2 := xb (64 * k.val + p)
      have h3 := abs_nonneg (xr (64 * k.val + p))
      nlinarith [abs_nonneg (hr k.val)]
    · simp

theorem rotE_bd {X : ℝ} (H : ℕ → ℕ → EReal) (x : ℕ → EReal) (hH : ∀ a, Bd 1 (H a)) (hx : Bd X x) : Bd (6912 * X) (rotE H x) := by
  intro n
  obtain ⟨r, e, hr⟩ := wht64_bd (had_bd H x (n / 64) (hH _) hx) (n % 64)
  exact ⟨r, e, by linarith⟩

theorem absE_coe (r : ℝ) : absE (r : EReal) = ((|r| : ℝ) : EReal) := by
  unfold absE
  rw [← EReal.coe_neg]
  exact (EReal.coe_strictMono.monotone.map_max (a := r) (b := -r)).symm

/-- The largest absolute value of a rotated row is within the range where the exponent is exact. -/
theorem rowA_lt {X : ℝ} (hX : X ≤ 2 ^ 128) (H : ℕ → ℕ → EReal) (x : ℕ → EReal) (hH : ∀ a, Bd 1 (H a)) (hx : Bd X x) :
    rowA H x * c448 < ((2:ℝ) ^ (126:ℤ) : ℝ) := by
  have hle : rowA H x ≤ ((6912 * 2 ^ 128 * (12915107 / 1073741824) : ℝ) : EReal) := by
    unfold rowA
    rw [maxE_le]
    intro n
    obtain ⟨r, e, hr⟩ := rotE_bd H x hH hx n.val
    rw [e, cINV_eq, ← EReal.coe_mul, absE_coe]
    refine EReal.coe_le_coe_iff.mpr ?_
    rw [abs_mul, abs_of_pos (by norm_num : (0:ℝ) < (12915107 / 1073741824 : ℝ))]
    refine mul_le_mul_of_nonneg_right ?_ (by norm_num)
    linarith
  have hc : (0 : EReal) ≤ c448 := by rw [c448_eq]; norm_cast; positivity
  refine lt_of_le_of_lt (mul_le_mul_of_nonneg_right hle hc) ?_
  rw [c448_eq, ← EReal.coe_mul]
  norm_cast
  norm_num

end Cert.Proof.Value

end
-- ==== Proof.RowKernel.lean ====
module

public import proofs.«01_k».proof.Proof.RowSpec

/-! # A row of a tile, as the kernel computes it -/

@[expose] public section

set_option maxRecDepth 16384
set_option maxHeartbeats 400000

noncomputable section

namespace Cert.Proof.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The Hadamard matrix as a function of naturals. -/
def hadF (H : Vec Ideal S108x108 .f32) (a k : ℕ) : EReal := H (ix2 ⟨a % 108, Nat.mod_lt _ (by decide)⟩ ⟨k % 108, Nat.mod_lt _ (by decide)⟩)

/-- Row `n` of a tile of the activation as a function of naturals. -/
def rowF (x : Vec Ideal S1x128x6912 .bf16) (n : Fin 128) (k : ℕ) : EReal := x (ix3 0 n ⟨k % 6912, Nat.mod_lt _ (by decide)⟩)

theorem sum_range_double (G : ℕ → EReal) (n : ℕ) : ∑ κ ∈ Finset.range (2 * n), G κ = ∑ k ∈ Finset.range n, (G (2 * k) + G (2 * k + 1)) := by
  induction n with
  | zero => simp
  | succ n ih =>
    rw [show 2 * (n + 1) = 2 * n + 1 + 1 by ring, Finset.sum_range_succ, Finset.sum_range_succ, ih, Finset.sum_range_succ, add_assoc]

/-- A sum over the columns of the woven matrix, of which those past 216 are zero, is one over pairs. -/
theorem sum_pairs (G : ℕ → EReal) (h : ∀ κ, 216 ≤ κ → G κ = 0) :
    ∑ κ : Fin 224, G κ.val = ∑ k : Fin 108, (G (2 * k.val) + G (2 * k.val + 1)) := by
  rw [← Finset.sum_range fun κ => G κ, ← Finset.sum_range fun k => G (2 * k) + G (2 * k + 1), show (224 : ℕ) = 2 * 112 from rfl, sum_range_double]
  refine (Finset.sum_subset (Finset.range_subset_range.mpr (by norm_num : 108 ≤ 112)) fun k _ hk => ?_).symm
  have : 108 ≤ k := by simpa using hk
  rw [h _ (by omega), h _ (by omega), add_zero]

theorem gm_top (H : Vec Ideal S108x108 .f32) (a : ℕ) (ha : a < 108) (κ : Fin 224) :
    gm H (ix2 ⟨a, by omega⟩ κ) = if κ.val < 216 then hadF H a (κ.val / 2) else 0 := by
  show (if h : κ.val / 2 < 108 then (if a < 108 then H (ix2 ⟨a % 108, _⟩ ⟨κ.val / 2, h⟩) else _) else 0) = _
  by_cases h : κ.val < 216
  · rw [dif_pos (by omega), if_pos ha, if_pos h]
    exact congrArg H (congrArg (ix2 _) (Fin.ext (Nat.mod_eq_of_lt (by omega)).symm))
  · rw [dif_neg (by omega), if_neg h]

theorem gm_bot (H : Vec Ideal S108x108 .f32) (a : ℕ) (ha : a < 108) (κ : Fin 224) :
    gm H (ix2 ⟨112 + a, by omega⟩ κ) = if κ.val < 216 then hadF H a (κ.val / 2) * (if κ.val % 2 = 1 then -1 else 1) else 0 := by
  show (if h : κ.val / 2 < 108 then (if 112 + a < 108 then _ else if 112 ≤ 112 + a ∧ 112 + a < 220 then H (ix2 ⟨(112 + a - 112) % 108, _⟩ ⟨κ.val / 2, h⟩) * (if κ.val % 2 = 1 then -1 else 1) else 0) else 0) = _
  by_cases h : κ.val < 216
  · rw [dif_pos (by omega), if_neg (by omega), if_pos (by omega), if_pos h]
    congr 1
    refine congrArg H (congrArg₂ ix2 (Fin.ext ?_) (Fin.ext ?_))
    · show (112 + a - 112) % 108 = a % 108
      congr 1; omega
    · exact (Nat.mod_eq_of_lt (by omega)).symm
  · rw [dif_neg (by omega), if_neg h]

theorem gm_mid (H : Vec Ideal S108x108 .f32) (r : Fin 224) (hr : (108 ≤ r.val ∧ r.val < 112) ∨ 220 ≤ r.val) (κ : Fin 224) : gm H (ix2 r κ) = 0 := by
  show (if h : κ.val / 2 < 108 then (if r.val < 108 then _ else if 112 ≤ r.val ∧ r.val < 220 then _ else 0) else 0) = _
  by_cases h : κ.val / 2 < 108
  · rw [dif_pos h, if_neg (by omega), if_neg (by omega)]
  · rw [dif_neg h]

/-- Entry `m` of the operand of column `κ`, for one row. -/
theorem pair_row (x : Vec Ideal S1x128x6912 .bf16) (n : Fin 128) (m : ℕ) (hm : m < 32) (κ : ℕ) (hκ : κ < 216) :
    pairT x (ix3 ⟨(κ / 2 * 36 + m) % 4032, Nat.mod_lt _ (by decide)⟩ ⟨κ % 2, Nat.mod_lt _ (by decide)⟩ n) = rowF x n (64 * (κ / 2) + (2 * m + κ % 2)) := by
  refine congrArg x (congrArg (ix3 0 n) (Fin.ext ?_))
  show (64 * ((κ / 2 * 36 + m) % 4032 / 36) + 2 * ((κ / 2 * 36 + m) % 4032 % 36) + κ % 2) % 6912 = (64 * (κ / 2) + (2 * m + κ % 2)) % 6912
  congr 1
  have h2 := Nat.mod_lt κ (show 0 < 2 by norm_num)
  generalize κ % 2 = b at *
  have : κ / 2 < 108 := by omega
  generalize κ / 2 = q at *
  omega

theorem Z_top (x : Vec Ideal S1x128x6912 .bf16) (H : Vec Ideal S108x108 .f32) (n : Fin 128) (a : ℕ) (ha : a < 108) (m : ℕ) (hm : m < 32) :
    Zof x H (ix3 ⟨m, hm⟩ ⟨a, by omega⟩ n) = stage 1 (had (hadF H) (rowF x n) a) (2 * m + 0) := by
  have e : Zof x H (ix3 ⟨m, hm⟩ ⟨a, by omega⟩ n) = ∑ κ : Fin 224, (fun κ : ℕ => if κ < 216 then hadF H a (κ / 2) * rowF x n (64 * (κ / 2) + (2 * m + κ % 2)) else 0) κ.val := by
    show (∑ κ : Fin 224, gm H (ix2 ⟨a, by omega⟩ κ) * pairT x (ix3 ⟨(κ.val / 2 * 36 + m) % 4032, Nat.mod_lt _ (by decide)⟩ ⟨κ.val % 2, Nat.mod_lt _ (by decide)⟩ n)) = _
    refine Finset.sum_congr rfl fun κ _ => ?_
    refine (congrArg (· * _) (gm_top H a ha κ)).trans ?_
    by_cases h : κ.val < 216
    · simp only [if_pos h]
      exact congrArg (_ * ·) (pair_row x n m hm κ.val h)
    · simp only [if_neg h, zero_mul]
  rw [e, sum_pairs (fun κ : ℕ => if κ < 216 then hadF H a (κ / 2) * rowF x n (64 * (κ / 2) + (2 * m + κ % 2)) else 0) fun κ h => if_neg (show ¬ κ < 216 by omega)]
  unfold stage
  rw [if_pos (by omega)]
  unfold had
  rw [← Finset.sum_add_distrib]
  refine Finset.sum_congr rfl fun k _ => ?_
  have hk := k.isLt
  simp only [if_pos (show 2 * k.val < 216 by omega), if_pos (show 2 * k.val + 1 < 216 by omega)]
  rw [show 2 * k.val / 2 = k.val by omega, show (2 * k.val + 1) / 2 = k.val by omega, show 2 * k.val % 2 = 0 by omega, show (2 * k.val + 1) % 2 = 1 by omega]

theorem Z_bot {X : ℝ} (x : Vec Ideal S1x128x6912 .bf16) (H : Vec Ideal S108x108 .f32) (n : Fin 128) (hH : ∀ a, Bd 1 (hadF H a)) (hx : Bd X (rowF x n))
    (a : ℕ) (ha : a < 108) (m : ℕ) (hm : m < 32) :
    Zof x H (ix3 ⟨m, hm⟩ ⟨112 + a, by omega⟩ n) = stage 1 (had (hadF H) (rowF x n) a) (2 * m + 1) := by
  have e : Zof x H (ix3 ⟨m, hm⟩ ⟨112 + a, by omega⟩ n) = ∑ κ : Fin 224, (fun κ : ℕ => if κ < 216 then hadF H a (κ / 2) * (if κ % 2 = 1 then -1 else 1) * rowF x n (64 * (κ / 2) + (2 * m + κ % 2)) else 0) κ.val := by
    show (∑ κ : Fin 224, gm H (ix2 ⟨112 + a, by omega⟩ κ) * pairT x (ix3 ⟨(κ.val / 2 * 36 + m) % 4032, Nat.mod_lt _ (by decide)⟩ ⟨κ.val % 2, Nat.mod_lt _ (by decide)⟩ n)) = _
    refine Finset.sum_congr rfl fun κ _ => ?_
    refine (congrArg (· * _) (gm_bot H a ha κ)).trans ?_
    by_cases h : κ.val < 216
    · simp only [if_pos h]
      exact congrArg (_ * ·) (pair_row x n m hm κ.val h)
    · simp only [if_neg h, zero_mul]
  rw [e, sum_pairs (fun κ : ℕ => if κ < 216 then hadF H a (κ / 2) * (if κ % 2 = 1 then -1 else 1) * rowF x n (64 * (κ / 2) + (2 * m + κ % 2)) else 0) fun κ h => if_neg (show ¬ κ < 216 by omega)]
  unfold stage
  rw [if_neg (by omega)]
  have h1 := had_bd (hadF H) (rowF x n) a (hH a) hx
  choose hr he hb using hH a
  choose xr xe xb using hx
  have hadr : ∀ p, had (hadF H) (rowF x n) a p = ((∑ k : Fin 108, hr k.val * xr (64 * k.val + p) : ℝ) : EReal) := by
    intro p
    unfold had
    simp only [he, xe, ← EReal.coe_mul]
    exact (map_sum (⟨⟨Real.toEReal, rfl⟩, fun a b => rfl⟩ : ℝ →+ EReal) _ _).symm
  rw [hadr, hadr, ← EReal.coe_sub, ← Finset.sum_sub_distrib]
  refine Eq.trans ?_ (map_sum (⟨⟨Real.toEReal, rfl⟩, fun a b => rfl⟩ : ℝ →+ EReal) _ _).symm
  refine Finset.sum_congr rfl fun k _ => ?_
  have hk := k.isLt
  simp only [if_pos (show 2 * k.val < 216 by omega), if_pos (show 2 * k.val + 1 < 216 by omega)]
  rw [show 2 * k.val / 2 = k.val by omega, show (2 * k.val + 1) / 2 = k.val by omega, show 2 * k.val % 2 = 0 by omega, show (2 * k.val + 1) % 2 = 1 by omega,
    if_neg (by norm_num), if_pos rfl, he, xe, xe, show 2 * m + 1 - 1 = 2 * m + 0 by omega, mul_one]
  show _ = ((hr k.val * xr (64 * k.val + (2 * m + 0)) - hr k.val * xr (64 * k.val + (2 * m + 1)) : ℝ) : EReal)
  rw [show ((hr k.val : ℝ) : EReal) * (-1 : EReal) = ((-(hr k.val) : ℝ) : EReal) by rw [EReal.coe_neg, mul_comm, neg_mul, one_mul],
    ← EReal.coe_mul, ← EReal.coe_mul, ← EReal.coe_add]
  congr 1; ring

/-- Row `112 b + a` of the butterflies holds the entries `64 a + 2 p + b` of the rotated row. -/
theorem bfZ_eq {X : ℝ} (x : Vec Ideal S1x128x6912 .bf16) (H : Vec Ideal S108x108 .f32) (n : Fin 128) (hH : ∀ a, Bd 1 (hadF H a)) (hx : Bd X (rowF x n))
    (a b p : ℕ) (ha : a < 108) (hb : b < 2) (hp : p < 32) :
    bfZ (Zof x H) (b * 112 + a) n p = rotE (hadF H) (rowF x n) (64 * a + (2 * p + b)) := by
  have e : rotE (hadF H) (rowF x n) (64 * a + (2 * p + b)) = wht64 (had (hadF H) (rowF x n) a) (2 * p + b) := by
    unfold rotE
    rw [show (64 * a + (2 * p + b)) / 64 = a by omega, show (64 * a + (2 * p + b)) % 64 = 2 * p + b by omega]
  rw [e, wht64_split _ b p hb]
  unfold bfZ
  refine bf32_congr (fun q hq => ?_) p hp
  have ei : ∀ (r : ℕ) (hr : r < 224), (ix3 ⟨q % 32, Nat.mod_lt _ (by decide)⟩ ⟨r % 224, Nat.mod_lt _ (by decide)⟩ n : S32x224x128.Idx) = ix3 ⟨q, hq⟩ ⟨r, hr⟩ n :=
    fun r hr => congrArg₂ (fun u v => ix3 u v n) (Fin.ext (Nat.mod_eq_of_lt hq)) (Fin.ext (Nat.mod_eq_of_lt hr))
  rcases (show b = 0 ∨ b = 1 by omega) with rfl | rfl
  · rw [show 0 * 112 + a = a by omega, ei a (by omega)]
    exact Z_top x H n a ha q hq
  · rw [show 1 * 112 + a = 112 + a by omega, ei (112 + a) (by omega)]
    exact Z_bot x H n hH hx a ha q hq

/-- The other rows hold zero. -/
theorem bfZ_zero (x : Vec Ideal S1x128x6912 .bf16) (H : Vec Ideal S108x108 .f32) (n : Fin 128) (r p : ℕ) (hr : (108 ≤ r ∧ r < 112) ∨ (220 ≤ r ∧ r < 224)) :
    bfZ (Zof x H) r n p = 0 := by
  have e : (fun m : ℕ => Zof x H (ix3 ⟨m % 32, Nat.mod_lt _ (by decide)⟩ ⟨r % 224, Nat.mod_lt _ (by decide)⟩ n)) = fun _ => 0 := by
    funext m
    refine Finset.sum_eq_zero (s := (Finset.univ : Finset (Fin 224))) (f := fun κ => gm H (ix2 ⟨r % 224, Nat.mod_lt _ (by decide)⟩ κ) * pairT x (ix3 ⟨(κ.val / 2 * 36 + m % 32) % 4032, Nat.mod_lt _ (by decide)⟩ ⟨κ.val % 2, Nat.mod_lt _ (by decide)⟩ n)) fun κ _ => ?_
    refine (congrArg (· * _) (gm_mid H ⟨r % 224, Nat.mod_lt _ (by decide)⟩ ?_ κ)).trans (zero_mul _)
    show (108 ≤ r % 224 ∧ r % 224 < 112) ∨ 220 ≤ r % 224
    rw [Nat.mod_eq_of_lt (by omega)]; omega
  unfold bfZ
  rw [e, bf32_zero]

theorem absE_nonneg (a : EReal) : 0 ≤ absE a := by
  unfold absE
  rcases le_total 0 a with h | h
  · exact le_max_of_le_left h
  · exact le_max_of_le_right (EReal.neg_nonneg.mpr h)

theorem cINV_nonneg : 0 ≤ cINV := by
  rw [cINV_eq]; norm_cast; positivity

theorem neg_inf_bits : Ideal.ofBits FTy.f32 0xFF800000#32 = ⊥ := by simp [Ideal.ofBits, Ideal.ieee]

/-- The largest value of a row after its factor is the largest before, times the factor. -/
theorem maxE_mul {n : ℕ} (f : Fin n → EReal) : maxE (fun i => absE (f i * cINV)) = maxE (fun i => absE (f i)) * cINV := by
  have hm : ∀ x y : EReal, max x y * cINV = max (x * cINV) (y * cINV) := fun x y =>
    (monotone_mul_right_of_nonneg cINV_nonneg).map_max
  have hb : (⊥ : EReal) * cINV = ⊥ := by
    rw [cINV_eq]
    exact EReal.bot_mul_coe_of_pos (by norm_num)
  have ha : ∀ x : EReal, absE (x * cINV) = absE x * cINV := by
    intro x
    unfold absE
    rw [hm, EReal.neg_mul]
  have := Finset.fold_hom (op := (max : EReal → EReal → EReal)) (op' := (max : EReal → EReal → EReal)) (s := Finset.univ) (b := ⊥) (f := fun i => absE (f i)) (m := (· * cINV)) hm
  unfold maxE
  simp only [ha]
  rw [← this, hb]

theorem pay253_fold (A : FVec Ideal S8x128 .f32) (n : Fin 128) :
    k0_pay253 A (ix2 0 n) = Finset.fold max (Ideal.ofBits FTy.f32 0xFF800000#32) (fun x : Fin 8 => A (ix2 x n)) Finset.univ * Ideal.ofBits FTy.f32 0x3C4511A3#32 * Ideal.ofBits FTy.f32 0x3B124925#32 := by
  pointwise [k0_pay253]

/-- The largest absolute value of a tile's row, as the kernel collects it, is that of the rotated row. -/
theorem amax_eq {X : ℝ} (x : Vec Ideal S1x128x6912 .bf16) (H : Vec Ideal S108x108 .f32) (n : Fin 128) (hH : ∀ a, Bd 1 (hadF H a)) (hx : Bd X (rowF x n)) :
    k0_pay253 (accT (Zof x H)) (ix2 0 n) = rowA (hadF H) (rowF x n) * c448 := by
  rw [pay253_fold]
  unfold rowA
  rw [maxE_mul]
  refine congrArg (· * c448) (congrArg (· * cINV) ?_)
  rw [neg_inf_bits]
  refine eq_of_forall_ge_iff fun c => ?_
  rw [maxE_le, Finset.fold_max_le]
  constructor
  · rintro ⟨_, h⟩ i
    have hi := i.isLt
    have ha : i.val / 64 < 108 := by omega
    have e : i.val = 64 * (i.val / 64) + (2 * (i.val % 64 / 2) + i.val % 2) := by omega
    have hr : i.val % 2 * 112 + i.val / 64 < 224 := by omega
    rw [e, ← bfZ_eq x H n hH hx (i.val / 64) (i.val % 2) (i.val % 64 / 2) ha (by omega) (by omega)]
    refine le_trans ?_ (h ⟨(i.val % 2 * 112 + i.val / 64) % 8, Nat.mod_lt _ (by norm_num)⟩ (Finset.mem_univ _))
    refine le_trans ?_ (le_max_right _ _)
    refine le_trans ?_ (le_iSup_of_le (⟨(i.val % 2 * 112 + i.val / 64) / 8, by omega⟩ : Fin 28) (le_iSup_of_le (⟨i.val % 64 / 2, by omega⟩ : Fin 32) (le_refl _)))
    refine le_of_eq (congrArg (fun r => absE (bfZ (Zof x H) r n (i.val % 64 / 2))) ?_)
    show _ = 8 * ((i.val % 2 * 112 + i.val / 64) / 8) + (i.val % 2 * 112 + i.val / 64) % 8
    omega
  · intro h
    have h0 : 0 ≤ c := le_trans (absE_nonneg _) (h ⟨0, by norm_num⟩)
    refine ⟨bot_le, fun q _ => max_le h0 (iSup_le fun j => iSup_le fun p => ?_)⟩
    have hj := j.isLt
    have hq := q.isLt
    have hp := p.isLt
    show absE (bfZ (Zof x H) (8 * j.val + q.val) n p.val) ≤ c
    by_cases hz : (108 ≤ 8 * j.val + q.val ∧ 8 * j.val + q.val < 112) ∨ (220 ≤ 8 * j.val + q.val ∧ 8 * j.val + q.val < 224)
    · rw [bfZ_zero x H n _ _ hz]
      unfold absE; simpa using h0
    · by_cases hb : 8 * j.val + q.val < 108
      · rw [show 8 * j.val + q.val = 0 * 112 + (8 * j.val + q.val) by omega, bfZ_eq x H n hH hx _ 0 p.val hb (by norm_num) hp]
        exact h ⟨64 * (8 * j.val + q.val) + (2 * p.val + 0), by omega⟩
      · rw [show 8 * j.val + q.val = 1 * 112 + (8 * j.val + q.val - 112) by omega, bfZ_eq x H n hH hx _ 1 p.val (by omega) (by norm_num) hp]
        exact h ⟨64 * (8 * j.val + q.val - 112) + (2 * p.val + 1), by omega⟩

/-- The scale of a row, as the kernel computes it. -/
theorem xsB_apply {X : ℝ} (hX : X ≤ 2 ^ 128) (x : Vec Ideal S1x128x6912 .bf16) (H : Vec Ideal S108x108 .f32) (n : Fin 128) (hH : ∀ a, Bd 1 (hadF H a)) (hx : Bd X (rowF x n)) :
    xsB x H (ix2 0 n) = scaleE (rowA (hadF H) (rowF x n)) := by
  have q := quant_eq _ (rowA_lt hX (hadF H) (rowF x n) hH hx)
  unfold xsB
  rw [scOf_apply, amax_eq x H n hH hx, q.1]

/-- The codes of a row, as the kernel computes them. -/
theorem xcB_apply {X : ℝ} (hX : X ≤ 2 ^ 128) (x : Vec Ideal S1x128x6912 .bf16) (H : Vec Ideal S108x108 .f32) (n : Fin 128) (hH : ∀ a, Bd 1 (hadF H a)) (hx : Bd X (rowF x n)) (k : Fin 6912) :
    xcB x H (ix3 0 n k) = codeE (rotE (hadF H) (rowF x n) k.val * cINV) (rowA (hadF H) (rowF x n)) := by
  have q := quant_eq _ (rowA_lt hX (hadF H) (rowF x n) hH hx)
  have hk := k.isLt
  have e1 : bfT (Zof x H) (ix2 ⟨(k.val / 64 * 68 + k.val % 64) % 7616, Nat.mod_lt _ (by decide)⟩ n) = rotE (hadF H) (rowF x n) k.val := by
    have hb := bfZ_eq x H n hH hx (k.val / 64) (k.val % 2) (k.val % 64 / 2) (by omega) (by omega) (by omega)
    rw [show 64 * (k.val / 64) + (2 * (k.val % 64 / 2) + k.val % 2) = k.val by omega] at hb
    rw [← hb]
    show bfZ (Zof x H) ((k.val / 64 * 68 + k.val % 64) % 7616 % 68 % 2 * 112 + (k.val / 64 * 68 + k.val % 64) % 7616 / 68) n ((k.val / 64 * 68 + k.val % 64) % 7616 % 68 / 2) = _
    have e0 : (k.val / 64 * 68 + k.val % 64) % 7616 = k.val / 64 * 68 + k.val % 64 := by omega
    have e2 : (k.val / 64 * 68 + k.val % 64) % 68 = k.val % 64 := by omega
    have e3 : (k.val / 64 * 68 + k.val % 64) / 68 = k.val / 64 := by omega
    rw [e0, e2, e3, show k.val % 64 % 2 = k.val % 2 by omega]
  have e2 : ivOf (accT (Zof x H)) (ix2 0 n) = Ideal.exp2 (0 - qE (rowA (hadF H) (rowF x n))) := by
    rw [ivOf_apply, amax_eq x H n hH hx, q.2]
  show codeOf (bfT (Zof x H) (ix2 ⟨(k.val / 64 * 68 + k.val % 64) % 7616, _⟩ n)) (ivOf (accT (Zof x H)) (ix2 0 n)) = _
  rw [e1, e2]
  unfold codeOf codeE
  have e4 : ∀ z s : EReal, z * (s * Ideal.ofBits FTy.f32 0x3C4511A3#32) = z * cINV * s := by
    intro z s
    show z * (s * cINV) = z * cINV * s
    rw [mul_comm s, mul_assoc]
  rw [e4]

end Cert.Proof.Value

end
-- ==== Proof.NormBound.lean ====
module

public import proofs.«01_k».proof.Proof.RowSpec

/-! # A normalised row and how large it is -/

@[expose] public section

set_option maxRecDepth 16384
set_option maxHeartbeats 400000

noncomputable section

namespace Cert.Proof.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- A row of the normalised residual under the gain. -/
def normE (r g : Fin 1152 → EReal) (j : Fin 1152) : EReal :=
  r j * Ideal.rsqrt (Ideal.div (∑ k : Fin 1152, r k * r k) (Ideal.ofBits FTy.f32 0x44900000#32) + Ideal.ofBits FTy.f32 0x358637BD#32) * g j

/-- The largest absolute value of such a row. -/
def normA (r g : Fin 1152 → EReal) : EReal := maxE fun j => absE (normE r g j)

theorem bits1152 : Ideal.ofBits FTy.f32 0x44900000#32 = ((1152 : ℝ) : EReal) := by
  simp [Ideal.ofBits, Ideal.ieee, -EReal.coe_mul]; norm_num

theorem bitsEps : ∃ e : ℝ, 0 < e ∧ Ideal.ofBits FTy.f32 0x358637BD#32 = ((e : ℝ) : EReal) := by
  refine ⟨8796093 / 8796093022208, by norm_num, ?_⟩
  simp [Ideal.ofBits, Ideal.ieee, -EReal.coe_mul]; norm_num

theorem div1152 (x : EReal) : Ideal.div x (Ideal.ofBits FTy.f32 0x44900000#32) = x * ((1 / 1152 : ℝ) : EReal) := by
  rw [bits1152, Ideal.div_coe (by norm_num : (1152 : ℝ) ≠ 0)]

theorem sq_nonneg_E (x : EReal) : 0 ≤ x * x := by
  induction x with
  | bot => simp
  | top => simp
  | coe r => rw [← EReal.coe_mul]; exact_mod_cast mul_self_nonneg r

/-- A row divided by the root of its mean square is at most 34 in absolute value, and zero where the row has an infinite entry. -/
theorem unit_bd (r : Fin 1152 → EReal) (j : Fin 1152) :
    ∃ u : ℝ, r j * Ideal.rsqrt (Ideal.div (∑ k : Fin 1152, r k * r k) (Ideal.ofBits FTy.f32 0x44900000#32) + Ideal.ofBits FTy.f32 0x358637BD#32) = ((u : ℝ) : EReal) ∧ |u| ≤ 34 := by
  obtain ⟨e, he, hb⟩ := bitsEps
  rw [div1152, hb]
  by_cases h : ∃ k, r k = ⊤ ∨ r k = ⊥
  · obtain ⟨k, hk⟩ := h
    have ht : r k * r k = ⊤ := by rcases hk with hk | hk <;> rw [hk] <;> simp
    have hs : (∑ k : Fin 1152, r k * r k) = ⊤ := by
      refine top_le_iff.mp ?_
      rw [← ht]
      exact Finset.single_le_sum (f := fun k => r k * r k) (fun i _ => sq_nonneg_E (r i)) (Finset.mem_univ k)
    have h1 : (⊤ : EReal) * ((1 / 1152 : ℝ) : EReal) + (e : EReal) = ⊤ := by
      rw [EReal.top_mul_coe_of_pos (by norm_num), EReal.top_add_coe]
    rw [hs, h1]
    refine ⟨0, ?_, by norm_num⟩
    show r j * Ideal.rsqrt ⊤ = _
    rw [Ideal.rsqrt_top, mul_zero]; rfl
  · push Not at h
    have hr : ∀ k, ∃ v : ℝ, r k = v := fun k => ⟨(r k).toReal, (EReal.coe_toReal (h k).1 (h k).2).symm⟩
    choose v hv using hr
    have hs : (∑ k : Fin 1152, r k * r k) = ((∑ k : Fin 1152, v k * v k : ℝ) : EReal) := by
      simp only [hv, ← EReal.coe_mul]
      exact (map_sum (⟨⟨Real.toEReal, rfl⟩, fun a b => rfl⟩ : ℝ →+ EReal) _ _).symm
    have hj : v j * v j ≤ ∑ k : Fin 1152, v k * v k :=
      Finset.single_le_sum (f := fun k => v k * v k) (fun i _ => mul_self_nonneg (v i)) (Finset.mem_univ j)
    rw [hs, ← EReal.coe_mul, ← EReal.coe_add]
    generalize (∑ k : Fin 1152, v k * v k : ℝ) = S at hj ⊢
    have hS : 0 ≤ S := le_trans (mul_self_nonneg _) hj
    have hq : 0 < S * (1 / 1152) + e := by positivity
    rw [hv j, Ideal.rsqrt_coe, if_neg (not_lt.mpr hq.le), if_neg hq.ne', ← EReal.coe_mul]
    refine ⟨_, rfl, ?_⟩
    have hp := Real.sqrt_pos.mpr hq
    rw [abs_mul, abs_of_pos (inv_pos.mpr hp), ← div_eq_mul_inv, div_le_iff₀ hp]
    have h34 : (34 : ℝ) = Real.sqrt 1156 := by
      rw [show (1156 : ℝ) = 34 ^ 2 by norm_num, Real.sqrt_sq (by norm_num)]
    rw [h34, ← Real.sqrt_mul (by norm_num)]
    refine Real.le_sqrt_of_sq_le ?_
    rw [sq_abs]
    nlinarith

/-- The largest absolute value of a normalised row, over 448, stays under 2^126: the gain is at most the largest f32. -/
theorem normA_lt {G : ℝ} (hG : G ≤ 2 ^ 128) (r g : Fin 1152 → EReal) (hg : ∀ j, ∃ v : ℝ, g j = v ∧ |v| ≤ G) :
    normA r g * c448 < ((2:ℝ) ^ (126:ℤ) : ℝ) := by
  have hle : normA r g ≤ ((34 * 2 ^ 128 : ℝ) : EReal) := by
    unfold normA
    rw [maxE_le]
    intro j
    obtain ⟨u, eu, hu⟩ := unit_bd r j
    obtain ⟨v, ev, hv⟩ := hg j
    unfold normE
    rw [eu, ev, ← EReal.coe_mul, absE_coe]
    refine EReal.coe_le_coe_iff.mpr ?_
    rw [abs_mul]
    exact mul_le_mul hu (hv.trans hG) (abs_nonneg _) (by norm_num)
  have hc : (0 : EReal) ≤ c448 := by rw [c448_eq]; norm_cast; positivity
  refine lt_of_le_of_lt (mul_le_mul_of_nonneg_right hle hc) ?_
  rw [c448_eq, ← EReal.coe_mul]
  norm_cast
  norm_num

end Cert.Proof.Value

end
-- ==== Proof.NormRow.lean ====
module

public import proofs.«01_k».proof.Proof.RowKernel
public import proofs.«01_k».proof.Proof.NormBound
public import Idealize.ShloMosaic.PureOps.IdealRules

/-! # The norm of a tile, as the kernel computes it -/

@[expose] public section

set_option maxRecDepth 16384
set_option maxHeartbeats 400000

noncomputable section

namespace Cert.Proof.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem inv1152 : Named.named (F := Ideal) (φ := FTy.f32) κ "inv_d" 0x3A638E39#32 = ((1 / 1152 : ℝ) : EReal) :=
  IdealRules.named_const.ideal_named_scalar _ _ _ _ rfl

theorem pay268_apply (r : FVec Ideal S128x1152 .f32) (g : Vec Ideal S1x1152 .f32) (a : Fin 128) (j : Fin 1152) :
    k0_pay268 r g (ix2 a j) = normE (fun k => r (ix2 a k)) (fun k => g (ix2 0 k)) j := by
  have h : k0_pay268 r g (ix2 a j) = r (ix2 a j) * Ideal.rsqrt ((∑ x : Fin 1152, r (ix2 a x) * r (ix2 a x)) * Named.named (F := Ideal) (φ := FTy.f32) κ "inv_d" 0x3A638E39#32 + Ideal.ofBits FTy.f32 0x358637BD#32) * g (ix2 0 j) := by
    pointwise [k0_pay268]
  unfold normE
  rw [h, inv1152, div1152]

theorem pay269_apply (r : FVec Ideal S128x1152 .f32) (g : Vec Ideal S1x1152 .f32) (a : Fin 128) :
    k0_pay269 r g (ix2 a 0) = normA (fun k => r (ix2 a k)) (fun k => g (ix2 0 k)) * c448 := by
  have h : k0_pay269 r g (ix2 a 0) = Finset.fold max (Ideal.ofBits FTy.f32 0xFF800000#32) (fun x : Fin 1152 => FloatOps.absf (k0_pay268 r g (ix2 a x))) Finset.univ * Ideal.ofBits FTy.f32 0x3B124925#32 := by
    pointwise [k0_pay269]
  rw [h, neg_inf_bits]
  refine congrArg (· * c448) ?_
  unfold normA maxE
  refine congrArg (fun f => Finset.fold max ⊥ f Finset.univ) (funext fun x => ?_)
  rw [pay268_apply]
  rfl

/-- The scale of a normalised row, as the kernel computes it. -/
theorem nsOf_eq {G : ℝ} (hG : G ≤ 2 ^ 128) (r : FVec Ideal S128x1152 .f32) (g : Vec Ideal S1x1152 .f32) (hg : ∀ j, ∃ v : ℝ, g (ix2 0 j) = v ∧ |v| ≤ G) (a : Fin 128) :
    nsOf r g (ix2 0 a) = scaleE (normA (fun k => r (ix2 a k)) (fun k => g (ix2 0 k))) := by
  have q := quant_eq _ (normA_lt hG (fun k => r (ix2 a k)) (fun k => g (ix2 0 k)) hg)
  rw [nsOf_apply, pay269_apply, q.1]

/-- The codes of a normalised row, as the kernel computes them. -/
theorem ncOf_eq {G : ℝ} (hG : G ≤ 2 ^ 128) (r : FVec Ideal S128x1152 .f32) (g : Vec Ideal S1x1152 .f32) (hg : ∀ j, ∃ v : ℝ, g (ix2 0 j) = v ∧ |v| ≤ G) (a : Fin 128) (j : Fin 1152) :
    ncOf r g (ix3 0 a j) = codeE (normE (fun k => r (ix2 a k)) (fun k => g (ix2 0 k)) j) (normA (fun k => r (ix2 a k)) (fun k => g (ix2 0 k))) := by
  have q := quant_eq _ (normA_lt hG (fun k => r (ix2 a k)) (fun k => g (ix2 0 k)) hg)
  unfold codeE
  rw [ncOf_apply, pay269_apply, q.2, pay268_apply]

theorem pay267_raw (s : FVec Ideal S1x128 .f32) (C : Vec Ideal S1x128x6912 .fp8e4m3) (w1 : Vec Ideal S6912x1024 .fp8e4m3) (w2 : Vec Ideal S6912x256 .fp8e4m3) (ws : Vec Ideal S1x1152 .f32) (x : Vec Ideal S1x128x1152 .bf16)
    (a : Fin 128) (j : Fin 1152) :
    k0_pay267 s C w1 w2 ws x (ix2 a j) = x (ix3 0 a j) + (if h : j.val < 1024 then ∑ n : Fin 6912, C (ix3 0 a n) * w1 (ix2 n ⟨j.val, h⟩) else ∑ n : Fin 6912, C (ix3 0 a n) * w2 (ix2 n ⟨128 + (j.val - 1024), by omega⟩)) * s (ix2 0 a) * ws (ix2 0 j) := by
  pointwise [k0_pay267, k0_pay265]

theorem pay266_raw (s : FVec Ideal S1x128 .f32) (C : Vec Ideal S1x128x6912 .fp8e4m3) (w1 : Vec Ideal S6912x1024 .fp8e4m3) (w2 : Vec Ideal S6912x256 .fp8e4m3) (ws : Vec Ideal S1x1152 .f32) (x : Vec Ideal S1x128x1152 .bf16)
    (a : Fin 128) (j : Fin 1152) :
    k0_pay266 s C w1 w2 ws x (ix3 0 a j) = x (ix3 0 a j) + (if h : j.val < 1024 then ∑ n : Fin 6912, C (ix3 0 a n) * w1 (ix2 n ⟨j.val, h⟩) else ∑ n : Fin 6912, C (ix3 0 a n) * w2 (ix2 n ⟨128 + (j.val - 1024), by omega⟩)) * s (ix2 0 a) * ws (ix2 0 j) := by
  pointwise [k0_pay266, k0_pay267, k0_pay265]

/-- The two products with the parts of the weights are one product with the weights. -/
theorem parts_eq (C : Vec Ideal S1x128x6912 .fp8e4m3) (w : Vec Ideal S6912x1152 .fp8e4m3) (a : Fin 128) (j : Fin 1152) :
    (if h : j.val < 1024 then ∑ n : Fin 6912, C (ix3 0 a n) * wA w (ix2 n ⟨j.val, h⟩) else ∑ n : Fin 6912, C (ix3 0 a n) * wB w (ix2 n ⟨128 + (j.val - 1024), by omega⟩))
      = (∑ n : Fin 6912, C (ix3 0 a n) * w (ix2 n j) : EReal) := by
  by_cases h : j.val < 1024
  · exact (dif_pos h).trans rfl
  · refine (dif_neg h).trans (Finset.sum_congr rfl fun n _ => congrArg (C (ix3 0 a n) * ·) ?_)
    refine congrArg w (congrArg (ix2 n) (Fin.ext ?_))
    show 896 + (128 + (j.val - 1024)) = j.val
    omega

/-- The residual's new row, as stored. -/
theorem roB_apply (x0 : Vec Ideal S1x128x6912 .bf16) (x1 : Vec Ideal S1x128x1152 .bf16) (x3 : Vec Ideal S108x108 .f32) (x4 : Vec Ideal S6912x1152 .fp8e4m3) (x5 : Vec Ideal S1x1152 .f32) (a : Fin 128) (j : Fin 1152) :
    roB x0 x1 x3 x4 x5 (ix3 0 a j) = x1 (ix3 0 a j) + (∑ n : Fin 6912, xcB x0 x3 (ix3 0 a n) * x4 (ix2 n j)) * xsB x0 x3 (ix2 0 a) * x5 (ix2 0 j) := by
  unfold roB
  rw [pay266_raw, parts_eq]

/-- The residual's new row, as the norm reads it. -/
theorem rB_apply (x0 : Vec Ideal S1x128x6912 .bf16) (x1 : Vec Ideal S1x128x1152 .bf16) (x3 : Vec Ideal S108x108 .f32) (x4 : Vec Ideal S6912x1152 .fp8e4m3) (x5 : Vec Ideal S1x1152 .f32) (a : Fin 128) (j : Fin 1152) :
    rB x0 x1 x3 x4 x5 (ix2 a j) = x1 (ix3 0 a j) + (∑ n : Fin 6912, xcB x0 x3 (ix3 0 a n) * x4 (ix2 n j)) * xsB x0 x3 (ix2 0 a) * x5 (ix2 0 j) := by
  unfold rB
  rw [pay267_raw, parts_eq]

end Cert.Proof.Value

end
-- ==== Proof.RefRotate.lean ====
module

public import proofs.«01_k».proof.Proof.Gen.ReferenceIdeal.Frame
public import proofs.«01_k».proof.Proof.RowSpec
public import Idealize.ShloMosaic.Lib.Pipeline.ValueKit
public import Idealize.ShloMosaic.Lib.Pointwise
public import Idealize.ShloMosaic.Lib.StableHlo.ReadAt

/-! # The rotation, as the reference states it -/

@[expose] public section

set_option maxRecDepth 16384
set_option maxHeartbeats 400000

noncomputable section

namespace Cert.Proof.Ref

open Cert.ReferenceIdeal Cert.ReferenceIdeal.Gen Cert.Proof.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Lines of the host program: part 0. -/
abbrev ops0 {F : FTy → Type} [FloatOps F] : List (HloOp τ sig (Elt F)) :=
  [StableHlo.unary main_arg0 main_v0 ((extf .f32 · bitsLt_bf16_f32) : (⟨S3x640x6912, .bf16⟩ : BufTy).Contents (Elt F) → (⟨S3x640x6912, .f32⟩ : BufTy).Contents (Elt F)),
   StableHlo.reshape main_v0 main_v1 (rfl : (.f32 : EltTy) = .f32) shapeCasts_S3x640x6912_S3x640x108x64,
   StableHlo.binary main_arg3 main_v1 main_v2 ((fun l r => Host.dotGeneral dot_S108x108_S3x640x108x64_S108x3x640x64_1_2_0_013_n_n (some .fp32) l r) : (⟨S108x108, .f32⟩ : BufTy).Contents (Elt F) → (⟨S3x640x108x64, .f32⟩ : BufTy).Contents (Elt F) → (⟨S108x3x640x64, .f32⟩ : BufTy).Contents (Elt F)),
   StableHlo.unary main_v2 main_v3 ((transpose S3x640x108x64 [1, 2, 0, 3] · transposes_S108x3x640x64_S3x640x108x64_1_2_0_3) : (⟨S108x3x640x64, .f32⟩ : BufTy).Contents (Elt F) → (⟨S3x640x108x64, .f32⟩ : BufTy).Contents (Elt F))]

/-- Lines of the host program: part 1. -/
abbrev ops1 {F : FTy → Type} [FloatOps F] : List (HloOp τ sig (Elt F)) :=
  [StableHlo.reshape main_v3 main_v4 (rfl : (.f32 : EltTy) = .f32) shapeCasts_S3x640x108x64_S3x640x108x32x2x1,
   StableHlo.unary main_v4 main_v5 ((extractStridedSlice S3x640x108x32x1x1 ![0, 0, 0, 0, 0, 0] · slices_S3x640x108x32x2x1_S3x640x108x32x1x1_0_0_0_0_0_0) : (⟨S3x640x108x32x2x1, .f32⟩ : BufTy).Contents (Elt F) → (⟨S3x640x108x32x1x1, .f32⟩ : BufTy).Contents (Elt F)),
   StableHlo.reshape main_v5 main_v6 (rfl : (.f32 : EltTy) = .f32) shapeCasts_S3x640x108x32x1x1_S3x640x108x32x1,
   StableHlo.unary main_v4 main_v7 ((extractStridedSlice S3x640x108x32x1x1 ![0, 0, 0, 0, 1, 0] · slices_S3x640x108x32x2x1_S3x640x108x32x1x1_0_0_0_0_1_0) : (⟨S3x640x108x32x2x1, .f32⟩ : BufTy).Contents (Elt F) → (⟨S3x640x108x32x1x1, .f32⟩ : BufTy).Contents (Elt F)),
   StableHlo.reshape main_v7 main_v8 (rfl : (.f32 : EltTy) = .f32) shapeCasts_S3x640x108x32x1x1_S3x640x108x32x1,
   StableHlo.binary main_v6 main_v8 main_v9 (addf : (⟨S3x640x108x32x1, .f32⟩ : BufTy).Contents (Elt F) → (⟨S3x640x108x32x1, .f32⟩ : BufTy).Contents (Elt F) → (⟨S3x640x108x32x1, .f32⟩ : BufTy).Contents (Elt F)),
   StableHlo.binary main_v6 main_v8 main_v10 (subf : (⟨S3x640x108x32x1, .f32⟩ : BufTy).Contents (Elt F) → (⟨S3x640x108x32x1, .f32⟩ : BufTy).Contents (Elt F) → (⟨S3x640x108x32x1, .f32⟩ : BufTy).Contents (Elt F)),
   StableHlo.unary main_v9 main_v11 (broadcastInDim S3x640x108x32x1x1 ![0, 1, 2, 3, 5] bcast_S3x640x108x32x1_S3x640x108x32x1x1_0_1_2_3_5 : (⟨S3x640x108x32x1, .f32⟩ : BufTy).Contents (Elt F) → (⟨S3x640x108x32x1x1, .f32⟩ : BufTy).Contents (Elt F)),
   StableHlo.unary main_v10 main_v12 (broadcastInDim S3x640x108x32x1x1 ![0, 1, 2, 3, 5] bcast_S3x640x108x32x1_S3x640x108x32x1x1_0_1_2_3_5 : (⟨S3x640x108x32x1, .f32⟩ : BufTy).Contents (Elt F) → (⟨S3x640x108x32x1x1, .f32⟩ : BufTy).Contents (Elt F)),
   StableHlo.binary main_v11 main_v12 main_v13 ((fun a b => concatenate S3x640x108x32x2x1 4 [⟨S3x640x108x32x1x1, a⟩, ⟨S3x640x108x32x1x1, b⟩] concatenates_S3x640x108x32x1x1_S3x640x108x32x1x1_S3x640x108x32x2x1_d4) : (⟨S3x640x108x32x1x1, .f32⟩ : BufTy).Contents (Elt F) → (⟨S3x640x108x32x1x1, .f32⟩ : BufTy).Contents (Elt F) → (⟨S3x640x108x32x2x1, .f32⟩ : BufTy).Contents (Elt F)),
   StableHlo.reshape main_v13 main_v14 (rfl : (.f32 : EltTy) = .f32) shapeCasts_S3x640x108x32x2x1_S3x640x108x64]

/-- Lines of the host program: part 2. -/
abbrev ops2 {F : FTy → Type} [FloatOps F] : List (HloOp τ sig (Elt F)) :=
  [StableHlo.reshape main_v14 main_v15 (rfl : (.f32 : EltTy) = .f32) shapeCasts_S3x640x108x64_S3x640x108x16x2x2,
   StableHlo.unary main_v15 main_v16 ((extractStridedSlice S3x640x108x16x1x2 ![0, 0, 0, 0, 0, 0] · slices_S3x640x108x16x2x2_S3x640x108x16x1x2_0_0_0_0_0_0) : (⟨S3x640x108x16x2x2, .f32⟩ : BufTy).Contents (Elt F) → (⟨S3x640x108x16x1x2, .f32⟩ : BufTy).Contents (Elt F)),
   StableHlo.reshape main_v16 main_v17 (rfl : (.f32 : EltTy) = .f32) shapeCasts_S3x640x108x16x1x2_S3x640x108x16x2,
   StableHlo.unary main_v15 main_v18 ((extractStridedSlice S3x640x108x16x1x2 ![0, 0, 0, 0, 1, 0] · slices_S3x640x108x16x2x2_S3x640x108x16x1x2_0_0_0_0_1_0) : (⟨S3x640x108x16x2x2, .f32⟩ : BufTy).Contents (Elt F) → (⟨S3x640x108x16x1x2, .f32⟩ : BufTy).Contents (Elt F)),
   StableHlo.reshape main_v18 main_v19 (rfl : (.f32 : EltTy) = .f32) shapeCasts_S3x640x108x16x1x2_S3x640x108x16x2,
   StableHlo.binary main_v17 main_v19 main_v20 (addf : (⟨S3x640x108x16x2, .f32⟩ : BufTy).Contents (Elt F) → (⟨S3x640x108x16x2, .f32⟩ : BufTy).Contents (Elt F) → (⟨S3x640x108x16x2, .f32⟩ : BufTy).Contents (Elt F)),
   StableHlo.binary main_v17 main_v19 main_v21 (subf : (⟨S3x640x108x16x2, .f32⟩ : BufTy).Contents (Elt F) → (⟨S3x640x108x16x2, .f32⟩ : BufTy).Contents (Elt F) → (⟨S3x640x108x16x2, .f32⟩ : BufTy).Contents (Elt F)),
   StableHlo.unary main_v20 main_v22 (broadcastInDim S3x640x108x16x1x2 ![0, 1, 2, 3, 5] bcast_S3x640x108x16x2_S3x640x108x16x1x2_0_1_2_3_5 : (⟨S3x640x108x16x2, .f32⟩ : BufTy).Contents (Elt F) → (⟨S3x640x108x16x1x2, .f32⟩ : BufTy).Contents (Elt F)),
   StableHlo.unary main_v21 main_v23 (broadcastInDim S3x640x108x16x1x2 ![0, 1, 2, 3, 5] bcast_S3x640x108x16x2_S3x640x108x16x1x2_0_1_2_3_5 : (⟨S3x640x108x16x2, .f32⟩ : BufTy).Contents (Elt F) → (⟨S3x640x108x16x1x2, .f32⟩ : BufTy).Contents (Elt F)),
   StableHlo.binary main_v22 main_v23 main_v24 ((fun a b => concatenate S3x640x108x16x2x2 4 [⟨S3x640x108x16x1x2, a⟩, ⟨S3x640x108x16x1x2, b⟩] concatenates_S3x640x108x16x1x2_S3x640x108x16x1x2_S3x640x108x16x2x2_d4) : (⟨S3x640x108x16x1x2, .f32⟩ : BufTy).Contents (Elt F) → (⟨S3x640x108x16x1x2, .f32⟩ : BufTy).Contents (Elt F) → (⟨S3x640x108x16x2x2, .f32⟩ : BufTy).Contents (Elt F)),
   StableHlo.reshape main_v24 main_v25 (rfl : (.f32 : EltTy) = .f32) shapeCasts_S3x640x108x16x2x2_S3x640x108x64]

/-- Lines of the host program: part 3. -/
abbrev ops3 {F : FTy → Type} [FloatOps F] : List (HloOp τ sig (Elt F)) :=
  [StableHlo.reshape main_v25 main_v26 (rfl : (.f32 : EltTy) = .f32) shapeCasts_S3x640x108x64_S3x640x108x8x2x4,
   StableHlo.unary main_v26 main_v27 ((extractStridedSlice S3x640x108x8x1x4 ![0, 0, 0, 0, 0, 0] · slices_S3x640x108x8x2x4_S3x640x108x8x1x4_0_0_0_0_0_0) : (⟨S3x640x108x8x2x4, .f32⟩ : BufTy).Contents (Elt F) → (⟨S3x640x108x8x1x4, .f32⟩ : BufTy).Contents (Elt F)),
   StableHlo.reshape main_v27 main_v28 (rfl : (.f32 : EltTy) = .f32) shapeCasts_S3x640x108x8x1x4_S3x640x108x8x4,
   StableHlo.unary main_v26 main_v29 ((extractStridedSlice S3x640x108x8x1x4 ![0, 0, 0, 0, 1, 0] · slices_S3x640x108x8x2x4_S3x640x108x8x1x4_0_0_0_0_1_0) : (⟨S3x640x108x8x2x4, .f32⟩ : BufTy).Contents (Elt F) → (⟨S3x640x108x8x1x4, .f32⟩ : BufTy).Contents (Elt F)),
   StableHlo.reshape main_v29 main_v30 (rfl : (.f32 : EltTy) = .f32) shapeCasts_S3x640x108x8x1x4_S3x640x108x8x4,
   StableHlo.binary main_v28 main_v30 main_v31 (addf : (⟨S3x640x108x8x4, .f32⟩ : BufTy).Contents (Elt F) → (⟨S3x640x108x8x4, .f32⟩ : BufTy).Contents (Elt F) → (⟨S3x640x108x8x4, .f32⟩ : BufTy).Contents (Elt F)),
   StableHlo.binary main_v28 main_v30 main_v32 (subf : (⟨S3x640x108x8x4, .f32⟩ : BufTy).Contents (Elt F) → (⟨S3x640x108x8x4, .f32⟩ : BufTy).Contents (Elt F) → (⟨S3x640x108x8x4, .f32⟩ : BufTy).Contents (Elt F)),
   StableHlo.unary main_v31 main_v33 (broadcastInDim S3x640x108x8x1x4 ![0, 1, 2, 3, 5] bcast_S3x640x108x8x4_S3x640x108x8x1x4_0_1_2_3_5 : (⟨S3x640x108x8x4, .f32⟩ : BufTy).Contents (Elt F) → (⟨S3x640x108x8x1x4, .f32⟩ : BufTy).Contents (Elt F)),
   StableHlo.unary main_v32 main_v34 (broadcastInDim S3x640x108x8x1x4 ![0, 1, 2, 3, 5] bcast_S3x640x108x8x4_S3x640x108x8x1x4_0_1_2_3_5 : (⟨S3x640x108x8x4, .f32⟩ : BufTy).Contents (Elt F) → (⟨S3x640x108x8x1x4, .f32⟩ : BufTy).Contents (Elt F)),
   StableHlo.binary main_v33 main_v34 main_v35 ((fun a b => concatenate S3x640x108x8x2x4 4 [⟨S3x640x108x8x1x4, a⟩, ⟨S3x640x108x8x1x4, b⟩] concatenates_S3x640x108x8x1x4_S3x640x108x8x1x4_S3x640x108x8x2x4_d4) : (⟨S3x640x108x8x1x4, .f32⟩ : BufTy).Contents (Elt F) → (⟨S3x640x108x8x1x4, .f32⟩ : BufTy).Contents (Elt F) → (⟨S3x640x108x8x2x4, .f32⟩ : BufTy).Contents (Elt F)),
   StableHlo.reshape main_v35 main_v36 (rfl : (.f32 : EltTy) = .f32) shapeCasts_S3x640x108x8x2x4_S3x640x108x64]

/-- Lines of the host program: part 4. -/
abbrev ops4 {F : FTy → Type} [FloatOps F] : List (HloOp τ sig (Elt F)) :=
  [StableHlo.reshape main_v36 main_v37 (rfl : (.f32 : EltTy) = .f32) shapeCasts_S3x640x108x64_S3x640x108x4x2x8,
   StableHlo.unary main_v37 main_v38 ((extractStridedSlice S3x640x108x4x1x8 ![0, 0, 0, 0, 0, 0] · slices_S3x640x108x4x2x8_S3x640x108x4x1x8_0_0_0_0_0_0) : (⟨S3x640x108x4x2x8, .f32⟩ : BufTy).Contents (Elt F) → (⟨S3x640x108x4x1x8, .f32⟩ : BufTy).Contents (Elt F)),
   StableHlo.reshape main_v38 main_v39 (rfl : (.f32 : EltTy) = .f32) shapeCasts_S3x640x108x4x1x8_S3x640x108x4x8,
   StableHlo.unary main_v37 main_v40 ((extractStridedSlice S3x640x108x4x1x8 ![0, 0, 0, 0, 1, 0] · slices_S3x640x108x4x2x8_S3x640x108x4x1x8_0_0_0_0_1_0) : (⟨S3x640x108x4x2x8, .f32⟩ : BufTy).Contents (Elt F) → (⟨S3x640x108x4x1x8, .f32⟩ : BufTy).Contents (Elt F)),
   StableHlo.reshape main_v40 main_v41 (rfl : (.f32 : EltTy) = .f32) shapeCasts_S3x640x108x4x1x8_S3x640x108x4x8,
   StableHlo.binary main_v39 main_v41 main_v42 (addf : (⟨S3x640x108x4x8, .f32⟩ : BufTy).Contents (Elt F) → (⟨S3x640x108x4x8, .f32⟩ : BufTy).Contents (Elt F) → (⟨S3x640x108x4x8, .f32⟩ : BufTy).Contents (Elt F)),
   StableHlo.binary main_v39 main_v41 main_v43 (subf : (⟨S3x640x108x4x8, .f32⟩ : BufTy).Contents (Elt F) → (⟨S3x640x108x4x8, .f32⟩ : BufTy).Contents (Elt F) → (⟨S3x640x108x4x8, .f32⟩ : BufTy).Contents (Elt F)),
   StableHlo.unary main_v42 main_v44 (broadcastInDim S3x640x108x4x1x8 ![0, 1, 2, 3, 5] bcast_S3x640x108x4x8_S3x640x108x4x1x8_0_1_2_3_5 : (⟨S3x640x108x4x8, .f32⟩ : BufTy).Contents (Elt F) → (⟨S3x640x108x4x1x8, .f32⟩ : BufTy).Contents (Elt F)),
   StableHlo.unary main_v43 main_v45 (broadcastInDim S3x640x108x4x1x8 ![0, 1, 2, 3, 5] bcast_S3x640x108x4x8_S3x640x108x4x1x8_0_1_2_3_5 : (⟨S3x640x108x4x8, .f32⟩ : BufTy).Contents (Elt F) → (⟨S3x640x108x4x1x8, .f32⟩ : BufTy).Contents (Elt F)),
   StableHlo.binary main_v44 main_v45 main_v46 ((fun a b => concatenate S3x640x108x4x2x8 4 [⟨S3x640x108x4x1x8, a⟩, ⟨S3x640x108x4x1x8, b⟩] concatenates_S3x640x108x4x1x8_S3x640x108x4x1x8_S3x640x108x4x2x8_d4) : (⟨S3x640x108x4x1x8, .f32⟩ : BufTy).Contents (Elt F) → (⟨S3x640x108x4x1x8, .f32⟩ : BufTy).Contents (Elt F) → (⟨S3x640x108x4x2x8, .f32⟩ : BufTy).Contents (Elt F)),
   StableHlo.reshape main_v46 main_v47 (rfl : (.f32 : EltTy) = .f32) shapeCasts_S3x640x108x4x2x8_S3x640x108x64]

/-- Lines of the host program: part 5. -/
abbrev ops5 {F : FTy → Type} [FloatOps F] : List (HloOp τ sig (Elt F)) :=
  [StableHlo.reshape main_v47 main_v48 (rfl : (.f32 : EltTy) = .f32) shapeCasts_S3x640x108x64_S3x640x108x2x2x16,
   StableHlo.unary main_v48 main_v49 ((extractStridedSlice S3x640x108x2x1x16 ![0, 0, 0, 0, 0, 0] · slices_S3x640x108x2x2x16_S3x640x108x2x1x16_0_0_0_0_0_0) : (⟨S3x640x108x2x2x16, .f32⟩ : BufTy).Contents (Elt F) → (⟨S3x640x108x2x1x16, .f32⟩ : BufTy).Contents (Elt F)),
   StableHlo.reshape main_v49 main_v50 (rfl : (.f32 : EltTy) = .f32) shapeCasts_S3x640x108x2x1x16_S3x640x108x2x16,
   StableHlo.unary main_v48 main_v51 ((extractStridedSlice S3x640x108x2x1x16 ![0, 0, 0, 0, 1, 0] · slices_S3x640x108x2x2x16_S3x640x108x2x1x16_0_0_0_0_1_0) : (⟨S3x640x108x2x2x16, .f32⟩ : BufTy).Contents (Elt F) → (⟨S3x640x108x2x1x16, .f32⟩ : BufTy).Contents (Elt F)),
   StableHlo.reshape main_v51 main_v52 (rfl : (.f32 : EltTy) = .f32) shapeCasts_S3x640x108x2x1x16_S3x640x108x2x16,
   StableHlo.binary main_v50 main_v52 main_v53 (addf : (⟨S3x640x108x2x16, .f32⟩ : BufTy).Contents (Elt F) → (⟨S3x640x108x2x16, .f32⟩ : BufTy).Contents (Elt F) → (⟨S3x640x108x2x16, .f32⟩ : BufTy).Contents (Elt F)),
   StableHlo.binary main_v50 main_v52 main_v54 (subf : (⟨S3x640x108x2x16, .f32⟩ : BufTy).Contents (Elt F) → (⟨S3x640x108x2x16, .f32⟩ : BufTy).Contents (Elt F) → (⟨S3x640x108x2x16, .f32⟩ : BufTy).Contents (Elt F)),
   StableHlo.unary main_v53 main_v55 (broadcastInDim S3x640x108x2x1x16 ![0, 1, 2, 3, 5] bcast_S3x640x108x2x16_S3x640x108x2x1x16_0_1_2_3_5 : (⟨S3x640x108x2x16, .f32⟩ : BufTy).Contents (Elt F) → (⟨S3x640x108x2x1x16, .f32⟩ : BufTy).Contents (Elt F)),
   StableHlo.unary main_v54 main_v56 (broadcastInDim S3x640x108x2x1x16 ![0, 1, 2, 3, 5] bcast_S3x640x108x2x16_S3x640x108x2x1x16_0_1_2_3_5 : (⟨S3x640x108x2x16, .f32⟩ : BufTy).Contents (Elt F) → (⟨S3x640x108x2x1x16, .f32⟩ : BufTy).Contents (Elt F)),
   StableHlo.binary main_v55 main_v56 main_v57 ((fun a b => concatenate S3x640x108x2x2x16 4 [⟨S3x640x108x2x1x16, a⟩, ⟨S3x640x108x2x1x16, b⟩] concatenates_S3x640x108x2x1x16_S3x640x108x2x1x16_S3x640x108x2x2x16_d4) : (⟨S3x640x108x2x1x16, .f32⟩ : BufTy).Contents (Elt F) → (⟨S3x640x108x2x1x16, .f32⟩ : BufTy).Contents (Elt F) → (⟨S3x640x108x2x2x16, .f32⟩ : BufTy).Contents (Elt F)),
   StableHlo.reshape main_v57 main_v58 (rfl : (.f32 : EltTy) = .f32) shapeCasts_S3x640x108x2x2x16_S3x640x108x64]

/-- Lines of the host program: part 6. -/
abbrev ops6 {F : FTy → Type} [FloatOps F] : List (HloOp τ sig (Elt F)) :=
  [StableHlo.reshape main_v58 main_v59 (rfl : (.f32 : EltTy) = .f32) shapeCasts_S3x640x108x64_S3x640x108x1x2x32,
   StableHlo.unary main_v59 main_v60 ((extractStridedSlice S3x640x108x1x1x32 ![0, 0, 0, 0, 0, 0] · slices_S3x640x108x1x2x32_S3x640x108x1x1x32_0_0_0_0_0_0) : (⟨S3x640x108x1x2x32, .f32⟩ : BufTy).Contents (Elt F) → (⟨S3x640x108x1x1x32, .f32⟩ : BufTy).Contents (Elt F)),
   StableHlo.reshape main_v60 main_v61 (rfl : (.f32 : EltTy) = .f32) shapeCasts_S3x640x108x1x1x32_S3x640x108x1x32,
   StableHlo.unary main_v59 main_v62 ((extractStridedSlice S3x640x108x1x1x32 ![0, 0, 0, 0, 1, 0] · slices_S3x640x108x1x2x32_S3x640x108x1x1x32_0_0_0_0_1_0) : (⟨S3x640x108x1x2x32, .f32⟩ : BufTy).Contents (Elt F) → (⟨S3x640x108x1x1x32, .f32⟩ : BufTy).Contents (Elt F)),
   StableHlo.reshape main_v62 main_v63 (rfl : (.f32 : EltTy) = .f32) shapeCasts_S3x640x108x1x1x32_S3x640x108x1x32,
   StableHlo.binary main_v61 main_v63 main_v64 (addf : (⟨S3x640x108x1x32, .f32⟩ : BufTy).Contents (Elt F) → (⟨S3x640x108x1x32, .f32⟩ : BufTy).Contents (Elt F) → (⟨S3x640x108x1x32, .f32⟩ : BufTy).Contents (Elt F)),
   StableHlo.binary main_v61 main_v63 main_v65 (subf : (⟨S3x640x108x1x32, .f32⟩ : BufTy).Contents (Elt F) → (⟨S3x640x108x1x32, .f32⟩ : BufTy).Contents (Elt F) → (⟨S3x640x108x1x32, .f32⟩ : BufTy).Contents (Elt F)),
   StableHlo.unary main_v64 main_v66 (broadcastInDim S3x640x108x1x1x32 ![0, 1, 2, 3, 5] bcast_S3x640x108x1x32_S3x640x108x1x1x32_0_1_2_3_5 : (⟨S3x640x108x1x32, .f32⟩ : BufTy).Contents (Elt F) → (⟨S3x640x108x1x1x32, .f32⟩ : BufTy).Contents (Elt F)),
   StableHlo.unary main_v65 main_v67 (broadcastInDim S3x640x108x1x1x32 ![0, 1, 2, 3, 5] bcast_S3x640x108x1x32_S3x640x108x1x1x32_0_1_2_3_5 : (⟨S3x640x108x1x32, .f32⟩ : BufTy).Contents (Elt F) → (⟨S3x640x108x1x1x32, .f32⟩ : BufTy).Contents (Elt F)),
   StableHlo.binary main_v66 main_v67 main_v68 ((fun a b => concatenate S3x640x108x1x2x32 4 [⟨S3x640x108x1x1x32, a⟩, ⟨S3x640x108x1x1x32, b⟩] concatenates_S3x640x108x1x1x32_S3x640x108x1x1x32_S3x640x108x1x2x32_d4) : (⟨S3x640x108x1x1x32, .f32⟩ : BufTy).Contents (Elt F) → (⟨S3x640x108x1x1x32, .f32⟩ : BufTy).Contents (Elt F) → (⟨S3x640x108x1x2x32, .f32⟩ : BufTy).Contents (Elt F)),
   StableHlo.reshape main_v68 main_v69 (rfl : (.f32 : EltTy) = .f32) shapeCasts_S3x640x108x1x2x32_S3x640x108x64]

/-- Lines of the host program: part 7. -/
abbrev ops7 {F : FTy → Type} [FloatOps F] : List (HloOp τ sig (Elt F)) :=
  [StableHlo.nullary main_cst (constant S_ .f32 0x3C4511A3#32),
   StableHlo.unary main_cst main_v70 (broadcastInDim S3x640x108x64 ![] bcast_S_S3x640x108x64 : (⟨S_, .f32⟩ : BufTy).Contents (Elt F) → (⟨S3x640x108x64, .f32⟩ : BufTy).Contents (Elt F)),
   StableHlo.binary main_v69 main_v70 main_v71 (mulf : (⟨S3x640x108x64, .f32⟩ : BufTy).Contents (Elt F) → (⟨S3x640x108x64, .f32⟩ : BufTy).Contents (Elt F) → (⟨S3x640x108x64, .f32⟩ : BufTy).Contents (Elt F)),
   StableHlo.reshape main_v71 main_v72 (rfl : (.f32 : EltTy) = .f32) shapeCasts_S3x640x108x64_S3x640x6912,
   StableHlo.reshape main_arg2 main_v73 (rfl : (.f32 : EltTy) = .f32) shapeCasts_S1152_S1x1x1152,
   StableHlo.reshape main_arg5 main_v74 (rfl : (.f32 : EltTy) = .f32) shapeCasts_S1152_S1x1x1152]

theorem after_app {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

/-- The 64 entries of one piece of a row, as a sequence. -/
def seqOf (v : Vec Ideal S3x640x108x64 .f32) (b : Fin 3) (s : Fin 640) (a : Fin 108) (p : ℕ) : EReal :=
  v (ix4 b s a ⟨p % 64, Nat.mod_lt _ (by decide)⟩)

theorem seqOf_of (v : Vec Ideal S3x640x108x64 .f32) (b : Fin 3) (s : Fin 640) (a : Fin 108) (p q : ℕ) (hp : p < 64) (e : p = q) :
    v (ix4 b s a ⟨p, hp⟩) = seqOf v b s a q := by
  subst e
  exact congrArg v (congrArg (ix4 b s a) (Fin.ext (Nat.mod_eq_of_lt hp).symm))

/-- The Hadamard matrix as a function of naturals. -/
def hadM (H : Vec Ideal S108x108 .f32) (a k : ℕ) : EReal := H (ix2 ⟨a % 108, Nat.mod_lt _ (by decide)⟩ ⟨k % 108, Nat.mod_lt _ (by decide)⟩)

/-- A row of the activation as a function of naturals. -/
def rowM (x : Vec Ideal S3x640x6912 .bf16) (b : Fin 3) (s : Fin 640) (k : ℕ) : EReal := x (ix3 b s ⟨k % 6912, Nat.mod_lt _ (by decide)⟩)

/-- Before the stages: the product of the Hadamard matrix with the pieces of a row. -/
theorem s0 (W : Valuation τ sig (Elt Ideal)) (b : Fin 3) (s : Fin 640) (a : Fin 108) (p : Fin 64) :
   (StableHlo.after (ops0 (F := Ideal)) W (Proc.tc.devRef main_v3) : Vec Ideal S3x640x108x64 .f32) (ix4 b s a p)
     = had (hadM (W (Proc.tc.devRef main_arg3))) (rowM (W (Proc.tc.devRef main_arg0)) b s) a.val p.val := by
  after_reads_at
  unfold had
  refine Finset.sum_congr rfl fun k _ => ?_
  have hk := k.isLt
  have ha := a.isLt
  have hp := p.isLt
  unfold hadM rowM
  refine congrArg₂ (· * ·) (congrArg _ (congrArg₂ ix2 (Fin.ext ?_) (Fin.ext ?_))) (congrArg _ (congrArg (ix3 b s) (Fin.ext ?_)))
  · exact (Nat.mod_eq_of_lt ha).symm
  · exact (Nat.mod_eq_of_lt hk).symm
  · show k.val * 64 + p.val = (64 * k.val + p.val) % 6912
    omega

/-- The stage of stride 1. -/
theorem s1 (W : Valuation τ sig (Elt Ideal)) (b : Fin 3) (s : Fin 640) (a : Fin 108) (p : Fin 64) :
   (StableHlo.after (ops1 (F := Ideal)) W (Proc.tc.devRef main_v14) : Vec Ideal S3x640x108x64 .f32) (ix4 b s a p)
     = stage 1 (seqOf (W (Proc.tc.devRef main_v3)) b s a) p.val := by
  have hp := p.isLt
  by_cases h : p.val % 2 < 1
  · have e : stage 1 (seqOf (W (Proc.tc.devRef main_v3)) b s a) p.val = seqOf (W (Proc.tc.devRef main_v3)) b s a p.val + seqOf (W (Proc.tc.devRef main_v3)) b s a (p.val + 1) :=
      if_pos (by omega)
    rw [e]
    after_reads_at
    rw [dif_pos h]
    after_reads_at
    exact congrArg₂ (· + ·) (seqOf_of _ b s a _ _ _ (by omega)) (seqOf_of _ b s a _ _ _ (by omega))
  · have e : stage 1 (seqOf (W (Proc.tc.devRef main_v3)) b s a) p.val = seqOf (W (Proc.tc.devRef main_v3)) b s a (p.val - 1) - seqOf (W (Proc.tc.devRef main_v3)) b s a p.val :=
      if_neg (by omega)
    rw [e]
    after_reads_at
    rw [dif_neg h]
    after_reads_at
    exact congrArg₂ (· - ·) (seqOf_of _ b s a _ _ _ (by omega)) (seqOf_of _ b s a _ _ _ (by omega))

/-- The stage of stride 2. -/
theorem s2 (W : Valuation τ sig (Elt Ideal)) (b : Fin 3) (s : Fin 640) (a : Fin 108) (p : Fin 64) :
   (StableHlo.after (ops2 (F := Ideal)) W (Proc.tc.devRef main_v25) : Vec Ideal S3x640x108x64 .f32) (ix4 b s a p)
     = stage 2 (seqOf (W (Proc.tc.devRef main_v14)) b s a) p.val := by
  have hp := p.isLt
  by_cases h : p.val / 2 % 2 < 1
  · have e : stage 2 (seqOf (W (Proc.tc.devRef main_v14)) b s a) p.val = seqOf (W (Proc.tc.devRef main_v14)) b s a p.val + seqOf (W (Proc.tc.devRef main_v14)) b s a (p.val + 2) :=
      if_pos (by omega)
    rw [e]
    after_reads_at
    rw [dif_pos h]
    after_reads_at
    exact congrArg₂ (· + ·) (seqOf_of _ b s a _ _ _ (by omega)) (seqOf_of _ b s a _ _ _ (by omega))
  · have e : stage 2 (seqOf (W (Proc.tc.devRef main_v14)) b s a) p.val = seqOf (W (Proc.tc.devRef main_v14)) b s a (p.val - 2) - seqOf (W (Proc.tc.devRef main_v14)) b s a p.val :=
      if_neg (by omega)
    rw [e]
    after_reads_at
    rw [dif_neg h]
    after_reads_at
    exact congrArg₂ (· - ·) (seqOf_of _ b s a _ _ _ (by omega)) (seqOf_of _ b s a _ _ _ (by omega))

/-- The stage of stride 4. -/
theorem s3 (W : Valuation τ sig (Elt Ideal)) (b : Fin 3) (s : Fin 640) (a : Fin 108) (p : Fin 64) :
   (StableHlo.after (ops3 (F := Ideal)) W (Proc.tc.devRef main_v36) : Vec Ideal S3x640x108x64 .f32) (ix4 b s a p)
     = stage 4 (seqOf (W (Proc.tc.devRef main_v25)) b s a) p.val := by
  have hp := p.isLt
  by_cases h : p.val / 4 % 2 < 1
  · have e : stage 4 (seqOf (W (Proc.tc.devRef main_v25)) b s a) p.val = seqOf (W (Proc.tc.devRef main_v25)) b s a p.val + seqOf (W (Proc.tc.devRef main_v25)) b s a (p.val + 4) :=
      if_pos (by omega)
    rw [e]
    after_reads_at
    rw [dif_pos h]
    after_reads_at
    exact congrArg₂ (· + ·) (seqOf_of _ b s a _ _ _ (by omega)) (seqOf_of _ b s a _ _ _ (by omega))
  · have e : stage 4 (seqOf (W (Proc.tc.devRef main_v25)) b s a) p.val = seqOf (W (Proc.tc.devRef main_v25)) b s a (p.val - 4) - seqOf (W (Proc.tc.devRef main_v25)) b s a p.val :=
      if_neg (by omega)
    rw [e]
    after_reads_at
    rw [dif_neg h]
    after_reads_at
    exact congrArg₂ (· - ·) (seqOf_of _ b s a _ _ _ (by omega)) (seqOf_of _ b s a _ _ _ (by omega))

/-- The stage of stride 8. -/
theorem s4 (W : Valuation τ sig (Elt Ideal)) (b : Fin 3) (s : Fin 640) (a : Fin 108) (p : Fin 64) :
   (StableHlo.after (ops4 (F := Ideal)) W (Proc.tc.devRef main_v47) : Vec Ideal S3x640x108x64 .f32) (ix4 b s a p)
     = stage 8 (seqOf (W (Proc.tc.devRef main_v36)) b s a) p.val := by
  have hp := p.isLt
  by_cases h : p.val / 8 % 2 < 1
  · have e : stage 8 (seqOf (W (Proc.tc.devRef main_v36)) b s a) p.val = seqOf (W (Proc.tc.devRef main_v36)) b s a p.val + seqOf (W (Proc.tc.devRef main_v36)) b s a (p.val + 8) :=
      if_pos (by omega)
    rw [e]
    after_reads_at
    rw [dif_pos h]
    after_reads_at
    exact congrArg₂ (· + ·) (seqOf_of _ b s a _ _ _ (by omega)) (seqOf_of _ b s a _ _ _ (by omega))
  · have e : stage 8 (seqOf (W (Proc.tc.devRef main_v36)) b s a) p.val = seqOf (W (Proc.tc.devRef main_v36)) b s a (p.val - 8) - seqOf (W (Proc.tc.devRef main_v36)) b s a p.val :=
      if_neg (by omega)
    rw [e]
    after_reads_at
    rw [dif_neg h]
    after_reads_at
    exact congrArg₂ (· - ·) (seqOf_of _ b s a _ _ _ (by omega)) (seqOf_of _ b s a _ _ _ (by omega))

/-- The stage of stride 16. -/
theorem s5 (W : Valuation τ sig (Elt Ideal)) (b : Fin 3) (s : Fin 640) (a : Fin 108) (p : Fin 64) :
   (StableHlo.after (ops5 (F := Ideal)) W (Proc.tc.devRef main_v58) : Vec Ideal S3x640x108x64 .f32) (ix4 b s a p)
     = stage 16 (seqOf (W (Proc.tc.devRef main_v47)) b s a) p.val := by
  have hp := p.isLt
  by_cases h : p.val / 16 % 2 < 1
  · have e : stage 16 (seqOf (W (Proc.tc.devRef main_v47)) b s a) p.val = seqOf (W (Proc.tc.devRef main_v47)) b s a p.val + seqOf (W (Proc.tc.devRef main_v47)) b s a (p.val + 16) :=
      if_pos (by omega)
    rw [e]
    after_reads_at
    rw [dif_pos h]
    after_reads_at
    exact congrArg₂ (· + ·) (seqOf_of _ b s a _ _ _ (by omega)) (seqOf_of _ b s a _ _ _ (by omega))
  · have e : stage 16 (seqOf (W (Proc.tc.devRef main_v47)) b s a) p.val = seqOf (W (Proc.tc.devRef main_v47)) b s a (p.val - 16) - seqOf (W (Proc.tc.devRef main_v47)) b s a p.val :=
      if_neg (by omega)
    rw [e]
    after_reads_at
    rw [dif_neg h]
    after_reads_at
    exact congrArg₂ (· - ·) (seqOf_of _ b s a _ _ _ (by omega)) (seqOf_of _ b s a _ _ _ (by omega))

/-- The stage of stride 32. -/
theorem s6 (W : Valuation τ sig (Elt Ideal)) (b : Fin 3) (s : Fin 640) (a : Fin 108) (p : Fin 64) :
   (StableHlo.after (ops6 (F := Ideal)) W (Proc.tc.devRef main_v69) : Vec Ideal S3x640x108x64 .f32) (ix4 b s a p)
     = stage 32 (seqOf (W (Proc.tc.devRef main_v58)) b s a) p.val := by
  have hp := p.isLt
  by_cases h : p.val / 32 < 1
  · have e : stage 32 (seqOf (W (Proc.tc.devRef main_v58)) b s a) p.val = seqOf (W (Proc.tc.devRef main_v58)) b s a p.val + seqOf (W (Proc.tc.devRef main_v58)) b s a (p.val + 32) :=
      if_pos (by omega)
    rw [e]
    after_reads_at
    rw [dif_pos h]
    after_reads_at
    exact congrArg₂ (· + ·) (seqOf_of _ b s a _ _ _ (by omega)) (seqOf_of _ b s a _ _ _ (by omega))
  · have e : stage 32 (seqOf (W (Proc.tc.devRef main_v58)) b s a) p.val = seqOf (W (Proc.tc.devRef main_v58)) b s a (p.val - 32) - seqOf (W (Proc.tc.devRef main_v58)) b s a p.val :=
      if_neg (by omega)
    rw [e]
    after_reads_at
    rw [dif_neg h]
    after_reads_at
    exact congrArg₂ (· - ·) (seqOf_of _ b s a _ _ _ (by omega)) (seqOf_of _ b s a _ _ _ (by omega))

/-- After the stages: the factor, and the pieces of a row put in order. -/
theorem s7 (W : Valuation τ sig (Elt Ideal)) (b : Fin 3) (s : Fin 640) (n : Fin 6912) :
   (StableHlo.after (ops7 (F := Ideal)) W (Proc.tc.devRef main_v72) : Vec Ideal S3x640x6912 .f32) (ix3 b s n)
     = seqOf (W (Proc.tc.devRef main_v69)) b s ⟨n.val / 64, by omega⟩ (n.val % 64) * cINV := by
  after_reads_at
  exact congrArg (· * cINV) (seqOf_of _ b s _ _ _ (by omega) rfl)

theorem ops_eq : (hostOps0 : List (HloOp τ sig (Elt Ideal))) = ops0 ++ (ops1 ++ (ops2 ++ (ops3 ++ (ops4 ++ (ops5 ++ (ops6 ++ ops7)))))) := rfl

theorem seq_eq (v : Vec Ideal S3x640x108x64 .f32) (b : Fin 3) (s : Fin 640) (a : Fin 108) (g : ℕ → EReal)
    (h : ∀ p : Fin 64, v (ix4 b s a p) = g p.val) : ∀ q < 64, seqOf v b s a q = g q := by
  intro q hq
  rw [← seqOf_of v b s a q q hq rfl]
  exact h ⟨q, hq⟩

/-- The rotated activation, entry by entry. -/
theorem rot_apply (W : Valuation τ sig (Elt Ideal)) (b : Fin 3) (s : Fin 640) (n : Fin 6912) :
    (StableHlo.after hostOps0 W (Proc.tc.devRef main_v72) : Vec Ideal S3x640x6912 .f32) (ix3 b s n)
      = rotE (hadM (W (Proc.tc.devRef main_arg3))) (rowM (W (Proc.tc.devRef main_arg0)) b s) n.val * cINV := by
  rw [ops_eq, after_app, after_app, after_app, after_app, after_app, after_app, after_app, s7]
  refine congrArg (· * cINV) ?_
  have hn := n.isLt
  have ha : n.val / 64 < 108 := by omega
  have hp : n.val % 64 < 64 := by omega
  unfold rotE
  generalize n.val % 64 = p at hp ⊢
  generalize hA : (⟨n.val / 64, _⟩ : Fin 108) = A
  have hA' : n.val / 64 = A.val := by rw [← hA]
  rw [hA']
  unfold wht64 bf32
  refine (seq_eq _ b s A _ (s6 _ b s A) p hp).trans (stage_congr 32 64 (by norm_num) (by norm_num) ?_ p hp)
  refine fun q hq => (seq_eq _ b s A _ (s5 _ b s A) q hq).trans (stage_congr 16 64 (by norm_num) (by norm_num) ?_ q hq)
  refine fun q hq => (seq_eq _ b s A _ (s4 _ b s A) q hq).trans (stage_congr 8 64 (by norm_num) (by norm_num) ?_ q hq)
  refine fun q hq => (seq_eq _ b s A _ (s3 _ b s A) q hq).trans (stage_congr 4 64 (by norm_num) (by norm_num) ?_ q hq)
  refine fun q hq => (seq_eq _ b s A _ (s2 _ b s A) q hq).trans (stage_congr 2 64 (by norm_num) (by norm_num) ?_ q hq)
  refine fun q hq => (seq_eq _ b s A _ (s1 _ b s A) q hq).trans (stage_congr 1 64 (by norm_num) (by norm_num) ?_ q hq)
  exact fun q hq => seq_eq _ b s A _ (s0 _ b s A) q hq

end Cert.Proof.Ref

end
-- ==== Proof.RowOut.lean ====
module

public import proofs.«01_k».proof.Proof.RefRotate
public import proofs.«01_k».proof.Proof.NormBound

/-! # The five results, as plain functions of the six arguments -/

@[expose] public section

set_option maxRecDepth 16384
set_option maxHeartbeats 400000

noncomputable section

namespace Cert.Proof.Ref

open Cert.ReferenceIdeal Cert.ReferenceIdeal.Gen Cert.Proof.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- One row of the residual after the projection: the residual's row `r`, and the row of codes times the weight's codes `w`, scaled by the row's scale and
    by each output channel's scale `ws`. -/
def roE (H : ℕ → ℕ → EReal) (x : ℕ → EReal) (r : Fin 1152 → EReal) (w : Fin 6912 → Fin 1152 → EReal) (ws : Fin 1152 → EReal) (j : Fin 1152) : EReal :=
  r j + (∑ n : Fin 6912, codeE (rotE H x n.val * cINV) (rowA H x) * w n j) * scaleE (rowA H x) * ws j

variable (x : Vec Ideal S3x640x6912 .bf16) (r : Vec Ideal S3x640x1152 .bf16) (g : Vec Ideal S1152 .f32) (H : Vec Ideal S108x108 .f32)
  (w : Vec Ideal S6912x1152 .fp8e4m3) (ws : Vec Ideal S1152 .f32)

/-- Row `(b, s)` of the residual after the projection, from the six arguments. -/
def roRow (b : Fin 3) (s : Fin 640) : Fin 1152 → EReal :=
  roE (hadM H) (rowM x b s) (fun j => r (ix3 b s j)) (fun n j => w (ix2 n j)) (fun j => ws (ix1 j))

/-- Result 1: the residual after the projection. -/
def roG : Vec Ideal S3x640x1152 .bf16 := fun y => roRow x r H w ws (y 0) (y 1) (y 2)

/-- Result 2: the codes of the rotated activation. -/
def xcG : Vec Ideal S3x640x6912 .fp8e4m3 := fun y => codeE (rotE (hadM H) (rowM x (y 0) (y 1)) (y 2).val * cINV) (rowA (hadM H) (rowM x (y 0) (y 1)))

/-- Result 3: the scales of the rotated activation. -/
def xsG : Vec Ideal S3x640 .f32 := fun y => scaleE (rowA (hadM H) (rowM x (y 0) (y 1)))

/-- Result 4: the codes of the normalised residual. -/
def ncG : Vec Ideal S3x640x1152 .fp8e4m3 := fun y =>
  codeE (normE (roRow x r H w ws (y 0) (y 1)) (fun j => g (ix1 j)) (y 2)) (normA (roRow x r H w ws (y 0) (y 1)) (fun j => g (ix1 j)))

/-- Result 5: the scales of the normalised residual. -/
def nsG : Vec Ideal S3x640 .f32 := fun y => scaleE (normA (roRow x r H w ws (y 0) (y 1)) (fun j => g (ix1 j)))

end Cert.Proof.Ref

end
-- ==== Proof.KernelEntries.lean ====
module

public import proofs.«01_k».proof.Proof.KernelValue
public import proofs.«01_k».proof.Proof.RowKernel
public import proofs.«01_k».proof.Proof.NormRow
public import proofs.«01_k».proof.Proof.RowOut

/-! # The results of the kernel, entry by entry -/

@[expose] public section

set_option maxRecDepth 16384
set_option maxHeartbeats 400000

noncomputable section

namespace Cert.Proof.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem ext3 {a b c : ℕ} {α : Type} {f g : (⟨3, ![a, b, c]⟩ : Shape).Idx → α} (h : ∀ i j k, f (ix3 i j k) = g (ix3 i j k)) : f = g := by
  funext y
  have e : y = ix3 (y 0) (y 1) (y 2) := by
    funext a
    match a with
    | ⟨0, _⟩ => rfl
    | ⟨1, _⟩ => rfl
    | ⟨2, _⟩ => rfl
  exact ((congrArg f e).trans (h (y 0) (y 1) (y 2))).trans (congrArg g e).symm

theorem ext2 {a b : ℕ} {α : Type} {f g : (⟨2, ![a, b]⟩ : Shape).Idx → α} (h : ∀ i j, f (ix2 i j) = g (ix2 i j)) : f = g := by
  funext y
  have e : y = ix2 (y 0) (y 1) := by
    funext a
    match a with
    | ⟨0, _⟩ => rfl
    | ⟨1, _⟩ => rfl
  exact ((congrArg f e).trans (h (y 0) (y 1))).trans (congrArg g e).symm

variable (m : (ℓ : Loc nD τ sig) → Buf (Elt Ideal) ℓ)

/-- The six arguments on device `c`. -/
abbrev aX (c : Dev nD) : Vec Ideal S3x640x6912 .bf16 := m ((c : Thread nD τ).loc main_arg0)
abbrev aR (c : Dev nD) : Vec Ideal S3x640x1152 .bf16 := m ((c : Thread nD τ).loc main_arg1)
abbrev aG (c : Dev nD) : Vec Ideal S1152 .f32 := m ((c : Thread nD τ).loc main_arg2)
abbrev aH (c : Dev nD) : Vec Ideal S108x108 .f32 := m ((c : Thread nD τ).loc main_arg3)
abbrev aW (c : Dev nD) : Vec Ideal S6912x1152 .fp8e4m3 := m ((c : Thread nD τ).loc main_arg4)
abbrev aS (c : Dev nD) : Vec Ideal S1152 .f32 := m ((c : Thread nD τ).loc main_arg5)

theorem rowF_blk (c : Dev nD) (b : Fin 3) (s : Fin 640) :
    rowF (iblk m c 0 (tileOf b s)) ⟨s.val % 128, Nat.mod_lt _ (by decide)⟩ = Ref.rowM (aX m c) b s := by
  funext k
  unfold rowF Ref.rowM
  rw [iblk0_apply, (row_tile b s).1, (row_tile b s).2]

theorem hadF_blk (c : Dev nD) (t : Fin cfg0.N) : hadF (iblk m c 3 t) = Ref.hadM (aH m c) := by
  rw [iblk3_eq]
  rfl

/-- The residual after the projection of one row, from what the row's codes, scale and blocks are. -/
theorem ro_gen (x0 : Vec Ideal S1x128x6912 .bf16) (x1 : Vec Ideal S1x128x1152 .bf16) (x3 : Vec Ideal S108x108 .f32) (x4 : Vec Ideal S6912x1152 .fp8e4m3) (x5 : Vec Ideal S1x1152 .f32)
    (n : Fin 128) (j : Fin 1152) (H : ℕ → ℕ → EReal) (x : ℕ → EReal) (r : Fin 1152 → EReal) (w : Fin 6912 → Fin 1152 → EReal) (ws : Fin 1152 → EReal)
    (hs : xsB x0 x3 (ix2 0 n) = scaleE (rowA H x)) (hc : ∀ k : Fin 6912, xcB x0 x3 (ix3 0 n k) = codeE (rotE H x k.val * cINV) (rowA H x))
    (h1 : x1 (ix3 0 n j) = r j) (h4 : ∀ k, x4 (ix2 k j) = w k j) (h5 : x5 (ix2 0 j) = ws j) :
    x1 (ix3 0 n j) + (∑ k : Fin 6912, xcB x0 x3 (ix3 0 n k) * x4 (ix2 k j)) * xsB x0 x3 (ix2 0 n) * x5 (ix2 0 j) = Ref.roE H x r w ws j := by
  unfold Ref.roE
  rw [h1, h5, hs]
  simp only [hc, h4]

theorem r1_blk (c : Dev nD) (b : Fin 3) (s : Fin 640) (j : Fin 1152) :
    (iblk m c 1 (tileOf b s) : Vec Ideal S1x128x1152 .bf16) (ix3 0 ⟨s.val % 128, Nat.mod_lt _ (by decide)⟩ j) = aR m c (ix3 b s j) := by
  rw [iblk1_apply, (row_tile b s).1, (row_tile b s).2]

section
variable (c : Dev nD) {X G : ℝ} (hX : X ≤ 2 ^ 128) (hG : G ≤ 2 ^ 128) (hx : ∀ i, ∃ v : ℝ, aX m c i = v ∧ |v| ≤ X)
  (hg : ∀ i, ∃ v : ℝ, aG m c i = v ∧ |v| ≤ G) (hH : ∀ i, ∃ v : ℝ, aH m c i = v ∧ |v| ≤ 1)
include hX hx hH

theorem xs_row (b : Fin 3) (s : Fin 640) : xsB (iblk m c 0 (tileOf b s)) (iblk m c 3 (tileOf b s)) (ix2 0 ⟨s.val % 128, Nat.mod_lt _ (by decide)⟩)
    = scaleE (rowA (Ref.hadM (aH m c)) (Ref.rowM (aX m c) b s)) := by
  rw [xsB_apply hX _ _ _ (by rw [hadF_blk]; exact fun a k => hH _) (by rw [rowF_blk]; exact fun k => hx _), hadF_blk, rowF_blk]

theorem xc_row (b : Fin 3) (s : Fin 640) (k : Fin 6912) : xcB (iblk m c 0 (tileOf b s)) (iblk m c 3 (tileOf b s)) (ix3 0 ⟨s.val % 128, Nat.mod_lt _ (by decide)⟩ k)
    = codeE (rotE (Ref.hadM (aH m c)) (Ref.rowM (aX m c) b s) k.val * cINV) (rowA (Ref.hadM (aH m c)) (Ref.rowM (aX m c) b s)) := by
  rw [xcB_apply hX _ _ _ (by rw [hadF_blk]; exact fun a k => hH _) (by rw [rowF_blk]; exact fun k => hx _), hadF_blk, rowF_blk]

theorem r_row (b : Fin 3) (s : Fin 640) (j : Fin 1152) :
    rB (iblk m c 0 (tileOf b s)) (iblk m c 1 (tileOf b s)) (iblk m c 3 (tileOf b s)) (iblk m c 4 (tileOf b s)) (iblk m c 5 (tileOf b s)) (ix2 ⟨s.val % 128, Nat.mod_lt _ (by decide)⟩ j)
      = Ref.roRow (aX m c) (aR m c) (aH m c) (aW m c) (aS m c) b s j :=
  (rB_apply _ _ _ _ _ _ _).trans (ro_gen _ _ _ _ _ _ _ _ _ _ _ _ (xs_row m c hX hx hH b s) (xc_row m c hX hx hH b s) (r1_blk m c b s j) (fun k => congrFun (iblk4_eq m c _) _) (iblk5_apply m c _ _))

theorem ro_row (b : Fin 3) (s : Fin 640) (j : Fin 1152) : blk6 m c (tileOf b s) (ix3 0 ⟨s.val % 128, Nat.mod_lt _ (by decide)⟩ j)
      = Ref.roRow (aX m c) (aR m c) (aH m c) (aW m c) (aS m c) b s j :=
  (roB_apply _ _ _ _ _ _ _).trans (ro_gen _ _ _ _ _ _ _ _ _ _ _ _ (xs_row m c hX hx hH b s) (xc_row m c hX hx hH b s) (r1_blk m c b s j) (fun k => congrFun (iblk4_eq m c _) _) (iblk5_apply m c _ _))

/-- Result 1 of the kernel. -/
theorem kval6 : (dats m 0 c).arrAt 6 cfg0.N = Ref.roG (aX m c) (aR m c) (aH m c) (aW m c) (aS m c) := by
  rw [arr6]
  refine ext3 (a := 3) (b := 640) (c := 1152) fun b s j => ?_
  exact ro_row m c hX hx hH b s j

/-- Result 2 of the kernel. -/
theorem kval7 : (dats m 0 c).arrAt 7 cfg0.N = Ref.xcG (aX m c) (aH m c) := by
  rw [arr7]
  funext y
  exact xc_row m c hX hx hH (y 0) (y 1) (y 2)

/-- Result 3 of the kernel. -/
theorem kval8 : (dats m 0 c).arrAt 8 cfg0.N = Ref.xsG (aX m c) (aH m c) := by
  rw [arr8]
  refine ext2 (a := 3) (b := 640) fun b s => ?_
  rw [accAt_apply _ b s 14 (by omega) (by have := b.isLt; have := s.isLt; omega)]
  exact xs_row m c hX hx hH b s

include hG hg

theorem row_fun (b : Fin 3) (s : Fin 640) :
    (fun k : Fin 1152 => rB (iblk m c 0 (tileOf b s)) (iblk m c 1 (tileOf b s)) (iblk m c 3 (tileOf b s)) (iblk m c 4 (tileOf b s)) (iblk m c 5 (tileOf b s)) (ix2 ⟨s.val % 128, Nat.mod_lt _ (by decide)⟩ k))
      = Ref.roRow (aX m c) (aR m c) (aH m c) (aW m c) (aS m c) b s := funext fun k => r_row m c hX hx hH b s k

theorem gain_fun (t : Fin cfg0.N) : (fun k : Fin 1152 => (iblk m c 2 t : Vec Ideal S1x1152 .f32) (ix2 0 k)) = fun j => aG m c (ix1 j) := funext fun k => iblk2_apply m c t k

/-- Result 4 of the kernel. -/
theorem kval9 : (dats m 0 c).arrAt 9 cfg0.N = Ref.ncG (aX m c) (aR m c) (aG m c) (aH m c) (aW m c) (aS m c) := by
  rw [arr9]
  refine ext3 (a := 3) (b := 640) (c := 1152) fun b s j => ?_
  refine (ncOf_eq hG _ _ (fun j => (hg (ix1 j)).imp fun v h => ⟨(iblk2_apply m c _ j).trans h.1, h.2⟩) _ _).trans ?_
  have e1 := row_fun m c hX hG hx hg hH b s
  have e2 := gain_fun m c hX hG hx hg hH (tileOf b s)
  exact congrArg₂ (fun r g => codeE (normE r g j) (normA r g)) e1 e2

/-- Result 5 of the kernel. -/
theorem kval10 : (dats m 0 c).arrAt 10 cfg0.N = Ref.nsG (aX m c) (aR m c) (aG m c) (aH m c) (aW m c) (aS m c) := by
  rw [arr10]
  refine ext2 (a := 3) (b := 640) fun b s => ?_
  rw [accAt_apply _ b s 14 (by omega) (by have := b.isLt; have := s.isLt; omega)]
  refine (nsOf_eq hG _ _ (fun j => (hg (ix1 j)).imp fun v h => ⟨(iblk2_apply m c _ j).trans h.1, h.2⟩) _).trans ?_
  have e1 := row_fun m c hX hG hx hg hH b s
  have e2 := gain_fun m c hX hG hx hg hH (tileOf b s)
  exact congrArg₂ (fun r g => scaleE (normA r g)) e1 e2

end

end Cert.Proof.Value

end
-- ==== Proof.RefRow.lean ====
module

public import proofs.«01_k».proof.Proof.RowSpec
public import proofs.«01_k».proof.Proof.Gen.ReferenceIdeal.Frame
public import Idealize.ShloMosaic.Lib.Pipeline.ValueKit
public import Idealize.ShloMosaic.Lib.Pointwise

/-! # Rows of the reference -/

@[expose] public section

set_option maxRecDepth 16384
set_option maxHeartbeats 400000

noncomputable section

namespace Cert.Proof.Ref

open Cert.ReferenceIdeal Cert.ReferenceIdeal.Gen Cert.Proof.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem exp2_def (x : EReal) : FloatOps.exp2 (F := Ideal) (φ := FTy.f32) x = Ideal.exp2 x := rfl

theorem neg_inf : Ideal.ofBits FTy.f32 0xFF800000#32 = ⊥ := by simp [Ideal.ofBits, Ideal.ieee]

theorem cnt_sum (v : FVec Ideal S3x640x253 .f32) (b : Fin 3) (s : Fin 640) :
    shapeCast S3x640x1 (multiReduction .add [2] S3x640 v 0x00000000#32 reduces_S3x640x253_S3x640 (.inl rfl) rfl) shapeCasts_S3x640_S3x640x1 (ix3 b s 0) = ∑ k : Fin 253, v (ix3 b s k) := by
  pointwise []

theorem cnt_sel (t : FVec Ideal S3x640x1 .f32) (v : FVec Ideal S1x1x253 .f32) (b : Fin 3) (s : Fin 640) (k : Fin 253) :
    (select (cmpf .oge (broadcastTo S3x640x253 t broadcasts_S3x640x1_S3x640x253) (broadcastTo S3x640x253 v broadcasts_S1x1x253_S3x640x253))
      (broadcast S3x640x253 (Scalar.ofBits .f32 0x3F800000#32)) (broadcast S3x640x253 (Scalar.ofBits .f32 0x00000000#32)) : FVec Ideal S3x640x253 .f32) (ix3 b s k)
      = if v (ix3 0 0 k) ≤ t (ix3 b s 0) then 1 else 0 := by
  pointwise []

theorem bits126 : Ideal.ofBits FTy.f32 0x42FC0000#32 = ((126 : ℝ) : EReal) := by
  simp [Ideal.ofBits, Ideal.ieee, -EReal.coe_mul]; norm_num

theorem cnt_pow (k : Fin 253) :
    (exp2 (subf (sitofp .f32 (iota .tc S1x1x253 32 [2] iota_S1x1x253_d2_w32)) (broadcast S1x1x253 (Scalar.ofBits .f32 0x42FC0000#32))) : FVec Ideal S1x1x253 .f32) (ix3 0 0 k)
      = Ideal.exp2 ((((k.val : ℝ) - 126 : ℝ)) : EReal) := by
  have h : (exp2 (subf (sitofp .f32 (iota .tc S1x1x253 32 [2] iota_S1x1x253_d2_w32)) (broadcast S1x1x253 (Scalar.ofBits .f32 0x42FC0000#32))) : FVec Ideal S1x1x253 .f32) (ix3 0 0 k)
      = FloatOps.exp2 (F := Ideal) (φ := .f32) (FloatOps.sitofp (F := Ideal) FTy.f32 (BitVec.ofNat 32 k.val) - Ideal.ofBits FTy.f32 0x42FC0000#32) := by
    pointwise []
  have e : FloatOps.sitofp (F := Ideal) FTy.f32 (BitVec.ofNat 32 k.val) = (((k.val : ℝ)) : EReal) := by
    have hk := k.isLt
    have ht : (BitVec.ofNat 32 k.val).toInt = (k.val : ℤ) := by
      rw [BitVec.toInt_eq_toNat_of_lt (by rw [BitVec.toNat_ofNat]; omega), BitVec.toNat_ofNat]
      congr 1; omega
    show (((BitVec.ofNat 32 k.val).toInt : ℝ) : EReal) = _
    rw [ht]; norm_cast
  rw [h, e, bits126, ← EReal.coe_sub]
  rfl

/-- The exponent of a row, from its largest absolute value and the count of the powers of two up to it. -/
theorem pay1_apply (p q : FVec Ideal S3x640x1 .f32) (b : Fin 3) (s : Fin 640) :
    k0_pay1 p q (ix3 b s 0) = if p (ix3 b s 0) = 0 then 0 else q (ix3 b s 0) - Ideal.ofBits FTy.f32 0x42FC0000#32 := by
  pointwise [k0_pay1]

/-- The count of the powers of two up to `t`. -/
def cnt (t : FVec Ideal S3x640x1 .f32) : FVec Ideal S3x640x1 .f32 :=
  shapeCast S3x640x1 (multiReduction .add [2] S3x640 (select (cmpf .oge (broadcastTo S3x640x253 t broadcasts_S3x640x1_S3x640x253)
    (broadcastTo S3x640x253 (exp2 (subf (sitofp .f32 (iota .tc S1x1x253 32 [2] iota_S1x1x253_d2_w32)) (broadcast S1x1x253 (Scalar.ofBits .f32 0x42FC0000#32))) : FVec Ideal S1x1x253 .f32) broadcasts_S1x1x253_S3x640x253))
      (broadcast S3x640x253 (Scalar.ofBits .f32 0x3F800000#32)) (broadcast S3x640x253 (Scalar.ofBits .f32 0x00000000#32)) : FVec Ideal S3x640x253 .f32) 0x00000000#32 reduces_S3x640x253_S3x640 (.inl rfl) rfl) shapeCasts_S3x640_S3x640x1

theorem cnt_apply (t : FVec Ideal S3x640x1 .f32) (b : Fin 3) (s : Fin 640) :
    cnt t (ix3 b s 0) = ∑ k : Fin 253, if Ideal.exp2 ((((k.val : ℝ) - 126 : ℝ)) : EReal) ≤ t (ix3 b s 0) then 1 else 0 := by
  unfold cnt
  rw [cnt_sum]
  refine Finset.sum_congr rfl fun k _ => ?_
  rw [cnt_sel, cnt_pow]

/-- From a row's largest absolute value to the exponent of its quantiser. -/
theorem pay1_cnt (p : FVec Ideal S3x640x1 .f32) (b : Fin 3) (s : Fin 640) :
    k0_pay1 p (cnt (mulf p (broadcast S3x640x1 (Scalar.ofBits .f32 0x3B124925#32)))) (ix3 b s 0) = qE (p (ix3 b s 0)) := by
  rw [pay1_apply, cnt_apply, bits126]
  rfl

theorem amax_apply (Y : Vec Ideal S3x640x6912 .f32) (b : Fin 3) (s : Fin 640) :
    (shapeCast S3x640x1 (multiReduction .maximumf [2] S3x640 (absf (k0_pay5 Y)) 0xFF800000#32 reduces_S3x640x6912_S3x640 (.inl rfl) rfl) shapeCasts_S3x640_S3x640x1 : FVec Ideal S3x640x1 .f32) (ix3 b s 0)
      = maxE fun n : Fin 6912 => absE (Y (ix3 b s n)) := by
  have h : (shapeCast S3x640x1 (multiReduction .maximumf [2] S3x640 (absf (k0_pay5 Y)) 0xFF800000#32 reduces_S3x640x6912_S3x640 (.inl rfl) rfl) shapeCasts_S3x640_S3x640x1 : FVec Ideal S3x640x1 .f32) (ix3 b s 0)
      = Finset.fold max (Ideal.ofBits FTy.f32 0xFF800000#32) (fun n : Fin 6912 => FloatOps.absf (Y (ix3 b s n))) Finset.univ := by
    pointwise [k0_pay5]
  rw [h, neg_inf]
  rfl

theorem pay6_apply (Y : Vec Ideal S3x640x6912 .f32) (b : Fin 3) (s : Fin 640) :
    k0_pay6 Y (ix3 b s 0) = qE (maxE fun n : Fin 6912 => absE (Y (ix3 b s n))) := by
  rw [← amax_apply]
  exact pay1_cnt _ b s

/-- The codes, from the exponents. -/
def codesOf (Y : FVec Ideal S3x640x6912 .f32) (e : FVec Ideal S3x640x1 .f32) : FVec Ideal S3x640x6912 .fp8e4m3 :=
  truncf .fp8e4m3 (minimumf (broadcast S3x640x6912 (Scalar.ofBits .f32 0x43E00000#32)) (maximumf (broadcast S3x640x6912 (Scalar.ofBits .f32 0xC3E00000#32))
    (mulf Y (broadcastTo S3x640x6912 (exp2 (subf (broadcast S3x640x1 (Scalar.ofBits .f32 0x00000000#32)) e)) broadcasts_S3x640x1_S3x640x6912)))) bitsLt_fp8e4m3_f32

theorem codesOf_apply (Y : FVec Ideal S3x640x6912 .f32) (e : FVec Ideal S3x640x1 .f32) (b : Fin 3) (s : Fin 640) (n : Fin 6912) :
    codesOf Y e (ix3 b s n) = min (Ideal.ofBits .f32 0x43E00000#32) (max (Ideal.ofBits .f32 0xC3E00000#32) (Y (ix3 b s n) * Ideal.exp2 (0 - e (ix3 b s 0)))) := by
  pointwise [codesOf]
  simp only [exp2_def]

/-- The scales, from the exponents. -/
def scalesOf (e : FVec Ideal S3x640x1 .f32) : FVec Ideal S3x640 .f32 := shapeCast S3x640 (exp2 e) shapeCasts_S3x640x1_S3x640

theorem scalesOf_apply (e : FVec Ideal S3x640x1 .f32) (b : Fin 3) (s : Fin 640) :
    scalesOf e (ix2 b s) = Ideal.exp2 (e (ix3 b s 0)) := by
  pointwise [scalesOf]
  simp only [exp2_def]

theorem pay7_eq (Y : Vec Ideal S3x640x6912 .f32) : k0_pay7 Y = codesOf (k0_pay5 Y) (k0_pay6 Y) := rfl

theorem pay3_eq (Y : Vec Ideal S3x640x6912 .f32) : k0_pay3 (k0_pay8 Y) = scalesOf (k0_pay6 Y) := rfl

theorem pay5_eq (Y : Vec Ideal S3x640x6912 .f32) (b : Fin 3) (s : Fin 640) (n : Fin 6912) : k0_pay5 Y (ix3 b s n) = Y (ix3 b s n) := by
  pointwise [k0_pay5]

theorem pay7_apply (Y : Vec Ideal S3x640x6912 .f32) (b : Fin 3) (s : Fin 640) (n : Fin 6912) :
    k0_pay7 Y (ix3 b s n) = codeE (Y (ix3 b s n)) (maxE fun n : Fin 6912 => absE (Y (ix3 b s n))) := by
  unfold codeE
  rw [pay7_eq, codesOf_apply, pay5_eq, pay6_apply]

theorem pay3_apply (Y : Vec Ideal S3x640x6912 .f32) (b : Fin 3) (s : Fin 640) :
    k0_pay3 (k0_pay8 Y) (ix2 b s) = scaleE (maxE fun n : Fin 6912 => absE (Y (ix3 b s n))) := by
  unfold scaleE
  rw [pay3_eq, scalesOf_apply, pay6_apply]

theorem pay11_apply (Y : Vec Ideal S3x640x6912 .f32) (w : Vec Ideal S6912x1152 .fp8e4m3) (ws : Vec Ideal S1x1x1152 .f32) (r : Vec Ideal S3x640x1152 .bf16)
    (b : Fin 3) (s : Fin 640) (j : Fin 1152) :
    k0_pay11 (k0_pay9 Y w) (k0_pay10 Y) ws r (ix3 b s j) = r (ix3 b s j) + (∑ n : Fin 6912, k0_pay7 Y (ix3 b s n) * w (ix2 n j)) * k0_pay3 (k0_pay8 Y) (ix2 b s) * ws (ix3 0 0 j) := by
  pointwise [k0_pay11, k0_pay9, k0_pay10, k0_pay3]

theorem pay12_apply (a1 a2 : FVec Ideal S3x640x1152 .f32) (ws : Vec Ideal S1x1x1152 .f32) (r : Vec Ideal S3x640x1152 .bf16) (g : Vec Ideal S1x1x1152 .f32)
    (b : Fin 3) (s : Fin 640) (j : Fin 1152) :
    k0_pay12 a1 a2 ws r g (ix3 b s j) = k0_pay11 a1 a2 ws r (ix3 b s j) * Ideal.rsqrt (Ideal.div (∑ k : Fin 1152, k0_pay11 a1 a2 ws r (ix3 b s k) * k0_pay11 a1 a2 ws r (ix3 b s k)) (Ideal.ofBits .f32 0x44900000#32) + Ideal.ofBits .f32 0x358637BD#32) * g (ix3 0 0 j) := by
  pointwise [k0_pay12]

theorem pay13_apply (a1 a2 : FVec Ideal S3x640x1152 .f32) (ws : Vec Ideal S1x1x1152 .f32) (r : Vec Ideal S3x640x1152 .bf16) (g : Vec Ideal S1x1x1152 .f32)
    (b : Fin 3) (s : Fin 640) :
    k0_pay13 a1 a2 ws r g (ix3 b s 0) = maxE fun j : Fin 1152 => absE (k0_pay12 a1 a2 ws r g (ix3 b s j)) := by
  have h : k0_pay13 a1 a2 ws r g (ix3 b s 0) = Finset.fold max (Ideal.ofBits .f32 0xFF800000#32) (fun j : Fin 1152 => FloatOps.absf (k0_pay12 a1 a2 ws r g (ix3 b s j))) Finset.univ := by
    pointwise [k0_pay13]
  rw [h, neg_inf]
  rfl

theorem pay14_apply (a1 a2 : FVec Ideal S3x640x1152 .f32) (ws : Vec Ideal S1x1x1152 .f32) (r : Vec Ideal S3x640x1152 .bf16) (g : Vec Ideal S1x1x1152 .f32)
    (b : Fin 3) (s : Fin 640) :
    k0_pay1 (k0_pay13 a1 a2 ws r g) (k0_pay14 a1 a2 ws r g) (ix3 b s 0) = qE (maxE fun j : Fin 1152 => absE (k0_pay12 a1 a2 ws r g (ix3 b s j))) := by
  rw [← pay13_apply]
  exact pay1_cnt _ b s

theorem pay2_apply (a1 a2 : FVec Ideal S3x640x1152 .f32) (ws : Vec Ideal S1x1x1152 .f32) (r : Vec Ideal S3x640x1152 .bf16) (g : Vec Ideal S1x1x1152 .f32)
    (b : Fin 3) (s : Fin 640) (j : Fin 1152) :
    k0_pay2 (k0_pay12 a1 a2 ws r g) (k0_pay13 a1 a2 ws r g) (k0_pay14 a1 a2 ws r g) (ix3 b s j)
      = codeE (k0_pay12 a1 a2 ws r g (ix3 b s j)) (maxE fun j : Fin 1152 => absE (k0_pay12 a1 a2 ws r g (ix3 b s j))) := by
  have h : ∀ (v : FVec Ideal S3x640x1152 .f32) (p q : FVec Ideal S3x640x1 .f32), k0_pay2 v p q (ix3 b s j) = min (Ideal.ofBits .f32 0x43E00000#32) (max (Ideal.ofBits .f32 0xC3E00000#32) (v (ix3 b s j) * Ideal.exp2 (0 - k0_pay1 p q (ix3 b s 0)))) := by
    intro v p q
    unfold k0_pay2
    generalize k0_pay1 p q = e
    pointwise []
    simp only [exp2_def]
  unfold codeE
  rw [h, pay14_apply]

theorem pay4_apply (a1 a2 : FVec Ideal S3x640x1152 .f32) (ws : Vec Ideal S1x1x1152 .f32) (r : Vec Ideal S3x640x1152 .bf16) (g : Vec Ideal S1x1x1152 .f32)
    (b : Fin 3) (s : Fin 640) :
    k0_pay4 (k0_pay13 a1 a2 ws r g) (k0_pay14 a1 a2 ws r g) (ix2 b s) = scaleE (maxE fun j : Fin 1152 => absE (k0_pay12 a1 a2 ws r g (ix3 b s j))) := by
  have h : ∀ (p q : FVec Ideal S3x640x1 .f32), k0_pay4 p q (ix2 b s) = Ideal.exp2 (k0_pay1 p q (ix3 b s 0)) := by
    intro p q
    unfold k0_pay4
    generalize k0_pay1 p q = e
    pointwise []
    simp only [exp2_def]
  unfold scaleE
  rw [h, pay14_apply]

end Cert.Proof.Ref

end
-- ==== Proof.RefValue.lean ====
module

public import Idealize.ShloMosaic.Lib.StableHlo.ReadAt
public import Idealize.ShloMosaic.Lib.Pipeline.ValueKit
public import proofs.«01_k».proof.Proof.RefRow
public import proofs.«01_k».proof.Proof.RowOut
public import proofs.«01_k».proof.Proof.Gen.ReferenceIdeal.Value

/-! # The results of the reference, entry by entry -/

@[expose] public section

set_option maxRecDepth 16384
set_option maxHeartbeats 400000

noncomputable section

namespace Cert.Proof.Ref

open Cert.ReferenceIdeal Cert.ReferenceIdeal.Gen Cert.Proof.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ)

theorem ext3 {a b c : ℕ} {α : Type} {f g : (⟨3, ![a, b, c]⟩ : Shape).Idx → α} (h : ∀ i j k, f (ix3 i j k) = g (ix3 i j k)) : f = g := by
  funext y
  have e : y = ix3 (y 0) (y 1) (y 2) := by
    funext a
    match a with
    | ⟨0, _⟩ => rfl
    | ⟨1, _⟩ => rfl
    | ⟨2, _⟩ => rfl
  exact ((congrArg f e).trans (h (y 0) (y 1) (y 2))).trans (congrArg g e).symm

theorem ext2 {a b : ℕ} {α : Type} {f g : (⟨2, ![a, b]⟩ : Shape).Idx → α} (h : ∀ i j, f (ix2 i j) = g (ix2 i j)) : f = g := by
  funext y
  have e : y = ix2 (y 0) (y 1) := by
    funext a
    match a with
    | ⟨0, _⟩ => rfl
    | ⟨1, _⟩ => rfl
  exact ((congrArg f e).trans (h (y 0) (y 1))).trans (congrArg g e).symm

theorem idx_a (x : S3x640x6912.Idx) : (r0_0 : Rect S3x640x6912).idx x = x := by
  funext a
  match a with
  | ⟨0, _⟩ => exact Fin.ext (show 0 + 1 * (x 0).val = (x 0).val by omega)
  | ⟨1, _⟩ => exact Fin.ext (show 0 + 1 * (x 1).val = (x 1).val by omega)
  | ⟨2, _⟩ => exact Fin.ext (show 0 + 1 * (x 2).val = (x 2).val by omega)

theorem ld_a {e : EltTy} (v : Vec Ideal S3x640x6912 e) : View.ld v r0_0 = v := by
  funext x
  exact congrArg v (idx_a x)

theorem idx_d (x : S3x640x1152.Idx) : (r0_3 : Rect S3x640x1152).idx x = x := by
  funext a
  match a with
  | ⟨0, _⟩ => exact Fin.ext (show 0 + 1 * (x 0).val = (x 0).val by omega)
  | ⟨1, _⟩ => exact Fin.ext (show 0 + 1 * (x 1).val = (x 1).val by omega)
  | ⟨2, _⟩ => exact Fin.ext (show 0 + 1 * (x 2).val = (x 2).val by omega)

theorem ld_d {e : EltTy} (v : Vec Ideal S3x640x1152 e) : View.ld v r0_3 = v := by
  funext x
  exact congrArg v (idx_d x)

theorem idx_e (x : S3x640.Idx) : (r0_4 : Rect S3x640).idx x = x := by
  funext a
  match a with
  | ⟨0, _⟩ => exact Fin.ext (show 0 + 1 * (x 0).val = (x 0).val by omega)
  | ⟨1, _⟩ => exact Fin.ext (show 0 + 1 * (x 1).val = (x 1).val by omega)

theorem ld_e {e : EltTy} (v : Vec Ideal S3x640 e) : View.ld v r0_4 = v := by
  funext x
  exact congrArg v (idx_e x)

theorem idx_c (x : S1x1x1152.Idx) : (r0_2 : Rect S1x1x1152).idx x = x := by
  funext a
  match a with
  | ⟨0, _⟩ => exact Fin.ext (show 0 + 1 * (x 0).val = (x 0).val by omega)
  | ⟨1, _⟩ => exact Fin.ext (show 0 + 1 * (x 1).val = (x 1).val by omega)
  | ⟨2, _⟩ => exact Fin.ext (show 0 + 1 * (x 2).val = (x 2).val by omega)

theorem ld_c {e : EltTy} (v : Vec Ideal S1x1x1152 e) : View.ld v r0_2 = v := by
  funext x
  exact congrArg v (idx_c x)

theorem idx_b (x : S6912x1152.Idx) : (r0_1 : Rect S6912x1152).idx x = x := by
  funext a
  match a with
  | ⟨0, _⟩ => exact Fin.ext (show 0 + 1 * (x 0).val = (x 0).val by omega)
  | ⟨1, _⟩ => exact Fin.ext (show 0 + 1 * (x 1).val = (x 1).val by omega)

theorem ld_b {e : EltTy} (v : Vec Ideal S6912x1152 e) : View.ld v r0_1 = v := by
  funext x
  exact congrArg v (idx_b x)

theorem canon_a {e : EltTy} (p : Vec Ideal S3x640x6912 e) : View.canon [⟨r0_0, p⟩] = p := by
  funext y
  refine View.canon_apply_of_pieces p _ ?_ y (View.cover_of_tiled [⟨r0_0, p⟩] S3x640x6912.size (by rfl) y)
  intro pc hpc
  rcases List.mem_cons.mp hpc with rfl | hpc
  · exact fun x => (congrArg p (idx_a x)).symm
  nomatch hpc

theorem canon_d {e : EltTy} (p : Vec Ideal S3x640x1152 e) : View.canon [⟨r0_3, p⟩] = p := by
  funext y
  refine View.canon_apply_of_pieces p _ ?_ y (View.cover_of_tiled [⟨r0_3, p⟩] S3x640x1152.size (by rfl) y)
  intro pc hpc
  rcases List.mem_cons.mp hpc with rfl | hpc
  · exact fun x => (congrArg p (idx_d x)).symm
  nomatch hpc

theorem canon_e {e : EltTy} (p : Vec Ideal S3x640 e) : View.canon [⟨r0_4, p⟩] = p := by
  funext y
  refine View.canon_apply_of_pieces p _ ?_ y (View.cover_of_tiled [⟨r0_4, p⟩] S3x640.size (by rfl) y)
  intro pc hpc
  rcases List.mem_cons.mp hpc with rfl | hpc
  · exact fun x => (congrArg p (idx_e x)).symm
  nomatch hpc

theorem out5 (x0 : Vec Ideal S3x640x6912 .f32) (x1 : Vec Ideal S3x640x1152 .bf16) (x2 : Vec Ideal S1x1x1152 .f32) (x3 : Vec Ideal S6912x1152 .fp8e4m3) (x4 : Vec Ideal S1x1x1152 .f32) : out0_5 x0 x1 x2 x3 x4 = k0_pay11 (k0_pay9 x0 x3) (k0_pay10 x0) x4 x1 := by
  unfold out0_5 k0_pay15 k0_pay16
  rw [canon_d, ld_a, ld_b, ld_c, ld_d]

theorem out6 (x0 : Vec Ideal S3x640x6912 .f32) (x1 : Vec Ideal S3x640x1152 .bf16) (x2 : Vec Ideal S1x1x1152 .f32) (x3 : Vec Ideal S6912x1152 .fp8e4m3) (x4 : Vec Ideal S1x1x1152 .f32) : out0_6 x0 x1 x2 x3 x4 = k0_pay7 x0 := by
  unfold out0_6
  rw [canon_a, ld_a]

theorem out7 (x0 : Vec Ideal S3x640x6912 .f32) (x1 : Vec Ideal S3x640x1152 .bf16) (x2 : Vec Ideal S1x1x1152 .f32) (x3 : Vec Ideal S6912x1152 .fp8e4m3) (x4 : Vec Ideal S1x1x1152 .f32) : out0_7 x0 x1 x2 x3 x4 = k0_pay3 (k0_pay8 x0) := by
  unfold out0_7
  rw [canon_e, ld_a]

theorem out8 (x0 : Vec Ideal S3x640x6912 .f32) (x1 : Vec Ideal S3x640x1152 .bf16) (x2 : Vec Ideal S1x1x1152 .f32) (x3 : Vec Ideal S6912x1152 .fp8e4m3) (x4 : Vec Ideal S1x1x1152 .f32) : out0_8 x0 x1 x2 x3 x4 = k0_pay2 (k0_pay12 (k0_pay9 x0 x3) (k0_pay10 x0) x4 x1 x2) (k0_pay13 (k0_pay9 x0 x3) (k0_pay10 x0) x4 x1 x2) (k0_pay14 (k0_pay9 x0 x3) (k0_pay10 x0) x4 x1 x2) := by
  unfold out0_8 k0_pay17 k0_pay18 k0_pay15 k0_pay16
  rw [canon_d, ld_a, ld_b, ld_c, ld_c, ld_d]

theorem out9 (x0 : Vec Ideal S3x640x6912 .f32) (x1 : Vec Ideal S3x640x1152 .bf16) (x2 : Vec Ideal S1x1x1152 .f32) (x3 : Vec Ideal S6912x1152 .fp8e4m3) (x4 : Vec Ideal S1x1x1152 .f32) : out0_9 x0 x1 x2 x3 x4 = k0_pay4 (k0_pay13 (k0_pay9 x0 x3) (k0_pay10 x0) x4 x1 x2) (k0_pay14 (k0_pay9 x0 x3) (k0_pay10 x0) x4 x1 x2) := by
  unfold out0_9 k0_pay17 k0_pay18 k0_pay15 k0_pay16
  rw [canon_e, ld_a, ld_b, ld_c, ld_c, ld_d]

theorem emb0 (y : S3x640x6912.Idx) (t : Fin cfg0.N) : ((win0_0.blk t).view.emb y : S3x640x6912.Idx) = y := by
  funext a
  match a with
  | ⟨0, _⟩ => exact Fin.ext (show 0 + 1 * (y 0).val = (y 0).val by omega)
  | ⟨1, _⟩ => exact Fin.ext (show 0 + 1 * (y 1).val = (y 1).val by omega)
  | ⟨2, _⟩ => exact Fin.ext (show 0 + 1 * (y 2).val = (y 2).val by omega)

theorem ib0 (c : Dev nD) : (iblk m c 0 t0_0 : Vec Ideal S3x640x6912 .f32) = V m c main_v72 := by
  unfold iblk
  generalize V m c = v
  generalize hv : v (Pipeline.arrRef spec0 0) = f
  change Vec Ideal S3x640x6912 .f32 at f
  clear hv
  funext y
  exact congrArg f (emb0 y t0_0)

theorem emb1 (y : S3x640x1152.Idx) (t : Fin cfg0.N) : ((win0_1.blk t).view.emb y : S3x640x1152.Idx) = y := by
  funext a
  match a with
  | ⟨0, _⟩ => exact Fin.ext (show 0 + 1 * (y 0).val = (y 0).val by omega)
  | ⟨1, _⟩ => exact Fin.ext (show 0 + 1 * (y 1).val = (y 1).val by omega)
  | ⟨2, _⟩ => exact Fin.ext (show 0 + 1 * (y 2).val = (y 2).val by omega)

theorem ib1 (c : Dev nD) : (iblk m c 1 t0_0 : Vec Ideal S3x640x1152 .bf16) = V m c main_arg1 := by
  unfold iblk
  generalize V m c = v
  generalize hv : v (Pipeline.arrRef spec0 1) = f
  change Vec Ideal S3x640x1152 .bf16 at f
  clear hv
  funext y
  exact congrArg f (emb1 y t0_0)

theorem emb2 (y : S1x1x1152.Idx) (t : Fin cfg0.N) : ((win0_2.blk t).view.emb y : S1x1x1152.Idx) = y := by
  funext a
  match a with
  | ⟨0, _⟩ => exact Fin.ext (show 0 + 1 * (y 0).val = (y 0).val by omega)
  | ⟨1, _⟩ => exact Fin.ext (show 0 + 1 * (y 1).val = (y 1).val by omega)
  | ⟨2, _⟩ => exact Fin.ext (show 0 + 1 * (y 2).val = (y 2).val by omega)

theorem ib2 (c : Dev nD) : (iblk m c 2 t0_0 : Vec Ideal S1x1x1152 .f32) = V m c main_v73 := by
  unfold iblk
  generalize V m c = v
  generalize hv : v (Pipeline.arrRef spec0 2) = f
  change Vec Ideal S1x1x1152 .f32 at f
  clear hv
  funext y
  exact congrArg f (emb2 y t0_0)

theorem emb3 (y : S6912x1152.Idx) (t : Fin cfg0.N) : ((win0_3.blk t).view.emb y : S6912x1152.Idx) = y := by
  funext a
  match a with
  | ⟨0, _⟩ => exact Fin.ext (show 0 + 1 * (y 0).val = (y 0).val by omega)
  | ⟨1, _⟩ => exact Fin.ext (show 0 + 1 * (y 1).val = (y 1).val by omega)

theorem ib3 (c : Dev nD) : (iblk m c 3 t0_0 : Vec Ideal S6912x1152 .fp8e4m3) = V m c main_arg4 := by
  unfold iblk
  generalize V m c = v
  generalize hv : v (Pipeline.arrRef spec0 3) = f
  change Vec Ideal S6912x1152 .fp8e4m3 at f
  clear hv
  funext y
  exact congrArg f (emb3 y t0_0)

theorem emb4 (y : S1x1x1152.Idx) (t : Fin cfg0.N) : ((win0_4.blk t).view.emb y : S1x1x1152.Idx) = y := by
  funext a
  match a with
  | ⟨0, _⟩ => exact Fin.ext (show 0 + 1 * (y 0).val = (y 0).val by omega)
  | ⟨1, _⟩ => exact Fin.ext (show 0 + 1 * (y 1).val = (y 1).val by omega)
  | ⟨2, _⟩ => exact Fin.ext (show 0 + 1 * (y 2).val = (y 2).val by omega)

theorem ib4 (c : Dev nD) : (iblk m c 4 t0_0 : Vec Ideal S1x1x1152 .f32) = V m c main_v74 := by
  unfold iblk
  generalize V m c = v
  generalize hv : v (Pipeline.arrRef spec0 4) = f
  change Vec Ideal S1x1x1152 .f32 at f
  clear hv
  funext y
  exact congrArg f (emb4 y t0_0)

theorem ar5 (c : Dev nD) : (dats m 0 c).arrAt 5 cfg0.N = out0_5 (V m c main_v72) (V m c main_arg1) (V m c main_v73) (V m c main_arg4) (V m c main_v74) := by
  refine (dats m 0 c).arrAt_eq_of_after_last 5 t0_0 (by decide +kernel) _ fun j => ?_
  rw [after0_5, ib0, ib1, ib2, ib3, ib4]
  generalize V m c main_v72 = x0
  generalize V m c main_arg1 = x1
  generalize V m c main_v73 = x2
  generalize V m c main_arg4 = x3
  generalize V m c main_v74 = x4
  generalize out0_5 x0 x1 x2 x3 x4 = o
  rfl

theorem ar6 (c : Dev nD) : (dats m 0 c).arrAt 6 cfg0.N = out0_6 (V m c main_v72) (V m c main_arg1) (V m c main_v73) (V m c main_arg4) (V m c main_v74) := by
  refine (dats m 0 c).arrAt_eq_of_after_last 6 t0_0 (by decide +kernel) _ fun j => ?_
  rw [after0_6, ib0, ib1, ib2, ib3, ib4]
  generalize V m c main_v72 = x0
  generalize V m c main_arg1 = x1
  generalize V m c main_v73 = x2
  generalize V m c main_arg4 = x3
  generalize V m c main_v74 = x4
  generalize out0_6 x0 x1 x2 x3 x4 = o
  rfl

theorem ar7 (c : Dev nD) : (dats m 0 c).arrAt 7 cfg0.N = out0_7 (V m c main_v72) (V m c main_arg1) (V m c main_v73) (V m c main_arg4) (V m c main_v74) := by
  refine (dats m 0 c).arrAt_eq_of_after_last 7 t0_0 (by decide +kernel) _ fun j => ?_
  rw [after0_7, ib0, ib1, ib2, ib3, ib4]
  generalize V m c main_v72 = x0
  generalize V m c main_arg1 = x1
  generalize V m c main_v73 = x2
  generalize V m c main_arg4 = x3
  generalize V m c main_v74 = x4
  generalize out0_7 x0 x1 x2 x3 x4 = o
  rfl

theorem ar8 (c : Dev nD) : (dats m 0 c).arrAt 8 cfg0.N = out0_8 (V m c main_v72) (V m c main_arg1) (V m c main_v73) (V m c main_arg4) (V m c main_v74) := by
  refine (dats m 0 c).arrAt_eq_of_after_last 8 t0_0 (by decide +kernel) _ fun j => ?_
  rw [after0_8, ib0, ib1, ib2, ib3, ib4]
  generalize V m c main_v72 = x0
  generalize V m c main_arg1 = x1
  generalize V m c main_v73 = x2
  generalize V m c main_arg4 = x3
  generalize V m c main_v74 = x4
  generalize out0_8 x0 x1 x2 x3 x4 = o
  rfl

theorem ar9 (c : Dev nD) : (dats m 0 c).arrAt 9 cfg0.N = out0_9 (V m c main_v72) (V m c main_arg1) (V m c main_v73) (V m c main_arg4) (V m c main_v74) := by
  refine (dats m 0 c).arrAt_eq_of_after_last 9 t0_0 (by decide +kernel) _ fun j => ?_
  rw [after0_9, ib0, ib1, ib2, ib3, ib4]
  generalize V m c main_v72 = x0
  generalize V m c main_arg1 = x1
  generalize V m c main_v73 = x2
  generalize V m c main_arg4 = x3
  generalize V m c main_v74 = x4
  generalize out0_9 x0 x1 x2 x3 x4 = o
  rfl

theorem V_main_v73 (c : Dev nD) (j : Fin 1152) : (V m c main_v73 : Vec Ideal S1x1x1152 .f32) (ix3 0 0 j) = m ((c : Thread nD τ).loc main_arg2) (ix1 j) := by
  unfold V
  after_reads_at

theorem V_main_v74 (c : Dev nD) (j : Fin 1152) : (V m c main_v74 : Vec Ideal S1x1x1152 .f32) (ix3 0 0 j) = m ((c : Thread nD τ).loc main_arg5) (ix1 j) := by
  unfold V
  after_reads_at

theorem V_main_v72 (c : Dev nD) (b : Fin 3) (s : Fin 640) (n : Fin 6912) : (V m c main_v72 : Vec Ideal S3x640x6912 .f32) (ix3 b s n)
    = rotE (hadM (m ((c : Thread nD τ).loc main_arg3))) (rowM (m ((c : Thread nD τ).loc main_arg0)) b s) n.val * cINV := rot_apply (fun b => m (c, b)) b s n

section
variable (x : Vec Ideal S3x640x6912 .bf16) (r : Vec Ideal S3x640x1152 .bf16) (g : Vec Ideal S1152 .f32) (H : Vec Ideal S108x108 .f32)
  (w : Vec Ideal S6912x1152 .fp8e4m3) (ws : Vec Ideal S1152 .f32) (x0 : Vec Ideal S3x640x6912 .f32) (x2 x4 : Vec Ideal S1x1x1152 .f32)
  (hy : ∀ b s (n : Fin 6912), x0 (ix3 b s n) = rotE (hadM H) (rowM x b s) n.val * cINV)
  (h2 : ∀ j, x2 (ix3 0 0 j) = g (ix1 j)) (h4 : ∀ j, x4 (ix3 0 0 j) = ws (ix1 j))
include hy

theorem amax_ref (b : Fin 3) (s : Fin 640) : (maxE fun n : Fin 6912 => absE (x0 (ix3 b s n))) = rowA (hadM H) (rowM x b s) := by
  unfold rowA
  exact congrArg maxE (funext fun n => congrArg absE (hy b s n))

theorem xc_ref : k0_pay7 x0 = xcG x H := by
  refine ext3 (a := 3) (b := 640) (c := 6912) fun b s n => ?_
  rw [pay7_apply, amax_ref x H x0 hy, hy]
  rfl

theorem xs_ref : k0_pay3 (k0_pay8 x0) = xsG x H := by
  refine ext2 (a := 3) (b := 640) fun b s => ?_
  rw [pay3_apply, amax_ref x H x0 hy]
  rfl

include h4

theorem ro_ref (b : Fin 3) (s : Fin 640) (j : Fin 1152) : k0_pay11 (k0_pay9 x0 w) (k0_pay10 x0) x4 r (ix3 b s j) = roRow x r H w ws b s j := by
  rw [pay11_apply, xs_ref x H x0 hy, xc_ref x H x0 hy, h4]
  rfl

theorem ro_ref' : k0_pay11 (k0_pay9 x0 w) (k0_pay10 x0) x4 r = roG x r H w ws := by
  refine ext3 (a := 3) (b := 640) (c := 1152) fun b s j => ?_
  rw [ro_ref x r H w ws x0 x4 hy h4]
  rfl

include h2

theorem n_ref (b : Fin 3) (s : Fin 640) (j : Fin 1152) : k0_pay12 (k0_pay9 x0 w) (k0_pay10 x0) x4 r x2 (ix3 b s j) = normE (roRow x r H w ws b s) (fun j => g (ix1 j)) j := by
  rw [pay12_apply]
  simp only [ro_ref x r H w ws x0 x4 hy h4, h2]
  rfl

theorem na_ref (b : Fin 3) (s : Fin 640) : (maxE fun j : Fin 1152 => absE (k0_pay12 (k0_pay9 x0 w) (k0_pay10 x0) x4 r x2 (ix3 b s j))) = normA (roRow x r H w ws b s) (fun j => g (ix1 j)) := by
  unfold normA
  exact congrArg maxE (funext fun j => congrArg absE (n_ref x r g H w ws x0 x2 x4 hy h2 h4 b s j))

theorem nc_ref : k0_pay2 (k0_pay12 (k0_pay9 x0 w) (k0_pay10 x0) x4 r x2) (k0_pay13 (k0_pay9 x0 w) (k0_pay10 x0) x4 r x2) (k0_pay14 (k0_pay9 x0 w) (k0_pay10 x0) x4 r x2) = ncG x r g H w ws := by
  refine ext3 (a := 3) (b := 640) (c := 1152) fun b s j => ?_
  rw [pay2_apply, na_ref x r g H w ws x0 x2 x4 hy h2 h4, n_ref x r g H w ws x0 x2 x4 hy h2 h4]
  rfl

theorem ns_ref : k0_pay4 (k0_pay13 (k0_pay9 x0 w) (k0_pay10 x0) x4 r x2) (k0_pay14 (k0_pay9 x0 w) (k0_pay10 x0) x4 r x2) = nsG x r g H w ws := by
  refine ext2 (a := 3) (b := 640) fun b s => ?_
  rw [pay4_apply, na_ref x r g H w ws x0 x2 x4 hy h2 h4]
  rfl

end

/-- Result 1 of the reference. -/
theorem val5 (c : Dev nD) : (dats m 0 c).arrAt 5 cfg0.N = roG (m ((c : Thread nD τ).loc main_arg0)) (m ((c : Thread nD τ).loc main_arg1)) (m ((c : Thread nD τ).loc main_arg3)) (m ((c : Thread nD τ).loc main_arg4)) (m ((c : Thread nD τ).loc main_arg5)) := by
  rw [ar5, out5, V_main_arg1, V_main_arg4]
  exact ro_ref' _ _ _ _ _ _ _ (V_main_v72 m c) (V_main_v74 m c)

/-- Result 2 of the reference. -/
theorem val6 (c : Dev nD) : (dats m 0 c).arrAt 6 cfg0.N = xcG (m ((c : Thread nD τ).loc main_arg0)) (m ((c : Thread nD τ).loc main_arg3)) := by
  rw [ar6, out6]
  exact xc_ref _ _ _ (V_main_v72 m c)

/-- Result 3 of the reference. -/
theorem val7 (c : Dev nD) : (dats m 0 c).arrAt 7 cfg0.N = xsG (m ((c : Thread nD τ).loc main_arg0)) (m ((c : Thread nD τ).loc main_arg3)) := by
  rw [ar7, out7]
  exact xs_ref _ _ _ (V_main_v72 m c)

/-- Result 4 of the reference. -/
theorem val8 (c : Dev nD) : (dats m 0 c).arrAt 8 cfg0.N = ncG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [ar8, out8, V_main_arg1, V_main_arg4]
  exact nc_ref _ _ _ _ _ _ _ _ _ (V_main_v72 m c) (V_main_v73 m c) (V_main_v74 m c)

/-- Result 5 of the reference. -/
theorem val9 (c : Dev nD) : (dats m 0 c).arrAt 9 cfg0.N = nsG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [ar9, out9, V_main_arg1, V_main_arg4]
  exact ns_ref _ _ _ _ _ _ _ _ _ (V_main_v72 m c) (V_main_v73 m c) (V_main_v74 m c)

end Cert.Proof.Ref

end
-- ==== Proof.PreFacts.lean ====
module

public import proofs.«01_k».proof.Pre_finite
public import Idealize.ShloMosaic.Lib.ReduceAll
public import Idealize.ShloMosaic.Lib.Pipeline.ValueKit

/-! # What the precondition says -/

@[expose] public section

set_option maxRecDepth 16384
set_option maxHeartbeats 400000

noncomputable section

namespace Cert.Proof.Pre

open Cert.Pre_finite
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable [Cert.Pre_finite.Facts]

theorem bits_x : ∃ X : ℝ, X ≤ 2 ^ 128 ∧ Ideal.ofBits FTy.f32 0x7F7F0000#32 = ((X : ℝ) : EReal) := by
  refine ⟨2 ^ 127 * (255 / 128), by norm_num, ?_⟩
  simp [Ideal.ofBits, Ideal.ieee, -EReal.coe_mul]; norm_num

theorem bits_g : ∃ X : ℝ, X ≤ 2 ^ 128 ∧ Ideal.ofBits FTy.f32 0x7F7FFFFF#32 = ((X : ℝ) : EReal) := by
  refine ⟨2 ^ 127 * (16777215 / 8388608), by norm_num, ?_⟩
  simp [Ideal.ofBits, Ideal.ieee, -EReal.coe_mul]; norm_num

theorem bits_one : Ideal.ofBits FTy.f32 0x3F800000#32 = ((1 : ℝ) : EReal) := by
  have h : Ideal.ofBits FTy.f32 0x3F800000#32 = 1 := by simp [Ideal.ofBits, Ideal.ieee, -EReal.coe_mul]; norm_num
  rw [h]; rfl

/-- A bound of the absolute value of an extended real bounds a real. -/
theorem real_of_abs_le (a : EReal) (X : ℝ) (h : max a (-a) ≤ (X : EReal)) : ∃ r : ℝ, a = r ∧ |r| ≤ X := by
  induction a with
  | bot => simp at h
  | top => simp at h
  | coe r =>
    refine ⟨r, rfl, abs_le.mpr ?_⟩
    have h1 := (le_max_left _ _).trans h
    have h2 := (le_max_right _ _).trans h
    rw [← EReal.coe_neg] at h2
    rw [EReal.coe_le_coe_iff] at h1 h2
    constructor <;> linarith

theorem bool_le (x y : EReal) (h : Ideal.cmp .ole x y = 1#1) : x ≤ y := by
  by_contra hn
  have : Ideal.cmp .ole x y = BitVec.ofBool (decide (x ≤ y)) := rfl
  rw [this, decide_eq_false hn] at h
  exact absurd h (by decide)

instance : Subsingleton S_.Idx := ⟨fun a b => funext fun i => i.elim0⟩

/-- What the precondition says of the activation, the gain and the Hadamard matrix. -/
theorem bounds (x : FVec Ideal S3x640x6912 .bf16) (r : FVec Ideal S3x640x1152 .bf16) (g : FVec Ideal S1152 .f32) (H : FVec Ideal S108x108 .f32) (w : FVec Ideal S6912x1152 .fp8e4m3) (ws : FVec Ideal S1152 .f32)
    (e : Cert.Pre_finite.fn (F := Ideal) x r g H w ws (fun i => i.elim0) = 1#1) :
    (∃ X : ℝ, X ≤ 2 ^ 128 ∧ ∀ i, ∃ v : ℝ, x i = v ∧ |v| ≤ X) ∧ (∃ X : ℝ, X ≤ 2 ^ 128 ∧ ∀ i, ∃ v : ℝ, g i = v ∧ |v| ≤ X) ∧ ∀ i, ∃ v : ℝ, H i = v ∧ |v| ≤ 1 := by
  have e1 := IntOp.andi_eq_one.mp e
  have e2 := IntOp.andi_eq_one.mp e1.1
  have hx := fun i => bool_le _ _ (Host.reduce_andi_all _ _ _ _ _ e2.1 i)
  have hg := fun i => bool_le _ _ (Host.reduce_andi_all _ _ _ _ _ e2.2 i)
  have hH := fun i => bool_le _ _ (Host.reduce_andi_all _ _ _ _ _ e1.2 i)
  obtain ⟨X, hX, bX⟩ := bits_x
  obtain ⟨G, hG, bG⟩ := bits_g
  refine ⟨⟨X, hX, fun i => real_of_abs_le _ _ ?_⟩, ⟨G, hG, fun i => real_of_abs_le _ _ ?_⟩, fun i => real_of_abs_le _ _ ?_⟩
  · rw [← bX]; exact hx i
  · rw [← bG]; exact hg i
  · rw [← bits_one]; exact hH i

end Cert.Proof.Pre

end
-- ==== Proof.Equal.lean ====
module

public import proofs.«01_k».proof.Defs
public import proofs.«01_k».proof.Proof.Gen.Pre_finite
public import proofs.«01_k».proof.Proof.KernelEntries
public import proofs.«01_k».proof.Proof.RefValue
public import proofs.«01_k».proof.Proof.PreFacts

/-! # The kernel and the reference end with the same five arrays

Each side's arrays were found as the same plain functions of the six arguments (`RowOut`), the kernel's under the bounds the precondition gives. -/

@[expose] public section

set_option maxRecDepth 16384
set_option maxHeartbeats 1000000

noncomputable section

namespace Cert.Proof

open Idealize.ShloMosaic Idealize.ShloMosaic.TcCoe

section
open Cert.KernelIdeal
variable {x x' : Vec Ideal S3x640x6912 .bf16} {r r' : Vec Ideal S3x640x1152 .bf16} {g g' : Vec Ideal S1152 .f32} {H H' : Vec Ideal S108x108 .f32}
  {w w' : Vec Ideal S6912x1152 .fp8e4m3} {ws ws' : Vec Ideal S1152 .f32}

theorem roG_congr (e0 : x' = x) (e1 : r' = r) (e3 : H' = H) (e4 : w' = w) (e5 : ws' = ws) : Ref.roG x' r' H' w' ws' = Ref.roG x r H w ws := by
  rw [e0, e1, e3, e4, e5]

theorem xcG_congr (e0 : x' = x) (e3 : H' = H) : Ref.xcG x' H' = Ref.xcG x H := by
  rw [e0, e3]

theorem xsG_congr (e0 : x' = x) (e3 : H' = H) : Ref.xsG x' H' = Ref.xsG x H := by
  rw [e0, e3]

theorem ncG_congr (e0 : x' = x) (e1 : r' = r) (e2 : g' = g) (e3 : H' = H) (e4 : w' = w) (e5 : ws' = ws) :
    Ref.ncG x' r' g' H' w' ws' = Ref.ncG x r g H w ws := by
  rw [e0, e1, e2, e3, e4, e5]

theorem nsG_congr (e0 : x' = x) (e1 : r' = r) (e2 : g' = g) (e3 : H' = H) (e4 : w' = w) (e5 : ws' = ws) :
    Ref.nsG x' r' g' H' w' ws' = Ref.nsG x r g H w ws := by
  rw [e0, e1, e2, e3, e4, e5]

end

/-- From memories that agree on the arguments, within the precondition, both programs end with the arrays `roG`, `xcG`, `xsG`, `ncG`, `nsG` and with their
    arguments unchanged. -/
theorem algebraic : Cert.algebraic_KernelIdeal_ReferenceIdeal_pre_finite := by
  intro m g m' g' hpre hagree
  refine ⟨fun c => Ref.roG (Value.aX m c) (Value.aR m c) (Value.aH m c) (Value.aW m c) (Value.aS m c),
    fun c => Ref.xcG (Value.aX m c) (Value.aH m c), fun c => Ref.xsG (Value.aX m c) (Value.aH m c),
    fun c => Ref.ncG (Value.aX m c) (Value.aR m c) (Value.aG m c) (Value.aH m c) (Value.aW m c) (Value.aS m c),
    fun c => Ref.nsG (Value.aX m c) (Value.aR m c) (Value.aG m c) (Value.aH m c) (Value.aW m c) (Value.aS m c), ?_, ?_⟩
  · refine θ_run_mono (Value.run_blocks m g) fun r hr c => ?_
    obtain ⟨h0, h1, h2, h3, h4, ha⟩ := hr c
    obtain ⟨⟨X, hX, hx⟩, ⟨G, hG, hg⟩, hH⟩ := Pre.bounds _ _ _ _ _ _ (congrFun (hpre c) _)
    exact ⟨h0.trans (Value.kval6 m c hX hx hH), h1.trans (Value.kval7 m c hX hx hH), h2.trans (Value.kval8 m c hX hx hH),
      h3.trans (Value.kval9 m c hX hG hx hg hH), h4.trans (Value.kval10 m c hX hG hx hg hH), ha⟩
  · refine θ_run_mono (Cert.ReferenceIdeal.Value.run_blocks m' g') fun r hr c => ?_
    obtain ⟨h0, h1, h2, h3, h4, ha⟩ := hr c
    obtain ⟨e0, e1, e2, e3, e4, e5⟩ := hagree c
    exact ⟨h0.trans ((Ref.val5 m' c).trans (roG_congr e0 e1 e3 e4 e5)), h1.trans ((Ref.val6 m' c).trans (xcG_congr e0 e3)),
      h2.trans ((Ref.val7 m' c).trans (xsG_congr e0 e3)), h3.trans ((Ref.val8 m' c).trans (ncG_congr e0 e1 e2 e3 e4 e5)),
      h4.trans ((Ref.val9 m' c).trans (nsG_congr e0 e1 e2 e3 e4 e5)), ha⟩

end Cert.Proof

end
-- ==== Proof.lean ====
/- # The claim

`claim` puts together the frames of the three programs, the statement that the ideal program is the kernel, and the equality of the kernel's five results
with the reference's (`Proof/Equal.lean`). -/
module

public import proofs.«01_k».proof.Defs
public import proofs.«01_k».proof.Proof.KernelFrame
public import proofs.«01_k».proof.Proof.KernelIdealFrame
public import proofs.«01_k».proof.Proof.Gen.ReferenceIdeal.Frame
public import proofs.«01_k».proof.Proof.Gen.ReferenceIdeal.Value
public import proofs.«01_k».proof.Proof.Gen.Pre_finite
public import proofs.«01_k».proof.Proof.Equal
public import Idealize.ShloMosaic.Adequacy
public import Idealize.ShloMosaic.Init
public import Idealize.ShloMosaic.Lib.Bf16Pair
public import Idealize.ShloMosaic.Lib.Bf16PairInverse

@[expose] public section

noncomputable section

open Idealize.ShloMosaic

/-- The rewrites that lead from the kernel to its ideal program, each by its rule. -/
theorem Cert.Proof.preserves : Cert.preserves_Kernel_KernelIdeal :=
  ⟨IdealRules.bf16_pair.bufferStatement _ _, IdealRules.bf16_pair.statement _ _, IdealRules.bf16_pair.selectZeroStatement _,
    IdealRules.bf16_pair.statement _ _, IdealRules.bf16_pair.statement _ _, IdealRules.bf16_pair.statement _ _,
    IdealRules.bf16_pair.statement _ _, IdealRules.named_const.statement _ "inv_d" .f32 0x3A638E39#32 ((1 / 1152 : ℝ) : EReal) rfl⟩

/-- Everything the certificate claims. -/
theorem Cert.Proof.claim : Cert.Claim :=
  ⟨Cert.Kernel.Gen.facts, Cert.KernelIdeal.Gen.facts, Cert.ReferenceIdeal.Gen.facts, Cert.Pre_finite.Gen.facts,
    fun m ρ _ => Cert.Proof.Kernel.frame m ρ, fun m ρ _ => Cert.Proof.KernelIdeal.frame m ρ, fun m ρ _ => Cert.Proof.KernelIdeal.frame m ρ,
    fun m ρ _ => Cert.ReferenceIdeal.Gen.frame m ρ, fun m ρ _ => Cert.ReferenceIdeal.Gen.frame m ρ, Cert.Proof.preserves, Cert.Proof.algebraic⟩

end
